-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "q_scale" .f32 0x3E0293EE#32 (((Real.sqrt 128)⁻¹ * (Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_v47) = v1 c
          ∧ r.2.mem ((c.tc : Thread Cert.Reference2Ideal.nD Cert.Reference2Ideal.τ).loc Cert.Reference2Ideal.main_v27) = v2 c
          ∧ r.2.mem ((c.tc : Thread Cert.Reference2Ideal.nD Cert.Reference2Ideal.τ).loc Cert.Reference2Ideal.main_v152) = v3 c
          ∧ r.2.mem ((c.tc : Thread Cert.Reference2Ideal.nD Cert.Reference2Ideal.τ).loc Cert.Reference2Ideal.main_v150) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  IdealRules.bf16_pair.BufferStatement Cert.Kernel3Ideal.S131072x2x128 Cert.Kernel3Ideal.S131072x1x128
  ∧ IdealRules.bf16_pair.BufferStatement Cert.Kernel3Ideal.S4096x2x128 Cert.Kernel3Ideal.S4096x1x128
  ∧ IdealRules.bf16_pair.PackStatement Cert.Kernel3Ideal.S512x1024
  ∧ IdealRules.bf16_pair.Statement Cert.Kernel3Ideal.S512x2x128 Cert.Kernel3Ideal.S512x1x128

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v7_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_scores.lean ====
abbrev S16384x2048 : Shape := ⟨2, ![16384, 2048]⟩
abbrev S16384x1024 : Shape := ⟨2, ![16384, 1024]⟩
abbrev S4608x4096 : Shape := ⟨2, ![4608, 4096]⟩
abbrev S128x2048 : Shape := ⟨2, ![128, 2048]⟩
abbrev S128x1024 : Shape := ⟨2, ![128, 1024]⟩
abbrev S1152x128 : Shape := ⟨2, ![1152, 128]⟩
abbrev S4x8x144x4096 : Shape := ⟨4, ![4, 8, 144, 4096]⟩
abbrev S4x8x1x4096 : Shape := ⟨4, ![4, 8, 1, 4096]⟩
abbrev S4x8x4096 : Shape := ⟨3, ![4, 8, 4096]⟩
abbrev S8x144x128 : Shape := ⟨3, ![8, 144, 128]⟩
abbrev S8x1x128 : Shape := ⟨3, ![8, 1, 128]⟩
abbrev S8x128 : Shape := ⟨2, ![8, 128]⟩
abbrev S_ : Shape := ⟨0, ![]⟩

class Facts : Prop where
  bitsLt_bf16_f32 : FTy.bits .bf16 < FTy.bits .f32
  shapeCasts_S4608x4096_S4x8x144x4096 : S4608x4096.ShapeCasts S4x8x144x4096
  slices_S4x8x144x4096_S4x8x1x4096_0_0_128_0 : S4x8x144x4096.Slices ![0, 0, 128, 0] S4x8x1x4096
  shapeCasts_S4x8x1x4096_S4x8x4096 : S4x8x1x4096.ShapeCasts S4x8x4096
  shapeCasts_S1152x128_S8x144x128 : S1152x128.ShapeCasts S8x144x128
  slices_S8x144x128_S8x1x128_0_128_0 : S8x144x128.Slices ![0, 128, 0] S8x1x128
  shapeCasts_S8x1x128_S8x128 : S8x1x128.ShapeCasts S8x128
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S128x2048 : S_.BroadcastsInDim S128x2048 (![] : Fin 0 → Fin S128x2048.rank)
  reducesTo_S128x2048_S_d0_1 : S128x2048.ReducesTo [0, 1] S_
  bcast_S_S128x1024 : S_.BroadcastsInDim S128x1024 (![] : Fin 0 → Fin S128x1024.rank)
  reducesTo_S128x1024_S_d0_1 : S128x1024.ReducesTo [0, 1] S_
  bcast_S_S4x8x4096 : S_.BroadcastsInDim S4x8x4096 (![] : Fin 0 → Fin S4x8x4096.rank)
  reducesTo_S4x8x4096_S_d0_1_2 : S4x8x4096.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part2 {F : FTy → Type} [FloatOps F] (main_v34 : IVec S_ 1) (main_v36 : IVec S8x128 1) : IVec S_ 1 :=
  let main_c_9 : IVec S_ 1 := constantI S_ 1 1#1
  let main_v37 : IVec S_ 1 := (fun x v => Host.reduce IntOp.andi x v reducesTo_S8x128_S_d0_1 h_S_) main_v36 main_c_9
  let main_v38 : IVec S_ 1 := andi main_v34 main_v37
  main_v38

def fn_part1 {F : FTy → Type} [FloatOps F] (main_arg4 : FVec F S128x1024 .bf16) (main_v3 : FVec F S4x8x4096 .f32) (main_v7 : FVec F S8x128 .f32) (main_v18 : IVec S_ 1) (main_v19 : FVec F S128x2048 .f32) : IVec S_ 1 :=
  let main_v20 : FVec F S128x2048 .f32 := Host.absf main_v19
  let main_cst_2 : FVec F S_ .f32 := constant S_ .f32 0x7F800000#32
  let main_v21 : FVec F S128x2048 .f32 := broadcastInDim S128x2048 ![] bcast_S_S128x2048 main_cst_2
  let main_v22 : IVec S128x2048 1 := cmpf .olt main_v20 main_v21
  let main_c_3 : IVec S_ 1 := constantI S_ 1 1#1
  let main_v23 : IVec S_ 1 := (fun x v => Host.reduce IntOp.andi x v reducesTo_S128x2048_S_d0_1 h_S_) main_v22 main_c_3
  let main_v24 : IVec S_ 1 := andi main_v18 main_v23
  let main_v25 : FVec F S128x1024 .f32 := (extf .f32 · bitsLt_bf16_f32) main_arg4
  let main_v26 : FVec F S128x1024 .f32 := Host.absf main_v25
  let main_cst_4 : FVec F S_ .f32 := constant S_ .f32 0x7F800000#32
  let main_v27 : FVec F S128x1024 .f32 := broadcastInDim S128x1024 ![] bcast_S_S128x1024 main_cst_4
  let main_v28 : IVec S128x1024 1 := cmpf .olt main_v26 main_v27
  let main_c_5 : IVec S_ 1 := constantI S_ 1 1#1
  let main_v29 : IVec S_ 1 := (fun x v => Host.reduce IntOp.andi x v reducesTo_S128x1024_S_d0_1 h_S_) main_v28 main_c_5
  let main_v30 : IVec S_ 1 := andi main_v24 main_v29
  let main_cst_6 : FVec F S_ .f32 := constant S_ .f32 0x3F800000#32
  let main_v31 : FVec F S4x8x4096 .f32 := broadcastInDim S4x8x4096 ![] bcast_S_S4x8x4096 main_cst_6
  let main_v32 : IVec S4x8x4096 1 := cmpf .oeq main_v3 main_v31
  let main_c_7 : IVec S_ 1 := constantI S_ 1 1#1
  let main_v33 : IVec S_ 1 := (fun x v => Host.reduce IntOp.andi x v reducesTo_S4x8x4096_S_d0_1_2 h_S_) main_v32 main_c_7
  let main_v34 : IVec S_ 1 := andi main_v30 main_v33
  let main_cst_8 : FVec F S_ .f32 := constant S_ .f32 0x3F800000#32
  let main_v35 : FVec F S8x128 .f32 := broadcastInDim S8x128 ![] bcast_S_S8x128 main_cst_8
  let main_v36 : IVec S8x128 1 := cmpf .oeq main_v7 main_v35
  fn_part2 (F := F) main_v34 main_v36

def fn {F : FTy → Type} [FloatOps F] (main_arg0 : FVec F S16384x2048 .bf16) (main_arg1 : FVec F S16384x1024 .bf16) (main_arg2 : FVec F S4608x4096 .bf16) (main_arg3 : FVec F S128x2048 .bf16) (main_arg4 : FVec F S128x1024 .bf16) (main_arg5 : FVec F S1152x128 .bf16) : IVec S_ 1 :=
  let main_v0 : FVec F S4608x4096 .f32 := (extf .f32 · bitsLt_bf16_f32) main_arg2
  let main_v1 : FVec F S4x8x144x4096 .f32 := shapeCast S4x8x144x4096 main_v0 shapeCasts_S4608x4096_S4x8x144x4096
  let main_v2 : FVec F S4x8x1x4096 .f32 := (extractStridedSlice S4x8x1x4096 ![0, 0, 128, 0] · slices_S4x8x144x4096_S4x8x1x4096_0_0_128_0) main_v1
  let main_v3 : FVec F S4x8x4096 .f32 := shapeCast S4x8x4096 main_v2 shapeCasts_S4x8x1x4096_S4x8x4096
  let main_v4 : FVec F S1152x128 .f32 := (extf .f32 · bitsLt_bf16_f32) main_arg5
  let main_v5 : FVec F S8x144x128 .f32 := shapeCast S8x144x128 main_v4 shapeCasts_S1152x128_S8x144x128
  let main_v6 : FVec F S8x1x128 .f32 := (extractStridedSlice S8x1x128 ![0, 128, 0] · slices_S8x144x128_S8x1x128_0_128_0) main_v5
  let main_v7 : FVec F S8x128 .f32 := shapeCast S8x128 main_v6 shapeCasts_S8x1x128_S8x128
  let main_v8 : FVec F S16384x2048 .f32 := (extf .f32 · bitsLt_bf16_f32) main_arg0
  let main_v9 : FVec F S16384x2048 .f32 := Host.absf main_v8
  let main_cst : FVec F S_ .f32 := constant S_ .f32 0x7F800000#32
  let main_v10 : FVec F S16384x2048 .f32 := broadcastInDim S16384x2048 ![] bcast_S_S16384x2048 main_cst
  let main_v11 : IVec S16384x2048 1 := cmpf .olt main_v9 main_v10
  let main_c : IVec S_ 1 := constantI S_ 1 1#1
  let main_v12 : IVec S_ 1 := (fun x v => Host.reduce IntOp.andi x v reducesTo_S16384x2048_S_d0_1 h_S_) main_v11 main_c
  let main_v13 : FVec F S16384x1024 .f32 := (extf .f32 · bitsLt_bf16_f32) main_arg1
  let main_v14 : FVec F S16384x1024 .f32 := Host.absf main_v13
  let main_cst_0 : FVec F S_ .f32 := constant S_ .f32 0x7F800000#32
  let main_v15 : FVec F S16384x1024 .f32 := broadcastInDim S16384x1024 ![] bcast_S_S16384x1024 main_cst_0
  let main_v16 : IVec S16384x1024 1 := cmpf .olt main_v14 main_v15
  let main_c_1 : IVec S_ 1 := constantI S_ 1 1#1
  let main_v17 : IVec S_ 1 := (fun x v => Host.reduce IntOp.andi x v reducesTo_S16384x1024_S_d0_1 h_S_) main_v16 main_c_1
  let main_v18 : IVec S_ 1 := andi main_v12 main_v17
  let main_v19 : FVec F S128x2048 .f32 := (extf .f32 · bitsLt_bf16_f32) main_arg3
  fn_part1 (F := F) main_arg4 main_v3 main_v7 main_v18 main_v19
-- ==== Kernel.lean ====
abbrev S16384x2048 : Shape := ⟨2, ![16384, 2048]⟩
abbrev S16384x1024 : Shape := ⟨2, ![16384, 1024]⟩
abbrev S4608x4096 : Shape := ⟨2, ![4608, 4096]⟩
abbrev S128x2048 : Shape := ⟨2, ![128, 2048]⟩
abbrev S128x1024 : Shape := ⟨2, ![128, 1024]⟩
abbrev S1152x128 : Shape := ⟨2, ![1152, 128]⟩
abbrev S2048x128 : Shape := ⟨2, ![2048, 128]⟩
abbrev S4096x128 : Shape := ⟨2, ![4096, 128]⟩
abbrev S144x4096 : Shape := ⟨2, ![144, 4096]⟩
abbrev S128x128 : Shape := ⟨2, ![128, 128]⟩
abbrev S144x128 : Shape := ⟨2, ![144, 128]⟩
abbrev S2x1024x1024 : Shape := ⟨3, ![2, 1024, 1024]⟩
abbrev S1024x128 : Shape := ⟨2, ![1024, 128]⟩
abbrev S1024x256 : Shape := ⟨2, ![1024, 256]⟩
abbrev S128x256 : Shape := ⟨2, ![128, 256]⟩
abbrev S1x1024 : Shape := ⟨2, ![1, 1024]⟩
abbrev S144x1024 : Shape := ⟨2, ![144, 1024]⟩
abbrev S1024 : Shape := ⟨1, ![1024]⟩
abbrev S1024x1024 : Shape := ⟨2, ![1024, 1024]⟩
abbrev S1x1024x1024 : Shape := ⟨3, ![1, 1024, 1024]⟩

abbrev nBuf : Space → Nat
  | .hbm => 7
  | .vmem => 18
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S4608x4096, .bf16⟩
  | .hbm, ⟨3, _⟩ => ⟨S128x2048, .bf16⟩
  | .hbm, ⟨4, _⟩ => ⟨S128x1024, .bf16⟩
  | .hbm, ⟨5, _⟩ => ⟨S1152x128, .bf16⟩
  | .hbm, ⟨6, _⟩ => ⟨S16384x1024, .bf16⟩
  | .local _ .vmem, ⟨0, _⟩ => ⟨S2048x128, .bf16⟩
  | .local _ .vmem, ⟨1, _⟩ => ⟨S2048x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S144x4096, .bf16⟩
  | .local _ .vmem, ⟨7, _⟩ => ⟨S144x4096, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S144x128, .bf16⟩
  | .local _ .vmem, ⟨13, _⟩ => ⟨S144x128, .bf16⟩
  | .local _ .vmem, ⟨14, _⟩ => ⟨S2048x128, .bf16⟩
  | .local _ .vmem, ⟨15, _⟩ => ⟨S2048x128, .bf16⟩
  | .local _ .vmem, ⟨16, _⟩ => ⟨S2x1024x1024, .f32⟩
  | .local _ .vmem, ⟨17, _⟩ => ⟨S2x1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 8, 2], ![false, false, false]⟩

def k0_mult1 : BitVec 32 :=
  let c0_i32 : BitVec 32 := 0#32
  c0_i32
@[reducible] def k0_t1_loop (i : grid0.Coords) : Scf.Loop 32 :=
  let c0_i32_30 : BitVec 32 := 0#32
  let arg2 : BitVec 32 := BitVec.ofNat 32 (i 2).val
  let v63 : BitVec 32 := Scalar.subi arg2 c0_i32_30
  let c1_i32 : BitVec 32 := 1#32
  let v65 : BitVec 32 := Scalar.divsi v63 c1_i32
  let v66 : BitVec 32 := Scalar.muli v65 c1_i32
  let v67 : BitVec 32 := Scalar.addi c0_i32_30 v66
  let c1_i32_31 : BitVec 32 := 1#32
  ⟨c0_i32_30, v67, c1_i32_31⟩
def k0_mult2 (i : grid0.Coords) (k0_t1 : Fin (k0_t1_loop i).trips) : BitVec 32 :=
  let c2_i32_70 : BitVec 32 := 2#32
  let c0_i32_30 : BitVec 32 := 0#32
  let c1_i32_31 : BitVec 32 := 1#32
  let arg13 : BitVec 32 := Scf.iv c0_i32_30 c1_i32_31 k0_t1
  let v169 : BitVec 32 := Scalar.muli c2_i32_70 arg13
  let c1_i32_71 : BitVec 32 := 1#32
  let v170 : BitVec 32 := Scalar.addi v169 c1_i32_71
  let c1024_i32_72 : BitVec 32 := 1024#32
  let v171 : BitVec 32 := Scalar.muli v170 c1024_i32_72
  v171
def k0_off1 (i : grid0.Coords) (k0_t1 : Fin (k0_t1_loop i).trips) (c1_i32_71 : BitVec 32) : Fin 2 → Nat :=
  let c2_i32_70 : BitVec 32 := 2#32
  let c0_i32_30 : BitVec 32 := 0#32
  let c1_i32_31 : BitVec 32 := 1#32
  let arg13 : BitVec 32 := Scf.iv c0_i32_30 c1_i32_31 k0_t1
  let v169 : BitVec 32 := Scalar.muli c2_i32_70 arg13
  let v170 : BitVec 32 := Scalar.addi v169 c1_i32_71
  let c1024_i32_72 : BitVec 32 := 1024#32
  let v171 : BitVec 32 := Scalar.muli v170 c1024_i32_72
  let v172 : BitVec 32 := v171
  let v173 : Index := Scalar.indexCast v172
  let c0_73 : Index := 0#32
  ![v173.toNat, 0]
def k0_mult3 (i : grid0.Coords) (k0_t1 : Fin (k0_t1_loop i).trips) : BitVec 32 :=
  let c2_i32_70 : BitVec 32 := 2#32
  let c0_i32_30 : BitVec 32 := 0#32
  let c1_i32_31 : BitVec 32 := 1#32
  let arg13 : BitVec 32 := Scf.iv c0_i32_30 c1_i32_31 k0_t1
  let v169 : BitVec 32 := Scalar.muli c2_i32_70 arg13
  let c1024_i32_83 : BitVec 32 := 1024#32
  let v186 : BitVec 32 := Scalar.muli v169 c1024_i32_83
  v186
def k0_off2 (i : grid0.Coords) (k0_t1 : Fin (k0_t1_loop i).trips) : Fin 2 → Nat :=
  let c0_84 : Index := 0#32
  let c2_i32_70 : BitVec 32 := 2#32
  let c0_i32_30 : BitVec 32 := 0#32
  let c1_i32_31 : BitVec 32 := 1#32
  let arg13 : BitVec 32 := Scf.iv c0_i32_30 c1_i32_31 k0_t1
  let v169 : BitVec 32 := Scalar.muli c2_i32_70 arg13
  let c1024_i32_83 : BitVec 32 := 1024#32
  let v186 : BitVec 32 := Scalar.muli v169 c1024_i32_83
  let v187 : BitVec 32 := v186
  let v188 : Index := Scalar.indexCast v187
  ![0, v188.toNat]
def k0_mult4 (i : grid0.Coords) (k0_t1 : Fin (k0_t1_loop i).trips) : BitVec 32 :=
  let c2_i32_70 : BitVec 32 := 2#32
  let c0_i32_30 : BitVec 32 := 0#32
  let c1_i32_31 : BitVec 32 := 1#32
  let arg13 : BitVec 32 := Scf.iv c0_i32_30 c1_i32_31 k0_t1
  let v169 : BitVec 32 := Scalar.muli c2_i32_70 arg13
  let c2_i32_101 : BitVec 32 := 2#32
  let v224 : BitVec 32 := Scalar.addi v169 c2_i32_101
  let c1024_i32_102 : BitVec 32 := 1024#32
  let v225 : BitVec 32 := Scalar.muli v224 c1024_i32_102
  v225
def k0_mult5 (i : grid0.Coords) (k0_t1 : Fin (k0_t1_loop i).trips) : BitVec 32 :=
  let c2_i32_70 : BitVec 32 := 2#32
  let c0_i32_30 : BitVec 32 := 0#32
  let c1_i32_31 : BitVec 32 := 1#32
  let arg13 : BitVec 32 := Scf.iv c0_i32_30 c1_i32_31 k0_t1
  let v169 : BitVec 32 := Scalar.muli c2_i32_70 arg13
  let c1_i32_113 : BitVec 32 := 1#32
  let v240 : BitVec 32 := Scalar.addi v169 c1_i32_113
  let c1024_i32_114 : BitVec 32 := 1024#32
  let v241 : BitVec 32 := Scalar.muli v240 c1024_i32_114
  v241
def k0_off3 (i : grid0.Coords) (k0_t1 : Fin (k0_t1_loop i).trips) : Fin 2 → Nat :=
  let c0_115 : Index := 0#32
  let c2_i32_70 : BitVec 32 := 2#32
  let c0_i32_30 : BitVec 32 := 0#32
  let c1_i32_31 : BitVec 32 := 1#32
  let arg13 : BitVec 32 := Scf.iv c0_i32_30 c1_i32_31 k0_t1
  let v169 : BitVec 32 := Scalar.muli c2_i32_70 arg13
  let c1_i32_113 : BitVec 32 := 1#32
  let v240 : BitVec 32 := Scalar.addi v169 c1_i32_113
  let c1024_i32_114 : BitVec 32 := 1024#32
  let v241 : BitVec 32 := Scalar.muli v240 c1024_i32_114
  let v242 : BitVec 32 := v241
  let v243 : Index := Scalar.indexCast v242
  ![0, v243.toNat]
@[reducible] def k0_t2_loop (i : grid0.Coords) : Scf.Loop 32 :=
  let c0_i32_30 : BitVec 32 := 0#32
  let arg2 : BitVec 32 := BitVec.ofNat 32 (i 2).val
  let v63 : BitVec 32 := Scalar.subi arg2 c0_i32_30
  let c1_i32 : BitVec 32 := 1#32
  let v65 : BitVec 32 := Scalar.divsi v63 c1_i32
  let v66 : BitVec 32 := Scalar.muli v65 c1_i32
  let v67 : BitVec 32 := Scalar.addi c0_i32_30 v66
  let v64 : BitVec 32 := Scalar.addi c0_i32_30 v63
  let c1_i32_32 : BitVec 32 := 1#32
  ⟨v67, v64, c1_i32_32⟩
def k0_mult6 (i : grid0.Coords) (k0_t2 : Fin (k0_t2_loop i).trips) : BitVec 32 :=
  let c2_i32_70 : BitVec 32 := 2#32
  let c0_i32_30 : BitVec 32 := 0#32
  let arg2 : BitVec 32 := BitVec.ofNat 32 (i 2).val
  let v63 : BitVec 32 := Scalar.subi arg2 c0_i32_30
  let c1_i32 : BitVec 32 := 1#32
  let v65 : BitVec 32 := Scalar.divsi v63 c1_i32
  let v66 : BitVec 32 := Scalar.muli v65 c1_i32
  let v67 : BitVec 32 := Scalar.addi c0_i32_30 v66
  let c1_i32_32 : BitVec 32 := 1#32
  let arg13 : BitVec 32 := Scf.iv v67 c1_i32_32 k0_t2
  let v169 : BitVec 32 := Scalar.muli c2_i32_70 arg13
  let c1_i32_71 : BitVec 32 := 1#32
  let v170 : BitVec 32 := Scalar.addi v169 c1_i32_71
  let c1024_i32_72 : BitVec 32 := 1024#32
  let v171 : BitVec 32 := Scalar.muli v170 c1024_i32_72
  v171
def k0_off4 (i : grid0.Coords) (k0_t2 : Fin (k0_t2_loop i).trips) (c1_i32_71 : BitVec 32) : Fin 2 → Nat :=
  let c2_i32_70 : BitVec 32 := 2#32
  let c0_i32_30 : BitVec 32 := 0#32
  let arg2 : BitVec 32 := BitVec.ofNat 32 (i 2).val
  let v63 : BitVec 32 := Scalar.subi arg2 c0_i32_30
  let c1_i32 : BitVec 32 := 1#32
  let v65 : BitVec 32 := Scalar.divsi v63 c1_i32
  let v66 : BitVec 32 := Scalar.muli v65 c1_i32
  let v67 : BitVec 32 := Scalar.addi c0_i32_30 v66
  let c1_i32_32 : BitVec 32 := 1#32
  let arg13 : BitVec 32 := Scf.iv v67 c1_i32_32 k0_t2
  let v169 : BitVec 32 := Scalar.muli c2_i32_70 arg13
  let v170 : BitVec 32 := Scalar.addi v169 c1_i32_71
  let c1024_i32_72 : BitVec 32 := 1024#32
  let v171 : BitVec 32 := Scalar.muli v170 c1024_i32_72
  let v172 : BitVec 32 := v171
  let v173 : Index := Scalar.indexCast v172
  let c0_73 : Index := 0#32
  ![v173.toNat, 0]
def k0_mult7 (i : grid0.Coords) (k0_t2 : Fin (k0_t2_loop i).trips) : BitVec 32 :=
  let c2_i32_70 : BitVec 32 := 2#32
  let c0_i32_30 : BitVec 32 := 0#32
  let arg2 : BitVec 32 := BitVec.ofNat 32 (i 2).val
  let v63 : BitVec 32 := Scalar.subi arg2 c0_i32_30
  let c1_i32 : BitVec 32 := 1#32
  let v65 : BitVec 32 := Scalar.divsi v63 c1_i32
  let v66 : BitVec 32 := Scalar.muli v65 c1_i32
  let v67 : BitVec 32 := Scalar.addi c0_i32_30 v66
  let c1_i32_32 : BitVec 32 := 1#32
  let arg13 : BitVec 32 := Scf.iv v67 c1_i32_32 k0_t2
  let v169 : BitVec 32 := Scalar.muli c2_i32_70 arg13
  let c1024_i32_83 : BitVec 32 := 1024#32
  let v186 : BitVec 32 := Scalar.muli v169 c1024_i32_83
  v186
def k0_off5 (i : grid0.Coords) (k0_t2 : Fin (k0_t2_loop i).trips) : Fin 2 → Nat :=
  let c0_84 : Index := 0#32
  let c2_i32_70 : BitVec 32 := 2#32
  let c0_i32_30 : BitVec 32 := 0#32
  let arg2 : BitVec 32 := BitVec.ofNat 32 (i 2).val
  let v63 : BitVec 32 := Scalar.subi arg2 c0_i32_30
  let c1_i32 : BitVec 32 := 1#32
  let v65 : BitVec 32 := Scalar.divsi v63 c1_i32
  let v66 : BitVec 32 := Scalar.muli v65 c1_i32
  let v67 : BitVec 32 := Scalar.addi c0_i32_30 v66
  let c1_i32_32 : BitVec 32 := 1#32
  let arg13 : BitVec 32 := Scf.iv v67 c1_i32_32 k0_t2
  let v169 : BitVec 32 := Scalar.muli c2_i32_70 arg13
  let c1024_i32_83 : BitVec 32 := 1024#32
  let v186 : BitVec 32 := Scalar.muli v169 c1024_i32_83
  let v187 : BitVec 32 := v186
  let v188 : Index := Scalar.indexCast v187
  ![0, v188.toNat]
def k0_mult8 (i : grid0.Coords) (k0_t2 : Fin (k0_t2_loop i).trips) : BitVec 32 :=
  let c2_i32_70 : BitVec 32 := 2#32
  let c0_i32_30 : BitVec 32 := 0#32
  let arg2 : BitVec 32 := BitVec.ofNat 32 (i 2).val
  let v63 : BitVec 32 := Scalar.subi arg2 c0_i32_30
  let c1_i32 : BitVec 32 := 1#32
  let v65 : BitVec 32 := Scalar.divsi v63 c1_i32
  let v66 : BitVec 32 := Scalar.muli v65 c1_i32
  let v67 : BitVec 32 := Scalar.addi c0_i32_30 v66
  let c1_i32_32 : BitVec 32 := 1#32
  let arg13 : BitVec 32 := Scf.iv v67 c1_i32_32 k0_t2
  let v169 : BitVec 32 := Scalar.muli c2_i32_70 arg13
  let c2_i32_101 : BitVec 32 := 2#32
  let v224 : BitVec 32 := Scalar.addi v169 c2_i32_101
  let c1024_i32_102 : BitVec 32 := 1024#32
  let v225 : BitVec 32 := Scalar.muli v224 c1024_i32_102
  v225
def k0_mult9 (i : grid0.Coords) (k0_t2 : Fin (k0_t2_loop i).trips) : BitVec 32 :=
  let c2_i32_70 : BitVec 32 := 2#32
  let c0_i32_30 : BitVec 32 := 0#32
  let arg2 : BitVec 32 := BitVec.ofNat 32 (i 2).val
  let v63 : BitVec 32 := Scalar.subi arg2 c0_i32_30
  let c1_i32 : BitVec 32 := 1#32
  let v65 : BitVec 32 := Scalar.divsi v63 c1_i32
  let v66 : BitVec 32 := Scalar.muli v65 c1_i32
  let v67 : BitVec 32 := Scalar.addi c0_i32_30 v66
  let c1_i32_32 : BitVec 32 := 1#32
  let arg13 : BitVec 32 := Scf.iv v67 c1_i32_32 k0_t2
  let v169 : BitVec 32 := Scalar.muli c2_i32_70 arg13
  let c1_i32_113 : BitVec 32 := 1#32
  let v240 : BitVec 32 := Scalar.addi v169 c1_i32_113
  let c1024_i32_114 : BitVec 32 := 1024#32
  let v241 : BitVec 32 := Scalar.muli v240 c1024_i32_114
  v241
def k0_off6 (i : grid0.Coords) (k0_t2 : Fin (k0_t2_loop i).trips) : Fin 2 → Nat :=
  let c0_115 : Index := 0#32
  let c2_i32_70 : BitVec 32 := 2#32
  let c0_i32_30 : BitVec 32 := 0#32
  let arg2 : BitVec 32 := BitVec.ofNat 32 (i 2).val
  let v63 : BitVec 32 := Scalar.subi arg2 c0_i32_30
  let c1_i32 : BitVec 32 := 1#32
  let v65 : BitVec 32 := Scalar.divsi v63 c1_i32
  let v66 : BitVec 32 := Scalar.muli v65 c1_i32
  let v67 : BitVec 32 := Scalar.addi c0_i32_30 v66
  let c1_i32_32 : BitVec 32 := 1#32
  let arg13 : BitVec 32 := Scf.iv v67 c1_i32_32 k0_t2
  let v169 : BitVec 32 := Scalar.muli c2_i32_70 arg13
  let c1_i32_113 : BitVec 32 := 1#32
  let v240 : BitVec 32 := Scalar.addi v169 c1_i32_113
  let c1024_i32_114 : BitVec 32 := 1024#32
  let v241 : BitVec 32 := Scalar.muli v240 c1024_i32_114
  let v242 : BitVec 32 := v241
  let v243 : Index := Scalar.indexCast v242
  ![0, v243.toNat]
def k0_mult10 (i : grid0.Coords) : BitVec 32 :=
  let c2_i32 : BitVec 32 := 2#32
  let arg2 : BitVec 32 := BitVec.ofNat 32 (i 2).val
  let v48 : BitVec 32 := Scalar.muli c2_i32 arg2
  let c1_i32_33 : BitVec 32 := 1#32
  let v70 : BitVec 32 := Scalar.addi v48 c1_i32_33
  let c1024_i32 : BitVec 32 := 1024#32
  let v71 : BitVec 32 := Scalar.muli v70 c1024_i32
  v71
def k0_off7 (i : grid0.Coords) : Fin 2 → Nat :=
  let c2_i32 : BitVec 32 := 2#32
  let arg2 : BitVec 32 := BitVec.ofNat 32 (i 2).val
  let v48 : BitVec 32 := Scalar.muli c2_i32 arg2
  let c1_i32_33 : BitVec 32 := 1#32
  let v70 : BitVec 32 := Scalar.addi v48 c1_i32_33
  let c1024_i32 : BitVec 32 := 1024#32
  let v71 : BitVec 32 := Scalar.muli v70 c1024_i32
  let v72 : BitVec 32 := v71
  let v73 : Index := Scalar.indexCast v72
  let c0_34 : Index := 0#32
  ![v73.toNat, 0]
def k0_mult11 (i : grid0.Coords) : BitVec 32 :=
  let c2_i32 : BitVec 32 := 2#32
  let arg2 : BitVec 32 := BitVec.ofNat 32 (i 2).val
  let v48 : BitVec 32 := Scalar.muli c2_i32 arg2
  let c1024_i32_37 : BitVec 32 := 1024#32
  let v79 : BitVec 32 := Scalar.muli v48 c1024_i32_37
  v79
def k0_off8 (i : grid0.Coords) : Fin 2 → Nat :=
  let c0_38 : Index := 0#32
  let c2_i32 : BitVec 32 := 2#32
  let arg2 : BitVec 32 := BitVec.ofNat 32 (i 2).val
  let v48 : BitVec 32 := Scalar.muli c2_i32 arg2
  let c1024_i32_37 : BitVec 32 := 1024#32
  let v79 : BitVec 32 := Scalar.muli v48 c1024_i32_37
  let v80 : BitVec 32 := v79
  let v81 : Index := Scalar.indexCast v80
  ![0, v81.toNat]
def k0_mult12 (i : grid0.Coords) : BitVec 32 :=
  let c2_i32 : BitVec 32 := 2#32
  let arg2 : BitVec 32 := BitVec.ofNat 32 (i 2).val
  let v48 : BitVec 32 := Scalar.muli c2_i32 arg2
  let c1024_i32_49 : BitVec 32 := 1024#32
  let v108 : BitVec 32 := Scalar.muli v48 c1024_i32_49
  v108
def k0_mult13 (i : grid0.Coords) : BitVec 32 :=
  let c2_i32 : BitVec 32 := 2#32
  let arg2 : BitVec 32 := BitVec.ofNat 32 (i 2).val
  let v48 : BitVec 32 := Scalar.muli c2_i32 arg2
  let c1_i32_59 : BitVec 32 := 1#32
  let v129 : BitVec 32 := Scalar.addi v48 c1_i32_59
  let c1024_i32_60 : BitVec 32 := 1024#32
  let v130 : BitVec 32 := Scalar.muli v129 c1024_i32_60
  v130
def k0_off9 (i : grid0.Coords) : Fin 2 → Nat :=
  let c0_61 : Index := 0#32
  let c2_i32 : BitVec 32 := 2#32
  let arg2 : BitVec 32 := BitVec.ofNat 32 (i 2).val
  let v48 : BitVec 32 := Scalar.muli c2_i32 arg2
  let c1_i32_59 : BitVec 32 := 1#32
  let v129 : BitVec 32 := Scalar.addi v48 c1_i32_59
  let c1024_i32_60 : BitVec 32 := 1024#32
  let v130 : BitVec 32 := Scalar.muli v129 c1024_i32_60
  let v131 : BitVec 32 := v130
  let v132 : Index := Scalar.indexCast v131
  ![0, v132.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S144x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S144x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S16384x2048 : Shape := ⟨2, ![16384, 2048]⟩
abbrev S16384x1024 : Shape := ⟨2, ![16384, 1024]⟩
abbrev S4608x4096 : Shape := ⟨2, ![4608, 4096]⟩
abbrev S128x2048 : Shape := ⟨2, ![128, 2048]⟩
abbrev S128x1024 : Shape := ⟨2, ![128, 1024]⟩
abbrev S1152x128 : Shape := ⟨2, ![1152, 128]⟩
abbrev S_ : Shape := ⟨0, ![]⟩
abbrev S4x4096x8x128 : Shape := ⟨4, ![4, 4096, 8, 128]⟩
abbrev S4x8x4096x128 : Shape := ⟨4, ![4, 8, 4096, 128]⟩
abbrev S128x8x128 : Shape := ⟨3, ![128, 8, 128]⟩
abbrev S8x128x128 : Shape := ⟨3, ![8, 128, 128]⟩
abbrev S1x8x128x128 : Shape := ⟨4, ![1, 8, 128, 128]⟩
abbrev S4x8x128x128 : Shape := ⟨4, ![4, 8, 128, 128]⟩
abbrev S4x8x4224x128 : Shape := ⟨4, ![4, 8, 4224, 128]⟩
abbrev S8x144x128 : Shape := ⟨3, ![8, 144, 128]⟩
abbrev S4x8x144x4096 : Shape := ⟨4, ![4, 8, 144, 4096]⟩
abbrev S4x8x128x4096 : Shape := ⟨4, ![4, 8, 128, 4096]⟩
abbrev S4x8x128x4224 : Shape := ⟨4, ![4, 8, 128, 4224]⟩
abbrev S8x128x3 : Shape := ⟨3, ![8, 128, 3]⟩
abbrev S8x128 : Shape := ⟨2, ![8, 128]⟩
abbrev S4x8x4096x3 : Shape := ⟨4, ![4, 8, 4096, 3]⟩
abbrev S4x8x4096 : Shape := ⟨3, ![4, 8, 4096]⟩
abbrev S1x8x128 : Shape := ⟨3, ![1, 8, 128]⟩
abbrev S4x8x128 : Shape := ⟨3, ![4, 8, 128]⟩
abbrev S4x8x4224 : Shape := ⟨3, ![4, 8, 4224]⟩
abbrev S4x8x4096x4224 : Shape := ⟨4, ![4, 8, 4096, 4224]⟩
abbrev S4x8x4096x1 : Shape := ⟨4, ![4, 8, 4096, 1]⟩
abbrev S4x8x1x4224 : Shape := ⟨4, ![4, 8, 1, 4224]⟩
abbrev S4096 : Shape := ⟨1, ![4096]⟩
abbrev S4096x1 : Shape := ⟨2, ![4096, 1]⟩
abbrev S4224 : Shape := ⟨1, ![4224]⟩
abbrev S1x4224 : Shape := ⟨2, ![1, 4224]⟩
abbrev S4096x4224 : Shape := ⟨2, ![4096, 4224]⟩

abbrev nBuf : Space → Nat
  | .hbm => 95
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S4608x4096, .bf16⟩
  | .hbm, ⟨3, _⟩ => ⟨S128x2048, .bf16⟩
  | .hbm, ⟨4, _⟩ => ⟨S128x1024, .bf16⟩
  | .hbm, ⟨5, _⟩ => ⟨S1152x128, .bf16⟩
  | .hbm, ⟨6, _⟩ => ⟨S_, .f32⟩
  | .hbm, ⟨7, _⟩ => ⟨S_, .f32⟩
  | .hbm, ⟨8, _⟩ => ⟨S16384x1024, .bf16⟩
  | .hbm, ⟨9, _⟩ => ⟨S16384x1024, .f32⟩
  | .hbm, ⟨10, _⟩ => ⟨S4x4096x8x128, .f32⟩
  | .hbm, ⟨11, _⟩ => ⟨S4x8x4096x128, .f32⟩
  | .hbm, ⟨12, _⟩ => ⟨S128x1024, .bf16⟩
  | .hbm, ⟨13, _⟩ => ⟨S128x1024, .f32⟩
  | .hbm, ⟨14, _⟩ => ⟨S128x8x128, .f32⟩
  | .hbm, ⟨15, _⟩ => ⟨S8x128x128, .f32⟩
  | .hbm, ⟨16, _⟩ => ⟨S16384x1024, .bf16⟩
  | .hbm, ⟨17, _⟩ => ⟨S16384x1024, .f32⟩
  | .hbm, ⟨18, _⟩ => ⟨S4x4096x8x128, .f32⟩
  | .hbm, ⟨19, _⟩ => ⟨S4x8x4096x128, .f32⟩
  | .hbm, ⟨20, _⟩ => ⟨S1x8x128x128, .f32⟩
  | .hbm, ⟨21, _⟩ => ⟨S4x8x128x128, .f32⟩
  | .hbm, ⟨22, _⟩ => ⟨S4x8x4224x128, .f32⟩
  | .hbm, ⟨23, _⟩ => ⟨S1152x128, .f32⟩
  | .hbm, ⟨24, _⟩ => ⟨S8x144x128, .f32⟩
  | .hbm, ⟨25, _⟩ => ⟨S8x128x128, .f32⟩
  | .hbm, ⟨26, _⟩ => ⟨S4608x4096, .f32⟩
  | .hbm, ⟨27, _⟩ => ⟨S4x8x144x4096, .f32⟩
  | .hbm, ⟨28, _⟩ => ⟨S4x8x128x4096, .f32⟩
  | .hbm, ⟨29, _⟩ => ⟨S1x8x128x128, .f32⟩
  | .hbm, ⟨30, _⟩ => ⟨S4x8x128x128, .f32⟩
  | .hbm, ⟨31, _⟩ => ⟨S4x8x128x4224, .f32⟩
  | .hbm, ⟨32, _⟩ => ⟨S128x1024, .f32⟩
  | .hbm, ⟨33, _⟩ => ⟨S128x8x128, .f32⟩
  | .hbm, ⟨34, _⟩ => ⟨S8x128x128, .f32⟩
  | .hbm, ⟨35, _⟩ => ⟨S8x128x3, .f32⟩
  | .hbm, ⟨36, _⟩ => ⟨S_, .f32⟩
  | .hbm, ⟨37, _⟩ => ⟨S8x128, .f32⟩
  | .hbm, ⟨38, _⟩ => ⟨S8x128, .f32⟩
  | .hbm, ⟨39, _⟩ => ⟨S8x128, .f32⟩
  | .hbm, ⟨40, _⟩ => ⟨S16384x1024, .f32⟩
  | .hbm, ⟨41, _⟩ => ⟨S4x4096x8x128, .f32⟩
  | .hbm, ⟨42, _⟩ => ⟨S4x8x4096x128, .f32⟩
  | .hbm, ⟨43, _⟩ => ⟨S4x8x4096x3, .f32⟩
  | .hbm, ⟨44, _⟩ => ⟨S_, .f32⟩
  | .hbm, ⟨45, _⟩ => ⟨S4x8x4096, .f32⟩
  | .hbm, ⟨46, _⟩ => ⟨S4x8x4096, .f32⟩
  | .hbm, ⟨47, _⟩ => ⟨S4x8x4096, .f32⟩
  | .hbm, ⟨48, _⟩ => ⟨S1x8x128, .f32⟩
  | .hbm, ⟨49, _⟩ => ⟨S4x8x128, .f32⟩
  | .hbm, ⟨50, _⟩ => ⟨S4x8x4224, .f32⟩
  | .hbm, ⟨51, _⟩ => ⟨S4x8x4224, .f32⟩
  | .hbm, ⟨52, _⟩ => ⟨S4x8x4096x4224, .f32⟩
  | .hbm, ⟨53, _⟩ => ⟨S4x8x4096x4224, .f32⟩
  | .hbm, ⟨54, _⟩ => ⟨S4x8x4096x4224, .f32⟩
  | .hbm, ⟨55, _⟩ => ⟨S4x8x4096, .f32⟩
  | .hbm, ⟨56, _⟩ => ⟨S4x8x4096x1, .f32⟩
  | .hbm, ⟨57, _⟩ => ⟨S4x8x4096x4224, .f32⟩
  | .hbm, ⟨58, _⟩ => ⟨S4x8x4096x4224, .f32⟩
  | .hbm, ⟨59, _⟩ => ⟨S4x8x1x4224, .f32⟩
  | .hbm, ⟨60, _⟩ => ⟨S4x8x4096x4224, .f32⟩
  | .hbm, ⟨61, _⟩ => ⟨S4x8x4096x4224, .f32⟩
  | .hbm, ⟨62, _⟩ => ⟨S4096, .i32⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096x1, .i32⟩
  | .hbm, ⟨67, _⟩ => ⟨S4224, .i32⟩
  | .hbm, ⟨68, _⟩ => ⟨S1x4224, .i32⟩
  | .hbm, ⟨69, _⟩ => ⟨S4096x4224, .i32⟩
  | .hbm, ⟨70, _⟩ => ⟨S4096x4224, .i32⟩
  | .hbm, ⟨71, _⟩ => ⟨S4096x4224, .i1⟩
  | .hbm, ⟨72, _⟩ => ⟨S_, .f32⟩
  | .hbm, ⟨73, _⟩ => ⟨S_, .f32⟩
  | .hbm, ⟨74, _⟩ => ⟨S4x8x4096x4224, .i1⟩
  | .hbm, ⟨75, _⟩ => ⟨S4x8x4096x4224, .f32⟩
  | .hbm, ⟨76, _⟩ => ⟨S4x8x4096x4224, .f32⟩
  | .hbm, ⟨77, _⟩ => ⟨S_, .f32⟩
  | .hbm, ⟨78, _⟩ => ⟨S4x8x4096, .f32⟩
  | .hbm, ⟨79, _⟩ => ⟨S_, .f32⟩
  | .hbm, ⟨80, _⟩ => ⟨S4x8x4096, .f32⟩
  | .hbm, ⟨81, _⟩ => ⟨S4x8x4096, .f32⟩
  | .hbm, ⟨82, _⟩ => ⟨S4x8x4096x1, .f32⟩
  | .hbm, ⟨83, _⟩ => ⟨S4x8x4096x4224, .f32⟩
  | .hbm, ⟨84, _⟩ => ⟨S4x8x4096x4224, .f32⟩
  | .hbm, ⟨85, _⟩ => ⟨S4x8x4096x4224, .f32⟩
  | .hbm, ⟨86, _⟩ => ⟨S_, .f32⟩
  | .hbm, ⟨87, _⟩ => ⟨S4x8x4096, .f32⟩
  | .hbm, ⟨88, _⟩ => ⟨S4x8x4096x1, .f32⟩
  | .hbm, ⟨89, _⟩ => ⟨S4x8x4096x4224, .f32⟩
  | .hbm, ⟨90, _⟩ => ⟨S4x8x4096x4224, .f32⟩
  | .hbm, ⟨91, _⟩ => ⟨S4x8x4096x128, .f32⟩
  | .hbm, ⟨92, _⟩ => ⟨S4x4096x8x128, .f32⟩
  | .hbm, ⟨93, _⟩ => ⟨S16384x1024, .f32⟩
  | .hbm, ⟨94, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_0 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_1 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_c : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_cst_2 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_v62 : Ref sig .tc := ⟨.hbm, 76, rfl⟩
abbrev main_cst_3 : Ref sig .tc := ⟨.hbm, 77, rfl⟩
abbrev main_v63 : Ref sig .tc := ⟨.hbm, 78, rfl⟩
abbrev main_cst_4 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_5 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩

abbrev nD : Nat := 1
abbrev τ : Topo := Topo.v7x

variable {F : FTy → Type} [FloatOps F]
-- ==== Kernel2.lean ====
abbrev S16384x2048 : Shape := ⟨2, ![16384, 2048]⟩
abbrev S1x2048 : Shape := ⟨2, ![1, 2048]⟩
abbrev S2048x4224 : Shape := ⟨2, ![2048, 4224]⟩
abbrev S1x128 : Shape := ⟨2, ![1, 128]⟩
abbrev S384x1024 : Shape := ⟨2, ![384, 1024]⟩
abbrev S16x1024 : Shape := ⟨2, ![16, 1024]⟩
abbrev S4x256x256 : Shape := ⟨3, ![4, 256, 256]⟩
abbrev S1x1024 : Shape := ⟨2, ![1, 1024]⟩
abbrev S4608x4096 : Shape := ⟨2, ![4608, 4096]⟩
abbrev S16384x1024 : Shape := ⟨2, ![16384, 1024]⟩
abbrev S16384x128 : Shape := ⟨2, ![16384, 128]⟩
abbrev S512x2048 : Shape := ⟨2, ![512, 2048]⟩
abbrev S1152x512 : Shape := ⟨2, ![1152, 512]⟩
abbrev S512x1024 : Shape := ⟨2, ![512, 1024]⟩
abbrev S512x128 : Shape := ⟨2, ![512, 128]⟩
abbrev S528x1024 : Shape := ⟨2, ![528, 1024]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩
abbrev S16x512 : Shape := ⟨2, ![16, 512]⟩
abbrev S128x512 : Shape := ⟨2, ![128, 512]⟩
abbrev S2048x128 : Shape := ⟨2, ![2048, 128]⟩
abbrev S512x384 : Shape := ⟨2, ![512, 384]⟩

abbrev nBuf : Space → Nat
  | .hbm => 15
  | .vmem => 24
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S2048x4224, .bf16⟩
  | .hbm, ⟨4, _⟩ => ⟨S1x128, .f32⟩
  | .hbm, ⟨5, _⟩ => ⟨S384x1024, .bf16⟩
  | .hbm, ⟨6, _⟩ => ⟨S16x1024, .f32⟩
  | .hbm, ⟨7, _⟩ => ⟨S4x256x256, .bf16⟩
  | .hbm, ⟨8, _⟩ => ⟨S1x1024, .f32⟩
  | .hbm, ⟨9, _⟩ => ⟨S16384x2048, .bf16⟩
  | .hbm, ⟨10, _⟩ => ⟨S4608x4096, .bf16⟩
  | .hbm, ⟨11, _⟩ => ⟨S16384x1024, .f32⟩
  | .hbm, ⟨12, _⟩ => ⟨S16384x1024, .bf16⟩
  | .hbm, ⟨13, _⟩ => ⟨S16384x128, .f32⟩
  | .hbm, ⟨14, _⟩ => ⟨S16384x1024, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x4224, .bf16⟩
  | .local _ .vmem, ⟨5, _⟩ => ⟨S1x128, .f32⟩
  | .local _ .vmem, ⟨6, _⟩ => ⟨S384x1024, .bf16⟩
  | .local _ .vmem, ⟨7, _⟩ => ⟨S16x1024, .f32⟩
  | .local _ .vmem, ⟨8, _⟩ => ⟨S4x256x256, .bf16⟩
  | .local _ .vmem, ⟨9, _⟩ => ⟨S1x1024, .f32⟩
  | .local _ .vmem, ⟨10, _⟩ => ⟨S512x2048, .bf16⟩
  | .local _ .vmem, ⟨11, _⟩ => ⟨S512x2048, .bf16⟩
  | .local _ .vmem, ⟨12, _⟩ => ⟨S1152x512, .bf16⟩
  | .local _ .vmem, ⟨13, _⟩ => ⟨S1152x512, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x128, .f32⟩
  | .local _ .vmem, ⟨19, _⟩ => ⟨S512x128, .f32⟩
  | .local _ .vmem, ⟨20, _⟩ => ⟨S512x1024, .bf16⟩
  | .local _ .vmem, ⟨21, _⟩ => ⟨S512x1024, .bf16⟩
  | .local _ .vmem, ⟨22, _⟩ => ⟨S1x128, .f32⟩
  | .local _ .vmem, ⟨23, _⟩ => ⟨S528x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x4224 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1152x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Kernel2Ideal.lean ====
variable {F : FTy → Type} [FloatOps F] [Named F]
def κ : String → Option EReal := fun
  | "q_scale" => some (((Real.sqrt 128)⁻¹ * (Real.log 2)⁻¹ : ℝ) : EReal)
  | _ => none
-- ==== Reference2Ideal.lean ====
abbrev S16384x2048 : Shape := ⟨2, ![16384, 2048]⟩
abbrev S1x2048 : Shape := ⟨2, ![1, 2048]⟩
abbrev S2048x4224 : Shape := ⟨2, ![2048, 4224]⟩
abbrev S1x128 : Shape := ⟨2, ![1, 128]⟩
abbrev S384x1024 : Shape := ⟨2, ![384, 1024]⟩
abbrev S16x1024 : Shape := ⟨2, ![16, 1024]⟩
abbrev S4x256x256 : Shape := ⟨3, ![4, 256, 256]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S16384x4224 : Shape := ⟨2, ![16384, 4224]⟩
abbrev S16384x1024 : Shape := ⟨2, ![16384, 1024]⟩
abbrev S4x4096x8x128 : Shape := ⟨4, ![4, 4096, 8, 128]⟩
abbrev S4x8x128x4096 : Shape := ⟨4, ![4, 8, 128, 4096]⟩
abbrev S16 : Shape := ⟨1, ![16]⟩
abbrev S16x1 : Shape := ⟨2, ![16, 1]⟩
abbrev S4x8x16x4096 : Shape := ⟨4, ![4, 8, 16, 4096]⟩
abbrev S4x8x144x4096 : Shape := ⟨4, ![4, 8, 144, 4096]⟩
abbrev S4608x4096 : Shape := ⟨2, ![4608, 4096]⟩
abbrev S1x16x1024 : Shape := ⟨3, ![1, 16, 1024]⟩
abbrev S4x16x1024 : Shape := ⟨3, ![4, 16, 1024]⟩
abbrev S4x4096x1024 : Shape := ⟨3, ![4, 4096, 1024]⟩
abbrev S4x4112x1024 : Shape := ⟨3, ![4, 4112, 1024]⟩
abbrev S4x4112x256 : Shape := ⟨3, ![4, 4112, 256]⟩
abbrev S4x4096x256 : Shape := ⟨3, ![4, 4096, 256]⟩
abbrev S1x256x256 : Shape := ⟨3, ![1, 256, 256]⟩
abbrev S256x256 : Shape := ⟨2, ![256, 256]⟩
abbrev S1x1x1024 : Shape := ⟨3, ![1, 1, 1024]⟩
abbrev S16384x128 : Shape := ⟨2, ![16384, 128]⟩
abbrev S4x4096x128 : Shape := ⟨3, ![4, 4096, 128]⟩

abbrev nBuf : Space → Nat
  | .hbm => 195
  | .vmem => 0
  | .smem => 0
  | _ => 0

abbrev hbmTy0_0 (i : Nat) : BufTy := match i % 128 with
  | 0 => ⟨S16384x2048, .f32⟩
  | 1 => ⟨S1x2048, .f32⟩
  | 2 => ⟨S1x2048, .f32⟩
  | 3 => ⟨S2048x4224, .bf16⟩
  | 4 => ⟨S1x128, .f32⟩
  | 5 => ⟨S384x1024, .bf16⟩
  | 6 => ⟨S16x1024, .f32⟩
  | 7 => ⟨S4x256x256, .bf16⟩
  | 8 => ⟨S1x1024, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S16384x2048, .f32⟩
  | 16 => ⟨S16384x2048, .f32⟩
  | 17 => ⟨S16384x2048, .f32⟩
  | 18 => ⟨S_, .f32⟩
  | 19 => ⟨S16384, .f32⟩
  | 20 => ⟨S16384x1, .f32⟩
  | 21 => ⟨S_, .f32⟩
  | 22 => ⟨S16384x1, .f32⟩
  | 23 => ⟨S16384x1, .f32⟩
  | 24 => ⟨S16384x2048, .f32⟩
  | 25 => ⟨S16384x2048, .f32⟩
  | 26 => ⟨S_, .f32⟩
  | 27 => ⟨S16384x1, .f32⟩
  | 28 => ⟨S16384x1, .f32⟩
  | 29 => ⟨S16384x1, .f32⟩
  | 30 => ⟨S16384x2048, .f32⟩
  | 31 => ⟨S16384x2048, .f32⟩
  | 32 => ⟨S16384x2048, .f32⟩
  | 33 => ⟨S16384x2048, .f32⟩
  | 34 => ⟨S16384x2048, .f32⟩
  | 35 => ⟨S16384x2048, .f32⟩
  | 36 => ⟨S2048x4224, .f32⟩
  | 37 => ⟨S16384x4224, .f32⟩
  | 38 => ⟨S16384x1024, .f32⟩
  | 39 => ⟨S16384x1024, .f32⟩
  | 40 => ⟨S16384x1024, .f32⟩
  | 41 => ⟨S16384x1024, .f32⟩
  | 42 => ⟨S_, .f32⟩
  | 43 => ⟨S_, .f32⟩
  | 44 => ⟨S16384x1024, .f32⟩
  | 45 => ⟨S16384x1024, .f32⟩
  | 46 => ⟨S_, .f32⟩
  | 47 => ⟨S_, .f32⟩
  | 48 => ⟨S16384x1024, .f32⟩
  | 49 => ⟨S16384x1024, .f32⟩
  | 50 => ⟨S16384x2048, .f32⟩
  | 51 => ⟨S16384x2048, .bf16⟩
  | 52 => ⟨S4x4096x8x128, .f32⟩
  | 53 => ⟨S4x8x128x4096, .f32⟩
  | 54 => ⟨S16, .i32⟩
  | 55 => ⟨S_, .i32⟩
  | 56 => ⟨S16, .i32⟩
  | 57 => ⟨S16, .i1⟩
  | 58 => ⟨S_, .f32⟩
  | 59 => ⟨S_, .f32⟩
  | 60 => ⟨S16, .f32⟩
  | 61 => ⟨S16, .f32⟩
  | 62 => ⟨S16, .f32⟩
  | 63 => ⟨S16x1, .f32⟩
  | 64 => ⟨S4x8x16x4096, .f32⟩
  | 65 => ⟨S4x8x16x4096, .f32⟩
  | 66 => ⟨S4x8x144x4096, .f32⟩
  | 67 => ⟨S4608x4096, .f32⟩
  | 68 => ⟨S4608x4096, .bf16⟩
  | 69 => ⟨S1x16x1024, .f32⟩
  | 70 => ⟨S4x16x1024, .f32⟩
  | 71 => ⟨S4x4096x1024, .f32⟩
  | 72 => ⟨S4x4112x1024, .f32⟩
  | 73 => ⟨S4x4112x256, .f32⟩
  | 74 => ⟨S4x4096x256, .f32⟩
  | 75 => ⟨S4x4096x256, .f32⟩
  | 76 => ⟨S4x4096x256, .f32⟩
  | 77 => ⟨S_, .f32⟩
  | 78 => ⟨S4x4096x256, .f32⟩
  | 79 => ⟨S4x4096x256, .f32⟩
  | 80 => ⟨S4x4096x256, .f32⟩
  | 81 => ⟨S1x256x256, .bf16⟩
  | 82 => ⟨S256x256, .bf16⟩
  | 83 => ⟨S256x256, .f32⟩
  | 84 => ⟨S4x4096x256, .f32⟩
  | 85 => ⟨S4x4112x256, .f32⟩
  | 86 => ⟨S4x4096x256, .f32⟩
  | 87 => ⟨S4x4096x256, .f32⟩
  | 88 => ⟨S4x4096x256, .f32⟩
  | 89 => ⟨S4x4096x256, .f32⟩
  | 90 => ⟨S4x4096x256, .f32⟩
  | 91 => ⟨S4x4096x256, .f32⟩
  | 92 => ⟨S4x4096x256, .f32⟩
  | 93 => ⟨S_, .f32⟩
  | 94 => ⟨S4x4096x256, .f32⟩
  | 95 => ⟨S4x4096x256, .f32⟩
  | 96 => ⟨S4x4096x256, .f32⟩
  | 97 => ⟨S1x256x256, .bf16⟩
  | 98 => ⟨S256x256, .bf16⟩
  | 99 => ⟨S256x256, .f32⟩
  | 100 => ⟨S4x4096x256, .f32⟩
  | 101 => ⟨S4x4112x256, .f32⟩
  | 102 => ⟨S4x4096x256, .f32⟩
  | 103 => ⟨S4x4096x256, .f32⟩
  | 104 => ⟨S4x4096x256, .f32⟩
  | 105 => ⟨S4x4096x256, .f32⟩
  | 106 => ⟨S4x4096x256, .f32⟩
  | 107 => ⟨S4x4096x256, .f32⟩
  | 108 => ⟨S4x4096x256, .f32⟩
  | 109 => ⟨S4x4096x256, .f32⟩
  | 110 => ⟨S4x4096x256, .f32⟩
  | 111 => ⟨S4x4096x256, .f32⟩
  | 112 => ⟨S4x4096x256, .f32⟩
  | 113 => ⟨S4x4096x256, .f32⟩
  | 114 => ⟨S4x4096x256, .f32⟩
  | 115 => ⟨S4x4096x256, .f32⟩
  | 116 => ⟨S4x4096x256, .f32⟩
  | 117 => ⟨S_, .f32⟩
  | 118 => ⟨S4x4096x256, .f32⟩
  | 119 => ⟨S4x4096x256, .f32⟩
  | 120 => ⟨S4x4096x256, .f32⟩
  | 121 => ⟨S1x256x256, .bf16⟩
  | 122 => ⟨S256x256, .bf16⟩
  | 123 => ⟨S256x256, .f32⟩
  | 124 => ⟨S4x4096x256, .f32⟩
  | 125 => ⟨S4x4112x256, .f32⟩
  | 126 => ⟨S4x4096x256, .f32⟩
  | 127 => ⟨S4x4096x256, .f32⟩
  | _ => ⟨S16384x2048, .f32⟩

abbrev hbmTy0_1 (i : Nat) : BufTy := match i % 128 with
  | 0 => ⟨S4x4096x256, .f32⟩
  | 1 => ⟨S4x4096x256, .f32⟩
  | 2 => ⟨S4x4096x256, .f32⟩
  | 3 => ⟨S4x4096x256, .f32⟩
  | 4 => ⟨S4x4096x256, .f32⟩
  | 5 => ⟨S4x4096x256, .f32⟩
  | 6 => ⟨S4x4096x256, .f32⟩
  | 7 => ⟨S4x4096x256, .f32⟩
  | 8 => ⟨S4x4096x256, .f32⟩
  | 9 => ⟨S4x4096x256, .f32⟩
  | 10 => ⟨S4x4096x256, .f32⟩
  | 11 => ⟨S4x4096x256, .f32⟩
  | 12 => ⟨S4x4096x256, .f32⟩
  | 13 => ⟨S4x4096x256, .f32⟩
  | 14 => ⟨S4x4096x256, .f32⟩
  | 15 => ⟨S4x4096x256, .f32⟩
  | 16 => ⟨S4x4096x256, .f32⟩
  | 17 => ⟨S4x4096x256, .f32⟩
  | 18 => ⟨S4x4096x256, .f32⟩
  | 19 => ⟨S4x4096x256, .f32⟩
  | 20 => ⟨S4x4096x256, .f32⟩
  | 21 => ⟨S4x4096x256, .f32⟩
  | 22 => ⟨S4x4096x256, .f32⟩
  | 23 => ⟨S4x4096x256, .f32⟩
  | 24 => ⟨S4x4096x256, .f32⟩
  | 25 => ⟨S4x4096x256, .f32⟩
  | 26 => ⟨S4x4096x256, .f32⟩
  | 27 => ⟨S4x4096x256, .f32⟩
  | 28 => ⟨S4x4096x256, .f32⟩
  | 29 => ⟨S_, .f32⟩
  | 30 => ⟨S4x4096x256, .f32⟩
  | 31 => ⟨S4x4096x256, .f32⟩
  | 32 => ⟨S4x4096x256, .f32⟩
  | 33 => ⟨S1x256x256, .bf16⟩
  | 34 => ⟨S256x256, .bf16⟩
  | 35 => ⟨S256x256, .f32⟩
  | 36 => ⟨S4x4096x256, .f32⟩
  | 37 => ⟨S4x4096x1024, .f32⟩
  | 38 => ⟨S1x1x1024, .f32⟩
  | 39 => ⟨S4x4096x1024, .f32⟩
  | 40 => ⟨S4x4096x1024, .f32⟩
  | 41 => ⟨S16384x128, .f32⟩
  | 42 => ⟨S16384x128, .f32⟩
  | 43 => ⟨S16384x128, .f32⟩
  | 44 => ⟨S16384x128, .f32⟩
  | 45 => ⟨S_, .f32⟩
  | 46 => ⟨S16384x128, .f32⟩
  | 47 => ⟨S16384x128, .f32⟩
  | 48 => ⟨S16384x128, .f32⟩
  | 49 => ⟨S16384x128, .f32⟩
  | 50 => ⟨S16384x128, .i1⟩
  | 51 => ⟨S16384x128, .f32⟩
  | 52 => ⟨S16384x128, .f32⟩
  | 53 => ⟨S16384x128, .f32⟩
  | 54 => ⟨S16384x128, .f32⟩
  | 55 => ⟨S16384x128, .f32⟩
  | 56 => ⟨S16384x128, .f32⟩
  | 57 => ⟨S16384x128, .f32⟩
  | 58 => ⟨S16384x128, .f32⟩
  | 59 => ⟨S16384x128, .f32⟩
  | 60 => ⟨S4x4096x128, .f32⟩
  | 61 => ⟨S_, .f32⟩
  | 62 => ⟨S_, .f32⟩
  | 63 => ⟨S4x4096x128, .f32⟩
  | 64 => ⟨S16384x128, .f32⟩
  | 65 => ⟨S16384x1024, .f32⟩
  | 66 => ⟨S16384x1024, .bf16⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_cst_7 : Ref sig .tc := ⟨.hbm, 59, rfl⟩
abbrev main_call0_v0 : Ref sig .tc := ⟨.hbm, 60, rfl⟩
abbrev main_call0_v1 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_8 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_9 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_10 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_cst_11 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_call1_v0 : Ref sig .tc := ⟨.hbm, 172, rfl⟩
abbrev main_call1_call0_cst : Ref sig .tc := ⟨.hbm, 173, rfl⟩
abbrev main_call1_call0_v0 : Ref sig .tc := ⟨.hbm, 174, rfl⟩
abbrev main_call1_call0_v1 : Ref sig .tc := ⟨.hbm, 175, rfl⟩
abbrev main_call1_call0_v2 : Ref sig .tc := ⟨.hbm, 176, rfl⟩
abbrev main_call1_call0_v3 : Ref sig .tc := ⟨.hbm, 177, rfl⟩
abbrev main_call1_call0_v4 : Ref sig .tc := ⟨.hbm, 178, rfl⟩
abbrev main_call1_call0_v5 : Ref sig .tc := ⟨.hbm, 179, rfl⟩
abbrev main_call1_call0_v6 : Ref sig .tc := ⟨.hbm, 180, rfl⟩
abbrev main_call1_call0_v7 : Ref sig .tc := ⟨.hbm, 181, rfl⟩
abbrev main_call1_call0_v8 : Ref sig .tc := ⟨.hbm, 182, rfl⟩
abbrev main_call1_call0_v9 : Ref sig .tc := ⟨.hbm, 183, rfl⟩
abbrev main_call1_call0_v10 : Ref sig .tc := ⟨.hbm, 184, rfl⟩
abbrev main_call1_call0_v11 : Ref sig .tc := ⟨.hbm, 185, rfl⟩
abbrev main_call1_v1 : Ref sig .tc := ⟨.hbm, 186, rfl⟩
abbrev main_v147 : Ref sig .tc := ⟨.hbm, 187, rfl⟩
abbrev main_v148 : Ref sig .tc := ⟨.hbm, 188, rfl⟩
abbrev main_call2_call0_cst : Ref sig .tc := ⟨.hbm, 189, rfl⟩
abbrev main_call2_call0_v0 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩

abbrev nD : Nat := 1
abbrev τ : Topo := Topo.v7x

variable {F : FTy → Type} [FloatOps F]
-- ==== Kernel3.lean ====
abbrev S16384x2048 : Shape := ⟨2, ![16384, 2048]⟩
abbrev S16384x1024 : Shape := ⟨2, ![16384, 1024]⟩
abbrev S2048x2048 : Shape := ⟨2, ![2048, 2048]⟩
abbrev S1x2048 : Shape := ⟨2, ![1, 2048]⟩
abbrev S2048x256 : Shape := ⟨2, ![2048, 256]⟩
abbrev S1x128 : Shape := ⟨2, ![1, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S131072x128 : Shape := ⟨2, ![131072, 128]⟩
abbrev S8x16384 : Shape := ⟨2, ![8, 16384]⟩
abbrev S16384x128 : Shape := ⟨2, ![16384, 128]⟩
abbrev S48x128 : Shape := ⟨2, ![48, 128]⟩
abbrev S512x2048 : Shape := ⟨2, ![512, 2048]⟩
abbrev S512x1024 : Shape := ⟨2, ![512, 1024]⟩
abbrev S4096x128 : Shape := ⟨2, ![4096, 128]⟩
abbrev S8x512 : Shape := ⟨2, ![8, 512]⟩
abbrev S512x128 : Shape := ⟨2, ![512, 128]⟩
abbrev S48x1 : Shape := ⟨2, ![48, 1]⟩
abbrev S1024x512 : Shape := ⟨2, ![1024, 512]⟩
abbrev S512x256 : Shape := ⟨2, ![512, 256]⟩
abbrev S2048x128 : Shape := ⟨2, ![2048, 128]⟩
abbrev S128x512 : Shape := ⟨2, ![128, 512]⟩
abbrev S48x512 : Shape := ⟨2, ![48, 512]⟩
abbrev S48 : Shape := ⟨1, ![48]⟩

abbrev nBuf : Space → Nat
  | .hbm => 22
  | .vmem => 24
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .bf16⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S2048x256, .bf16⟩
  | .hbm, ⟨9, _⟩ => ⟨S1x128, .f32⟩
  | .hbm, ⟨10, _⟩ => ⟨S512, .i32⟩
  | .hbm, ⟨11, _⟩ => ⟨S512x1, .i32⟩
  | .hbm, ⟨12, _⟩ => ⟨S1x512, .i32⟩
  | .hbm, ⟨13, _⟩ => ⟨S512x512, .i32⟩
  | .hbm, ⟨14, _⟩ => ⟨S512x512, .i32⟩
  | .hbm, ⟨15, _⟩ => ⟨S512x512, .i1⟩
  | .hbm, ⟨16, _⟩ => ⟨S512x512, .bf16⟩
  | .hbm, ⟨17, _⟩ => ⟨S16384x2048, .f32⟩
  | .hbm, ⟨18, _⟩ => ⟨S131072x128, .i32⟩
  | .hbm, ⟨19, _⟩ => ⟨S8x16384, .i32⟩
  | .hbm, ⟨20, _⟩ => ⟨S16384x128, .f32⟩
  | .hbm, ⟨21, _⟩ => ⟨S48x128, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S2048x256, .bf16⟩
  | .local _ .vmem, ⟨12, _⟩ => ⟨S1x128, .f32⟩
  | .local _ .vmem, ⟨13, _⟩ => ⟨S512x512, .bf16⟩
  | .local _ .vmem, ⟨14, _⟩ => ⟨S512x2048, .f32⟩
  | .local _ .vmem, ⟨15, _⟩ => ⟨S512x2048, .f32⟩
  | .local _ .vmem, ⟨16, _⟩ => ⟨S4096x128, .i32⟩
  | .local _ .vmem, ⟨17, _⟩ => ⟨S4096x128, .i32⟩
  | .local _ .vmem, ⟨18, _⟩ => ⟨S8x512, .i32⟩
  | .local _ .vmem, ⟨19, _⟩ => ⟨S8x512, .i32⟩
  | .local _ .vmem, ⟨20, _⟩ => ⟨S512x128, .f32⟩
  | .local _ .vmem, ⟨21, _⟩ => ⟨S512x128, .f32⟩
  | .local _ .vmem, ⟨22, _⟩ => ⟨S48x128, .f32⟩
  | .local _ .vmem, ⟨23, _⟩ => ⟨S48x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4096x128 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x512 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S48x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Kernel3Ideal.lean ====
abbrev S16384x2048 : Shape := ⟨2, ![16384, 2048]⟩
abbrev S16384x1024 : Shape := ⟨2, ![16384, 1024]⟩
abbrev S2048x2048 : Shape := ⟨2, ![2048, 2048]⟩
abbrev S1x2048 : Shape := ⟨2, ![1, 2048]⟩
abbrev S2048x256 : Shape := ⟨2, ![2048, 256]⟩
abbrev S1x128 : Shape := ⟨2, ![1, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S131072x2x128 : Shape := ⟨3, ![131072, 2, 128]⟩
abbrev S8x16384 : Shape := ⟨2, ![8, 16384]⟩
abbrev S16384x128 : Shape := ⟨2, ![16384, 128]⟩
abbrev S48x128 : Shape := ⟨2, ![48, 128]⟩
abbrev S131072x1x128 : Shape := ⟨3, ![131072, 1, 128]⟩
abbrev S131072x128 : Shape := ⟨2, ![131072, 128]⟩
abbrev S512x2048 : Shape := ⟨2, ![512, 2048]⟩
abbrev S512x1024 : Shape := ⟨2, ![512, 1024]⟩
abbrev S4096x128 : Shape := ⟨2, ![4096, 128]⟩
abbrev S4096x2x128 : Shape := ⟨3, ![4096, 2, 128]⟩
abbrev S4096x1x128 : Shape := ⟨3, ![4096, 1, 128]⟩
abbrev S8x512 : Shape := ⟨2, ![8, 512]⟩
abbrev S512x128 : Shape := ⟨2, ![512, 128]⟩
abbrev S48x1 : Shape := ⟨2, ![48, 1]⟩
abbrev S1024x512 : Shape := ⟨2, ![1024, 512]⟩
abbrev S512x2x128 : Shape := ⟨3, ![512, 2, 128]⟩
abbrev S512x1x128 : Shape := ⟨3, ![512, 1, 128]⟩
abbrev S512x256 : Shape := ⟨2, ![512, 256]⟩
abbrev S2048x128 : Shape := ⟨2, ![2048, 128]⟩
abbrev S128x512 : Shape := ⟨2, ![128, 512]⟩
abbrev S48x512 : Shape := ⟨2, ![48, 512]⟩
abbrev S48 : Shape := ⟨1, ![48]⟩

abbrev nBuf : Space → Nat
  | .hbm => 22
  | .vmem => 24
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .bf16⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S2048x256, .bf16⟩
  | .hbm, ⟨9, _⟩ => ⟨S1x128, .f32⟩
  | .hbm, ⟨10, _⟩ => ⟨S512, .i32⟩
  | .hbm, ⟨11, _⟩ => ⟨S512x1, .i32⟩
  | .hbm, ⟨12, _⟩ => ⟨S1x512, .i32⟩
  | .hbm, ⟨13, _⟩ => ⟨S512x512, .i32⟩
  | .hbm, ⟨14, _⟩ => ⟨S512x512, .i32⟩
  | .hbm, ⟨15, _⟩ => ⟨S512x512, .i1⟩
  | .hbm, ⟨16, _⟩ => ⟨S512x512, .bf16⟩
  | .hbm, ⟨17, _⟩ => ⟨S16384x2048, .f32⟩
  | .hbm, ⟨18, _⟩ => ⟨S131072x2x128, .bf16⟩
  | .hbm, ⟨19, _⟩ => ⟨S8x16384, .i32⟩
  | .hbm, ⟨20, _⟩ => ⟨S16384x128, .f32⟩
  | .hbm, ⟨21, _⟩ => ⟨S48x128, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S2048x256, .bf16⟩
  | .local _ .vmem, ⟨12, _⟩ => ⟨S1x128, .f32⟩
  | .local _ .vmem, ⟨13, _⟩ => ⟨S512x512, .bf16⟩
  | .local _ .vmem, ⟨14, _⟩ => ⟨S512x2048, .f32⟩
  | .local _ .vmem, ⟨15, _⟩ => ⟨S512x2048, .f32⟩
  | .local _ .vmem, ⟨16, _⟩ => ⟨S4096x2x128, .bf16⟩
  | .local _ .vmem, ⟨17, _⟩ => ⟨S4096x2x128, .bf16⟩
  | .local _ .vmem, ⟨18, _⟩ => ⟨S8x512, .i32⟩
  | .local _ .vmem, ⟨19, _⟩ => ⟨S8x512, .i32⟩
  | .local _ .vmem, ⟨20, _⟩ => ⟨S512x128, .f32⟩
  | .local _ .vmem, ⟨21, _⟩ => ⟨S512x128, .f32⟩
  | .local _ .vmem, ⟨22, _⟩ => ⟨S48x128, .f32⟩
  | .local _ .vmem, ⟨23, _⟩ => ⟨S48x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4096x2x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x512 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S48x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference3Ideal.lean ====
abbrev S16384x2048 : Shape := ⟨2, ![16384, 2048]⟩
abbrev S16384x1024 : Shape := ⟨2, ![16384, 1024]⟩
abbrev S2048x2048 : Shape := ⟨2, ![2048, 2048]⟩
abbrev S1x2048 : Shape := ⟨2, ![1, 2048]⟩
abbrev S2048x256 : Shape := ⟨2, ![2048, 256]⟩
abbrev S1x128 : Shape := ⟨2, ![1, 128]⟩
abbrev S_ : Shape := ⟨0, ![]⟩
abbrev S16384 : Shape := ⟨1, ![16384]⟩
abbrev S16384x1 : Shape := ⟨2, ![16384, 1]⟩

abbrev nBuf : Space → Nat
  | .hbm => 72
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .bf16⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S2048x256, .bf16⟩
  | .hbm, ⟨9, _⟩ => ⟨S1x128, .f32⟩
  | .hbm, ⟨10, _⟩ => ⟨S16384x2048, .bf16⟩
  | .hbm, ⟨11, _⟩ => ⟨S16384x2048, .f32⟩
  | .hbm, ⟨12, _⟩ => ⟨S2048x2048, .f32⟩
  | .hbm, ⟨13, _⟩ => ⟨S16384x2048, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S_, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x2048, .f32⟩
  | .hbm, ⟨52, _⟩ => ⟨S16384x2048, .f32⟩
  | .hbm, ⟨53, _⟩ => ⟨S16384x2048, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x2048, .f32⟩
  | .hbm, ⟨61, _⟩ => ⟨S16384x2048, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S16384x1, .f32⟩
  | .hbm, ⟨66, _⟩ => ⟨S16384x2048, .f32⟩
  | .hbm, ⟨67, _⟩ => ⟨S16384x2048, .f32⟩
  | .hbm, ⟨68, _⟩ => ⟨S16384x2048, .f32⟩
  | .hbm, ⟨69, _⟩ => ⟨S16384x2048, .f32⟩
  | .hbm, ⟨70, _⟩ => ⟨S16384x2048, .f32⟩
  | .hbm, ⟨71, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]
-- ==== Kernel4.lean ====
abbrev S16384x2048 : Shape := ⟨2, ![16384, 2048]⟩
abbrev S266240x128 : Shape := ⟨2, ![266240, 128]⟩
abbrev S16384x128 : Shape := ⟨2, ![16384, 128]⟩
abbrev S1x2048 : Shape := ⟨2, ![1, 2048]⟩
abbrev S512x2048 : Shape := ⟨2, ![512, 2048]⟩
abbrev S4096x128 : Shape := ⟨2, ![4096, 128]⟩
abbrev S512x128 : Shape := ⟨2, ![512, 128]⟩
abbrev S512x1024 : Shape := ⟨2, ![512, 1024]⟩
abbrev S512x1 : Shape := ⟨2, ![512, 1]⟩
abbrev S512 : Shape := ⟨1, ![512]⟩

abbrev nBuf : Space → Nat
  | .hbm => 6
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S266240x128, .i32⟩
  | .hbm, ⟨2, _⟩ => ⟨S16384x128, .f32⟩
  | .hbm, ⟨3, _⟩ => ⟨S1x2048, .f32⟩
  | .hbm, ⟨4, _⟩ => ⟨S1x2048, .f32⟩
  | .hbm, ⟨5, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S4096x128, .i32⟩
  | .local _ .vmem, ⟨3, _⟩ => ⟨S4096x128, .i32⟩
  | .local _ .vmem, ⟨4, _⟩ => ⟨S4096x128, .i32⟩
  | .local _ .vmem, ⟨5, _⟩ => ⟨S4096x128, .i32⟩
  | .local _ .vmem, ⟨6, _⟩ => ⟨S512x128, .f32⟩
  | .local _ .vmem, ⟨7, _⟩ => ⟨S512x128, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S16384x2048 : Shape := ⟨2, ![16384, 2048]⟩
abbrev S266240x128 : Shape := ⟨2, ![266240, 128]⟩
abbrev S16384x128 : Shape := ⟨2, ![16384, 128]⟩
abbrev S1x2048 : Shape := ⟨2, ![1, 2048]⟩
abbrev S266240x128x2 : Shape := ⟨3, ![266240, 128, 2]⟩
abbrev S33280x1024x2 : Shape := ⟨3, ![33280, 1024, 2]⟩
abbrev S32768x1024x2 : Shape := ⟨3, ![32768, 1024, 2]⟩
abbrev S32768x2x1024 : Shape := ⟨3, ![32768, 2, 1024]⟩
abbrev S2x16384x2048 : Shape := ⟨3, ![2, 16384, 2048]⟩
abbrev S16384x2 : Shape := ⟨2, ![16384, 2]⟩
abbrev S2x16384 : Shape := ⟨2, ![2, 16384]⟩
abbrev S2x16384x1 : Shape := ⟨3, ![2, 16384, 1]⟩
abbrev S_ : Shape := ⟨0, ![]⟩
abbrev S16384 : Shape := ⟨1, ![16384]⟩
abbrev S16384x1 : Shape := ⟨2, ![16384, 1]⟩

abbrev nBuf : Space → Nat
  | .hbm => 49
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S266240x128, .i32⟩
  | .hbm, ⟨2, _⟩ => ⟨S16384x128, .f32⟩
  | .hbm, ⟨3, _⟩ => ⟨S1x2048, .f32⟩
  | .hbm, ⟨4, _⟩ => ⟨S1x2048, .f32⟩
  | .hbm, ⟨5, _⟩ => ⟨S266240x128x2, .bf16⟩
  | .hbm, ⟨6, _⟩ => ⟨S33280x1024x2, .bf16⟩
  | .hbm, ⟨7, _⟩ => ⟨S32768x1024x2, .bf16⟩
  | .hbm, ⟨8, _⟩ => ⟨S32768x2x1024, .bf16⟩
  | .hbm, ⟨9, _⟩ => ⟨S2x16384x2048, .bf16⟩
  | .hbm, ⟨10, _⟩ => ⟨S2x16384x2048, .f32⟩
  | .hbm, ⟨11, _⟩ => ⟨S16384x2, .f32⟩
  | .hbm, ⟨12, _⟩ => ⟨S2x16384, .f32⟩
  | .hbm, ⟨13, _⟩ => ⟨S2x16384x1, .f32⟩
  | .hbm, ⟨14, _⟩ => ⟨S2x16384x2048, .f32⟩
  | .hbm, ⟨15, _⟩ => ⟨S2x16384x2048, .f32⟩
  | .hbm, ⟨16, _⟩ => ⟨S_, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x2048, .f32⟩
  | .hbm, ⟨38, _⟩ => ⟨S16384x2048, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Proof.ProjNorm.lean ====
module

public import proofs.«01_k».proof.Proof.Gen.Kernel2Ideal.Skeleton
public import Idealize.ShloMosaic.Lib.Pointwise

/-! What the projections' vector expressions hold at an index, over the extended reals: a row's norm, its product with a
    column of weights, and the rows below the values. -/

@[expose] public section

set_option maxRecDepth 16384

noncomputable section

open Idealize.ShloMosaic Idealize.ShloMosaic.TcCoe

namespace Cert.Projections

open Cert.Kernel2Ideal Cert.Kernel2Ideal.Gen

/-- The mean of a row. -/
def mean (f : Fin 2048 → EReal) : EReal := Ideal.div (∑ k, f k) (Ideal.ofBits .f32 0x45000000#32)

/-- A row less its mean. -/
def dev (x : Fin 2048 → EReal) (k : Fin 2048) : EReal := x k - mean x

/-- A row's norm: less its mean, over the root of its variance, times the gain, plus the bias. -/
def norm (x g b : Fin 2048 → EReal) (k : Fin 2048) : EReal :=
  dev x k * Ideal.rsqrt (mean (fun j => dev x j * dev x j) + Ideal.ofBits .f32 0x3727C5AC#32) * g k + b k

/-- The factor of the queries. -/
abbrev scale : EReal := (((Real.sqrt 128)⁻¹ * (Real.log 2)⁻¹ : ℝ) : EReal)

theorem pay2_apply (x : FVec Ideal S512x2048 .f32) (g b : FVec Ideal S1x2048 .f32) (r : Fin 512) (k : Fin 2048) :
    k0_pay2 (F := Ideal) x g b (ix2 r k) = norm (fun j => x (ix2 r j)) (fun j => g (ix2 0 j)) (fun j => b (ix2 0 j)) k := by
  unfold norm dev mean
  pointwise [k0_pay2]

section dots
variable (h : FVec Ideal S512x2048 .bf16) (w : FVec Ideal S2048x512 .bf16) (r : Fin 512)

theorem pay4_apply (c : Fin 512) : k0_pay4 (F := Ideal) h w (ix2 r c) = ∑ k, h (ix2 r k) * w (ix2 k c) := by
  pointwise [k0_pay4]

theorem pay6_apply (c : Fin 512) : k0_pay6 (F := Ideal) h w (ix2 r c) = ∑ k, h (ix2 r k) * w (ix2 k c) := by
  pointwise [k0_pay6]

theorem pay17_apply (c : Fin 512) : k0_pay17 (F := Ideal) h w (ix2 r c) = (∑ k, h (ix2 r k) * w (ix2 k c)) * scale := by
  pointwise [k0_pay17]
  rfl

theorem pay18_apply (c : Fin 512) : k0_pay18 (F := Ideal) h w (ix2 r c) = (∑ k, h (ix2 r k) * w (ix2 k c)) * scale := by
  pointwise [k0_pay18]
  rfl

theorem pay19_apply (c : Fin 512) : k0_pay19 (F := Ideal) h w (ix2 r c) = ∑ k, h (ix2 r k) * w (ix2 k c) := by
  pointwise [k0_pay19]

theorem pay20_apply (c : Fin 512) : k0_pay20 (F := Ideal) h w (ix2 r c) = ∑ k, h (ix2 r k) * w (ix2 k c) := by
  pointwise [k0_pay20]

theorem pay24_apply (e : Fin 128) : k0_pay24 (F := Ideal) h w (ix2 e r) = ∑ k, h (ix2 r k) * w (ix2 k ⟨0 + e.val, by omega⟩) := by
  generalize hX : (∑ k, h (ix2 r k) * w (ix2 k ⟨0 + e.val, by omega⟩)) = X
  pointwise [k0_pay24, k0_pay23]
  simpa using hX

theorem pay25_apply (e : Fin 128) : k0_pay25 (F := Ideal) h w (ix2 e r) = ∑ k, h (ix2 r k) * w (ix2 k ⟨128 + e.val, by omega⟩) := by
  generalize hX : (∑ k, h (ix2 r k) * w (ix2 k ⟨128 + e.val, by omega⟩)) = X
  pointwise [k0_pay25, k0_pay23]
  exact hX

theorem pay26_apply (e : Fin 128) : k0_pay26 (F := Ideal) h w (ix2 e r) = ∑ k, h (ix2 r k) * w (ix2 k ⟨256 + e.val, by omega⟩) := by
  generalize hX : (∑ k, h (ix2 r k) * w (ix2 k ⟨256 + e.val, by omega⟩)) = X
  pointwise [k0_pay26, k0_pay23]
  exact hX

theorem pay27_apply (e : Fin 128) : k0_pay27 (F := Ideal) h w (ix2 e r) = ∑ k, h (ix2 r k) * w (ix2 k ⟨384 + e.val, by omega⟩) := by
  generalize hX : (∑ k, h (ix2 r k) * w (ix2 k ⟨384 + e.val, by omega⟩)) = X
  pointwise [k0_pay27, k0_pay23]
  exact hX

theorem pay29_apply (e : Fin 128) :
    k0_pay29 (F := Ideal) (k0_pay28 h w) (ix2 e r) = ∑ k, h (ix2 r k) * w (ix2 k ⟨0 + e.val, by omega⟩) := by
  generalize hX : (∑ k, h (ix2 r k) * w (ix2 k ⟨0 + e.val, by omega⟩)) = X
  pointwise [k0_pay29, k0_pay28]
  simpa using hX

theorem pay30_apply (e : Fin 128) :
    k0_pay30 (F := Ideal) (k0_pay28 h w) (ix2 e r) = ∑ k, h (ix2 r k) * w (ix2 k ⟨128 + e.val, by omega⟩) := by
  generalize hX : (∑ k, h (ix2 r k) * w (ix2 k ⟨128 + e.val, by omega⟩)) = X
  pointwise [k0_pay30, k0_pay28]
  exact hX

theorem pay31_apply (e : Fin 128) :
    k0_pay31 (F := Ideal) (k0_pay28 h w) (ix2 e r) = ∑ k, h (ix2 r k) * w (ix2 k ⟨256 + e.val, by omega⟩) := by
  generalize hX : (∑ k, h (ix2 r k) * w (ix2 k ⟨256 + e.val, by omega⟩)) = X
  pointwise [k0_pay31, k0_pay28]
  exact hX

theorem pay32_apply (e : Fin 128) :
    k0_pay32 (F := Ideal) (k0_pay28 h w) (ix2 e r) = ∑ k, h (ix2 r k) * w (ix2 k ⟨384 + e.val, by omega⟩) := by
  generalize hX : (∑ k, h (ix2 r k) * w (ix2 k ⟨384 + e.val, by omega⟩)) = X
  pointwise [k0_pay32, k0_pay28]
  exact hX

end dots

theorem pay22_apply (e : Fin 16) (r : Fin 512) : k0_pay22 (F := Ideal) k0_pay21 (ix2 e r) = if e.val = 0 then 1 else 0 := by
  pointwise [k0_pay22, k0_pay21]
  fin_cases e <;> rfl

end Cert.Projections

end
-- ==== Proof.MixNorm.lean ====
module

public import proofs.«01_k».proof.Proof.Gen.Kernel3Ideal.Skeleton
public import proofs.«01_k».proof.Proof.ProjNorm

/-! What the mixing's vector expressions hold at an index, over the extended reals: a row's norm, and the residual sum of
    a row's first norm and its product with the output weights. -/

@[expose] public section

set_option maxRecDepth 16384

noncomputable section

open Idealize.ShloMosaic Idealize.ShloMosaic.TcCoe

namespace Cert.Mix

open Cert.Kernel3Ideal Cert.Kernel3Ideal.Gen
open Cert.Projections (norm mean dev)

/-- The residual's factor. -/
abbrev alpha : EReal := Ideal.ofBits .f32 0x3F9837F0#32

/-- The residual sum of a row at a column: the factor times the row's norm, plus the products of the two mixers' rows with
    their halves of the output weights. -/
def summed {n : ℕ} (x0 : FVec Ideal ⟨2, ![n, 2048]⟩ .f32) (x1 x2 : FVec Ideal ⟨2, ![n, 1024]⟩ .bf16)
    (x3 : FVec Ideal ⟨2, ![2048, 2048]⟩ .bf16) (x4 x5 : FVec Ideal ⟨2, ![1, 2048]⟩ .f32) (R : Fin n) (C : Fin 2048) : EReal :=
  alpha * norm (fun j => x0 (ix2 R j)) (fun j => x4 (ix2 0 j)) (fun j => x5 (ix2 0 j)) C
    + (∑ k : Fin 1024, x1 (ix2 R k) * x3 (ix2 ⟨k.val, by omega⟩ C)
      + ∑ k : Fin 1024, x2 (ix2 R k) * x3 (ix2 ⟨1024 + k.val, by omega⟩ C))

theorem pay2_apply (x : FVec Ideal S512x2048 .f32) (g b : FVec Ideal S1x2048 .f32) (r : Fin 512) (k : Fin 2048) :
    k0_pay2 (F := Ideal) x g b (ix2 r k) = norm (fun j => x (ix2 r j)) (fun j => g (ix2 0 j)) (fun j => b (ix2 0 j)) k := by
  unfold Projections.norm Projections.dev Projections.mean
  pointwise [k0_pay2]

theorem pay7_apply (x : FVec Ideal S512x2048 .f32) (g b : FVec Ideal S1x2048 .f32) (r : Fin 512) (k : Fin 2048) :
    k0_pay7 (F := Ideal) x g b (ix2 r k) = norm (fun j => x (ix2 r j)) (fun j => g (ix2 0 j)) (fun j => b (ix2 0 j)) k := by
  unfold Projections.norm Projections.dev Projections.mean
  pointwise [k0_pay7]

section sums
variable (n : FVec Ideal S512x2048 .f32) (a b : FVec Ideal S512x1024 .bf16) (w v : FVec Ideal S1024x512 .bf16) (r c : Fin 512)

theorem pay4_apply : k0_pay4 (F := Ideal) n a b w v (ix2 r c)
    = alpha * n (ix2 r ⟨512 + c.val, by omega⟩) + (∑ k, a (ix2 r k) * w (ix2 k c) + ∑ k, b (ix2 r k) * v (ix2 k c)) := by
  pointwise [k0_pay4]

theorem pay5_apply : k0_pay5 (F := Ideal) n a b w v (ix2 r c)
    = alpha * n (ix2 r ⟨1024 + c.val, by omega⟩) + (∑ k, a (ix2 r k) * w (ix2 k c) + ∑ k, b (ix2 r k) * v (ix2 k c)) := by
  pointwise [k0_pay5]

theorem pay6_apply : k0_pay6 (F := Ideal) n a b w v (ix2 r c)
    = alpha * n (ix2 r ⟨1536 + c.val, by omega⟩) + (∑ k, a (ix2 r k) * w (ix2 k c) + ∑ k, b (ix2 r k) * v (ix2 k c)) := by
  pointwise [k0_pay6]

theorem pay3_apply (x : FVec Ideal S512x2048 .f32) (g h : FVec Ideal S1x2048 .f32) : k0_pay3 (F := Ideal) x g h a b w v (ix2 r c)
    = alpha * k0_pay2 (F := Ideal) x g h (ix2 r ⟨0 + c.val, by omega⟩)
      + (∑ k, a (ix2 r k) * w (ix2 k c) + ∑ k, b (ix2 r k) * v (ix2 k c)) := by
  unfold k0_pay3
  generalize k0_pay2 (F := Ideal) x g h = n
  pointwise []

end sums

end Cert.Mix

end
-- ==== Proof.FinalWords.lean ====
module

public import Idealize.ShloMosaic.PureOps.Ideal
public import Idealize.ShloMosaic.PureOps.IdealRules
public import Idealize.ShloMosaic.Lib.Pointwise
public import proofs.«01_k».proof.Proof.MixNorm

/-! Words of two bfloat16 entries: a bfloat16 entry and the 32-bit float of the same bits over sixteen zeros are the same
    number, so the shifted and the masked word are the word's two entries. -/

@[expose] public section

set_option maxRecDepth 16384

noncomputable section

open Idealize.ShloMosaic

namespace Cert.Final

theorem shifted (b : BitVec 16) : (b ++ 0#16 : BitVec 32).toNat = b.toNat * 65536 := by
  have h : (b ++ 0#16 : BitVec 32).toNat = b.toNat <<< 16 ||| (0#16).toNat := BitVec.toNat_append b 0#16
  rw [h, Nat.shiftLeft_eq]
  simp

theorem sign_bits (b : BitVec 16) : (b ++ 0#16 : BitVec 32).extractLsb' 31 1 = b.extractLsb' 15 1 := by
  apply BitVec.eq_of_toNat_eq
  simp only [BitVec.extractLsb'_toNat, shifted, Nat.shiftRight_eq_div_pow]
  omega

theorem exponent_bits (b : BitVec 16) : (b ++ 0#16 : BitVec 32).extractLsb' 23 8 = b.extractLsb' 7 8 := by
  apply BitVec.eq_of_toNat_eq
  simp only [BitVec.extractLsb'_toNat, shifted, Nat.shiftRight_eq_div_pow]
  omega

theorem fraction_bits (b : BitVec 16) : ((b ++ 0#16 : BitVec 32).extractLsb' 0 23).toNat = (b.extractLsb' 0 7).toNat * 65536 := by
  simp only [BitVec.extractLsb'_toNat, shifted, Nat.shiftRight_eq_div_pow]
  omega

/-- Sixteen zeros under a bfloat16 entry's bits make the 32-bit float of the same value. -/
theorem widened (b : BitVec 16) : Ideal.ofBits .f32 (b ++ 0#16 : BitVec 32) = Ideal.ofBits .bf16 b := by
  show Ideal.ieee 8 23 (b ++ 0#16 : BitVec 32) = Ideal.ieee 8 7 b
  unfold Ideal.ieee
  simp only [show 8 + 23 = 31 from rfl, show 8 + 7 = 15 from rfl, sign_bits, exponent_bits, fraction_bits]
  generalize (b.extractLsb' 15 1 == 1#1) = neg
  generalize (b.extractLsb' 7 8).toNat = ex
  generalize (b.extractLsb' 0 7).toNat = fr
  have hz : (fr * 65536 = 0) = (fr = 0) := by simp
  have hs : ∀ z : ℤ, (2 : ℝ) ^ (z - (7 : ℕ)) = 65536 * (2 : ℝ) ^ (z - (23 : ℕ)) := by
    intro z
    rw [show z - ((7 : ℕ) : ℤ) = (16 : ℕ) + (z - (23 : ℕ)) by push_cast; ring, zpow_add₀ (by norm_num), zpow_natCast]
    norm_num
  simp only [hz, hs]
  congr 1
  congr 1
  · refine congrArg Real.toEReal ?_
    push_cast; ring
  · refine congrArg Real.toEReal ?_
    push_cast; ring

/-- An entry of a word: the low half's is entry 0, the high half's entry 1. -/
def entry (p : ℕ) (w : BitVec 32) : EReal := Ideal.ofBits .bf16 (w.extractLsb' (p * 16) 16)

theorem halves (w : BitVec 32) : w = w.extractLsb' 16 16 ++ w.extractLsb' 0 16 := by
  apply BitVec.eq_of_toNat_eq
  have := w.isLt
  rw [BitVec.toNat_append, ← Nat.shiftLeft_add_eq_or_of_lt (BitVec.isLt _)]
  simp [BitVec.extractLsb'_toNat, Nat.shiftLeft_eq, Nat.shiftRight_eq_div_pow]
  omega

theorem low (w : BitVec 32) : Ideal.ofBits .f32 (w <<< (16#32 : BitVec 32)) = entry 0 w := by
  unfold entry
  rw [← widened]
  refine congrArg (Ideal.ofBits .f32) ?_
  conv_lhs => rw [halves w]
  exact IdealRules.bf16_pack.lo_of_append _ _

theorem high (w : BitVec 32) : Ideal.ofBits .f32 (w &&& 4294901760#32) = entry 1 w := by
  unfold entry
  rw [← widened]
  refine congrArg (Ideal.ofBits .f32) ?_
  conv_lhs => rw [halves w]
  exact IdealRules.bf16_pack.hi_of_append _ _

/-- A row's residual sum at a column: the factor times the row's entry, plus the row's two outputs at their gates. -/
def total (x : EReal) (w0 w1 : BitVec 32) (g0 g1 : EReal) (p : ℕ) : EReal :=
  Mix.alpha * x + (entry p w0 * g0 + entry p w1 * g1)

end Cert.Final

end
-- ==== Proof.FinalEntry.lean ====
module

public import proofs.«01_k».proof.Proof.Gen.Kernel4Ideal.Value
public import proofs.«01_k».proof.Proof.FinalWords
public import Idealize.ShloMosaic.Lib.WholeRead
public import Idealize.ShloMosaic.Lib.Pipeline.ValueKit
public import Idealize.ShloMosaic.Lib.Pipeline.Value

/-! What one grid point of the last call stores into its block of rows: the norm of the rows' residual sums, whose outputs
    the body reads from the words eight strided slabs at a time. -/

@[expose] public section

set_option maxRecDepth 16384

noncomputable section

namespace Cert.Final

open Cert.Kernel4Ideal Cert.Kernel4Ideal.Gen
open Cert.Projections (norm mean dev)
open Idealize.ShloMosaic Idealize.ShloMosaic.TcCoe Idealize.ShloMosaic.Tactic

/-- The words as numbers: the low halves, then the high ones. -/
def unpacked (w : IVec S512x1024 32) : FVec Ideal S512x2048 .f32 :=
  concatenate S512x2048 1 [⟨S512x1024, bitcastToFloat .f32 (shli w (broadcast S512x1024 16#32))⟩,
    ⟨S512x1024, bitcastToFloat .f32 (andi w (broadcast S512x1024 4294901760#32))⟩] concatenates_S512x1024_S512x1024_S512x2048_d1

/-- Eight slabs of words side by side. -/
def slabs (v1 v2 v3 v4 v5 v6 v7 v8 : IVec S512x128 32) : IVec S512x1024 32 :=
  concatenate S512x1024 1 [⟨S512x128, v1⟩, ⟨S512x128, v2⟩, ⟨S512x128, v3⟩, ⟨S512x128, v4⟩, ⟨S512x128, v5⟩, ⟨S512x128, v6⟩, ⟨S512x128, v7⟩, ⟨S512x128, v8⟩]
    concatenates_S512x128_S512x128_S512x128_S512x128_S512x128_S512x128_S512x128_S512x128_S512x1024_d1

theorem unpacked_apply (w : IVec S512x1024 32) (r : Fin 512) (C : Fin 2048) :
    unpacked w (ix2 r C) = entry (C.val / 1024) (w (ix2 r ⟨C.val % 1024, by omega⟩)) := by
  have hC := C.isLt
  by_cases h : C.val < 1024
  · refine (concatenate_pair_apply_left (t := S512x2048) (s₁ := S512x1024) (s₂ := S512x1024) 1 _ _ concatenates_S512x1024_S512x1024_S512x2048_d1 (ix2 r C) rfl (ix2 r ⟨C.val % 1024, by omega⟩) ?_).trans ?_
    · intro b
      fin_cases b
      · rfl
      · exact Nat.mod_eq_of_lt h
    · rw [Nat.div_eq_of_lt h, ← low]
      exact congrArg (Ideal.ofBits .f32) (congrFun (IdealRules.bf16_pack.shli_16 w) _)
  · refine (concatenate_pair_apply_right (t := S512x2048) (s₁ := S512x1024) (s₂ := S512x1024) 1 _ _ concatenates_S512x1024_S512x1024_S512x2048_d1 (ix2 r C) rfl rfl (ix2 r ⟨C.val % 1024, by omega⟩) ?_ ?_).trans ?_
    · intro b hb
      fin_cases b
      · rfl
      · exact absurd rfl hb
    · show C.val % 1024 + 1024 = C.val
      omega
    · rw [show C.val / 1024 = 1 by omega, ← high]
      rfl

/-- The residual sums of the point's rows. -/
def sums (x : FVec Ideal S512x2048 .f32) (w0 w1 : IVec S512x1024 32) (g : FVec Ideal S512x128 .f32) : FVec Ideal S512x2048 .f32 :=
  addf (mulf (broadcast S512x2048 (Scalar.ofBits .f32 0x3F9837F0#32)) x)
    (addf (mulf (unpacked w0) (broadcastTo S512x2048 (extractStridedSlice S512x1 ![0, 0] g slices_S512x128_o0_0_S512x1) broadcasts_S512x1_S512x2048))
      (mulf (unpacked w1) (broadcastTo S512x2048 (extractStridedSlice S512x1 ![0, 1] g slices_S512x128_o0_1_S512x1) broadcasts_S512x1_S512x2048)))

theorem sums_apply (x : FVec Ideal S512x2048 .f32) (w0 w1 : IVec S512x1024 32) (g : FVec Ideal S512x128 .f32) (r : Fin 512) (C : Fin 2048) :
    sums x w0 w1 g (ix2 r C) = total (x (ix2 r C)) (w0 (ix2 r ⟨C.val % 1024, by omega⟩)) (w1 (ix2 r ⟨C.val % 1024, by omega⟩))
      (g (ix2 r 0)) (g (ix2 r 1)) (C.val / 1024) := by
  have h0 := unpacked_apply w0 r C
  have h1 := unpacked_apply w1 r C
  unfold sums total
  rw [← h0, ← h1]
  generalize unpacked w0 = u0
  generalize unpacked w1 = u1
  pointwise []

/-- The norm of a block of rows, as the body takes it. -/
def normed (v43 : FVec Ideal S512x2048 .f32) (v44 v45 : FVec Ideal S1x2048 .f32) : FVec Ideal S512x2048 .f32 :=
  have v46 : FVec Ideal S512 .f32 := multiReduction .add [1] S512 v43 0x00000000#32 reduces_S512x2048_S512 (.inl rfl) rfl
  have v49 : FVec Ideal S512x1 .f32 := divf (shapeCast S512x1 v46 shapeCasts_S512_S512x1) (broadcast S512x1 (Scalar.ofBits .f32 0x45000000#32))
  have v51 : FVec Ideal S512x2048 .f32 := subf v43 (broadcastTo S512x2048 v49 broadcasts_S512x1_S512x2048)
  have v53 : FVec Ideal S512 .f32 := multiReduction .add [1] S512 (mulf v51 v51) 0x00000000#32 reduces_S512x2048_S512 (.inl rfl) rfl
  have v56 : FVec Ideal S512x1 .f32 := divf (shapeCast S512x1 v53 shapeCasts_S512_S512x1) (broadcast S512x1 (Scalar.ofBits .f32 0x45000000#32))
  have v59 : FVec Ideal S512x1 .f32 := rsqrt (addf v56 (broadcast S512x1 (Scalar.ofBits .f32 0x3727C5AC#32)))
  addf (mulf (mulf v51 (broadcastTo S512x2048 v59 broadcasts_S512x1_S512x2048)) (broadcastTo S512x2048 v44 broadcasts_S1x2048_S512x2048))
    (broadcastTo S512x2048 v45 broadcasts_S1x2048_S512x2048)

theorem normed_apply (x : FVec Ideal S512x2048 .f32) (g b : FVec Ideal S1x2048 .f32) (r : Fin 512) (k : Fin 2048) :
    normed x g b (ix2 r k) = norm (fun j => x (ix2 r j)) (fun j => g (ix2 0 j)) (fun j => b (ix2 0 j)) k := by
  unfold Projections.norm Projections.dev Projections.mean
  pointwise [normed]

theorem stored_eq (v0 : FVec Ideal S512x128 .f32) (v1 v2 v3 v4 v5 v6 v7 v8 v20 v21 v22 v23 v24 v25 v26 v27 : IVec S512x128 32)
    (v40 : FVec Ideal S512x2048 .f32) (v44 v45 : FVec Ideal S1x2048 .f32) :
    k0_pay2 (F := Ideal) v0 (k0_pay1 v0 v1 v2 v3 v4 v5 v6 v7 v8) v20 v21 v22 v23 v24 v25 v26 v27 v40 v44 v45
      = normed (sums v40 (slabs v1 v2 v3 v4 v5 v6 v7 v8) (slabs v20 v21 v22 v23 v24 v25 v26 v27) v0) v44 v45 := rfl

/-- The part of an array inside a box. -/
def cut {s : Shape} {e : EltTy} (X : Vec Ideal s e) (B : LoadRect s) : B.shape.Idx → Elt Ideal e := fun j => X (B.idx j)

theorem read_unread {s : Shape} {e : EltTy} {m : Memref sig .tc .vmem s e} (h : m.IsWhole) (X : Vec Ideal s e)
    (B : LoadRect s) : View.readAt (Elt Ideal) m.view B (h.unread X) = cut X B :=
  funext fun j => h.readAt_unread X B j

/-- The words that a block's eight slabs make. -/
def loaded (y : Vec Ideal S4096x128 .i32) : IVec S512x1024 32 :=
  slabs (cut y (⟨![0, 0], S512x128.size, ![8, 1], inb_S4096x128_S512x128_0_0_s_8_1⟩ : LoadRect S4096x128)) (cut y (⟨![1, 0], S512x128.size, ![8, 1], inb_S4096x128_S512x128_1_0_s_8_1⟩ : LoadRect S4096x128)) (cut y (⟨![2, 0], S512x128.size, ![8, 1], inb_S4096x128_S512x128_2_0_s_8_1⟩ : LoadRect S4096x128)) (cut y (⟨![3, 0], S512x128.size, ![8, 1], inb_S4096x128_S512x128_3_0_s_8_1⟩ : LoadRect S4096x128)) (cut y (⟨![4, 0], S512x128.size, ![8, 1], inb_S4096x128_S512x128_4_0_s_8_1⟩ : LoadRect S4096x128)) (cut y (⟨![5, 0], S512x128.size, ![8, 1], inb_S4096x128_S512x128_5_0_s_8_1⟩ : LoadRect S4096x128)) (cut y (⟨![6, 0], S512x128.size, ![8, 1], inb_S4096x128_S512x128_6_0_s_8_1⟩ : LoadRect S4096x128)) (cut y (⟨![7, 0], S512x128.size, ![8, 1], inb_S4096x128_S512x128_7_0_s_8_1⟩ : LoadRect S4096x128))

/-- One slab of a block of words: every eighth row. -/
def slab (y : Vec Ideal S4096x128 .i32) (k : Fin 8) : IVec S512x128 32 := fun j =>
  y (ix2 ⟨8 * (j 0).val + k.val, by have h : (j 0).val < 512 := (j 0).isLt; omega⟩ ⟨(j 1).val, (j 1).isLt⟩)

theorem cut_slab (y : Vec Ideal S4096x128 .i32) (k : ℕ) (hk : k < 8) (inb) :
    cut y (⟨![k, 0], S512x128.size, ![8, 1], inb⟩ : LoadRect S4096x128) = slab y ⟨k, hk⟩ := by
  funext j
  unfold cut slab
  congr 1
  funext a
  apply Fin.ext
  fin_cases a
  · show k + 8 * (j 0).val = 8 * (j 0).val + k
    omega
  · show 0 + 1 * (j 1).val = (j 1).val
    omega

/-- Column `128 q + l` of a row is entry `l` of the row's `q`-th slab. -/
theorem loaded_apply (y : Vec Ideal S4096x128 .i32) (r : Fin 512) (C : Fin 1024) :
    loaded y (ix2 r C) = y (ix2 ⟨8 * r.val + C.val / 128, by omega⟩ ⟨C.val % 128, by omega⟩) := by
  have hC := C.isLt
  have hr := r.isLt
  unfold loaded
  rw [cut_slab y 0 (by omega), cut_slab y 1 (by omega), cut_slab y 2 (by omega), cut_slab y 3 (by omega), cut_slab y 4 (by omega),
    cut_slab y 5 (by omega), cut_slab y 6 (by omega), cut_slab y 7 (by omega)]
  refine (concatenate_ofFn_apply (t := S512x1024) (s₁ := S512x128) 1 (slab y)
    concatenates_S512x128_S512x128_S512x128_S512x128_S512x128_S512x128_S512x128_S512x128_S512x1024_d1
    rfl 128 rfl (ix2 r C) ⟨C.val / 128, by omega⟩ rfl (ix2 r ⟨C.val % 128, by omega⟩) rfl ?_)
  intro b hb
  fin_cases b
  · rfl
  · exact absurd rfl hb

/-- The block that a point leaves, as a function of its input blocks. -/
def block (x0 : Vec Ideal S512x2048 .f32) (x1 x2 : Vec Ideal S4096x128 .i32) (x3 : Vec Ideal S512x128 .f32) (x4 x5 : Vec Ideal S1x2048 .f32) : FVec Ideal S512x2048 .f32 :=
  normed (sums (cut x0 (Rect.unit (s := S512x2048) ![0, 0] S512x2048.size inb_S512x2048_S512x2048_0_0).toLoadRect) (loaded x1) (loaded x2)
      (cut x3 (Rect.unit (s := S512x128) ![0, 0] S512x128.size inb_S512x128_S512x128_0_0).toLoadRect))
    (cut x4 (Rect.unit (s := S1x2048) ![0, 0] S1x2048.size inb_S1x2048_S1x2048_0_0).toLoadRect)
    (cut x5 (Rect.unit (s := S1x2048) ![0, 0] S1x2048.size inb_S1x2048_S1x2048_0_0).toLoadRect)

set_option maxHeartbeats 4000000 in
/-- The body's run leaves one piece: the whole block. -/
theorem run_pieces (c : Dev nD) (i : grid0.Coords) (arg1 : Memref sig .tc .vmem S512x2048 .f32) (harg1 : arg1.IsWhole) (arg2 : Memref sig .tc .vmem S4096x128 .i32) (harg2 : arg2.IsWhole) (arg3 : Memref sig .tc .vmem S4096x128 .i32) (harg3 : arg3.IsWhole) (arg4 : Memref sig .tc .vmem S512x128 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole)
    (x0 : Vec Ideal S512x2048 .f32) (x1 x2 : Vec Ideal S4096x128 .i32) (x3 : Vec Ideal S512x128 .f32) (x4 x5 : Vec Ideal S1x2048 .f32) :
    (kernelRun0_A (F := Ideal) c i arg1 harg1 arg2 harg2 arg3 harg3 arg4 harg4 arg5 harg5 arg6 harg6 arg7 harg7 x0 x1 x2 x3 x4 x5).1
      = [⟨Rect.unit ![0, 0] S512x2048.size inb_S512x2048_S512x2048_0_0, block x0 x1 x2 x3 x4 x5⟩] := by
  unfold block loaded
  simp only [← read_unread harg1 x0, ← read_unread harg2 x1, ← read_unread harg3 x2, ← read_unread harg4 x3, ← read_unread harg5 x4, ← read_unread harg6 x5]
  rfl

/-- A store of the whole block leaves what it stores. -/
theorem read_whole (v : View sig .tc .vmem S512x2048 .f32) (f : v.ty.Contents (Elt Ideal)) (Z : Vec Ideal S512x2048 .f32)
    (L : List (View.Piece (Elt Ideal) S512x2048 .f32)) :
    v.read (Elt Ideal) (v.writes (Elt Ideal) f (⟨Rect.unit ![0, 0] S512x2048.size inb_S512x2048_S512x2048_0_0, Z⟩ :: L)) = Z := by
  have h0 : ∀ a, (![0, 0] : Fin S512x2048.rank → ℕ) a = 0 := by intro a; fin_cases a <;> rfl
  refine (View.read_writes_eq_canon v f _ fun y => ⟨_, List.mem_cons_self, ?_⟩).trans
    (View.canon_cons_unit_lit inb_S512x2048_S512x2048_0_0 Z L h0)
  exact View.mem_set_unit_zero (funext h0) inb_S512x2048_S512x2048_0_0 y

theorem out_eq (c : Dev nD) (i : grid0.Coords) (arg1 : Memref sig .tc .vmem S512x2048 .f32) (harg1 : arg1.IsWhole) (arg2 : Memref sig .tc .vmem S4096x128 .i32) (harg2 : arg2.IsWhole) (arg3 : Memref sig .tc .vmem S4096x128 .i32) (harg3 : arg3.IsWhole) (arg4 : Memref sig .tc .vmem S512x128 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole)
    (x0 : Vec Ideal S512x2048 .f32) (x1 x2 : Vec Ideal S4096x128 .i32) (x3 : Vec Ideal S512x128 .f32) (x4 x5 : Vec Ideal S1x2048 .f32) :
    out0_A_6 (F := Ideal) c i arg1 harg1 arg2 harg2 arg3 harg3 arg4 harg4 arg5 harg5 arg6 harg6 arg7 harg7 x0 x1 x2 x3 x4 x5 = block x0 x1 x2 x3 x4 x5 := by
  unfold out0_A_6
  rw [run_pieces]
  exact read_whole _ _ _ _

theorem cut_whole {n k : ℕ} {φ : EltTy} (X : Vec Ideal ⟨2, ![n, k]⟩ φ) (inb) :
    cut X (Rect.unit (s := ⟨2, ![n, k]⟩) ![0, 0] ![n, k] inb).toLoadRect = X := by
  funext y
  unfold cut
  congr 1
  funext a
  apply Fin.ext
  fin_cases a
  · simp
  · simp

/-- The block's entry: the norm of the row's residual sums. -/
theorem block_apply (x0 : Vec Ideal S512x2048 .f32) (x1 x2 : Vec Ideal S4096x128 .i32) (x3 : Vec Ideal S512x128 .f32) (x4 x5 : Vec Ideal S1x2048 .f32) (r : Fin 512) (C : Fin 2048) :
    block x0 x1 x2 x3 x4 x5 (ix2 r C) = norm (fun j => total (x0 (ix2 r j))
      (x1 (ix2 ⟨8 * r.val + j.val % 1024 / 128, by omega⟩ ⟨j.val % 128, by omega⟩))
      (x2 (ix2 ⟨8 * r.val + j.val % 1024 / 128, by omega⟩ ⟨j.val % 128, by omega⟩))
      (x3 (ix2 r 0)) (x3 (ix2 r 1)) (j.val / 1024)) (fun j => x4 (ix2 0 j)) (fun j => x5 (ix2 0 j)) C := by
  unfold block
  rw [cut_whole x0, cut_whole x3, cut_whole x4, cut_whole x5, normed_apply]
  have e : ∀ j : Fin 2048, j.val % 1024 % 128 = j.val % 128 := fun j => by omega
  simp only [sums_apply, loaded_apply, e]

end Cert.Final

end
-- ==== Proof.FinalRef.lean ====
module

public import proofs.«01_k».proof.Proof.Gen.Reference4Ideal.Read
public import proofs.«01_k».proof.Proof.FinalWords
public import Idealize.ShloMosaic.Lib.BitcastConvert

/-! The last call's reference read at an index: the residual sum of a row with its two outputs at their gates, and the norm
    over it. -/

@[expose] public section

set_option maxRecDepth 16384

noncomputable section

open Idealize.ShloMosaic Idealize.ShloMosaic.TcCoe

namespace Cert.Final.Ref

open Cert.Reference4Ideal Cert.Reference4Ideal.Gen Cert.Reference4Ideal.Read
open Cert.Projections (norm mean dev)

variable (x0 : FVec Ideal S16384x2048 .f32) (x1 : IVec S266240x128 32) (x2 : FVec Ideal S16384x128 .f32)
    (x3 x4 : FVec Ideal S1x2048 .f32)

/-- The word with a row's entries at a column and at the one 1024 away, among the first or the second outputs. -/
abbrev word (s : ℕ) (hs : s < 2) (R : Fin 16384) (C : Fin 2048) : BitVec 32 :=
  x1 (ix2 ⟨8 * (16384 * s + R.val) + C.val % 1024 / 128, by omega⟩ ⟨C.val % 128, by omega⟩)

/-- Where an output's entry lies among the words. -/
theorem place (R : Fin 16384) (C : Fin 2048) (s : Fin 2) : idx_main_v1 (idx_main_v2 (idx_main_v3 (idx_main_v4 (ix3 s R C))))
    = ix3 ⟨8 * (16384 * s.val + R.val) + C.val % 1024 / 128, by omega⟩ ⟨C.val % 128, by omega⟩ ⟨C.val / 1024, by omega⟩ := by
  have hs := s.isLt
  have hR := R.isLt
  have hC := C.isLt
  have h4 : idx_main_v4 (ix3 s R C) = ix3 ⟨16384 * s.val + R.val, by omega⟩ ⟨C.val / 1024, by omega⟩ ⟨C.val % 1024, by omega⟩ := by
    funext a
    apply Fin.ext
    fin_cases a
    · show ((s.val * 16384 + R.val) * 2048 + C.val) / 2048 = 16384 * s.val + R.val
      omega
    · show ((s.val * 16384 + R.val) * 2048 + C.val) / 1024 % 2 = C.val / 1024
      omega
    · show ((s.val * 16384 + R.val) * 2048 + C.val) % 1024 = C.val % 1024
      omega
  rw [h4]
  have h3 : ∀ (A : Fin 32768) (p : Fin 2) (n : Fin 1024), idx_main_v2 (idx_main_v3 (ix3 A p n))
      = ix3 (⟨A.val, by omega⟩ : Fin 33280) n p := fun A p n => by funext a; fin_cases a <;> rfl
  rw [h3]
  funext a
  apply Fin.ext
  fin_cases a
  · show (((16384 * s.val + R.val) * 1024 + C.val % 1024) * 2 + C.val / 1024) / 256 = 8 * (16384 * s.val + R.val) + C.val % 1024 / 128
    omega
  · show (((16384 * s.val + R.val) * 1024 + C.val % 1024) * 2 + C.val / 1024) / 2 % 128 = C.val % 128
    rw [show (((16384 * s.val + R.val) * 1024 + C.val % 1024) * 2 + C.val / 1024) / 2 = (16384 * s.val + R.val) * 1024 + C.val % 1024 by
      generalize (16384 * s.val + R.val) * 1024 + C.val % 1024 = q
      omega]
    omega
  · show (((16384 * s.val + R.val) * 1024 + C.val % 1024) * 2 + C.val / 1024) % 2 = C.val / 1024
    omega

/-- An output's entry is its word's. -/
theorem output_apply (s : Fin 2) (R : Fin 16384) (C : Fin 2048) :
    val_main_v5 (F := Ideal) x1 (ix3 s R C) = entry (C.val / 1024) (word x1 s.val s.isLt R C) := by
  have hs := s.isLt
  have hR := R.isLt
  have hC := C.isLt
  rw [val_main_v5_apply, val_main_v4_apply, val_main_v3_apply, val_main_v2_apply, val_main_v1_apply]
  show Ideal.ofBits .bf16 _ = _
  unfold entry
  refine congrArg (Ideal.ofBits .bf16) ?_
  rw [Host.bitcastConvertNarrow_apply]
  rw [place R C s]
  congr 1
  refine congrArg x1 (funext fun a => Fin.ext ?_)
  fin_cases a <;> rfl

theorem gate_apply (s : Fin 2) (R : Fin 16384) (C : Fin 2048) :
    val_main_v9 (F := Ideal) x2 (ix3 s R C) = x2 (ix2 R ⟨s.val, by omega⟩) := by
  rw [val_main_v9_apply, val_main_v8_apply, val_main_v7_apply, val_main_v6_apply]
  refine congrArg x2 (funext fun a => Fin.ext ?_)
  fin_cases a <;> simp [idx_main_v9, idx_main_v8, idx_main_v7, idx_main_v6, ix3]

/-- A row's residual sum. -/
theorem total_apply (R : Fin 16384) (C : Fin 2048) : val_main_v14 (F := Ideal) x0 x1 x2 (ix2 R C)
    = total (x0 (ix2 R C)) (word x1 0 (by omega) R C) (word x1 1 (by omega) R C) (x2 (ix2 R 0)) (x2 (ix2 R 1)) (C.val / 1024) := by
  rw [val_main_v14_apply, val_main_v13_apply, val_main_v12_apply, val_main_cst_0_apply, val_main_v11_apply, val_main_cst_apply,
    Fin.sum_univ_two]
  have e : ∀ k : Fin 2, idx_main_v11 (ix2 R C) k = ix3 k R C := fun k => by funext a; fin_cases a <;> rfl
  rw [e, e, val_main_v10_apply, val_main_v10_apply, output_apply, output_apply, gate_apply, gate_apply]
  show _ + (Ideal.ofBits .f32 0x00000000#32 + _) = _
  rw [show Ideal.ofBits .f32 0x00000000#32 = 0 by simp [Ideal.ofBits, Ideal.ieee], zero_add]
  rfl

/-- A row's sum is taken over its entries. -/
theorem sum_apply (R : Fin 16384) : val_main_v15 (F := Ideal) x0 x1 x2 (ix1 R) = ∑ k, (val_main_v14 (F := Ideal) x0 x1 x2) (ix2 R k) := by
  rw [val_main_v15_apply, val_main_cst_1_apply]
  show Ideal.ofBits .f32 0x00000000#32 + _ = _
  rw [show Ideal.ofBits .f32 0x00000000#32 = 0 by simp [Ideal.ofBits, Ideal.ieee], zero_add]
  refine Finset.sum_congr rfl fun k _ => congrArg (val_main_v14 (F := Ideal) x0 x1 x2) (funext fun a => Fin.ext ?_)
  fin_cases a <;> rfl

theorem mean_apply (R : Fin 16384) : val_main_v18 (F := Ideal) x0 x1 x2 (ix2 R 0) = mean fun j => (val_main_v14 (F := Ideal) x0 x1 x2) (ix2 R j) := by
  rw [val_main_v18_apply, val_main_v16_apply, val_main_v17_apply, val_main_cst_2_apply,
    show idx_main_v16 (ix2 R 0) = ix1 R by funext a; fin_cases a; rfl, sum_apply]
  rfl

theorem dev_apply (R : Fin 16384) (k : Fin 2048) :
    val_main_v20 (F := Ideal) x0 x1 x2 (ix2 R k) = dev (fun j => (val_main_v14 (F := Ideal) x0 x1 x2) (ix2 R j)) k := by
  rw [val_main_v20_apply, val_main_v19_apply, show idx_main_v19 (ix2 R k) = ix2 R 0 by funext a; fin_cases a <;> rfl, mean_apply]
  rfl

theorem dev_again_apply (R : Fin 16384) (k : Fin 2048) :
    val_main_v27 (F := Ideal) x0 x1 x2 (ix2 R k) = dev (fun j => (val_main_v14 (F := Ideal) x0 x1 x2) (ix2 R j)) k := by
  rw [val_main_v27_apply, val_main_v26_apply, show idx_main_v26 (ix2 R k) = ix2 R 0 by funext a; fin_cases a <;> rfl, mean_apply]
  rfl

theorem squares_apply (R : Fin 16384) : val_main_v22 (F := Ideal) x0 x1 x2 (ix1 R)
    = ∑ k, dev (fun j => (val_main_v14 (F := Ideal) x0 x1 x2) (ix2 R j)) k * dev (fun j => (val_main_v14 (F := Ideal) x0 x1 x2) (ix2 R j)) k := by
  rw [val_main_v22_apply, val_main_cst_3_apply]
  show Ideal.ofBits .f32 0x00000000#32 + _ = _
  rw [show Ideal.ofBits .f32 0x00000000#32 = 0 by simp [Ideal.ofBits, Ideal.ieee], zero_add]
  refine Finset.sum_congr rfl fun k _ => ?_
  rw [show idx_main_v22 (ix1 R) k = ix2 R k by funext a; fin_cases a <;> rfl, val_main_v21_apply, dev_apply]
  rfl

theorem root_apply (R : Fin 16384) : val_main_v30 (F := Ideal) x0 x1 x2 (ix2 R 0)
    = Ideal.rsqrt (mean (fun j => dev (fun j => (val_main_v14 (F := Ideal) x0 x1 x2) (ix2 R j)) j * dev (fun j => (val_main_v14 (F := Ideal) x0 x1 x2) (ix2 R j)) j)
        + Ideal.ofBits .f32 0x3727C5AC#32) := by
  rw [val_main_v30_apply, val_main_v29_apply, val_main_v28_apply, val_main_cst_5_apply, val_main_v25_apply, val_main_v24_apply,
    val_main_cst_4_apply, val_main_v23_apply, show idx_main_v23 (ix2 R 0) = ix1 R by funext a; fin_cases a; rfl, squares_apply]
  rfl

/-- The reference's result is the norm of the residual sums. -/
theorem norm_apply (R : Fin 16384) (k : Fin 2048) : val_main_v36 (F := Ideal) x0 x1 x2 x3 x4 (ix2 R k)
    = norm (fun j => (val_main_v14 (F := Ideal) x0 x1 x2) (ix2 R j)) (fun j => x3 (ix2 0 j)) (fun j => x4 (ix2 0 j)) k := by
  rw [val_main_v36_apply, val_main_v35_apply, val_main_v34_apply, val_main_v33_apply, val_main_v32_apply, val_main_v31_apply,
    dev_again_apply, show idx_main_v31 (ix2 R k) = ix2 R 0 by funext a; fin_cases a <;> rfl,
    show idx_main_v33 (ix2 R k) = ix2 0 k by funext a; fin_cases a <;> rfl,
    show idx_main_v35 (ix2 R k) = ix2 0 k by funext a; fin_cases a <;> rfl, root_apply]
  rfl

end Cert.Final.Ref

end
-- ==== Proof.FinalArray.lean ====
module

public import proofs.«01_k».proof.Proof.FinalEntry
public import proofs.«01_k».proof.Proof.FinalRef
public import Idealize.ShloMosaic.Lib.Pipeline.ValueKit

/-! The last call's output array: block by block the reference's entries. -/

@[expose] public section

set_option maxRecDepth 16384

noncomputable section

namespace Cert.Final

open Cert.Kernel4Ideal Cert.Kernel4Ideal.Gen
open Cert.Projections (norm mean dev)
open Idealize.ShloMosaic Idealize.ShloMosaic.TcCoe

/-- The grid's coordinate: the block of rows. -/
abbrev gr (t : Fin cfg0.N) : ℕ := (grid0.coords t 0).val

theorem grid_lt : ∀ t : Fin cfg0.N, gr t < 32 := (by decide +kernel : ∀ t : Fin grid0.N, _)

theorem idx0 : ∀ t : Fin cfg0.N, win0_0.index t = ![gr t, 0] := (by decide +kernel : ∀ t : Fin grid0.N, _)
theorem idx1 : ∀ t : Fin cfg0.N, win0_1.index t = ![gr t, 0] := (by decide +kernel : ∀ t : Fin grid0.N, _)
theorem idx2 : ∀ t : Fin cfg0.N, win0_2.index t = ![32 + gr t, 0] := (by decide +kernel : ∀ t : Fin grid0.N, _)
theorem idx3 : ∀ t : Fin cfg0.N, win0_3.index t = ![gr t, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![gr t, 0] := (by decide +kernel : ∀ t : Fin grid0.N, _)

variable (m : (ℓ : Loc nD τ sig) → Buf (Elt Ideal) ℓ)

/-- The arguments: the normed rows, the words of the experts' outputs, the gates, the norm's gain and bias. -/
abbrev a0 (c : Dev nD) : FVec Ideal S16384x2048 .f32 := m ((c.tc : Thread nD τ).loc main_arg0)
abbrev a1 (c : Dev nD) : IVec S266240x128 32 := m ((c.tc : Thread nD τ).loc main_arg1)
abbrev a2 (c : Dev nD) : FVec Ideal S16384x128 .f32 := m ((c.tc : Thread nD τ).loc main_arg2)
abbrev a3 (c : Dev nD) : FVec Ideal S1x2048 .f32 := m ((c.tc : Thread nD τ).loc main_arg3)
abbrev a4 (c : Dev nD) : FVec Ideal S1x2048 .f32 := m ((c.tc : Thread nD τ).loc main_arg4)

theorem blk_in0 (c : Dev nD) (t : Fin cfg0.N) (r : Fin 512) (l : Fin 2048) :
    iblk (F := Ideal) m c 0 t (ix2 r l) = a0 m c (ix2 ⟨512 * gr t + r.val, by have := grid_lt t; omega⟩ l) := by
  blk_simp [iblk, V_main_arg0 m c]
  refine congrArg (a0 m c) ?_
  blk_ext [idx0 t]

theorem blk_in1 (c : Dev nD) (t : Fin cfg0.N) (r : Fin 4096) (l : Fin 128) :
    iblk (F := Ideal) m c 1 t (ix2 r l) = a1 m c (ix2 ⟨4096 * gr t + r.val, by have := grid_lt t; omega⟩ l) := by
  blk_simp [iblk, V_main_arg1 m c]
  refine congrArg (a1 m c) ?_
  blk_ext [idx1 t]

theorem blk_in2 (c : Dev nD) (t : Fin cfg0.N) (r : Fin 4096) (l : Fin 128) :
    iblk (F := Ideal) m c 2 t (ix2 r l) = a1 m c (ix2 ⟨4096 * (32 + gr t) + r.val, by have := grid_lt t; omega⟩ l) := by
  blk_simp [iblk, V_main_arg1 m c]
  refine congrArg (a1 m c) ?_
  blk_ext [idx2 t]

theorem blk_in3 (c : Dev nD) (t : Fin cfg0.N) (r : Fin 512) (l : Fin 128) :
    iblk (F := Ideal) m c 3 t (ix2 r l) = a2 m c (ix2 ⟨512 * gr t + r.val, by have := grid_lt t; omega⟩ l) := by
  blk_simp [iblk, V_main_arg2 m c]
  refine congrArg (a2 m c) ?_
  blk_ext [idx3 t]

theorem blk_in4 (c : Dev nD) (t : Fin cfg0.N) (l : Fin 2048) :
    iblk (F := Ideal) m c 4 t (ix2 0 l) = a3 m c (ix2 0 l) := by
  blk_simp [iblk, V_main_arg3 m c]
  refine congrArg (a3 m c) ?_
  blk_ext [idx4 t]

theorem blk_in5 (c : Dev nD) (t : Fin cfg0.N) (l : Fin 2048) :
    iblk (F := Ideal) m c 5 t (ix2 0 l) = a4 m c (ix2 0 l) := by
  blk_simp [iblk, V_main_arg4 m c]
  refine congrArg (a4 m c) ?_
  blk_ext [idx5 t]

/-- The reference's result of the same arguments. -/
def result (c : Dev nD) : FVec Ideal S16384x2048 .f32 :=
  Reference4Ideal.Read.val_main_v36 (F := Ideal) (a0 m c) (a1 m c) (a2 m c) (a3 m c) (a4 m c)

/-- A row's residual sums, of the blocks and of the arrays. -/
theorem total_eq (c : Dev nD) (t : Fin cfg0.N) (r : Fin 512) (R : Fin 16384) (hR : R.val = 512 * gr t + r.val) (j : Fin 2048) :
    total (iblk (F := Ideal) m c 0 t (ix2 r j))
      (iblk (F := Ideal) m c 1 t (ix2 ⟨8 * r.val + j.val % 1024 / 128, by omega⟩ ⟨j.val % 128, by omega⟩))
      (iblk (F := Ideal) m c 2 t (ix2 ⟨8 * r.val + j.val % 1024 / 128, by omega⟩ ⟨j.val % 128, by omega⟩))
      (iblk (F := Ideal) m c 3 t (ix2 r 0)) (iblk (F := Ideal) m c 3 t (ix2 r 1)) (j.val / 1024)
    = Reference4Ideal.Read.val_main_v14 (F := Ideal) (a0 m c) (a1 m c) (a2 m c) (ix2 R j) := by
  have hg := grid_lt t
  rw [Ref.total_apply, blk_in0, blk_in1, blk_in2, blk_in3, blk_in3]
  have e0 : (⟨512 * gr t + r.val, by omega⟩ : Fin 16384) = R := Fin.ext hR.symm
  have e1 : (⟨4096 * gr t + (8 * r.val + j.val % 1024 / 128), by omega⟩ : Fin 266240)
      = ⟨8 * (16384 * 0 + R.val) + j.val % 1024 / 128, by omega⟩ := Fin.ext (by
      show 4096 * gr t + (8 * r.val + j.val % 1024 / 128) = 8 * (16384 * 0 + R.val) + j.val % 1024 / 128
      omega)
  have e2 : (⟨4096 * (32 + gr t) + (8 * r.val + j.val % 1024 / 128), by omega⟩ : Fin 266240)
      = ⟨8 * (16384 * 1 + R.val) + j.val % 1024 / 128, by omega⟩ := Fin.ext (by
      show 4096 * (32 + gr t) + (8 * r.val + j.val % 1024 / 128) = 8 * (16384 * 1 + R.val) + j.val % 1024 / 128
      omega)
  rw [e0]
  unfold Ref.word
  rw [← e1, ← e2]

theorem block_entry (c : Dev nD) (t : Fin cfg0.N) (r : Fin 512) (C : Fin 2048) : outsAt0 (F := Ideal) m c t (ix2 r C)
    = result m c (ix2 ⟨512 * gr t + r.val, by have := grid_lt t; omega⟩ C) := by
  have hg := grid_lt t
  unfold outsAt0
  rw [out_eq]
  refine (block_apply _ _ _ _ _ _ r C).trans ?_
  simp only [blk_in4, blk_in5, total_eq m c t r ⟨512 * gr t + r.val, by omega⟩ rfl]
  exact (Ref.norm_apply _ _ _ _ _ ⟨512 * gr t + r.val, by omega⟩ C).symm

theorem array_eq (c : Dev nD) : (dats m 0 c).arrAt 6 cfg0.N = result m c := by
  refine (dats m 0 c).arrAt_eq_of_covers 6 _ (by decide +kernel) fun t hf y => ?_
  blk_simp
  rw [after0_6]
  have e : y = ix2 (y 0) (y 1) := by funext a; fin_cases a <;> rfl
  rw [e]
  refine (block_entry m c t (y 0) (y 1)).trans ?_
  refine congrArg (result m c) ?_
  blk_ext [idx6 t]

end Cert.Final

end
-- ==== Proof.Run.lean ====
module

public import proofs.«01_k».proof.Proof.Gen.KernelIdeal.Skeleton
public import proofs.«01_k».proof.Proof.Gen.KernelIdeal.Loops
public import proofs.«01_k».proof.Proof.Gen.KernelIdeal.Frame

/-! One grid point's body, run on any memrefs: the pieces that it stores into the output block. -/

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 2000000 in
/-- The body's run, from the second score buffer's contents `fs1`: the pieces that the output block ends with, and
    the proof that the body, with the inputs at their contents, ends with those pieces written. -/
noncomputable def bodyRun (c : Dev nD) (i : grid0.Coords) (arg3 : Memref sig .tc .vmem S2048x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S144x4096 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S144x128 .bf16) (harg9 : arg9.IsWhole) (arg10 : Memref sig .tc .vmem S2048x128 .bf16) (harg10 : arg10.IsWhole) (arg11 : Memref sig .tc .vmem S2x1024x1024 .f32) (harg11 : arg11.IsWhole) (arg12 : Memref sig .tc .vmem S2x1024x1024 .f32) (harg12 : arg12.IsWhole)
    (x0 : Vec F S2048x128 .bf16) (x1 : Vec F S4096x128 .bf16) (x2 : Vec F S4096x128 .bf16) (x3 : Vec F S144x4096 .bf16) (x4 : Vec F S128x128 .bf16) (x5 : Vec F S128x128 .bf16) (x6 : Vec F S144x128 .bf16) (fs1 : BufTy.Contents (Elt F) arg12.view.ty) :
    { L7 : List (View.Piece (Elt F) S2048x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (arg12.view.loc (c : Thread nD τ) ↦[arg12.view.set]{fullShare} fs1)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ d, owns (c : Thread nD τ) arg11 fullShare d) ∗ (∃ d, owns (c : Thread nD τ) arg12 fullShare d)) -∗ K ⟨⟩))
          ⊢ wp frame (wpE (defs₀ (F := F)) Variants.none c none) E (cc0_attn i arg3 harg3 arg4 harg4 arg5 harg5 arg6 harg6 arg7 harg7 arg8 harg8 arg9 harg9 arg10 harg10 arg11 harg11 arg12 harg12) K } := by
  refine ⟨?_, fun E K => ?run⟩
  case run =>
    simp only [cc0_attn_eq_skeleton]; unfold cc0_attn_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, HS1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]
    · iexists _, _; isplitr; swap; · iexact HS0
      ipureintro; rfl
    iexists _, _; isplitr; swap; · iexact HS1
    ipureintro; rfl

end Cert.Attn

end
-- ==== Proof.Body.lean ====
module

public import Idealize.ShloMosaic.Lib.WholeRead
public import Idealize.ShloMosaic.Lib.Pipeline.ReadBack
public import proofs.«01_k».proof.Proof.Run

/-! What one grid point stores into its output block, as a function of the point's input blocks. -/

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.Sem

variable {F : FTy → Type} [FloatOps F]

/-! ## Reading back -/

section read
variable {Val : EltTy → Type} {κ : Kind} {sp : Space} {s : Shape} {e : EltTy}

/-- A load of the box that was written last reads what was written. -/
theorem read_last (v : View sig κ sp s e) (f : v.ty.Contents Val) (r : Rect s) (w : r.shape.Idx → Val e)
    (L : List (View.Piece Val s e)) : v.readAt Val r.toLoadRect (v.writes Val f (⟨r, w⟩ :: L)) = w :=
  funext fun j => View.read_writes_cons_emb (v := v) (f := f) r w L j

/-- A load of a box apart from the last write's reads the earlier contents. -/
theorem read_past (v : View sig κ sp s e) (f : v.ty.Contents Val) (r : Rect s) (w : r.shape.Idx → Val e)
    (L : List (View.Piece Val s e)) (B : LoadRect s) (h : LoadRect.disj r B = true) :
    v.readAt Val B (v.writes Val f (⟨r, w⟩ :: L)) = v.readAt Val B (v.writes Val f L) := by
  rw [View.writes_cons]
  exact View.readAt_writes_of_forall_not_mem v (v.writes Val f L) [⟨r, w⟩] B
    (fun j p hp => by rw [List.mem_singleton.1 hp]; exact LoadRect.idx_not_mem_of_disj h j)

end read

/-- The part of an array inside a box. -/
def cut {s : Shape} {e : EltTy} (X : Vec F s e) (B : LoadRect s) : B.shape.Idx → Elt F e := fun j => X (B.idx j)

theorem read_unread {s : Shape} {e : EltTy} {m : Memref sig .tc .vmem s e} (h : m.IsWhole) (X : Vec F s e)
    (B : LoadRect s) : View.readAt (Elt F) m.view B (h.unread X) = cut X B :=
  funext fun j => h.readAt_unread X B j

/-- The first and the second half of the queries, and the two halves of a score buffer. -/
abbrev top : Rect S2048x128 := Rect.unit ![0, 0] S1024x128.size inb_S2048x128_S1024x128_0_0
abbrev low : Rect S2048x128 := Rect.unit ![1024, 0] S1024x128.size inb_S2048x128_S1024x128_1024_0
abbrev half0 : Rect S2x1024x1024 := Rect.unit ![0, 0, 0] S1x1024x1024.size inb_S2x1024x1024_S1x1024x1024_0_0_0
abbrev half1 : Rect S2x1024x1024 := Rect.unit ![1, 0, 0] S1x1024x1024.size inb_S2x1024x1024_S1x1024x1024_1_0_0

/-- The running maxima and sums of the two halves. -/
abbrev Carry (F : FTy → Type) [FloatOps F] :=
  FVec F S1x1024 .f32 × FVec F S144x1024 .f32 × FVec F S1x1024 .f32 × FVec F S144x1024 .f32

/-- What the loop holds: the carry and the two halves of the first score buffer. -/
abbrev State (F : FTy → Type) [FloatOps F] :=
  Carry F × Vec F S1x1024x1024 .f32 × Vec F S1x1024x1024 .f32

/-- The first score buffer before the loop. -/
def before (x0 : Vec F S2048x128 .bf16) (x1 x2 : Vec F S4096x128 .bf16) :
    Vec F S1x1024x1024 .f32 × Vec F S1x1024x1024 .f32 :=
  (k0_pay41 (k0_pay28 (cut x0 top.toLoadRect)) (cut x1 (Rect.unit (s := S4096x128) ![0, 0] S1024x128.size inb_S4096x128_S1024x128_0_0).toLoadRect)
      (cut x2 (Rect.unit (s := S4096x128) ![0, 0] S1024x128.size inb_S4096x128_S1024x128_0_0).toLoadRect),
   k0_pay42 (k0_pay29 (cut x0 low.toLoadRect)) (cut x1 (Rect.unit (s := S4096x128) ![0, 0] S1024x128.size inb_S4096x128_S1024x128_0_0).toLoadRect)
      (cut x2 (Rect.unit (s := S4096x128) ![0, 0] S1024x128.size inb_S4096x128_S1024x128_0_0).toLoadRect))

/-- The carry after the meta keys. -/
def metaCarry (x0 : Vec F S2048x128 .bf16) (x4 x5 : Vec F S128x128 .bf16) (x6 : Vec F S144x128 .bf16) : Carry F :=
  let km := cut x4 (Rect.unit (s := S128x128) ![0, 0] S128x128.size inb_S128x128_S128x128_0_0).toLoadRect
  let am := cut x5 (Rect.unit (s := S128x128) ![0, 0] S128x128.size inb_S128x128_S128x128_0_0).toLoadRect
  let vm := cut x6 (Rect.unit (s := S144x128) ![0, 0] S144x128.size inb_S144x128_S144x128_0_0).toLoadRect
  let s1 := k0_pay35 (cut x0 low.toLoadRect) km am
  (k0_pay33 (cut x0 top.toLoadRect) km am, k0_pay34 (cut x0 top.toLoadRect) km am vm,
   k0_pay38 s1 k0_pay36, k0_pay39 s1 k0_pay36 k0_pay37 vm)

/-- The keys' blocks that a trip reads: the first scored into the second buffer, the second into the first. -/
abbrev keysA (i : grid0.Coords) (k : Fin (k0_t1_loop i).trips) : Rect S4096x128 :=
  Rect.unit (k0_off1 i k 1#32) S1024x128.size (k0_off1_inb i k 0)
abbrev keysB (i : grid0.Coords) (k : Fin (k0_t1_loop i).trips) : Rect S4096x128 :=
  Rect.unit (k0_off1 i k 2#32) S1024x128.size (k0_off1_inb i k 1)
/-- The values' blocks that a trip reads. -/
abbrev valsA (i : grid0.Coords) (k : Fin (k0_t1_loop i).trips) : Rect S144x4096 :=
  Rect.unit (k0_off2 i k) S144x1024.size (k0_off2_inb i k)
abbrev valsB (i : grid0.Coords) (k : Fin (k0_t1_loop i).trips) : Rect S144x4096 :=
  Rect.unit (k0_off3 i k) S144x1024.size (k0_off3_inb i k)

/-- One trip's carry. -/
def trip (i : grid0.Coords) (q0 q1 : FVec F S1024x256 .bf16) (x1 x2 : Vec F S4096x128 .bf16) (x3 : Vec F S144x4096 .bf16)
    (k : Fin (k0_t1_loop i).trips) (acc : Carry F) (s0 s1 : Vec F S1x1024x1024 .f32) : Carry F :=
  let t0 := k0_pay4 q0 (cut x1 (keysA i k).toLoadRect) (cut x2 (keysA i k).toLoadRect)
  let t1 := k0_pay5 q1 (cut x1 (keysA i k).toLoadRect) (cut x2 (keysA i k).toLoadRect)
  let vA := cut x3 (valsA i k).toLoadRect
  let vB := cut x3 (valsB i k).toLoadRect
  (k0_pay43 (k0_pay6 acc.1 s0) t0,
   k0_pay44 (k0_pay6 acc.1 s0) (k0_pay9 acc.2.1 vA (k0_pay7 acc.1 s0 s0) (k0_pay8 acc.1 s0)) vB t0 t0,
   k0_pay45 (k0_pay10 acc.2.2.1 s1) t1,
   k0_pay46 (k0_pay10 acc.2.2.1 s1) (k0_pay11 acc.2.2.1 acc.2.2.2 vA s1 s1) vB t1 t1)

/-- One trip's state. -/
def step (i : grid0.Coords) (q0 q1 : FVec F S1024x256 .bf16) (x1 x2 : Vec F S4096x128 .bf16) (x3 : Vec F S144x4096 .bf16)
    (k : Fin (k0_t1_loop i).trips) (st : State F) : State F :=
  (trip i q0 q1 x1 x2 x3 k st.1 st.2.1 st.2.2,
   k0_pay13 q0 (cut x1 (keysB i k).toLoadRect) (cut x2 (keysB i k).toLoadRect),
   k0_pay14 q1 (cut x1 (keysB i k).toLoadRect) (cut x2 (keysB i k).toLoadRect))

/-- The state after the loop, which has at most one trip. -/
def after (i : grid0.Coords) (x0 : Vec F S2048x128 .bf16) (x1 : Vec F S4096x128 .bf16) (x2 : Vec F S4096x128 .bf16) (x3 : Vec F S144x4096 .bf16) (x4 : Vec F S128x128 .bf16) (x5 : Vec F S128x128 .bf16) (x6 : Vec F S144x128 .bf16) : State F :=
  let st := (metaCarry x0 x4 x5 x6, before x0 x1 x2)
  if h : 0 < (k0_t1_loop i).trips then
    step i (k0_pay28 (cut x0 top.toLoadRect)) (k0_pay29 (cut x0 low.toLoadRect)) x1 x2 x3 ⟨0, h⟩ st
  else st

/-- The block's first half. -/
def outTop (i : grid0.Coords) (x0 : Vec F S2048x128 .bf16) (x1 : Vec F S4096x128 .bf16) (x2 : Vec F S4096x128 .bf16) (x3 : Vec F S144x4096 .bf16) (x4 : Vec F S128x128 .bf16) (x5 : Vec F S128x128 .bf16) (x6 : Vec F S144x128 .bf16) : FVec F S1024x128 .bf16 :=
  let st := after i x0 x1 x2 x3 x4 x5 x6
  k0_pay1 (k0_pay54 (k0_pay52 st.1.1 st.1.2.1
    (cut x3 (Rect.unit (s := S144x4096) (k0_off8 i) S144x1024.size (k0_off8_inb i)).toLoadRect) st.2.1 st.2.1))

/-- The block's second half. -/
def outLow (i : grid0.Coords) (x0 : Vec F S2048x128 .bf16) (x1 : Vec F S4096x128 .bf16) (x2 : Vec F S4096x128 .bf16) (x3 : Vec F S144x4096 .bf16) (x4 : Vec F S128x128 .bf16) (x5 : Vec F S128x128 .bf16) (x6 : Vec F S144x128 .bf16) : FVec F S1024x128 .bf16 :=
  let st := after i x0 x1 x2 x3 x4 x5 x6
  k0_pay2 (k0_pay53 st.1.2.2.1 st.1.2.2.2
    (k0_pay51 (k0_pay29 (cut x0 low.toLoadRect))
      (cut x1 (Rect.unit (s := S4096x128) (k0_off7 i) S1024x128.size (k0_off7_inb i)).toLoadRect)
      (cut x2 (Rect.unit (s := S4096x128) (k0_off7 i) S1024x128.size (k0_off7_inb i)).toLoadRect))
    (cut x3 (Rect.unit (s := S144x4096) (k0_off8 i) S144x1024.size (k0_off8_inb i)).toLoadRect) st.2.2 st.2.2
    (cut x3 (Rect.unit (s := S144x4096) (k0_off9 i) S144x1024.size (k0_off9_inb i)).toLoadRect))

/-- The pieces written into the output block. -/
def pieces (i : grid0.Coords) (x0 : Vec F S2048x128 .bf16) (x1 : Vec F S4096x128 .bf16) (x2 : Vec F S4096x128 .bf16) (x3 : Vec F S144x4096 .bf16) (x4 : Vec F S128x128 .bf16) (x5 : Vec F S128x128 .bf16) (x6 : Vec F S144x128 .bf16) : List (View.Piece (Elt F) S2048x128 .bf16) :=
  [⟨low, outLow i x0 x1 x2 x3 x4 x5 x6⟩, ⟨top, outTop i x0 x1 x2 x3 x4 x5 x6⟩]

/-! ## The loop -/

/-- The carry that a trip computes. -/
theorem trip_carry (c : Dev nD) (i : grid0.Coords) (arg3 : Memref sig .tc .vmem S2048x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S144x4096 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S144x128 .bf16) (harg9 : arg9.IsWhole) (arg10 : Memref sig .tc .vmem S2048x128 .bf16) (harg10 : arg10.IsWhole) (arg11 : Memref sig .tc .vmem S2x1024x1024 .f32) (harg11 : arg11.IsWhole) (arg12 : Memref sig .tc .vmem S2x1024x1024 .f32) (harg12 : arg12.IsWhole) (arg2 : BitVec 32) (v8 : FVec F S1024x256 .bf16) (v10 : FVec F S1024x256 .bf16) (v20 : FVec F S1x1024 .f32) (v30 : FVec F S144x1024 .f32) (v31 : FVec F S128x1024 .f32) (v32 : FVec F S1x1024 .f32) (v33 : FVec F S144x1024 .f32)
    (x1 x2 : Vec F S4096x128 .bf16) (x3 : Vec F S144x4096 .bf16) (k : Fin (k0_t1_loop i).trips) (acc : Carry F)
    (f11 : BufTy.Contents (Elt F) arg11.view.ty) (f12 : BufTy.Contents (Elt F) arg12.view.ty) :
    tripR_k0_t1 (F := F) Variants.none c none i arg3 harg3 arg4 harg4 arg5 harg5 arg6 harg6 arg7 harg7 arg8 harg8 arg9 harg9 arg10 harg10 arg11 harg11 arg12 harg12 arg2 v8 v10 v20 v30 v31 v32 v33 (harg4.unread x1) (harg5.unread x2) (harg6.unread x3) k acc f11 f12
      = trip i v8 v10 x1 x2 x3 k acc (View.readAt (Elt F) arg11.view half0.toLoadRect f11) (View.readAt (Elt F) arg11.view half1.toLoadRect f11) := by
  unfold tripR_k0_t1 trip_k0_t1
  dsimp only
  unfold trip_k0_t1.sl.r_6 trip_k0_t1.sl.r_4 trip_k0_t1.sl.r_5 trip_k0_t1.sl.r_1 trip_k0_t1.sl.v245 trip_k0_t1.sl.v262
  have h1 (w0 w1 : Vec F S1x1024x1024 .f32) :
      arg12.view.readCov [(⟨half1, w1⟩ : View.Piece (Elt F) S2x1024x1024 .f32), ⟨half0, w0⟩] half1.toLoadRect = w1 :=
    View.readCov_cons_toLoadRect _ _ _ _
  have h0 (w0 w1 : Vec F S1x1024x1024 .f32) :
      arg12.view.readCov [(⟨half1, w1⟩ : View.Piece (Elt F) S2x1024x1024 .f32), ⟨half0, w0⟩] half0.toLoadRect = w0 :=
    (View.readCov_skip _ _ _ _ _ (by decide +kernel)).trans (View.readCov_cons_toLoadRect _ _ _ _)
  have hW : trip_k0_t1.sl.HW_arg12_2 i arg4 arg5 v8 v10 (harg4.unread x1) (harg5.unread x2) k
      = [(⟨half1, k0_pay5 v10 (cut x1 (keysA i k).toLoadRect) (cut x2 (keysA i k).toLoadRect)⟩ : View.Piece (Elt F) S2x1024x1024 .f32),
         ⟨half0, k0_pay4 v8 (cut x1 (keysA i k).toLoadRect) (cut x2 (keysA i k).toLoadRect)⟩] := by
    rw [← read_unread harg4 x1, ← read_unread harg5 x2]
    rfl
  rw [hW, h0, h1]
  unfold trip_k0_t1.sl.r trip_k0_t1.sl.r_2 trip_k0_t1.sl.r_3 trip
  rw [← read_unread harg6 x3, ← read_unread harg6 x3]

/-- What a trip leaves in the first score buffer. -/
theorem trip_pieces (c : Dev nD) (i : grid0.Coords) (arg3 : Memref sig .tc .vmem S2048x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S144x4096 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S144x128 .bf16) (harg9 : arg9.IsWhole) (arg10 : Memref sig .tc .vmem S2048x128 .bf16) (harg10 : arg10.IsWhole) (arg11 : Memref sig .tc .vmem S2x1024x1024 .f32) (harg11 : arg11.IsWhole) (arg12 : Memref sig .tc .vmem S2x1024x1024 .f32) (harg12 : arg12.IsWhole) (arg2 : BitVec 32) (v8 : FVec F S1024x256 .bf16) (v10 : FVec F S1024x256 .bf16) (v20 : FVec F S1x1024 .f32) (v30 : FVec F S144x1024 .f32) (v31 : FVec F S128x1024 .f32) (v32 : FVec F S1x1024 .f32) (v33 : FVec F S144x1024 .f32)
    (x1 x2 : Vec F S4096x128 .bf16) (x3 : Vec F S144x4096 .bf16) (k : Fin (k0_t1_loop i).trips) (acc : Carry F)
    (f11 : BufTy.Contents (Elt F) arg11.view.ty) (f12 : BufTy.Contents (Elt F) arg12.view.ty) :
    (tripL_k0_t1 (F := F) Variants.none c none i arg3 harg3 arg4 harg4 arg5 harg5 arg6 harg6 arg7 harg7 arg8 harg8 arg9 harg9 arg10 harg10 arg11 harg11 arg12 harg12 arg2 v8 v10 v20 v30 v31 v32 v33 (harg4.unread x1) (harg5.unread x2) (harg6.unread x3) k acc f11 f12).1
      = [(⟨half1, k0_pay14 v10 (cut x1 (keysB i k).toLoadRect) (cut x2 (keysB i k).toLoadRect)⟩ : View.Piece (Elt F) S2x1024x1024 .f32),
         ⟨half0, k0_pay13 v8 (cut x1 (keysB i k).toLoadRect) (cut x2 (keysB i k).toLoadRect)⟩] := by
  unfold tripL_k0_t1 trip_k0_t1
  dsimp only
  rw [← read_unread harg4 x1, ← read_unread harg5 x2]

/-- The state after the loop, from the carry and the two halves before it. -/
theorem loop_state (c : Dev nD) (i : grid0.Coords) (arg3 : Memref sig .tc .vmem S2048x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S144x4096 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S144x128 .bf16) (harg9 : arg9.IsWhole) (arg10 : Memref sig .tc .vmem S2048x128 .bf16) (harg10 : arg10.IsWhole) (arg11 : Memref sig .tc .vmem S2x1024x1024 .f32) (harg11 : arg11.IsWhole) (arg12 : Memref sig .tc .vmem S2x1024x1024 .f32) (harg12 : arg12.IsWhole) (arg2 : BitVec 32) (v8 : FVec F S1024x256 .bf16) (v10 : FVec F S1024x256 .bf16) (v20 : FVec F S1x1024 .f32) (v30 : FVec F S144x1024 .f32) (v31 : FVec F S128x1024 .f32) (v32 : FVec F S1x1024 .f32) (v33 : FVec F S144x1024 .f32)
    (x1 x2 : Vec F S4096x128 .bf16) (x3 : Vec F S144x4096 .bf16) (init : Carry F)
    (G11 : BufTy.Contents (Elt F) arg11.view.ty) (G12 : BufTy.Contents (Elt F) arg12.view.ty) (s0 s1 : Vec F S1x1024x1024 .f32)
    (h0 : View.readAt (Elt F) arg11.view half0.toLoadRect G11 = s0) (h1 : View.readAt (Elt F) arg11.view half1.toLoadRect G11 = s1) (T : State F)
    (hdef : T = if h : 0 < (k0_t1_loop i).trips then step i v8 v10 x1 x2 x3 ⟨0, h⟩ (init, s0, s1) else (init, s0, s1)) :
    let S := st_k0_t1 (F := F) Variants.none c none i arg3 harg3 arg4 harg4 arg5 harg5 arg6 harg6 arg7 harg7 arg8 harg8 arg9 harg9 arg10 harg10 arg11 harg11 arg12 harg12 arg2 v8 v10 v20 v30 v31 v32 v33 (harg4.unread x1) (harg5.unread x2) (harg6.unread x3) G11 G12 init (k0_t1_loop i).trips
    S.1 = T.1 ∧ View.readAt (Elt F) arg11.view half0.toLoadRect (arg11.view.writes (Elt F) G11 S.2.1) = T.2.1
      ∧ View.readAt (Elt F) arg11.view half1.toLoadRect (arg11.view.writes (Elt F) G11 S.2.1) = T.2.2 := by
  intro S
  by_cases h : 0 < (k0_t1_loop i).trips
  · have e : (k0_t1_loop i).trips = (⟨0, h⟩ : Fin (k0_t1_loop i).trips).val + 1 := by
      have := (k0_t1_abs i).2.1
      show _ = 0 + 1
      omega
    have hT : T = step i v8 v10 x1 x2 x3 ⟨0, h⟩ (init, s0, s1) := hdef.trans (dif_pos h)
    have hS : S = _ := (congrArg _ e).trans (st_k0_t1_succ Variants.none c none i arg3 harg3 arg4 harg4 arg5 harg5 arg6 harg6 arg7 harg7 arg8 harg8 arg9 harg9 arg10 harg10 arg11 harg11 arg12 harg12 arg2 v8 v10 v20 v30 v31 v32 v33 (harg4.unread x1) (harg5.unread x2) (harg6.unread x3) G11 G12 init ⟨0, h⟩)
    rw [hS, hT]
    refine ⟨(trip_carry c i arg3 harg3 arg4 harg4 arg5 harg5 arg6 harg6 arg7 harg7 arg8 harg8 arg9 harg9 arg10 harg10 arg11 harg11 arg12 harg12 arg2 v8 v10 v20 v30 v31 v32 v33 x1 x2 x3 ⟨0, h⟩ _ _ _).trans ?_, (congrArg (fun L => View.readAt (Elt F) arg11.view half0.toLoadRect (arg11.view.writes (Elt F) G11 (L ++ []))) (trip_pieces c i arg3 harg3 arg4 harg4 arg5 harg5 arg6 harg6 arg7 harg7 arg8 harg8 arg9 harg9 arg10 harg10 arg11 harg11 arg12 harg12 arg2 v8 v10 v20 v30 v31 v32 v33 x1 x2 x3 ⟨0, h⟩ _ _ _)).trans ?_, (congrArg (fun L => View.readAt (Elt F) arg11.view half1.toLoadRect (arg11.view.writes (Elt F) G11 (L ++ []))) (trip_pieces c i arg3 harg3 arg4 harg4 arg5 harg5 arg6 harg6 arg7 harg7 arg8 harg8 arg9 harg9 arg10 harg10 arg11 harg11 arg12 harg12 arg2 v8 v10 v20 v30 v31 v32 v33 x1 x2 x3 ⟨0, h⟩ _ _ _)).trans ?_⟩
    · show trip i v8 v10 x1 x2 x3 ⟨0, h⟩ init (View.readAt (Elt F) arg11.view half0.toLoadRect G11) (View.readAt (Elt F) arg11.view half1.toLoadRect G11) = _
      rw [h0, h1]; rfl
    · exact (read_past _ _ _ _ _ _ (by decide +kernel)).trans (read_last _ _ _ _ _)
    · exact read_last _ _ _ _ _
  · have e : (k0_t1_loop i).trips = 0 := by omega
    have hT : T = (init, s0, s1) := hdef.trans (dif_neg h)
    have hS : S = (init, [], []) := (congrArg _ e).trans rfl
    rw [hS, hT]
    exact ⟨rfl, h0, h1⟩

/-- The second loop has no trip: it leaves the carry and the buffers alone. -/
theorem second_none (c : Dev nD) (i : grid0.Coords) (arg3 : Memref sig .tc .vmem S2048x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S144x4096 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S144x128 .bf16) (harg9 : arg9.IsWhole) (arg10 : Memref sig .tc .vmem S2048x128 .bf16) (harg10 : arg10.IsWhole) (arg11 : Memref sig .tc .vmem S2x1024x1024 .f32) (harg11 : arg11.IsWhole) (arg12 : Memref sig .tc .vmem S2x1024x1024 .f32) (harg12 : arg12.IsWhole) (arg2 : BitVec 32) (v8 : FVec F S1024x256 .bf16) (v10 : FVec F S1024x256 .bf16) (v20 : FVec F S1x1024 .f32) (v30 : FVec F S144x1024 .f32) (v31 : FVec F S128x1024 .f32) (v32 : FVec F S1x1024 .f32) (v33 : FVec F S144x1024 .f32) (v67 : BitVec 32)
    (X4 : BufTy.Contents (Elt F) arg4.view.ty) (X5 : BufTy.Contents (Elt F) arg5.view.ty) (X6 : BufTy.Contents (Elt F) arg6.view.ty) (init : Carry F)
    (G11 : BufTy.Contents (Elt F) arg11.view.ty) (G12 : BufTy.Contents (Elt F) arg12.view.ty) :
    st_k0_t2 (F := F) Variants.none c none i arg3 harg3 arg4 harg4 arg5 harg5 arg6 harg6 arg7 harg7 arg8 harg8 arg9 harg9 arg10 harg10 arg11 harg11 arg12 harg12 arg2 v8 v10 v20 v30 v31 v32 v33 v67 X4 X5 X6 G11 G12 init (Scf.trips (k0_t2_loop i).lb (k0_t2_loop i).ub (k0_t2_loop i).st)
      = (init, [], []) := by
  have e : Scf.trips (k0_t2_loop i).lb (k0_t2_loop i).ub (k0_t2_loop i).st = 0 := Nat.le_zero.1 (k0_t2_abs i).2.1
  rw [e]
  rfl

/-! ## The output block -/

set_option maxHeartbeats 1000000 in
/-- The pieces that the body's run leaves in the output block are those of the point's input blocks. -/
theorem bodyRun_pieces (c : Dev nD) (i : grid0.Coords) (arg3 : Memref sig .tc .vmem S2048x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S144x4096 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S144x128 .bf16) (harg9 : arg9.IsWhole) (arg10 : Memref sig .tc .vmem S2048x128 .bf16) (harg10 : arg10.IsWhole) (arg11 : Memref sig .tc .vmem S2x1024x1024 .f32) (harg11 : arg11.IsWhole) (arg12 : Memref sig .tc .vmem S2x1024x1024 .f32) (harg12 : arg12.IsWhole) (x0 : Vec F S2048x128 .bf16) (x1 : Vec F S4096x128 .bf16) (x2 : Vec F S4096x128 .bf16) (x3 : Vec F S144x4096 .bf16) (x4 : Vec F S128x128 .bf16) (x5 : Vec F S128x128 .bf16) (x6 : Vec F S144x128 .bf16) (fs1 : BufTy.Contents (Elt F) arg12.view.ty) :
    (bodyRun c i arg3 harg3 arg4 harg4 arg5 harg5 arg6 harg6 arg7 harg7 arg8 harg8 arg9 harg9 arg10 harg10 arg11 harg11 arg12 harg12 x0 x1 x2 x3 x4 x5 x6 fs1).1 = pieces i x0 x1 x2 x3 x4 x5 x6 := by
  unfold bodyRun
  dsimp only
  unfold bodyRun.sl.r_12 bodyRun.sl.r_13 bodyRun.sl.r_10
  have hr : bodyRun.sl.r c arg3 harg3 x0 = k0_pay28 (cut x0 top.toLoadRect) := by
    rw [← read_unread harg3 x0]; rfl
  have hr1 : bodyRun.sl.r_1 c arg3 harg3 x0 = k0_pay29 (cut x0 low.toLoadRect) := by
    rw [← read_unread harg3 x0]; rfl
  have hinit : (bodyRun.sl.r_2 c arg3 harg3 arg7 harg7 arg8 harg8 x0 x4 x5,
      bodyRun.sl.r_3 c arg3 harg3 arg7 harg7 arg8 harg8 arg9 harg9 x0 x4 x5 x6,
      k0_pay38 (bodyRun.sl.r_4 c arg3 harg3 arg7 harg7 arg8 harg8 x0 x4 x5) k0_pay36,
      k0_pay39 (bodyRun.sl.r_4 c arg3 harg3 arg7 harg7 arg8 harg8 x0 x4 x5) k0_pay36 k0_pay37
        (View.readAt (Elt F) arg9.view (Rect.unit ![0, 0] S144x128.size inb_S144x128_S144x128_0_0).toLoadRect (harg9.unread x6)))
      = metaCarry x0 x4 x5 x6 := by
    unfold metaCarry
    rw [← read_unread harg3 x0, ← read_unread harg3 x0, ← read_unread harg7 x4, ← read_unread harg8 x5, ← read_unread harg9 x6]
    rfl
  have hbuf : bodyRun.sl.HS0_2 c arg3 harg3 arg4 harg4 arg5 harg5 x0 x1 x2
      = [⟨half1, (before x0 x1 x2).2⟩, ⟨half0, (before x0 x1 x2).1⟩] := by
    unfold before
    rw [← read_unread harg3 x0, ← read_unread harg3 x0, ← read_unread harg4 x1, ← read_unread harg5 x2]
    rfl
  obtain ⟨k1, k2, k3⟩ := loop_state c i arg3 harg3 arg4 harg4 arg5 harg5 arg6 harg6 arg7 harg7 arg8 harg8 arg9 harg9 arg10 harg10 arg11 harg11 arg12 harg12 (BitVec.ofNat 32 ↑(i 2)) (bodyRun.sl.r c arg3 harg3 x0) (bodyRun.sl.r_1 c arg3 harg3 x0)
    (bodyRun.sl.r_2 c arg3 harg3 arg7 harg7 arg8 harg8 x0 x4 x5)
    (bodyRun.sl.r_3 c arg3 harg3 arg7 harg7 arg8 harg8 arg9 harg9 x0 x4 x5 x6)
    (bodyRun.sl.r_4 c arg3 harg3 arg7 harg7 arg8 harg8 x0 x4 x5) k0_pay36 k0_pay37 x1 x2 x3
    (bodyRun.sl.r_2 c arg3 harg3 arg7 harg7 arg8 harg8 x0 x4 x5,
      bodyRun.sl.r_3 c arg3 harg3 arg7 harg7 arg8 harg8 arg9 harg9 x0 x4 x5 x6,
      k0_pay38 (bodyRun.sl.r_4 c arg3 harg3 arg7 harg7 arg8 harg8 x0 x4 x5) k0_pay36,
      k0_pay39 (bodyRun.sl.r_4 c arg3 harg3 arg7 harg7 arg8 harg8 x0 x4 x5) k0_pay36 k0_pay37
        (View.readAt (Elt F) arg9.view (Rect.unit ![0, 0] S144x128.size inb_S144x128_S144x128_0_0).toLoadRect (harg9.unread x6)))
    (arg11.view.writes (Elt F) arg11.view.junk (bodyRun.sl.HS0_2 c arg3 harg3 arg4 harg4 arg5 harg5 x0 x1 x2)) fs1
    (before x0 x1 x2).1 (before x0 x1 x2).2
    (by rw [hbuf]; exact (read_past _ _ _ _ _ _ (by decide +kernel)).trans (read_last _ _ _ _ _))
    (by rw [hbuf]; exact read_last _ _ _ _ _)
    (after i x0 x1 x2 x3 x4 x5 x6) (by rw [hinit, hr, hr1]; rfl)
  have e5 : bodyRun.sl.r_5 c i arg3 harg3 arg4 harg4 arg5 harg5 arg6 harg6 arg7 harg7 arg8 harg8 arg9 harg9 arg10 harg10 arg11 harg11 arg12 harg12 x0 x1 x2 x3 x4 x5 x6 fs1 = (after i x0 x1 x2 x3 x4 x5 x6).1.1 := by
    unfold bodyRun.sl.r_5
    rw [second_none]
    exact congrArg (fun a => a.1) k1
  have e6 : bodyRun.sl.r_6 c i arg3 harg3 arg4 harg4 arg5 harg5 arg6 harg6 arg7 harg7 arg8 harg8 arg9 harg9 arg10 harg10 arg11 harg11 arg12 harg12 x0 x1 x2 x3 x4 x5 x6 fs1 = (after i x0 x1 x2 x3 x4 x5 x6).1.2.1 := by
    unfold bodyRun.sl.r_6
    rw [second_none]
    exact congrArg (fun a => a.2.1) k1
  have e7 : bodyRun.sl.r_7 c i arg3 harg3 arg4 harg4 arg5 harg5 arg6 harg6 arg7 harg7 arg8 harg8 arg9 harg9 arg10 harg10 arg11 harg11 arg12 harg12 x0 x1 x2 x3 x4 x5 x6 fs1 = (after i x0 x1 x2 x3 x4 x5 x6).1.2.2.1 := by
    unfold bodyRun.sl.r_7
    rw [second_none]
    exact congrArg (fun a => a.2.2.1) k1
  have e8 : bodyRun.sl.r_8 c i arg3 harg3 arg4 harg4 arg5 harg5 arg6 harg6 arg7 harg7 arg8 harg8 arg9 harg9 arg10 harg10 arg11 harg11 arg12 harg12 x0 x1 x2 x3 x4 x5 x6 fs1 = (after i x0 x1 x2 x3 x4 x5 x6).1.2.2.2 := by
    unfold bodyRun.sl.r_8
    rw [second_none]
    exact congrArg (fun a => a.2.2.2) k1
  have e86 : bodyRun.sl.v86 c i arg3 harg3 arg4 harg4 arg5 harg5 arg6 harg6 arg7 harg7 arg8 harg8 arg9 harg9 arg10 harg10 arg11 harg11 arg12 harg12 x0 x1 x2 x3 x4 x5 x6 fs1 = (after i x0 x1 x2 x3 x4 x5 x6).2.1 := by
    unfold bodyRun.sl.v86
    rw [second_none]
    refine Eq.trans ?_ k2
    rw [← View.writes_append]
    rfl
  have e112 : bodyRun.sl.v112 c i arg3 harg3 arg4 harg4 arg5 harg5 arg6 harg6 arg7 harg7 arg8 harg8 arg9 harg9 arg10 harg10 arg11 harg11 arg12 harg12 x0 x1 x2 x3 x4 x5 x6 fs1 = (after i x0 x1 x2 x3 x4 x5 x6).2.2 := by
    unfold bodyRun.sl.v112
    rw [second_none]
    refine Eq.trans ?_ k3
    rw [← View.writes_append]
    rfl
  have e9 : bodyRun.sl.r_9 c i arg3 harg3 arg4 harg4 arg5 harg5 x0 x1 x2
      = k0_pay51 (k0_pay29 (cut x0 low.toLoadRect))
      (cut x1 (Rect.unit (s := S4096x128) (k0_off7 i) S1024x128.size (k0_off7_inb i)).toLoadRect)
      (cut x2 (Rect.unit (s := S4096x128) (k0_off7 i) S1024x128.size (k0_off7_inb i)).toLoadRect) := by
    rw [← hr1, ← read_unread harg4 x1, ← read_unread harg5 x2]; rfl
  have e11 : bodyRun.sl.r_11 i arg6 harg6 x3
      = cut x3 (Rect.unit (s := S144x4096) (k0_off8 i) S144x1024.size (k0_off8_inb i)).toLoadRect := by
    rw [← read_unread harg6 x3]; rfl
  rw [e5, e6, e7, e8, e9, e11, e86, e112, read_unread, read_unread]
  rfl

end Cert.Attn

end
-- ==== Proof.Launch.lean ====
module

public import proofs.«01_k».proof.Proof.Body
public import Idealize.ShloMosaic.Lib.Claim

/-! The launch: every grid point runs its body on its blocks, so the program ends with its arguments as they were
    and the output array as the points' blocks leave it. -/

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output block at a point -/

/-- A view of an output block, through which the pieces are read back. -/
abbrev outView : View sig .tc .vmem S2048x128 .bf16 := (Memref.whole cc0_stg7_0).view

/-- The block that the pieces make. -/
def outBlock (L : List (View.Piece (Elt F) S2048x128 .bf16)) : Vec F S2048x128 .bf16 :=
  outView.read (Elt F) (outView.writes (Elt F) outView.junk L)

/-- The two pieces fill the block. -/
theorem pieces_cover (i : grid0.Coords) (x0 : Vec F S2048x128 .bf16) (x1 : Vec F S4096x128 .bf16) (x2 : Vec F S4096x128 .bf16) (x3 : Vec F S144x4096 .bf16) (x4 : Vec F S128x128 .bf16) (x5 : Vec F S128x128 .bf16) (x6 : Vec F S144x128 .bf16) (y : S2048x128.Idx) :
    ∃ p ∈ pieces i x0 x1 x2 x3 x4 x5 x6, y ∈ p.1.set :=
  View.cover_of_tiledL (pieces i x0 x1 x2 x3 x4 x5 x6) S1024x128.size (by sl_kernel_rfl) y

variable (m : (ℓ : Loc nD τ sig) → Buf (Elt F) ℓ) (ρ : Dev nD → PrngReg)

/-- The block that grid point `t` leaves. -/
def outAt (c : Dev nD) (t : Fin cfg0.N) : Vec F S2048x128 .bf16 :=
  outBlock (pieces (grid0.coords t) (iblk m c 0 t) (iblk m c 1 t) (iblk m c 2 t) (iblk m c 3 t) (iblk m c 4 t) (iblk m c 5 t) (iblk m c 6 t))

abbrev blk0 (t : Fin cfg0.N) : Memref sig .tc .vmem S2048x128 .bf16 := win0_0.stage (cfg0.slots t 0)
abbrev blk1 (t : Fin cfg0.N) : Memref sig .tc .vmem S4096x128 .bf16 := win0_1.stage (cfg0.slots t 1)
abbrev blk2 (t : Fin cfg0.N) : Memref sig .tc .vmem S4096x128 .bf16 := win0_2.stage (cfg0.slots t 2)
abbrev blk3 (t : Fin cfg0.N) : Memref sig .tc .vmem S144x4096 .bf16 := win0_3.stage (cfg0.slots t 3)
abbrev blk4 (t : Fin cfg0.N) : Memref sig .tc .vmem S128x128 .bf16 := win0_4.stage (cfg0.slots t 4)
abbrev blk5 (t : Fin cfg0.N) : Memref sig .tc .vmem S128x128 .bf16 := win0_5.stage (cfg0.slots t 5)
abbrev blk6 (t : Fin cfg0.N) : Memref sig .tc .vmem S144x128 .bf16 := win0_6.stage (cfg0.slots t 6)
abbrev blk7 (t : Fin cfg0.N) : Memref sig .tc .vmem S2048x128 .bf16 := win0_7.stage (cfg0.slots t 7)

/-! ## The proof's data -/

/-- At every point the inputs keep their blocks and the output takes the point's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
    | ⟨_ + 8, h⟩ => absurd h (Nat.not_lt.2 (Nat.le_add_left _ _))
  Φ _ := Pipeline.ΦA spec0 c
  q w := Pipeline.shareOf spec0 w
  owed _ := 0

theorem A_eq (c : Dev nD) (w) : (dats m 0 c).A w = V m c (Pipeline.arrRef spec0 w) := by dsimp only [dats]
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (A_eq m c 6) (after6 m c) t d
theorem after7 (c : Dev nD) (t : Fin cfg0.N) : (dats m 0 c).after 7 t = outAt m c t := by dsimp only [dats]

/-- The two score buffers. -/
abbrev buf0 : Memref sig .tc .vmem S2x1024x1024 .f32 := Memref.whole cc0_scratch0
abbrev buf1 : Memref sig .tc .vmem S2x1024x1024 .f32 := Memref.whole cc0_scratch1

/-- Between points the core holds the score buffers at some contents. -/
theorem held_eq (c : Dev nD) : (Pipeline.ΦA spec0 c : sProp 𝕄)
    = iprop(iprop((∃ d, owns (c : Thread nD τ) buf0 fullShare d) ∗ (∃ d, owns (c : Thread nD τ) buf1 fullShare d)) ∗ (∃ r, prngReg c r)) := by
  unfold Pipeline.ΦA
  rw [scopedRest0_eq]
  simp only [buf0, buf1, owns_whole]
  try rfl

/-- A held buffer is held at its elements. -/
theorem owns_held (c : Dev nD) (d) : (owns (c : Thread nD τ) buf1 fullShare d : sProp 𝕄)
    ⊢ iprop(∃ f, buf1.view.loc (c : Thread nD τ) ↦[buf1.view.set]{fullShare} f) := by
  unfold owns
  iintro ⟨%f, -, H⟩
  iexists f
  iexact H

/-! ## One point -/

/-- What a point starts from. -/
def atStart (c : Dev nD) (t : Fin cfg0.N) : sProp 𝕄 :=
  iprop((dats m 0 c).Φ t.castSucc ∗ (dats m 0 c).owesAt () t.castSucc
    ∗ (∃ d, owns (c : Thread nD τ) (blk0 t) fullShare ((dats m 0 c).before 0 t d))
    ∗ (∃ d, owns (c : Thread nD τ) (blk1 t) fullShare ((dats m 0 c).before 1 t d))
    ∗ (∃ d, owns (c : Thread nD τ) (blk2 t) fullShare ((dats m 0 c).before 2 t d))
    ∗ (∃ d, owns (c : Thread nD τ) (blk3 t) fullShare ((dats m 0 c).before 3 t d))
    ∗ (∃ d, owns (c : Thread nD τ) (blk4 t) fullShare ((dats m 0 c).before 4 t d))
    ∗ (∃ d, owns (c : Thread nD τ) (blk5 t) fullShare ((dats m 0 c).before 5 t d))
    ∗ (∃ d, owns (c : Thread nD τ) (blk6 t) fullShare ((dats m 0 c).before 6 t d))
    ∗ (∃ d, owns (c : Thread nD τ) (blk7 t) fullShare ((dats m 0 c).before 7 t d)))

/-- What a point ends with. -/
def atEnd (c : Dev nD) (t : Fin cfg0.N) : sProp 𝕄 :=
  iprop((dats m 0 c).Φ t.succ ∗ (dats m 0 c).owesAt () t.succ
    ∗ owns (c : Thread nD τ) (blk0 t) fullShare ((dats m 0 c).after 0 t)
    ∗ owns (c : Thread nD τ) (blk1 t) fullShare ((dats m 0 c).after 1 t)
    ∗ owns (c : Thread nD τ) (blk2 t) fullShare ((dats m 0 c).after 2 t)
    ∗ owns (c : Thread nD τ) (blk3 t) fullShare ((dats m 0 c).after 3 t)
    ∗ owns (c : Thread nD τ) (blk4 t) fullShare ((dats m 0 c).after 4 t)
    ∗ owns (c : Thread nD τ) (blk5 t) fullShare ((dats m 0 c).after 5 t)
    ∗ owns (c : Thread nD τ) (blk6 t) fullShare ((dats m 0 c).after 6 t)
    ∗ owns (c : Thread nD τ) (blk7 t) fullShare ((dats m 0 c).after 7 t))

set_option maxHeartbeats 800000 in
/-- The body takes a point from its start to its end. -/
theorem point_run (c : Dev nD) (t : Fin cfg0.N) :
    atStart m c t ⊢ wp frame (wpE (defs₀ (F := F)) Variants.none c none) Set.univ (bodyAt0 t) (fun _ => atEnd m c t) := by
  unfold atStart atEnd bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  rw [show (dats m 0 c).Φ t.castSucc = Pipeline.ΦA spec0 c from rfl, held_eq]
  iintro ⟨⟨⟨HS0, ⟨%d8, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HS1 := (owns_held (F := F) c d8) $$ HS1
  icases HS1 with ⟨%fs1, HS1⟩
  iapply ((bodyRun c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) fs1).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, ⟨%e7, H7⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro
  rw [bodyRun_pieces]
  unfold outAt outBlock
  exact View.read_writes_of_cover (blk7 t).view e7 outView _ _ (pieces_cover (F := F) _ _ _ _ _ _ _ _)

/-- The body table's row at a point is the body at the point's blocks. -/
theorem row_eq (t : Fin cfg0.N) :
    defs₀ (F := F) .tc cfg0.body (cfg0.bodyArgs t (cfg0.slots t)) = bodyAt0 t := by
  unfold defs₀; rw [Defs.onTc_tc]

/-- Every point's body meets the launch's obligation. -/
theorem points_run (c : Dev nD) : BodyObligation (dats (F := F) m 0 c) (defs₀ (F := F)) Variants.none () Set.univ := fun t => by
  rw [bigSep_W0, bigSep_W0, row_eq]
  exact triple_restated (point_run m c t) rfl .rfl fun _ => .rfl

/-! ## The program -/

set_option backward.isDefEq.respectTransparency.types false in
/-- The program's run: the arrays as the launch leaves them, and no semaphore's count left. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main (hbody := fun c => (points_run m c).loose) (hq := fun _ _ _ => rfl) (howed := fun _ _ => rfl) (V := V m) (hmain := hmain m Variants.none) (hA := A_eq m) (hΦ := fun _ _ => rfl)

/-- The frame: the arguments end as they began and no semaphore's count is left. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Attn

end
-- ==== Proof.MixRun.lean ====
module

public import proofs.«01_k».proof.Proof.Gen.Kernel3Ideal.Skeleton
public import proofs.«01_k».proof.Proof.Gen.Kernel3Ideal.Frame

/-! One grid point's body of the mixing, run on any memrefs: the pieces that it stores into the block of the second
    norm's rows. -/

@[expose] public section

set_option maxRecDepth 16384

noncomputable section

namespace Cert.Mix

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's first point clears the counts that it carries. -/
abbrev atFirst (i : grid0.Coords) : Prop := Scalar.cmpi .ne (Scalar.extui (Scalar.cmpi .eq (BitVec.ofNat 32 (i 0).val) 0#32) : BitVec 32) 0#32 = 1#1

set_option maxHeartbeats 8000000 in
/-- The body's run: the pieces that the block ends with, and the proof that the body, with the inputs at their contents
    and everything else at any, ends with those pieces written. -/
noncomputable def bodyRun (c : Dev nD) (i : grid0.Coords) (arg1 : Memref sig .tc .vmem S512x2048 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x256 .bf16) (harg9 : arg9.IsWhole) (arg10 : Memref sig .tc .vmem S1x128 .f32) (harg10 : arg10.IsWhole) (arg11 : Memref sig .tc .vmem S512x512 .bf16) (harg11 : arg11.IsWhole) (arg12 : Memref sig .tc .vmem S512x2048 .f32) (harg12 : arg12.IsWhole) (arg13 : Memref sig .tc .vmem S4096x2x128 .bf16) (harg13 : arg13.IsWhole) (arg14 : Memref sig .tc .vmem S8x512 .i32) (harg14 : arg14.IsWhole) (arg15 : Memref sig .tc .vmem S512x128 .f32) (harg15 : arg15.IsWhole) (arg16 : Memref sig .tc .vmem S48x128 .f32) (harg16 : arg16.IsWhole) (arg17 : Memref sig .tc .vmem S48x1 .f32) (harg17 : arg17.IsWhole)
    (x0 : Vec F S512x2048 .f32) (x1 : Vec F S512x1024 .bf16) (x2 : Vec F S512x1024 .bf16) (x3 : Vec F S2048x2048 .bf16) (x4 : Vec F S1x2048 .f32) (x5 : Vec F S1x2048 .f32) (x6 : Vec F S1x2048 .f32) (x7 : Vec F S1x2048 .f32) (x8 : Vec F S2048x256 .bf16) (x9 : Vec F S1x128 .f32) (x10 : Vec F S512x512 .bf16) :
    { L : List (View.Piece (Elt F) S512x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    by_cases hc : atFirst i
    · simp only [cc0_mix_eq_skeleton]; unfold cc0_mix_skel
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
      obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
      sl_exec (disch := sl_exact hc)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; isplitr; · ipureintro; exact harg10.read_unread _
        iexact H9
      isplitl [H10]
      · iexists _; isplitr; · ipureintro; exact harg11.read_unread _
        iexact H10
      isplitl [H11]; · iexists _; iexact H11
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      iexists _, _; isplitr; swap; · iexact H16
      ipureintro; rfl
    · simp only [cc0_mix_eq_skeleton]; unfold cc0_mix_skel
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
      obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
      sl_exec (disch := sl_exact hc)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; isplitr; · ipureintro; exact harg10.read_unread _
        iexact H9
      isplitl [H10]
      · iexists _; isplitr; · ipureintro; exact harg11.read_unread _
        iexact H10
      isplitl [H11]; · iexists _; iexact H11
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      iexists _, _; isplitr; swap; · iexact H16
      ipureintro; rfl

end Cert.Mix

end
-- ==== Proof.MixBody.lean ====
module

public import Idealize.ShloMosaic.Lib.WholeRead
public import Idealize.ShloMosaic.Lib.Pipeline.ReadBack
public import Idealize.ShloMosaic.Lib.Pipeline.ValueKit
public import proofs.«01_k».proof.Proof.MixRun

/-! What one grid point stores into the block of the second norm's rows, as a function of the point's input blocks: the
    four pieces of the residual sums, and over them the norm of the rows that they make. -/

@[expose] public section

set_option maxRecDepth 16384

noncomputable section

namespace Cert.Mix

open Cert.Kernel3Ideal Cert.Kernel3Ideal.Gen
open Idealize.ShloMosaic Idealize.ShloMosaic.TcCoe Idealize.ShloMosaic.Tactic
open Idealize.SL Idealize.SL.Sem

variable {F : FTy → Type} [FloatOps F]

/-- The part of an array inside a box. -/
def cut {s : Shape} {e : EltTy} (X : Vec F s e) (B : LoadRect s) : B.shape.Idx → Elt F e := fun j => X (B.idx j)

theorem read_unread {s : Shape} {e : EltTy} {m : Memref sig .tc .vmem s e} (h : m.IsWhole) (X : Vec F s e)
    (B : LoadRect s) : View.readAt (Elt F) m.view B (h.unread X) = cut X B :=
  funext fun j => h.readAt_unread X B j

/-- The point's rows, normed. -/
def firstNorm (x0 : Vec F S512x2048 .f32) (x4 x5 : Vec F S1x2048 .f32) : FVec F S512x2048 .f32 :=
  k0_pay2 (cut x0 (Rect.unit (s := S512x2048) ![0, 0] S512x2048.size inb_S512x2048_S512x2048_0_0).toLoadRect) (cut x4 (Rect.unit (s := S1x2048) ![0, 0] S1x2048.size inb_S1x2048_S1x2048_0_0).toLoadRect) (cut x5 (Rect.unit (s := S1x2048) ![0, 0] S1x2048.size inb_S1x2048_S1x2048_0_0).toLoadRect)

/-- The pieces of the residual sums: four boxes of 512 columns. -/
def piecesSum (x0 : Vec F S512x2048 .f32) (x1 x2 : Vec F S512x1024 .bf16) (x3 : Vec F S2048x2048 .bf16) (x4 x5 : Vec F S1x2048 .f32) : List (View.Piece (Elt F) S512x2048 .f32) :=
  [⟨Rect.unit ![0, 1536] S512x512.size inb_S512x2048_S512x512_0_1536, k0_pay6 (firstNorm x0 x4 x5) (cut x1 (Rect.unit (s := S512x1024) ![0, 0] S512x1024.size inb_S512x1024_S512x1024_0_0).toLoadRect) (cut x2 (Rect.unit (s := S512x1024) ![0, 0] S512x1024.size inb_S512x1024_S512x1024_0_0).toLoadRect) (cut x3 (Rect.unit (s := S2048x2048) ![0, 1536] S1024x512.size inb_S2048x2048_S1024x512_0_1536).toLoadRect) (cut x3 (Rect.unit (s := S2048x2048) ![1024, 1536] S1024x512.size inb_S2048x2048_S1024x512_1024_1536).toLoadRect)⟩,
   ⟨Rect.unit ![0, 1024] S512x512.size inb_S512x2048_S512x512_0_1024, k0_pay5 (firstNorm x0 x4 x5) (cut x1 (Rect.unit (s := S512x1024) ![0, 0] S512x1024.size inb_S512x1024_S512x1024_0_0).toLoadRect) (cut x2 (Rect.unit (s := S512x1024) ![0, 0] S512x1024.size inb_S512x1024_S512x1024_0_0).toLoadRect) (cut x3 (Rect.unit (s := S2048x2048) ![0, 1024] S1024x512.size inb_S2048x2048_S1024x512_0_1024).toLoadRect) (cut x3 (Rect.unit (s := S2048x2048) ![1024, 1024] S1024x512.size inb_S2048x2048_S1024x512_1024_1024).toLoadRect)⟩,
   ⟨Rect.unit ![0, 512] S512x512.size inb_S512x2048_S512x512_0_512, k0_pay4 (firstNorm x0 x4 x5) (cut x1 (Rect.unit (s := S512x1024) ![0, 0] S512x1024.size inb_S512x1024_S512x1024_0_0).toLoadRect) (cut x2 (Rect.unit (s := S512x1024) ![0, 0] S512x1024.size inb_S512x1024_S512x1024_0_0).toLoadRect) (cut x3 (Rect.unit (s := S2048x2048) ![0, 512] S1024x512.size inb_S2048x2048_S1024x512_0_512).toLoadRect) (cut x3 (Rect.unit (s := S2048x2048) ![1024, 512] S1024x512.size inb_S2048x2048_S1024x512_1024_512).toLoadRect)⟩,
   ⟨Rect.unit ![0, 0] S512x512.size inb_S512x2048_S512x512_0_0, k0_pay3 (cut x0 (Rect.unit (s := S512x2048) ![0, 0] S512x2048.size inb_S512x2048_S512x2048_0_0).toLoadRect) (cut x4 (Rect.unit (s := S1x2048) ![0, 0] S1x2048.size inb_S1x2048_S1x2048_0_0).toLoadRect) (cut x5 (Rect.unit (s := S1x2048) ![0, 0] S1x2048.size inb_S1x2048_S1x2048_0_0).toLoadRect) (cut x1 (Rect.unit (s := S512x1024) ![0, 0] S512x1024.size inb_S512x1024_S512x1024_0_0).toLoadRect) (cut x2 (Rect.unit (s := S512x1024) ![0, 0] S512x1024.size inb_S512x1024_S512x1024_0_0).toLoadRect) (cut x3 (Rect.unit (s := S2048x2048) ![0, 0] S1024x512.size inb_S2048x2048_S1024x512_0_0).toLoadRect) (cut x3 (Rect.unit (s := S2048x2048) ![1024, 0] S1024x512.size inb_S2048x2048_S1024x512_1024_0).toLoadRect)⟩]

/-- The residual sums that the four pieces make. -/
def sums (x0 : Vec F S512x2048 .f32) (x1 x2 : Vec F S512x1024 .bf16) (x3 : Vec F S2048x2048 .bf16) (x4 x5 : Vec F S1x2048 .f32) : Vec F S512x2048 .f32 := View.canon (piecesSum x0 x1 x2 x3 x4 x5)

/-- The block that the point leaves: the norm of the residual sums. -/
def blockH (x0 : Vec F S512x2048 .f32) (x1 x2 : Vec F S512x1024 .bf16) (x3 : Vec F S2048x2048 .bf16) (x4 x5 x6 x7 : Vec F S1x2048 .f32) : Vec F S512x2048 .f32 :=
  k0_pay7 (cut (sums x0 x1 x2 x3 x4 x5) (Rect.unit (s := S512x2048) ![0, 0] S512x2048.size inb_S512x2048_S512x2048_0_0).toLoadRect)
    (cut x6 (Rect.unit (s := S1x2048) ![0, 0] S1x2048.size inb_S1x2048_S1x2048_0_0).toLoadRect) (cut x7 (Rect.unit (s := S1x2048) ![0, 0] S1x2048.size inb_S1x2048_S1x2048_0_0).toLoadRect)

/-- The pieces as the body leaves them: the norm of what it reads back of the four pieces, over the four. -/
def piecesH (v : View sig .tc .vmem S512x2048 .f32) (x0 : Vec F S512x2048 .f32) (x1 x2 : Vec F S512x1024 .bf16) (x3 : Vec F S2048x2048 .bf16) (x4 x5 x6 x7 : Vec F S1x2048 .f32) : List (View.Piece (Elt F) S512x2048 .f32) :=
  ⟨Rect.unit ![0, 0] S512x2048.size inb_S512x2048_S512x2048_0_0,
    k0_pay7 (v.readCov (piecesSum x0 x1 x2 x3 x4 x5) (Rect.unit (s := S512x2048) ![0, 0] S512x2048.size inb_S512x2048_S512x2048_0_0).toLoadRect)
      (cut x6 (Rect.unit (s := S1x2048) ![0, 0] S1x2048.size inb_S1x2048_S1x2048_0_0).toLoadRect) (cut x7 (Rect.unit (s := S1x2048) ![0, 0] S1x2048.size inb_S1x2048_S1x2048_0_0).toLoadRect)⟩ :: piecesSum x0 x1 x2 x3 x4 x5

set_option maxHeartbeats 4000000 in
/-- The pieces that the body's run leaves are those of the point's input blocks. -/
theorem bodyRun_pieces (c : Dev nD) (i : grid0.Coords) (arg1 : Memref sig .tc .vmem S512x2048 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x256 .bf16) (harg9 : arg9.IsWhole) (arg10 : Memref sig .tc .vmem S1x128 .f32) (harg10 : arg10.IsWhole) (arg11 : Memref sig .tc .vmem S512x512 .bf16) (harg11 : arg11.IsWhole) (arg12 : Memref sig .tc .vmem S512x2048 .f32) (harg12 : arg12.IsWhole) (arg13 : Memref sig .tc .vmem S4096x2x128 .bf16) (harg13 : arg13.IsWhole) (arg14 : Memref sig .tc .vmem S8x512 .i32) (harg14 : arg14.IsWhole) (arg15 : Memref sig .tc .vmem S512x128 .f32) (harg15 : arg15.IsWhole) (arg16 : Memref sig .tc .vmem S48x128 .f32) (harg16 : arg16.IsWhole) (arg17 : Memref sig .tc .vmem S48x1 .f32) (harg17 : arg17.IsWhole)
    (x0 : Vec F S512x2048 .f32) (x1 : Vec F S512x1024 .bf16) (x2 : Vec F S512x1024 .bf16) (x3 : Vec F S2048x2048 .bf16) (x4 : Vec F S1x2048 .f32) (x5 : Vec F S1x2048 .f32) (x6 : Vec F S1x2048 .f32) (x7 : Vec F S1x2048 .f32) (x8 : Vec F S2048x256 .bf16) (x9 : Vec F S1x128 .f32) (x10 : Vec F S512x512 .bf16) :
    (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10).1 = piecesH arg12.view x0 x1 x2 x3 x4 x5 x6 x7 := by
  unfold piecesH piecesSum firstNorm
  simp only [← read_unread harg1 x0, ← read_unread harg2 x1, ← read_unread harg3 x2, ← read_unread harg4 x3, ← read_unread harg5 x4, ← read_unread harg6 x5, ← read_unread harg7 x6, ← read_unread harg8 x7]
  rfl

/-- A store of the whole block leaves what it stores, whatever was stored before. -/
theorem read_whole (v : View sig .tc .vmem S512x2048 .f32) (f : v.ty.Contents (Elt F)) (Z : Vec F S512x2048 .f32)
    (L : List (View.Piece (Elt F) S512x2048 .f32)) :
    v.read (Elt F) (v.writes (Elt F) f (⟨Rect.unit ![0, 0] S512x2048.size inb_S512x2048_S512x2048_0_0, Z⟩ :: L)) = Z := by
  have h0 : ∀ a, (![0, 0] : Fin S512x2048.rank → ℕ) a = 0 := by intro a; fin_cases a <;> rfl
  refine (View.read_writes_eq_canon v f _ fun y => ⟨_, List.mem_cons_self, ?_⟩).trans
    (View.canon_cons_unit_lit inb_S512x2048_S512x2048_0_0 Z L h0)
  exact View.mem_set_unit_zero (funext h0) inb_S512x2048_S512x2048_0_0 y

/-- The pieces fill the block with the norm of the residual sums. -/
theorem read_pieces (v : View sig .tc .vmem S512x2048 .f32) (f : v.ty.Contents (Elt F)) (x0 : Vec F S512x2048 .f32) (x1 x2 : Vec F S512x1024 .bf16) (x3 : Vec F S2048x2048 .bf16) (x4 x5 x6 x7 : Vec F S1x2048 .f32) :
    v.read (Elt F) (v.writes (Elt F) f (piecesH v x0 x1 x2 x3 x4 x5 x6 x7)) = blockH x0 x1 x2 x3 x4 x5 x6 x7 := by
  unfold piecesH
  rw [read_whole, View.readCov_eq_canon']
  rfl

end Cert.Mix

end
-- ==== Proof.MixLaunch.lean ====
module

public import proofs.«01_k».proof.Proof.MixBody
public import Idealize.ShloMosaic.Lib.Claim

/-! The launch of the mixing: every grid point runs its body on its blocks, so the program ends with its arguments as
    they were and the array of the second norm as the points leave it. -/

@[expose] public section

set_option maxRecDepth 16384

noncomputable section

namespace Cert.Mix

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block that grid point `t` leaves. -/
def hAt (c : Dev nD) (t : Fin cfg0.N) : Vec F S512x2048 .f32 :=
  blockH (iblk m c 0 t) (iblk m c 1 t) (iblk m c 2 t) (iblk m c 3 t) (iblk m c 4 t) (iblk m c 5 t) (iblk m c 6 t) (iblk m c 7 t)

abbrev blk0 (t : Fin cfg0.N) : Memref sig .tc .vmem S512x2048 .f32 := win0_0.stage (cfg0.slots t 0)
abbrev blk1 (t : Fin cfg0.N) : Memref sig .tc .vmem S512x1024 .bf16 := win0_1.stage (cfg0.slots t 1)
abbrev blk2 (t : Fin cfg0.N) : Memref sig .tc .vmem S512x1024 .bf16 := win0_2.stage (cfg0.slots t 2)
abbrev blk3 (t : Fin cfg0.N) : Memref sig .tc .vmem S2048x2048 .bf16 := win0_3.stage (cfg0.slots t 3)
abbrev blk4 (t : Fin cfg0.N) : Memref sig .tc .vmem S1x2048 .f32 := win0_4.stage (cfg0.slots t 4)
abbrev blk5 (t : Fin cfg0.N) : Memref sig .tc .vmem S1x2048 .f32 := win0_5.stage (cfg0.slots t 5)
abbrev blk6 (t : Fin cfg0.N) : Memref sig .tc .vmem S1x2048 .f32 := win0_6.stage (cfg0.slots t 6)
abbrev blk7 (t : Fin cfg0.N) : Memref sig .tc .vmem S1x2048 .f32 := win0_7.stage (cfg0.slots t 7)
abbrev blk8 (t : Fin cfg0.N) : Memref sig .tc .vmem S2048x256 .bf16 := win0_8.stage (cfg0.slots t 8)
abbrev blk9 (t : Fin cfg0.N) : Memref sig .tc .vmem S1x128 .f32 := win0_9.stage (cfg0.slots t 9)
abbrev blk10 (t : Fin cfg0.N) : Memref sig .tc .vmem S512x512 .bf16 := win0_10.stage (cfg0.slots t 10)
abbrev blk11 (t : Fin cfg0.N) : Memref sig .tc .vmem S512x2048 .f32 := win0_11.stage (cfg0.slots t 11)
abbrev blk12 (t : Fin cfg0.N) : Memref sig .tc .vmem S4096x2x128 .bf16 := win0_12.stage (cfg0.slots t 12)
abbrev blk13 (t : Fin cfg0.N) : Memref sig .tc .vmem S8x512 .i32 := win0_13.stage (cfg0.slots t 13)
abbrev blk14 (t : Fin cfg0.N) : Memref sig .tc .vmem S512x128 .f32 := win0_14.stage (cfg0.slots t 14)
abbrev blk15 (t : Fin cfg0.N) : Memref sig .tc .vmem S48x128 .f32 := win0_15.stage (cfg0.slots t 15)

/-- At every point the inputs keep their blocks and the first output takes the point's; of the other outputs nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => hAt m c t
    | ⟨12, _⟩ => Pipeline.Dat.unnamed (cfg := cfg0) 12 t
    | ⟨13, _⟩ => Pipeline.Dat.unnamed (cfg := cfg0) 13 t
    | ⟨14, _⟩ => Pipeline.Dat.unnamed (cfg := cfg0) 14 t
    | ⟨15, _⟩ => Pipeline.Dat.unnamed (cfg := cfg0) 15 t
    | ⟨_ + 16, h⟩ => absurd h (Nat.not_lt.2 (Nat.le_add_left _ _))
  Φ _ := Pipeline.ΦA spec0 c
  q _ := fullShare
  owed _ := 0

/-- The outputs of which nothing is said. -/
def unsaid : Fin cfg0.W → Bool := ![false, false, false, false, false, false, false, false, false, false, false, false, true, true, true, true]

theorem A_eq (c : Dev nD) (w) : (dats m 0 c).A w = V m c (Pipeline.arrRef spec0 w) := by dsimp only [dats]
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (A_eq m c 6) (after6 m c) t d
theorem after7 (c : Dev nD) (t : Fin cfg0.N) : (dats m 0 c).after 7 t = iblk m c 7 t := by dsimp only [dats]
theorem before7 (c : Dev nD) (t : Fin cfg0.N) (d) : (dats m 0 c).before 7 t d = iblk m c 7 t :=
  before0_7_of m (dats m 0 c) (A_eq m c 7) (after7 m c) t d
theorem after8 (c : Dev nD) (t : Fin cfg0.N) : (dats m 0 c).after 8 t = iblk m c 8 t := by dsimp only [dats]
theorem before8 (c : Dev nD) (t : Fin cfg0.N) (d) : (dats m 0 c).before 8 t d = iblk m c 8 t :=
  before0_8_of m (dats m 0 c) (A_eq m c 8) (after8 m c) t d
theorem after9 (c : Dev nD) (t : Fin cfg0.N) : (dats m 0 c).after 9 t = iblk m c 9 t := by dsimp only [dats]
theorem before9 (c : Dev nD) (t : Fin cfg0.N) (d) : (dats m 0 c).before 9 t d = iblk m c 9 t :=
  before0_9_of m (dats m 0 c) (A_eq m c 9) (after9 m c) t d
theorem after10 (c : Dev nD) (t : Fin cfg0.N) : (dats m 0 c).after 10 t = iblk m c 10 t := by dsimp only [dats]
theorem before10 (c : Dev nD) (t : Fin cfg0.N) (d) : (dats m 0 c).before 10 t d = iblk m c 10 t :=
  before0_10_of m (dats m 0 c) (A_eq m c 10) (after10 m c) t d
theorem after11 (c : Dev nD) (t : Fin cfg0.N) : (dats m 0 c).after 11 t = hAt m c t := by dsimp only [dats]

/-- The counts that a core carries from point to point. -/
abbrev buf0 : Memref sig .tc .vmem S48x1 .f32 := Memref.whole cc0_scratch0

/-- Between points the core holds them at some contents. -/
theorem held_eq (c : Dev nD) : (Pipeline.ΦA spec0 c : sProp 𝕄)
    = iprop((∃ d, owns (c : Thread nD τ) buf0 fullShare d) ∗ (∃ r, prngReg c r)) := by
  unfold Pipeline.ΦA
  rw [scopedRest0_eq]
  simp only [buf0, owns_whole]
  try rfl

/-- What a point starts from. -/
def atStart (c : Dev nD) (t : Fin cfg0.N) : sProp 𝕄 :=
  iprop((dats m 0 c).Φ t.castSucc ∗ (dats m 0 c).owesAt () t.castSucc
    ∗ (∃ d, owns (c : Thread nD τ) (blk0 t) fullShare ((dats m 0 c).before 0 t d))
    ∗ (∃ d, owns (c : Thread nD τ) (blk1 t) fullShare ((dats m 0 c).before 1 t d))
    ∗ (∃ d, owns (c : Thread nD τ) (blk2 t) fullShare ((dats m 0 c).before 2 t d))
    ∗ (∃ d, owns (c : Thread nD τ) (blk3 t) fullShare ((dats m 0 c).before 3 t d))
    ∗ (∃ d, owns (c : Thread nD τ) (blk4 t) fullShare ((dats m 0 c).before 4 t d))
    ∗ (∃ d, owns (c : Thread nD τ) (blk5 t) fullShare ((dats m 0 c).before 5 t d))
    ∗ (∃ d, owns (c : Thread nD τ) (blk6 t) fullShare ((dats m 0 c).before 6 t d))
    ∗ (∃ d, owns (c : Thread nD τ) (blk7 t) fullShare ((dats m 0 c).before 7 t d))
    ∗ (∃ d, owns (c : Thread nD τ) (blk8 t) fullShare ((dats m 0 c).before 8 t d))
    ∗ (∃ d, owns (c : Thread nD τ) (blk9 t) fullShare ((dats m 0 c).before 9 t d))
    ∗ (∃ d, owns (c : Thread nD τ) (blk10 t) fullShare ((dats m 0 c).before 10 t d))
    ∗ (∃ d, owns (c : Thread nD τ) (blk11 t) fullShare ((dats m 0 c).before 11 t d))
    ∗ (∃ X, owns (c : Thread nD τ) (blk12 t) fullShare X)
    ∗ (∃ X, owns (c : Thread nD τ) (blk13 t) fullShare X)
    ∗ (∃ X, owns (c : Thread nD τ) (blk14 t) fullShare X)
    ∗ (∃ X, owns (c : Thread nD τ) (blk15 t) fullShare X))

/-- What a point ends with. -/
def atEnd (c : Dev nD) (t : Fin cfg0.N) : sProp 𝕄 :=
  iprop((dats m 0 c).Φ t.succ ∗ (dats m 0 c).owesAt () t.succ
    ∗ owns (c : Thread nD τ) (blk0 t) fullShare ((dats m 0 c).after 0 t)
    ∗ owns (c : Thread nD τ) (blk1 t) fullShare ((dats m 0 c).after 1 t)
    ∗ owns (c : Thread nD τ) (blk2 t) fullShare ((dats m 0 c).after 2 t)
    ∗ owns (c : Thread nD τ) (blk3 t) fullShare ((dats m 0 c).after 3 t)
    ∗ owns (c : Thread nD τ) (blk4 t) fullShare ((dats m 0 c).after 4 t)
    ∗ owns (c : Thread nD τ) (blk5 t) fullShare ((dats m 0 c).after 5 t)
    ∗ owns (c : Thread nD τ) (blk6 t) fullShare ((dats m 0 c).after 6 t)
    ∗ owns (c : Thread nD τ) (blk7 t) fullShare ((dats m 0 c).after 7 t)
    ∗ owns (c : Thread nD τ) (blk8 t) fullShare ((dats m 0 c).after 8 t)
    ∗ owns (c : Thread nD τ) (blk9 t) fullShare ((dats m 0 c).after 9 t)
    ∗ owns (c : Thread nD τ) (blk10 t) fullShare ((dats m 0 c).after 10 t)
    ∗ owns (c : Thread nD τ) (blk11 t) fullShare ((dats m 0 c).after 11 t)
    ∗ (∃ X, owns (c : Thread nD τ) (blk12 t) fullShare X)
    ∗ (∃ X, owns (c : Thread nD τ) (blk13 t) fullShare X)
    ∗ (∃ X, owns (c : Thread nD τ) (blk14 t) fullShare X)
    ∗ (∃ X, owns (c : Thread nD τ) (blk15 t) fullShare X))

set_option maxHeartbeats 4000000 in
/-- The body takes a point from its start to its end. -/
theorem point_run (c : Dev nD) (t : Fin cfg0.N) :
    atStart m c t ⊢ wp frame (wpE (defs₀ (F := F)) Variants.none c none) Set.univ (bodyAt0 t) (fun _ => atEnd m c t) := by
  unfold atStart atEnd bodyAt0
  simp only [before0, before1, before2, before3, before4, before5, before6, before7, before8, before9, before10]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  rw [show (dats m 0 c).Φ t.castSucc = Pipeline.ΦA spec0 c from rfl, held_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13, H14, H15⟩
  iapply ((bodyRun c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [H13]; · iexact H13
  isplitl [H14]; · iexact H14
  isplitl [H15]; · iexact H15
  isplitl [HS0]; · iexact HS0
  iintro ⟨H0, H1, H2, H3, H4, H5, H6, H7, H8, H9, H10, ⟨%e11, H11⟩, H12, H13, H14, H15, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro
    rw [bodyRun_pieces]
    unfold hAt
    exact read_pieces (blk11 t).view e11 _ _ _ _ _ _ _ _
  isplitl [H12]; · iexact H12
  isplitl [H13]; · iexact H13
  isplitl [H14]; · iexact H14
  iexact H15

/-- The body table's row at a point is the body at the point's blocks. -/
theorem row_eq (t : Fin cfg0.N) :
    defs₀ (F := F) .tc cfg0.body (cfg0.bodyArgs t (cfg0.slots t)) = bodyAt0 t := by
  unfold defs₀; rw [Defs.onTc_tc]

/-- Every point's body meets the launch's obligation. -/
theorem points_run (c : Dev nD) : BodyObligation (dats (F := F) m 0 c) (defs₀ (F := F)) Variants.none () Set.univ unsaid := fun t => by
  rw [bigSep_W0, bigSep_W0, row_eq]
  exact triple_restated (point_run m c t) rfl .rfl fun _ => .rfl

/-- The launch: the program ends with its arrays as the data says, of the unsaid outputs nothing. -/
theorem run_main : θ_run defs (onTc (τ := τ) (main (F := F))) (s₀ m ρ) (fun r => Pipeline.RDat.FramePost cfg0 (fun c => (dats m 0 c).toRForget unsaid) (V m) r ∧ r.2.sem = fun _ => 0) :=
  Pipeline.θ_run_frame_forget (Q' := _) cfgs (dats m) (0 : Fin 1) launch0 defs₀ Variants.none unsaid m ρ main (hbody := fun c => (points_run m c).loose) (hshare := fun c => (dats m 0 c).share_full fun _ => rfl) (howed := fun _ _ => rfl) (V := V m) (hmain := hmain m Variants.none) (hA := A_eq m) (hΦ := fun _ _ => rfl)

variable {m} in
/-- An argument ends as it began. -/
theorem input_kept {r : PUnit × MemSt nD τ sig (Elt F)}
    (h : Pipeline.RDat.FramePost cfg0 (fun c => (dats m 0 c).toRForget unsaid) (V m) r) (c : Dev nD) (w : Fin cfg0.W)
    (hin : (cfg0.win w).isOut = false) :
    r.2.mem ((cfg0.spec w).arr.view.loc (c.tc : Thread nD τ)) = V m c (Pipeline.arrRef spec0 w) :=
  (h.arr_in c w hin).trans (A_eq m c w)

/-- The frame: the arguments end as they began and no semaphore's count is left. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun _ h => ⟨fun c => ⟨(input_kept h.1 c 0 rfl).trans (V_main_arg0 m c), (input_kept h.1 c 1 rfl).trans (V_main_arg1 m c), (input_kept h.1 c 2 rfl).trans (V_main_arg2 m c), (input_kept h.1 c 3 rfl).trans (V_main_arg3 m c), (input_kept h.1 c 4 rfl).trans (V_main_arg4 m c), (input_kept h.1 c 5 rfl).trans (V_main_arg5 m c), (input_kept h.1 c 6 rfl).trans (V_main_arg6 m c), (input_kept h.1 c 7 rfl).trans (V_main_arg7 m c), (input_kept h.1 c 8 rfl).trans (V_main_arg8 m c), (input_kept h.1 c 9 rfl).trans (V_main_arg9 m c)⟩, h.2⟩) (run_main m ρ)

/-- The second norm's array ends as the points' blocks leave it. -/
theorem output_run : θ_run defs (onTc (τ := τ) (main (F := F))) ⟨m, fun _ => 0, ρ⟩ (fun r => ∀ c : Dev nD,
      r.2.mem ((c.tc : Thread nD τ).loc main_v7_0) = (dats m 0 c).arrAt 11 cfg0.N) :=
  (θ_run defs _ _).mono (fun _ h c =>
    ((dats m 0 c).toRForget_arrAt_iff (fgt := unsaid) (w := 11) rfl _ _).1 ((h.1 c).1 11)) (run_main m ρ)

end Cert.Mix

end
-- ==== Proof.MixEntry.lean ====
module

public import proofs.«01_k».proof.Proof.MixLaunch
public import proofs.«01_k».proof.Proof.MixNorm

/-! What one grid point's block holds, entry by entry: the norm of the point's residual sums. -/

@[expose] public section

set_option maxRecDepth 16384

noncomputable section

open Idealize.ShloMosaic Idealize.ShloMosaic.TcCoe

namespace Cert.Mix

open Cert.Kernel3Ideal Cert.Kernel3Ideal.Gen
open Cert.Projections (norm mean dev)

section point
variable (x0 : Vec Ideal S512x2048 .f32) (x1 x2 : Vec Ideal S512x1024 .bf16) (x3 : Vec Ideal S2048x2048 .bf16)
  (x4 x5 x6 x7 : Vec Ideal S1x2048 .f32)

/-- The residual sums of the point's rows. -/
def entry : Vec Ideal S512x2048 .f32 := fun y => summed x0 x1 x2 x3 x4 x5 (y 0) (y 1)

theorem cut_whole {n k : ℕ} {φ : EltTy} (X : Vec Ideal ⟨2, ![n, k]⟩ φ) (inb) :
    cut X (Rect.unit (s := ⟨2, ![n, k]⟩) ![0, 0] ![n, k] inb).toLoadRect = X := by
  funext y
  unfold cut
  congr 1
  funext a
  apply Fin.ext
  fin_cases a
  · simp
  · simp

theorem firstNorm_apply (r : Fin 512) (k : Fin 2048) :
    firstNorm (F := Ideal) x0 x4 x5 (ix2 r k) = norm (fun j => x0 (ix2 r j)) (fun j => x4 (ix2 0 j)) (fun j => x5 (ix2 0 j)) k := by
  unfold firstNorm
  rw [cut_whole x0, cut_whole x4, cut_whole x5, pay2_apply]

/-- A box of the output weights, entry by entry. -/
theorem cut_weights (p o : ℕ) (inb) (k : Fin 1024) (c : Fin 512) (K C : Fin 2048) (hK : K.val = p + k.val)
    (hC : C.val = o + c.val) :
    cut x3 (Rect.unit (s := S2048x2048) ![p, o] S1024x512.size inb).toLoadRect (ix2 k c) = x3 (ix2 K C) := by
  unfold cut
  congr 1
  funext a
  apply Fin.ext
  fin_cases a
  · simp [hK]
  · simp [hC]

/-- A piece's entry is the residual sum at its column. -/
theorem sum_cut (r c : Fin 512) (o : ℕ) (inb inb' inb1 inb2) (C : Fin 2048) (hC : C.val = o + c.val) :
    alpha * firstNorm (F := Ideal) x0 x4 x5 (ix2 r C)
      + (∑ k : Fin 1024, cut x1 (Rect.unit (s := S512x1024) ![0, 0] S512x1024.size inb1).toLoadRect (ix2 r k)
            * cut x3 (Rect.unit (s := S2048x2048) ![0, o] S1024x512.size inb).toLoadRect (ix2 k c)
        + ∑ k : Fin 1024, cut x2 (Rect.unit (s := S512x1024) ![0, 0] S512x1024.size inb2).toLoadRect (ix2 r k)
            * cut x3 (Rect.unit (s := S2048x2048) ![1024, o] S1024x512.size inb').toLoadRect (ix2 k c))
      = summed x0 x1 x2 x3 x4 x5 r C := by
  unfold summed
  rw [firstNorm_apply, cut_whole x1, cut_whole x2]
  refine congrArg₂ (· + ·) rfl (congrArg₂ (· + ·) ?_ ?_)
  · exact Finset.sum_congr rfl fun k _ => congrArg₂ (· * ·) rfl
      (cut_weights x3 0 o inb k c ⟨k.val, by omega⟩ C (by show k.val = 0 + k.val; omega) hC)
  · exact Finset.sum_congr rfl fun k _ => congrArg₂ (· * ·) rfl
      (cut_weights x3 1024 o inb' k c ⟨1024 + k.val, by omega⟩ C rfl hC)

theorem entry_at {y : S512x2048.Idx} (r : Fin 512) (C : Fin 2048) (hr : (y 0).val = r.val) (hC : (y 1).val = C.val) :
    entry x0 x1 x2 x3 x4 x5 y = summed x0 x1 x2 x3 x4 x5 r C := by
  unfold entry
  congr 1
  · exact Fin.ext hr
  · exact Fin.ext hC

set_option maxHeartbeats 1000000 in
/-- The four pieces are parts of the residual sums. -/
theorem piecesSum_of : View.PiecesOf (entry x0 x1 x2 x3 x4 x5) (piecesSum (F := Ideal) x0 x1 x2 x3 x4 x5) :=
  ⟨fun x => by
      obtain ⟨r, c, rfl⟩ : ∃ (r : Fin 512) (c : Fin 512), x = ix2 r c := ⟨x 0, x 1, eq_ix2 x⟩
      refine ((pay6_apply _ _ _ _ _ r c).trans
        (sum_cut x0 x1 x2 x3 x4 x5 r c 1536 _ _ _ _ ⟨1536 + c.val, by omega⟩ rfl)).trans
        (entry_at x0 x1 x2 x3 x4 x5 r _ ?_ ?_).symm
      · show 0 + 1 * r.val = r.val
        omega
      · show 1536 + 1 * c.val = 1536 + c.val
        omega,
    fun x => by
      obtain ⟨r, c, rfl⟩ : ∃ (r : Fin 512) (c : Fin 512), x = ix2 r c := ⟨x 0, x 1, eq_ix2 x⟩
      refine ((pay5_apply _ _ _ _ _ r c).trans
        (sum_cut x0 x1 x2 x3 x4 x5 r c 1024 _ _ _ _ ⟨1024 + c.val, by omega⟩ rfl)).trans
        (entry_at x0 x1 x2 x3 x4 x5 r _ ?_ ?_).symm
      · show 0 + 1 * r.val = r.val
        omega
      · show 1024 + 1 * c.val = 1024 + c.val
        omega,
    fun x => by
      obtain ⟨r, c, rfl⟩ : ∃ (r : Fin 512) (c : Fin 512), x = ix2 r c := ⟨x 0, x 1, eq_ix2 x⟩
      refine ((pay4_apply _ _ _ _ _ r c).trans
        (sum_cut x0 x1 x2 x3 x4 x5 r c 512 _ _ _ _ ⟨512 + c.val, by omega⟩ rfl)).trans
        (entry_at x0 x1 x2 x3 x4 x5 r _ ?_ ?_).symm
      · show 0 + 1 * r.val = r.val
        omega
      · show 512 + 1 * c.val = 512 + c.val
        omega,
    fun x => by
      obtain ⟨r, c, rfl⟩ : ∃ (r : Fin 512) (c : Fin 512), x = ix2 r c := ⟨x 0, x 1, eq_ix2 x⟩
      refine ((pay3_apply _ _ _ _ r c _ _ _).trans
        (sum_cut x0 x1 x2 x3 x4 x5 r c 0 _ _ _ _ ⟨0 + c.val, by omega⟩ rfl)).trans
        (entry_at x0 x1 x2 x3 x4 x5 r _ ?_ ?_).symm
      · show 0 + 1 * r.val = r.val
        omega
      · show 0 + 1 * c.val = 0 + c.val
        omega, trivial⟩

/-- The pieces fill the block. -/
theorem cover (y : S512x2048.Idx) : ∃ p ∈ piecesSum (F := Ideal) x0 x1 x2 x3 x4 x5, y ∈ p.1.set :=
  View.cover_of_tiledL (piecesSum x0 x1 x2 x3 x4 x5) S512x512.size (by sl_kernel_rfl) y

theorem sums_eq : sums (F := Ideal) x0 x1 x2 x3 x4 x5 = entry x0 x1 x2 x3 x4 x5 := by
  funext y
  have h := View.canon_append_of_piecesOf (entry x0 x1 x2 x3 x4 x5) [] _ (piecesSum_of x0 x1 x2 x3 x4 x5) y
    (cover x0 x1 x2 x3 x4 x5 y)
  rw [List.append_nil] at h
  exact h

/-- The block's entry: the norm of the row's residual sums. -/
theorem blockH_apply (r : Fin 512) (C : Fin 2048) : blockH (F := Ideal) x0 x1 x2 x3 x4 x5 x6 x7 (ix2 r C)
    = norm (fun j => summed x0 x1 x2 x3 x4 x5 r j) (fun j => x6 (ix2 0 j)) (fun j => x7 (ix2 0 j)) C := by
  unfold blockH
  rw [cut_whole (sums x0 x1 x2 x3 x4 x5), cut_whole x6, cut_whole x7, pay7_apply, sums_eq]
  rfl

end point

end Cert.Mix

end
-- ==== Proof.MixRef.lean ====
module

public import proofs.«01_k».proof.Proof.Gen.Reference3Ideal.Read
public import proofs.«01_k».proof.Proof.MixNorm

/-! The reference's mixing, entry by entry: the norm of the residual sums. -/

@[expose] public section

set_option maxRecDepth 16384

noncomputable section

namespace Cert.Mix.Ref

open Cert.Reference3Ideal Cert.Reference3Ideal.Gen Cert.Reference3Ideal.Read
open Cert.Projections (norm mean dev)
open Idealize.ShloMosaic Idealize.ShloMosaic.TcCoe

variable (x0 : FVec Ideal S16384x2048 .f32) (x1 x2 : FVec Ideal S16384x1024 .bf16) (x3 : FVec Ideal S2048x2048 .bf16)
  (x4 x5 x6 x7 : FVec Ideal S1x2048 .f32)

/-! ## The first norm -/

/-- A row's sum is taken over its entries. -/
theorem sum_apply (R : Fin 16384) : val_main_v4 (F := Ideal) x0 (ix1 R) = ∑ k, x0 (ix2 R k) := by
  rw [val_main_v4_apply, val_main_cst_apply]
  show Ideal.ofBits .f32 0x00000000#32 + _ = _
  rw [show Ideal.ofBits .f32 0x00000000#32 = 0 by simp [Ideal.ofBits, Ideal.ieee], zero_add]
  refine Finset.sum_congr rfl fun k _ => congrArg (x0) (funext fun a => Fin.ext ?_)
  fin_cases a <;> rfl

theorem mean_apply (R : Fin 16384) : val_main_v7 (F := Ideal) x0 (ix2 R 0) = mean fun j => x0 (ix2 R j) := by
  rw [val_main_v7_apply, val_main_v5_apply, val_main_v6_apply, val_main_cst_0_apply,
    show idx_main_v5 (ix2 R 0) = ix1 R by funext a; fin_cases a; rfl, sum_apply]
  rfl

theorem dev_apply (R : Fin 16384) (k : Fin 2048) :
    val_main_v9 (F := Ideal) x0 (ix2 R k) = dev (fun j => x0 (ix2 R j)) k := by
  rw [val_main_v9_apply, val_main_v8_apply, show idx_main_v8 (ix2 R k) = ix2 R 0 by funext a; fin_cases a <;> rfl, mean_apply]
  rfl

theorem dev_again_apply (R : Fin 16384) (k : Fin 2048) :
    val_main_v16 (F := Ideal) x0 (ix2 R k) = dev (fun j => x0 (ix2 R j)) k := by
  rw [val_main_v16_apply, val_main_v15_apply, show idx_main_v15 (ix2 R k) = ix2 R 0 by funext a; fin_cases a <;> rfl, mean_apply]
  rfl

theorem squares_apply (R : Fin 16384) : val_main_v11 (F := Ideal) x0 (ix1 R)
    = ∑ k, dev (fun j => x0 (ix2 R j)) k * dev (fun j => x0 (ix2 R j)) k := by
  rw [val_main_v11_apply, val_main_cst_1_apply]
  show Ideal.ofBits .f32 0x00000000#32 + _ = _
  rw [show Ideal.ofBits .f32 0x00000000#32 = 0 by simp [Ideal.ofBits, Ideal.ieee], zero_add]
  refine Finset.sum_congr rfl fun k _ => ?_
  rw [show idx_main_v11 (ix1 R) k = ix2 R k by funext a; fin_cases a <;> rfl, val_main_v10_apply, dev_apply]
  rfl

theorem root_apply (R : Fin 16384) : val_main_v19 (F := Ideal) x0 (ix2 R 0)
    = Ideal.rsqrt (mean (fun j => dev (fun j => x0 (ix2 R j)) j * dev (fun j => x0 (ix2 R j)) j)
        + Ideal.ofBits .f32 0x3727C5AC#32) := by
  rw [val_main_v19_apply, val_main_v18_apply, val_main_v17_apply, val_main_cst_3_apply, val_main_v14_apply, val_main_v13_apply,
    val_main_cst_2_apply, val_main_v12_apply, show idx_main_v12 (ix2 R 0) = ix1 R by funext a; fin_cases a; rfl, squares_apply]
  rfl

/-- The first norm. -/
theorem norm_apply (R : Fin 16384) (k : Fin 2048) : val_main_v25 (F := Ideal) x0 x4 x5 (ix2 R k)
    = norm (fun j => x0 (ix2 R j)) (fun j => x4 (ix2 0 j)) (fun j => x5 (ix2 0 j)) k := by
  rw [val_main_v25_apply, val_main_v24_apply, val_main_v23_apply, val_main_v22_apply, val_main_v21_apply, val_main_v20_apply,
    dev_again_apply, show idx_main_v20 (ix2 R k) = ix2 R 0 by funext a; fin_cases a <;> rfl,
    show idx_main_v22 (ix2 R k) = ix2 0 k by funext a; fin_cases a <;> rfl,
    show idx_main_v24 (ix2 R k) = ix2 0 k by funext a; fin_cases a <;> rfl, root_apply]
  rfl

/-! ## The residual sum -/

/-- A product with the output weights, the two mixers' rows side by side: a sum over each half. -/
theorem prod_apply (R : Fin 16384) (C : Fin 2048) : val_main_v3 (F := Ideal) x1 x2 x3 (ix2 R C)
    = ∑ k : Fin 1024, x1 (ix2 R k) * x3 (ix2 ⟨k.val, by omega⟩ C)
      + ∑ k : Fin 1024, x2 (ix2 R k) * x3 (ix2 ⟨1024 + k.val, by omega⟩ C) := by
  rw [val_main_v3_apply]
  refine (Fin.sum_univ_add (a := 1024) (b := 1024) _).trans (congrArg₂ (· + ·) ?_ ?_)
  · refine Finset.sum_congr rfl fun k _ => ?_
    rw [show lidx_main_v3 (ix2 R C) (Fin.castAdd 1024 k) = ix2 R ⟨k.val, by omega⟩ by funext a; fin_cases a <;> rfl,
      show ridx_main_v3 (ix2 R C) (Fin.castAdd 1024 k) = ix2 ⟨k.val, by omega⟩ C by funext a; fin_cases a <;> rfl,
      val_main_v1_apply, val_main_v2_apply]
    unfold val_main_v0
    rw [concatenate_pair_apply_left (t := S16384x2048) (s₁ := S16384x1024) (s₂ := S16384x1024) 1 _ _ _ _ rfl (ix2 R k)
      (fun a => by fin_cases a <;> rfl)]
    rfl
  · refine Finset.sum_congr rfl fun k _ => ?_
    rw [show lidx_main_v3 (ix2 R C) (Fin.natAdd 1024 k) = ix2 R ⟨1024 + k.val, by omega⟩ by funext a; fin_cases a <;> rfl,
      show ridx_main_v3 (ix2 R C) (Fin.natAdd 1024 k) = ix2 ⟨1024 + k.val, by omega⟩ C by funext a; fin_cases a <;> rfl,
      val_main_v1_apply, val_main_v2_apply]
    unfold val_main_v0
    rw [concatenate_pair_apply_right (t := S16384x2048) (s₁ := S16384x1024) (s₂ := S16384x1024) 1 _ _ _ _ rfl rfl (ix2 R k)
      (fun a ha => by fin_cases a <;> first | rfl | exact absurd rfl ha)
      (by show k.val + 1024 = 1024 + k.val; omega)]
    rfl

theorem summed_apply (R : Fin 16384) (C : Fin 2048) :
    val_main_v28 (F := Ideal) x0 x1 x2 x3 x4 x5 (ix2 R C) = summed x0 x1 x2 x3 x4 x5 R C := by
  rw [val_main_v28_apply, val_main_v27_apply, val_main_v26_apply, val_main_cst_4_apply, norm_apply, prod_apply]
  rfl

/-! ## The second norm -/

/-- A row's sum is taken over its entries. -/
theorem last_sum_apply (R : Fin 16384) : val_main_v29 (F := Ideal) x0 x1 x2 x3 x4 x5 (ix1 R) = ∑ k, (val_main_v28 (F := Ideal) x0 x1 x2 x3 x4 x5) (ix2 R k) := by
  rw [val_main_v29_apply, val_main_cst_5_apply]
  show Ideal.ofBits .f32 0x00000000#32 + _ = _
  rw [show Ideal.ofBits .f32 0x00000000#32 = 0 by simp [Ideal.ofBits, Ideal.ieee], zero_add]
  refine Finset.sum_congr rfl fun k _ => congrArg (val_main_v28 (F := Ideal) x0 x1 x2 x3 x4 x5) (funext fun a => Fin.ext ?_)
  fin_cases a <;> rfl

theorem last_mean_apply (R : Fin 16384) : val_main_v32 (F := Ideal) x0 x1 x2 x3 x4 x5 (ix2 R 0) = mean fun j => (val_main_v28 (F := Ideal) x0 x1 x2 x3 x4 x5) (ix2 R j) := by
  rw [val_main_v32_apply, val_main_v30_apply, val_main_v31_apply, val_main_cst_6_apply,
    show idx_main_v30 (ix2 R 0) = ix1 R by funext a; fin_cases a; rfl, last_sum_apply]
  rfl

theorem last_dev_apply (R : Fin 16384) (k : Fin 2048) :
    val_main_v34 (F := Ideal) x0 x1 x2 x3 x4 x5 (ix2 R k) = dev (fun j => (val_main_v28 (F := Ideal) x0 x1 x2 x3 x4 x5) (ix2 R j)) k := by
  rw [val_main_v34_apply, val_main_v33_apply, show idx_main_v33 (ix2 R k) = ix2 R 0 by funext a; fin_cases a <;> rfl, last_mean_apply]
  rfl

theorem last_dev_again_apply (R : Fin 16384) (k : Fin 2048) :
    val_main_v41 (F := Ideal) x0 x1 x2 x3 x4 x5 (ix2 R k) = dev (fun j => (val_main_v28 (F := Ideal) x0 x1 x2 x3 x4 x5) (ix2 R j)) k := by
  rw [val_main_v41_apply, val_main_v40_apply, show idx_main_v40 (ix2 R k) = ix2 R 0 by funext a; fin_cases a <;> rfl, last_mean_apply]
  rfl

theorem last_squares_apply (R : Fin 16384) : val_main_v36 (F := Ideal) x0 x1 x2 x3 x4 x5 (ix1 R)
    = ∑ k, dev (fun j => (val_main_v28 (F := Ideal) x0 x1 x2 x3 x4 x5) (ix2 R j)) k * dev (fun j => (val_main_v28 (F := Ideal) x0 x1 x2 x3 x4 x5) (ix2 R j)) k := by
  rw [val_main_v36_apply, val_main_cst_7_apply]
  show Ideal.ofBits .f32 0x00000000#32 + _ = _
  rw [show Ideal.ofBits .f32 0x00000000#32 = 0 by simp [Ideal.ofBits, Ideal.ieee], zero_add]
  refine Finset.sum_congr rfl fun k _ => ?_
  rw [show idx_main_v36 (ix1 R) k = ix2 R k by funext a; fin_cases a <;> rfl, val_main_v35_apply, last_dev_apply]
  rfl

theorem last_root_apply (R : Fin 16384) : val_main_v44 (F := Ideal) x0 x1 x2 x3 x4 x5 (ix2 R 0)
    = Ideal.rsqrt (mean (fun j => dev (fun j => (val_main_v28 (F := Ideal) x0 x1 x2 x3 x4 x5) (ix2 R j)) j * dev (fun j => (val_main_v28 (F := Ideal) x0 x1 x2 x3 x4 x5) (ix2 R j)) j)
        + Ideal.ofBits .f32 0x3727C5AC#32) := by
  rw [val_main_v44_apply, val_main_v43_apply, val_main_v42_apply, val_main_cst_9_apply, val_main_v39_apply, val_main_v38_apply,
    val_main_cst_8_apply, val_main_v37_apply, show idx_main_v37 (ix2 R 0) = ix1 R by funext a; fin_cases a; rfl, last_squares_apply]
  rfl

/-- The second norm. -/
theorem last_norm_apply (R : Fin 16384) (k : Fin 2048) : val_main_v50 (F := Ideal) x0 x1 x2 x3 x4 x5 x6 x7 (ix2 R k)
    = norm (fun j => (val_main_v28 (F := Ideal) x0 x1 x2 x3 x4 x5) (ix2 R j)) (fun j => x6 (ix2 0 j)) (fun j => x7 (ix2 0 j)) k := by
  rw [val_main_v50_apply, val_main_v49_apply, val_main_v48_apply, val_main_v47_apply, val_main_v46_apply, val_main_v45_apply,
    last_dev_again_apply, show idx_main_v45 (ix2 R k) = ix2 R 0 by funext a; fin_cases a <;> rfl,
    show idx_main_v47 (ix2 R k) = ix2 0 k by funext a; fin_cases a <;> rfl,
    show idx_main_v49 (ix2 R k) = ix2 0 k by funext a; fin_cases a <;> rfl, last_root_apply]
  rfl

/-- The result: the norm of the residual sums. -/
theorem result_apply (R : Fin 16384) (C : Fin 2048) : val_main_v50 (F := Ideal) x0 x1 x2 x3 x4 x5 x6 x7 (ix2 R C)
    = norm (fun j => summed x0 x1 x2 x3 x4 x5 R j) (fun j => x6 (ix2 0 j)) (fun j => x7 (ix2 0 j)) C := by
  rw [last_norm_apply]
  simp only [summed_apply]

end Cert.Mix.Ref

end
-- ==== Proof.MixArray.lean ====
module

public import proofs.«01_k».proof.Proof.MixEntry
public import proofs.«01_k».proof.Proof.MixRef
public import Idealize.ShloMosaic.Lib.Pipeline.ValueKit

/-! The mixing's output array: block by block the reference's entries. -/

@[expose] public section

set_option maxRecDepth 16384

noncomputable section

namespace Cert.Mix

open Cert.Kernel3Ideal Cert.Kernel3Ideal.Gen
open Cert.Projections (norm mean dev)
open Idealize.ShloMosaic Idealize.ShloMosaic.TcCoe

/-- The grid's coordinate: the block of rows. -/
abbrev gr (t : Fin cfg0.N) : ℕ := (grid0.coords t 0).val

theorem grid_lt : ∀ t : Fin cfg0.N, gr t < 32 := (by decide +kernel : ∀ t : Fin grid0.N, _)

theorem idx0 : ∀ t : Fin cfg0.N, win0_0.index t = ![gr t, 0] := (by decide +kernel : ∀ t : Fin grid0.N, _)
theorem idx1 : ∀ t : Fin cfg0.N, win0_1.index t = ![gr t, 0] := (by decide +kernel : ∀ t : Fin grid0.N, _)
theorem idx2 : ∀ t : Fin cfg0.N, win0_2.index t = ![gr t, 0] := (by decide +kernel : ∀ t : Fin grid0.N, _)
theorem idx11 : ∀ t : Fin cfg0.N, win0_11.index t = ![gr t, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)

variable (m : (ℓ : Loc nD τ sig) → Buf (Elt Ideal) ℓ)

/-- The arguments: the tokens, the two mixers' rows, the output weights, the first norm's gain and bias, the second's. -/
abbrev a0 (c : Dev nD) : FVec Ideal S16384x2048 .f32 := m ((c.tc : Thread nD τ).loc main_arg0)
abbrev a1 (c : Dev nD) : FVec Ideal S16384x1024 .bf16 := m ((c.tc : Thread nD τ).loc main_arg1)
abbrev a2 (c : Dev nD) : FVec Ideal S16384x1024 .bf16 := m ((c.tc : Thread nD τ).loc main_arg2)
abbrev a3 (c : Dev nD) : FVec Ideal S2048x2048 .bf16 := m ((c.tc : Thread nD τ).loc main_arg3)
abbrev a4 (c : Dev nD) : FVec Ideal S1x2048 .f32 := m ((c.tc : Thread nD τ).loc main_arg4)
abbrev a5 (c : Dev nD) : FVec Ideal S1x2048 .f32 := m ((c.tc : Thread nD τ).loc main_arg5)
abbrev a6 (c : Dev nD) : FVec Ideal S1x2048 .f32 := m ((c.tc : Thread nD τ).loc main_arg6)
abbrev a7 (c : Dev nD) : FVec Ideal S1x2048 .f32 := m ((c.tc : Thread nD τ).loc main_arg7)

theorem blk_in0 (c : Dev nD) (t : Fin cfg0.N) (r : Fin 512) (k : Fin 2048) :
    iblk (F := Ideal) m c 0 t (ix2 r k) = a0 m c (ix2 ⟨512 * gr t + r.val, by have := grid_lt t; omega⟩ k) := by
  blk_simp [iblk, V_main_arg0 m c]
  refine congrArg (a0 m c) ?_
  blk_ext [idx0 t]

theorem blk_in1 (c : Dev nD) (t : Fin cfg0.N) (r : Fin 512) (k : Fin 1024) :
    iblk (F := Ideal) m c 1 t (ix2 r k) = a1 m c (ix2 ⟨512 * gr t + r.val, by have := grid_lt t; omega⟩ k) := by
  blk_simp [iblk, V_main_arg1 m c]
  refine congrArg (a1 m c) ?_
  blk_ext [idx1 t]

theorem blk_in2 (c : Dev nD) (t : Fin cfg0.N) (r : Fin 512) (k : Fin 1024) :
    iblk (F := Ideal) m c 2 t (ix2 r k) = a2 m c (ix2 ⟨512 * gr t + r.val, by have := grid_lt t; omega⟩ k) := by
  blk_simp [iblk, V_main_arg2 m c]
  refine congrArg (a2 m c) ?_
  blk_ext [idx2 t]

theorem blk_in3 (c : Dev nD) (t : Fin cfg0.N) (k C : Fin 2048) : iblk (F := Ideal) m c 3 t (ix2 k C) = a3 m c (ix2 k C) := by
  blk_simp [iblk, V_main_arg3 m c]
  refine congrArg (a3 m c) ?_
  blk_ext [idx3 t]

theorem blk_in4 (c : Dev nD) (t : Fin cfg0.N) (k : Fin 2048) : iblk (F := Ideal) m c 4 t (ix2 0 k) = a4 m c (ix2 0 k) := by
  blk_simp [iblk, V_main_arg4 m c]
  refine congrArg (a4 m c) ?_
  blk_ext [idx4 t]

theorem blk_in5 (c : Dev nD) (t : Fin cfg0.N) (k : Fin 2048) : iblk (F := Ideal) m c 5 t (ix2 0 k) = a5 m c (ix2 0 k) := by
  blk_simp [iblk, V_main_arg5 m c]
  refine congrArg (a5 m c) ?_
  blk_ext [idx5 t]

theorem blk_in6 (c : Dev nD) (t : Fin cfg0.N) (k : Fin 2048) : iblk (F := Ideal) m c 6 t (ix2 0 k) = a6 m c (ix2 0 k) := by
  blk_simp [iblk, V_main_arg6 m c]
  refine congrArg (a6 m c) ?_
  blk_ext [idx6 t]

theorem blk_in7 (c : Dev nD) (t : Fin cfg0.N) (k : Fin 2048) : iblk (F := Ideal) m c 7 t (ix2 0 k) = a7 m c (ix2 0 k) := by
  blk_simp [iblk, V_main_arg7 m c]
  refine congrArg (a7 m c) ?_
  blk_ext [idx7 t]

/-- The reference's result of the same arguments. -/
def result (c : Dev nD) : FVec Ideal S16384x2048 .f32 :=
  Reference3Ideal.Read.val_main_v50 (F := Ideal) (a0 m c) (a1 m c) (a2 m c) (a3 m c) (a4 m c) (a5 m c) (a6 m c) (a7 m c)

/-- A row's residual sums are the reference's. -/
theorem summed_eq (c : Dev nD) (t : Fin cfg0.N) (r : Fin 512) (C : Fin 2048) :
    summed (iblk m c 0 t) (iblk m c 1 t) (iblk m c 2 t) (iblk m c 3 t) (iblk m c 4 t) (iblk m c 5 t) r C
      = summed (a0 m c) (a1 m c) (a2 m c) (a3 m c) (a4 m c) (a5 m c) ⟨512 * gr t + r.val, by have := grid_lt t; omega⟩ C := by
  unfold summed
  simp only [blk_in0, blk_in1, blk_in2, blk_in3, blk_in4, blk_in5]

theorem hAt_entry (c : Dev nD) (t : Fin cfg0.N) (r : Fin 512) (C : Fin 2048) : hAt (F := Ideal) m c t (ix2 r C)
    = result m c (ix2 ⟨512 * gr t + r.val, by have := grid_lt t; omega⟩ C) := by
  have hg := grid_lt t
  unfold hAt
  refine (blockH_apply _ _ _ _ _ _ _ _ r C).trans ?_
  simp only [summed_eq, blk_in6, blk_in7]
  exact (Ref.result_apply _ _ _ _ _ _ _ _ ⟨512 * gr t + r.val, by omega⟩ C).symm

theorem array_eq (c : Dev nD) : (dats m 0 c).arrAt 11 cfg0.N = result m c := by
  refine (dats m 0 c).arrAt_eq_of_covers 11 _ (by decide +kernel) fun t hf y => ?_
  blk_simp
  rw [after11]
  have e : y = ix2 (y 0) (y 1) := by funext a; fin_cases a <;> rfl
  rw [e]
  refine (hAt_entry m c t (y 0) (y 1)).trans ?_
  refine congrArg (result m c) ?_
  blk_ext [idx11 t]

end Cert.Mix

end
-- ==== Proof.MixBitsRun.lean ====
module

public import proofs.«01_k».proof.Proof.Gen.Kernel3.Skeleton
public import proofs.«01_k».proof.Proof.Gen.Kernel3.Frame

/-! One grid point's body of the mixing at bits, run on any memrefs: it ends with its inputs as they were. -/

@[expose] public section

set_option maxRecDepth 16384

noncomputable section

namespace Cert.MixBits

open Cert.Kernel3 Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- The body's first point clears the counts that it carries. -/
abbrev atFirst (i : grid0.Coords) : Prop := Scalar.cmpi .ne (Scalar.extui (Scalar.cmpi .eq (BitVec.ofNat 32 (i 0).val) 0#32) : BitVec 32) 0#32 = 1#1

set_option maxHeartbeats 8000000 in
/-- The body, with the inputs at their contents and everything else at any, ends with the inputs as they were. -/
theorem bodyRun (c : Dev nD) (i : grid0.Coords) (arg1 : Memref sig .tc .vmem S512x2048 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x256 .bf16) (harg9 : arg9.IsWhole) (arg10 : Memref sig .tc .vmem S1x128 .f32) (harg10 : arg10.IsWhole) (arg11 : Memref sig .tc .vmem S512x512 .bf16) (harg11 : arg11.IsWhole) (arg12 : Memref sig .tc .vmem S512x2048 .f32) (harg12 : arg12.IsWhole) (arg13 : Memref sig .tc .vmem S4096x128 .i32) (harg13 : arg13.IsWhole) (arg14 : Memref sig .tc .vmem S8x512 .i32) (harg14 : arg14.IsWhole) (arg15 : Memref sig .tc .vmem S512x128 .f32) (harg15 : arg15.IsWhole) (arg16 : Memref sig .tc .vmem S48x128 .f32) (harg16 : arg16.IsWhole) (arg17 : Memref sig .tc .vmem S48x1 .f32) (harg17 : arg17.IsWhole)
    (x0 : Vec F S512x2048 .f32) (x1 : Vec F S512x1024 .bf16) (x2 : Vec F S512x1024 .bf16) (x3 : Vec F S2048x2048 .bf16) (x4 : Vec F S1x2048 .f32) (x5 : Vec F S1x2048 .f32) (x6 : Vec F S1x2048 .f32) (x7 : Vec F S1x2048 .f32) (x8 : Vec F S2048x256 .bf16) (x9 : Vec F S1x128 .f32) (x10 : Vec F S512x512 .bf16) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    by_cases hc : atFirst i
    · simp only [cc0_mix_eq_skeleton]; unfold cc0_mix_skel
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
      obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
      sl_exec (disch := sl_exact hc)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; isplitr; · ipureintro; exact harg10.read_unread _
        iexact H9
      isplitl [H10]
      · iexists _; isplitr; · ipureintro; exact harg11.read_unread _
        iexact H10
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      iexists _, _; isplitr; swap; · iexact H16
      ipureintro; rfl
    · simp only [cc0_mix_eq_skeleton]; unfold cc0_mix_skel
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
      obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
      sl_exec (disch := sl_exact hc)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; isplitr; · ipureintro; exact harg10.read_unread _
        iexact H9
      isplitl [H10]
      · iexists _; isplitr; · ipureintro; exact harg11.read_unread _
        iexact H10
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      iexists _, _; isplitr; swap; · iexact H16
      ipureintro; rfl

end Cert.MixBits

end
-- ==== Proof.ProjRun.lean ====
module

public import proofs.«01_k».proof.Proof.Gen.Kernel2Ideal.Skeleton
public import proofs.«01_k».proof.Proof.Gen.Kernel2Ideal.Frame

/-! One grid point's body of the projections, run on any memrefs: the pieces that it stores into the blocks of queries
    and keys, of values, of pooling channels, of the pooled mixture and of log forget gates, and into what it keeps. -/

@[expose] public section

set_option maxRecDepth 16384

noncomputable section

namespace Cert.Projections

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The body's run: the pieces that the blocks end with, and the proof that the body, with the inputs at their contents
    and everything else at any, ends with those pieces written. -/
noncomputable def bodyRun (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S2048x4224 .bf16) (harg4 : arg4.IsWhole) (arg5 : Memref sig .tc .vmem S1x128 .f32) (harg5 : arg5.IsWhole) (arg6 : Memref sig .tc .vmem S384x1024 .bf16) (harg6 : arg6.IsWhole) (arg7 : Memref sig .tc .vmem S16x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S512x2048 .bf16) (harg10 : arg10.IsWhole) (arg11 : Memref sig .tc .vmem S1152x512 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x128 .f32) (harg14 : arg14.IsWhole) (arg15 : Memref sig .tc .vmem S512x1024 .bf16) (harg15 : arg15.IsWhole) (arg16 : Memref sig .tc .vmem S1x128 .f32) (harg16 : arg16.IsWhole) (arg17 : Memref sig .tc .vmem S528x1024 .f32) (harg17 : arg17.IsWhole)
    (x0 : Vec F S512x2048 .f32) (x1 : Vec F S1x2048 .f32) (x2 : Vec F S1x2048 .f32) (x3 : Vec F S2048x4224 .bf16) (x4 : Vec F S1x128 .f32) (x5 : Vec F S384x1024 .bf16) (x6 : Vec F S16x1024 .f32) (x7 : Vec F S4x256x256 .bf16) (x8 : Vec F S1x1024 .f32) (c0 : Vec F S1x128 .f32) (e0 : Vec F S528x1024 .f32) :
    { L : List (View.Piece (Elt F) S512x2048 .bf16) × List (View.Piece (Elt F) S1152x512 .bf16) × List (View.Piece (Elt F) S512x1024 .f32) × List (View.Piece (Elt F) S512x1024 .bf16) × List (View.Piece (Elt F) S512x128 .f32) × List (View.Piece (Elt F) S1x128 .f32) × List (View.Piece (Elt F) S528x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare c0 ∗ owns (c : Thread nD τ) arg17 fullShare e0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L.1) ∗ (∃ f, arg11.view.loc (c : Thread nD τ) ↦[arg11.view.set]{fullShare} arg11.view.writes (Elt F) f L.2.1) ∗ (∃ f, arg12.view.loc (c : Thread nD τ) ↦[arg12.view.set]{fullShare} arg12.view.writes (Elt F) f L.2.2.1) ∗ (∃ f, arg13.view.loc (c : Thread nD τ) ↦[arg13.view.set]{fullShare} arg13.view.writes (Elt F) f L.2.2.2.1) ∗ (∃ f, arg14.view.loc (c : Thread nD τ) ↦[arg14.view.set]{fullShare} arg14.view.writes (Elt F) f L.2.2.2.2.1) ∗ (∃ d, owns (c : Thread nD τ) arg15 fullShare d) ∗ (arg16.view.loc (c : Thread nD τ) ↦[arg16.view.set]{fullShare} arg16.view.writes (Elt F) (harg16.unread c0) L.2.2.2.2.2.1) ∗ (arg17.view.loc (c : Thread nD τ) ↦[arg17.view.set]{fullShare} arg17.view.writes (Elt F) (harg17.unread e0) L.2.2.2.2.2.2)) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨(?_, ?_, ?_, ?_, ?_, ?_, ?_), fun E K => ?run⟩
  case run =>
    simp only [cc0_proj_eq_skeleton]; unfold cc0_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%f15, %hf15, H15⟩, ⟨%f16, %hf16, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg16.eq_unread hf15; obtain rfl := harg17.eq_unread hf16
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]
    · iexists _, _; isplitr; swap; · iexact H14
      ipureintro; rfl
    isplitl [H15]; · iexact H15
    iexact H16

end Cert.Projections

end
-- ==== Proof.ProjBody.lean ====
module

public import Idealize.ShloMosaic.Lib.WholeRead
public import Idealize.ShloMosaic.Lib.Pipeline.ReadBack
public import proofs.«01_k».proof.Proof.ProjRun

/-! What one grid point stores into the blocks of queries and keys, of values, of pooling channels, of the pooled
    mixture and of log forget gates, as functions of the point's input blocks and, for the last two, of what is kept from
    the point before. -/

@[expose] public section

set_option maxRecDepth 16384

noncomputable section

namespace Cert.Projections

open Cert.Kernel2Ideal Cert.Kernel2Ideal.Gen
open Idealize.ShloMosaic Idealize.ShloMosaic.TcCoe Idealize.ShloMosaic.Tactic
open Idealize.SL Idealize.SL.Sem

variable {F : FTy → Type} [FloatOps F] [Named F]

/-- The part of an array inside a box. -/
def cut {s : Shape} {e : EltTy} (X : Vec F s e) (B : LoadRect s) : B.shape.Idx → Elt F e := fun j => X (B.idx j)

omit [Named F] in
theorem read_unread {s : Shape} {e : EltTy} {m : Memref sig .tc .vmem s e} (h : m.IsWhole) (X : Vec F s e)
    (B : LoadRect s) : View.readAt (Elt F) m.view B (h.unread X) = cut X B :=
  funext fun j => h.readAt_unread X B j

/-- The normed rows of the point. -/
def normed (x0 : Vec F S512x2048 .f32) (x1 x2 : Vec F S1x2048 .f32) : FVec F S512x2048 .bf16 :=
  k0_pay2 (cut x0 (Rect.unit (s := S512x2048) ![0, 0] S512x2048.size inb_S512x2048_S512x2048_0_0).toLoadRect)
    (cut x1 (Rect.unit (s := S1x2048) ![0, 0] S1x2048.size inb_S1x2048_S1x2048_0_0).toLoadRect)
    (cut x2 (Rect.unit (s := S1x2048) ![0, 0] S1x2048.size inb_S1x2048_S1x2048_0_0).toLoadRect)

/-- The pieces of queries and keys: four boxes of 512 columns. -/
def piecesQ (x0 : Vec F S512x2048 .f32) (x1 x2 : Vec F S1x2048 .f32) (x3 : Vec F S2048x4224 .bf16) : List (View.Piece (Elt F) S512x2048 .bf16) :=
  [⟨Rect.unit ![0, 1536] S512x512.size inb_S512x2048_S512x512_0_1536, k0_pay20 (normed x0 x1 x2) (cut x3 (Rect.unit (s := S2048x4224) ![0, 1536] S2048x512.size inb_S2048x4224_S2048x512_0_1536).toLoadRect)⟩,
   ⟨Rect.unit ![0, 1024] S512x512.size inb_S512x2048_S512x512_0_1024, k0_pay19 (normed x0 x1 x2) (cut x3 (Rect.unit (s := S2048x4224) ![0, 1024] S2048x512.size inb_S2048x4224_S2048x512_0_1024).toLoadRect)⟩,
   ⟨Rect.unit ![0, 512] S512x512.size inb_S512x2048_S512x512_0_512, k0_pay18 (normed x0 x1 x2) (cut x3 (Rect.unit (s := S2048x4224) ![0, 512] S2048x512.size inb_S2048x4224_S2048x512_0_512).toLoadRect)⟩,
   ⟨Rect.unit ![0, 0] S512x512.size inb_S512x2048_S512x512_0_0, k0_pay17 (normed x0 x1 x2) (cut x3 (Rect.unit (s := S2048x4224) ![0, 0] S2048x512.size inb_S2048x4224_S2048x512_0_0).toLoadRect)⟩]

/-- The pieces of values: a head's 128 rows and the 16 rows below them, for each of the eight heads. -/
def piecesV (x0 : Vec F S512x2048 .f32) (x1 x2 : Vec F S1x2048 .f32) (x3 : Vec F S2048x4224 .bf16) : List (View.Piece (Elt F) S1152x512 .bf16) :=
  [⟨Rect.unit ![1136, 0] S16x512.size inb_S1152x512_S16x512_1136_0, k0_pay22 (F := F) k0_pay21⟩,
   ⟨Rect.unit ![1008, 0] S128x512.size inb_S1152x512_S128x512_1008_0, k0_pay32 (k0_pay28 (normed x0 x1 x2) (cut x3 (Rect.unit (s := S2048x4224) ![0, 2560] S2048x512.size inb_S2048x4224_S2048x512_0_2560).toLoadRect))⟩,
   ⟨Rect.unit ![992, 0] S16x512.size inb_S1152x512_S16x512_992_0, k0_pay22 (F := F) k0_pay21⟩,
   ⟨Rect.unit ![864, 0] S128x512.size inb_S1152x512_S128x512_864_0, k0_pay31 (k0_pay28 (normed x0 x1 x2) (cut x3 (Rect.unit (s := S2048x4224) ![0, 2560] S2048x512.size inb_S2048x4224_S2048x512_0_2560).toLoadRect))⟩,
   ⟨Rect.unit ![848, 0] S16x512.size inb_S1152x512_S16x512_848_0, k0_pay22 (F := F) k0_pay21⟩,
   ⟨Rect.unit ![720, 0] S128x512.size inb_S1152x512_S128x512_720_0, k0_pay30 (k0_pay28 (normed x0 x1 x2) (cut x3 (Rect.unit (s := S2048x4224) ![0, 2560] S2048x512.size inb_S2048x4224_S2048x512_0_2560).toLoadRect))⟩,
   ⟨Rect.unit ![704, 0] S16x512.size inb_S1152x512_S16x512_704_0, k0_pay22 (F := F) k0_pay21⟩,
   ⟨Rect.unit ![576, 0] S128x512.size inb_S1152x512_S128x512_576_0, k0_pay29 (k0_pay28 (normed x0 x1 x2) (cut x3 (Rect.unit (s := S2048x4224) ![0, 2560] S2048x512.size inb_S2048x4224_S2048x512_0_2560).toLoadRect))⟩,
   ⟨Rect.unit ![560, 0] S16x512.size inb_S1152x512_S16x512_560_0, k0_pay22 (F := F) k0_pay21⟩,
   ⟨Rect.unit ![432, 0] S128x512.size inb_S1152x512_S128x512_432_0, k0_pay27 (normed x0 x1 x2) (cut x3 (Rect.unit (s := S2048x4224) ![0, 2048] S2048x512.size inb_S2048x4224_S2048x512_0_2048).toLoadRect)⟩,
   ⟨Rect.unit ![416, 0] S16x512.size inb_S1152x512_S16x512_416_0, k0_pay22 (F := F) k0_pay21⟩,
   ⟨Rect.unit ![288, 0] S128x512.size inb_S1152x512_S128x512_288_0, k0_pay26 (normed x0 x1 x2) (cut x3 (Rect.unit (s := S2048x4224) ![0, 2048] S2048x512.size inb_S2048x4224_S2048x512_0_2048).toLoadRect)⟩,
   ⟨Rect.unit ![272, 0] S16x512.size inb_S1152x512_S16x512_272_0, k0_pay22 (F := F) k0_pay21⟩,
   ⟨Rect.unit ![144, 0] S128x512.size inb_S1152x512_S128x512_144_0, k0_pay25 (normed x0 x1 x2) (cut x3 (Rect.unit (s := S2048x4224) ![0, 2048] S2048x512.size inb_S2048x4224_S2048x512_0_2048).toLoadRect)⟩,
   ⟨Rect.unit ![128, 0] S16x512.size inb_S1152x512_S16x512_128_0, k0_pay22 (F := F) k0_pay21⟩,
   ⟨Rect.unit ![0, 0] S128x512.size inb_S1152x512_S128x512_0_0, k0_pay24 (normed x0 x1 x2) (cut x3 (Rect.unit (s := S2048x4224) ![0, 2048] S2048x512.size inb_S2048x4224_S2048x512_0_2048).toLoadRect)⟩]

/-- The pieces of pooling channels: two boxes of 512 columns. -/
def piecesU (x0 : Vec F S512x2048 .f32) (x1 x2 : Vec F S1x2048 .f32) (x3 : Vec F S2048x4224 .bf16) : List (View.Piece (Elt F) S512x1024 .f32) :=
  [⟨Rect.unit ![0, 512] S512x512.size inb_S512x1024_S512x512_0_512, k0_pay6 (normed x0 x1 x2) (cut x3 (Rect.unit (s := S2048x4224) ![0, 3584] S2048x512.size inb_S2048x4224_S2048x512_0_3584).toLoadRect)⟩,
   ⟨Rect.unit ![0, 0] S512x512.size inb_S512x1024_S512x512_0_0, k0_pay4 (normed x0 x1 x2) (cut x3 (Rect.unit (s := S2048x4224) ![0, 3072] S2048x512.size inb_S2048x4224_S2048x512_0_3072).toLoadRect)⟩]

/-- Whether a point's rows are the first of a sequence. -/
def fresh (i : grid0.Coords) : BitVec 1 :=
  let r : BitVec 32 := Scalar.remsi (BitVec.ofNat 32 (i 0).val) (Scalar.select (Scalar.cmpi .eq (8#32 : BitVec 32) 0#32) 1#32 8#32)
  let d : BitVec 32 := Scalar.select (Scalar.cmpi .eq (8#32 : BitVec 32) 0#32) 1#32 8#32
  Scalar.cmpi .eq (Scalar.select (Scalar.andi (Scalar.xori (Scalar.cmpi .slt r 0#32) (Scalar.cmpi .slt d 0#32)) (Scalar.cmpi .ne r 0#32)) (Scalar.addi r d) r) 0#32

/-- The pieces of the extended channels before the pooling: the point's channels, and above them the rows that stand
    before the sequence or the last rows of the point before. -/
def piecesE (i : grid0.Coords) (x0 : Vec F S512x2048 .f32) (x1 x2 : Vec F S1x2048 .f32) (x3 : Vec F S2048x4224 .bf16) (x6 : Vec F S16x1024 .f32)
    (e0 : Vec F S528x1024 .f32) : List (View.Piece (Elt F) S528x1024 .f32) :=
  [⟨Rect.unit ![16, 512] S512x512.size inb_S528x1024_S512x512_16_512, k0_pay7 (normed x0 x1 x2) (cut x3 (Rect.unit (s := S2048x4224) ![0, 3584] S2048x512.size inb_S2048x4224_S2048x512_0_3584).toLoadRect)⟩,
   ⟨Rect.unit ![16, 0] S512x512.size inb_S528x1024_S512x512_16_0, k0_pay5 (normed x0 x1 x2) (cut x3 (Rect.unit (s := S2048x4224) ![0, 3072] S2048x512.size inb_S2048x4224_S2048x512_0_3072).toLoadRect)⟩,
   ⟨Rect.unit ![0, 0] S16x1024.size inb_S528x1024_S16x1024_0_0, k0_pay3 (fresh i)
      (cut x6 (Rect.unit (s := S16x1024) ![0, 0] S16x1024.size inb_S16x1024_S16x1024_0_0).toLoadRect)
      (cut e0 (Rect.unit (s := S528x1024) ![0, 0] S16x1024.size inb_S528x1024_S16x1024_0_0).toLoadRect)⟩]

/-- The pieces of the pooled mixture, from the extended channels: four boxes of 256 columns. -/
def mixPieces (X : Vec F S528x1024 .f32) (x7 : Vec F S4x256x256 .bf16) (x8 : Vec F S1x1024 .f32) : List (View.Piece (Elt F) S512x1024 .bf16) :=
  [⟨Rect.unit ![0, 768] S512x256.size inb_S512x1024_S512x256_0_768, k0_pay15 (cut X (Rect.unit (s := S528x1024) ![16, 768] S512x256.size inb_S528x1024_S512x256_16_768).toLoadRect) (k0_pay14 (cut X (Rect.unit (s := S528x1024) ![16, 768] S512x256.size inb_S528x1024_S512x256_16_768).toLoadRect) (cut X (Rect.unit (s := S528x1024) ![15, 768] S512x256.size inb_S528x1024_S512x256_15_768).toLoadRect) (cut X (Rect.unit (s := S528x1024) ![14, 768] S512x256.size inb_S528x1024_S512x256_14_768).toLoadRect) (cut X (Rect.unit (s := S528x1024) ![13, 768] S512x256.size inb_S528x1024_S512x256_13_768).toLoadRect) (cut X (Rect.unit (s := S528x1024) ![12, 768] S512x256.size inb_S528x1024_S512x256_12_768).toLoadRect) (cut X (Rect.unit (s := S528x1024) ![11, 768] S512x256.size inb_S528x1024_S512x256_11_768).toLoadRect)) (cut X (Rect.unit (s := S528x1024) ![10, 768] S512x256.size inb_S528x1024_S512x256_10_768).toLoadRect) (cut X (Rect.unit (s := S528x1024) ![9, 768] S512x256.size inb_S528x1024_S512x256_9_768).toLoadRect) (cut X (Rect.unit (s := S528x1024) ![8, 768] S512x256.size inb_S528x1024_S512x256_8_768).toLoadRect) (cut X (Rect.unit (s := S528x1024) ![7, 768] S512x256.size inb_S528x1024_S512x256_7_768).toLoadRect) (cut X (Rect.unit (s := S528x1024) ![6, 768] S512x256.size inb_S528x1024_S512x256_6_768).toLoadRect) (cut X (Rect.unit (s := S528x1024) ![5, 768] S512x256.size inb_S528x1024_S512x256_5_768).toLoadRect) (cut X (Rect.unit (s := S528x1024) ![4, 768] S512x256.size inb_S528x1024_S512x256_4_768).toLoadRect) (cut X (Rect.unit (s := S528x1024) ![3, 768] S512x256.size inb_S528x1024_S512x256_3_768).toLoadRect) (cut X (Rect.unit (s := S528x1024) ![2, 768] S512x256.size inb_S528x1024_S512x256_2_768).toLoadRect) (cut X (Rect.unit (s := S528x1024) ![1, 768] S512x256.size inb_S528x1024_S512x256_1_768).toLoadRect) (cut x7 (Rect.unit (s := S4x256x256) ![3, 0, 0] S1x256x256.size inb_S4x256x256_S1x256x256_3_0_0).toLoadRect) (cut x8 (Rect.unit (s := S1x1024) ![0, 768] S1x256.size inb_S1x1024_S1x256_0_768).toLoadRect)⟩,
   ⟨Rect.unit ![0, 512] S512x256.size inb_S512x1024_S512x256_0_512, k0_pay13 (cut X (Rect.unit (s := S528x1024) ![16, 512] S512x256.size inb_S528x1024_S512x256_16_512).toLoadRect) (k0_pay12 (cut X (Rect.unit (s := S528x1024) ![16, 512] S512x256.size inb_S528x1024_S512x256_16_512).toLoadRect) (cut X (Rect.unit (s := S528x1024) ![15, 512] S512x256.size inb_S528x1024_S512x256_15_512).toLoadRect) (cut X (Rect.unit (s := S528x1024) ![14, 512] S512x256.size inb_S528x1024_S512x256_14_512).toLoadRect) (cut X (Rect.unit (s := S528x1024) ![13, 512] S512x256.size inb_S528x1024_S512x256_13_512).toLoadRect)) (cut X (Rect.unit (s := S528x1024) ![12, 512] S512x256.size inb_S528x1024_S512x256_12_512).toLoadRect) (cut X (Rect.unit (s := S528x1024) ![11, 512] S512x256.size inb_S528x1024_S512x256_11_512).toLoadRect) (cut X (Rect.unit (s := S528x1024) ![10, 512] S512x256.size inb_S528x1024_S512x256_10_512).toLoadRect) (cut X (Rect.unit (s := S528x1024) ![9, 512] S512x256.size inb_S528x1024_S512x256_9_512).toLoadRect) (cut x7 (Rect.unit (s := S4x256x256) ![2, 0, 0] S1x256x256.size inb_S4x256x256_S1x256x256_2_0_0).toLoadRect) (cut x8 (Rect.unit (s := S1x1024) ![0, 512] S1x256.size inb_S1x1024_S1x256_0_512).toLoadRect)⟩,
   ⟨Rect.unit ![0, 256] S512x256.size inb_S512x1024_S512x256_0_256, k0_pay11 (cut X (Rect.unit (s := S528x1024) ![16, 256] S512x256.size inb_S528x1024_S512x256_16_256).toLoadRect) (cut X (Rect.unit (s := S528x1024) ![15, 256] S512x256.size inb_S528x1024_S512x256_15_256).toLoadRect) (cut X (Rect.unit (s := S528x1024) ![14, 256] S512x256.size inb_S528x1024_S512x256_14_256).toLoadRect) (cut X (Rect.unit (s := S528x1024) ![13, 256] S512x256.size inb_S528x1024_S512x256_13_256).toLoadRect) (cut x7 (Rect.unit (s := S4x256x256) ![1, 0, 0] S1x256x256.size inb_S4x256x256_S1x256x256_1_0_0).toLoadRect) (cut x8 (Rect.unit (s := S1x1024) ![0, 256] S1x256.size inb_S1x1024_S1x256_0_256).toLoadRect)⟩,
   ⟨Rect.unit ![0, 0] S512x256.size inb_S512x1024_S512x256_0_0, k0_pay10 (k0_pay8 (cut X (Rect.unit (s := S528x1024) ![16, 0] S512x256.size inb_S528x1024_S512x256_16_0).toLoadRect) (cut X (Rect.unit (s := S528x1024) ![15, 0] S512x256.size inb_S528x1024_S512x256_15_0).toLoadRect) (cut x7 (Rect.unit (s := S4x256x256) ![0, 0, 0] S1x256x256.size inb_S4x256x256_S1x256x256_0_0_0).toLoadRect)) (k0_pay9 (cut x8 (Rect.unit (s := S1x1024) ![0, 0] S1x256.size inb_S1x1024_S1x256_0_0).toLoadRect))⟩]

/-- The pieces of the pooled mixture. -/
def piecesP (i : grid0.Coords) (x0 : Vec F S512x2048 .f32) (x1 x2 : Vec F S1x2048 .f32) (x3 : Vec F S2048x4224 .bf16) (x6 : Vec F S16x1024 .f32)
    (x7 : Vec F S4x256x256 .bf16) (x8 : Vec F S1x1024 .f32) (e0 : Vec F S528x1024 .f32) : List (View.Piece (Elt F) S512x1024 .bf16) :=
  mixPieces (View.canon (piecesE i x0 x1 x2 x3 x6 e0)) x7 x8

/-- The pieces of the extended channels at the end: above them now the last rows of the point. -/
def piecesEnd (i : grid0.Coords) (x0 : Vec F S512x2048 .f32) (x1 x2 : Vec F S1x2048 .f32) (x3 : Vec F S2048x4224 .bf16) (x6 : Vec F S16x1024 .f32)
    (e0 : Vec F S528x1024 .f32) : List (View.Piece (Elt F) S528x1024 .f32) :=
  ⟨Rect.unit ![0, 0] S16x1024.size inb_S528x1024_S16x1024_0_0,
    k0_pay16 (cut (View.canon (piecesE i x0 x1 x2 x3 x6 e0)) (Rect.unit (s := S528x1024) ![512, 0] S16x1024.size inb_S528x1024_S16x1024_512_0).toLoadRect)⟩ :: piecesE i x0 x1 x2 x3 x6 e0

/-- The point's log forget gates, summed over the 64 rows that end with each. -/
def gates (x0 : Vec F S512x2048 .f32) (x1 x2 : Vec F S1x2048 .f32) (x3 : Vec F S2048x4224 .bf16) (x4 : Vec F S1x128 .f32) : FVec F S512x128 .f32 :=
  k0_pay37 (k0_pay34 (normed x0 x1 x2) (cut x3 (Rect.unit (s := S2048x4224) ![0, 4096] S2048x128.size inb_S2048x4224_S2048x128_0_4096).toLoadRect) (cut x4 (Rect.unit (s := S1x128) ![0, 0] S1x128.size inb_S1x128_S1x128_0_0).toLoadRect))
    (k0_pay35 (normed x0 x1 x2) (cut x3 (Rect.unit (s := S2048x4224) ![0, 4096] S2048x128.size inb_S2048x4224_S2048x128_0_4096).toLoadRect) (cut x4 (Rect.unit (s := S1x128) ![0, 0] S1x128.size inb_S1x128_S1x128_0_0).toLoadRect))
    k0_pay36

/-- The piece of log forget gates: their sums from the sequence's start. -/
def piecesD (i : grid0.Coords) (x0 : Vec F S512x2048 .f32) (x1 x2 : Vec F S1x2048 .f32) (x3 : Vec F S2048x4224 .bf16) (x4 : Vec F S1x128 .f32)
    (c0 : Vec F S1x128 .f32) : List (View.Piece (Elt F) S512x128 .f32) :=
  [⟨Rect.unit ![0, 0] S512x128.size inb_S512x128_S512x128_0_0, k0_pay38 (fresh i) (iota .tc S512x128 32 [0] iota_S512x128_d0_w32)
    (gates x0 x1 x2 x3 x4) 64#32 (cut c0 (Rect.unit (s := S1x128) ![0, 0] S1x128.size inb_S1x128_S1x128_0_0).toLoadRect)⟩]

/-- The piece of the kept sums: those of the point's last row. -/
def piecesC (i : grid0.Coords) (x0 : Vec F S512x2048 .f32) (x1 x2 : Vec F S1x2048 .f32) (x3 : Vec F S2048x4224 .bf16) (x4 : Vec F S1x128 .f32)
    (c0 : Vec F S1x128 .f32) : List (View.Piece (Elt F) S1x128 .f32) :=
  [⟨Rect.unit ![0, 0] S1x128.size inb_S1x128_S1x128_0_0, k0_pay39 (fresh i) (iota .tc S512x128 32 [0] iota_S512x128_d0_w32)
    (gates x0 x1 x2 x3 x4) 64#32 (cut c0 (Rect.unit (s := S1x128) ![0, 0] S1x128.size inb_S1x128_S1x128_0_0).toLoadRect)⟩]

omit [Named F] in
theorem read_canon {s : Shape} {e : EltTy} (v : View sig .tc .vmem s e) (L : List (View.Piece (Elt F) s e)) (B : LoadRect s) :
    cut (View.canon L) B = v.readCov L B := (View.readCov_eq_canon' v L B).symm

set_option maxHeartbeats 1000000 in
/-- The pieces that the body's run leaves are those of the point's input blocks. -/
theorem bodyRun_pieces (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S2048x4224 .bf16) (harg4 : arg4.IsWhole) (arg5 : Memref sig .tc .vmem S1x128 .f32) (harg5 : arg5.IsWhole) (arg6 : Memref sig .tc .vmem S384x1024 .bf16) (harg6 : arg6.IsWhole) (arg7 : Memref sig .tc .vmem S16x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S512x2048 .bf16) (harg10 : arg10.IsWhole) (arg11 : Memref sig .tc .vmem S1152x512 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x128 .f32) (harg14 : arg14.IsWhole) (arg15 : Memref sig .tc .vmem S512x1024 .bf16) (harg15 : arg15.IsWhole) (arg16 : Memref sig .tc .vmem S1x128 .f32) (harg16 : arg16.IsWhole) (arg17 : Memref sig .tc .vmem S528x1024 .f32) (harg17 : arg17.IsWhole) (x0 : Vec F S512x2048 .f32) (x1 : Vec F S1x2048 .f32) (x2 : Vec F S1x2048 .f32) (x3 : Vec F S2048x4224 .bf16) (x4 : Vec F S1x128 .f32) (x5 : Vec F S384x1024 .bf16) (x6 : Vec F S16x1024 .f32) (x7 : Vec F S4x256x256 .bf16) (x8 : Vec F S1x1024 .f32) (c0 : Vec F S1x128 .f32) (e0 : Vec F S528x1024 .f32) :
    (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 c0 e0).1 = (piecesQ x0 x1 x2 x3, piecesV x0 x1 x2 x3, piecesU x0 x1 x2 x3,
      piecesP i x0 x1 x2 x3 x6 x7 x8 e0, piecesD i x0 x1 x2 x3 x4 c0, piecesC i x0 x1 x2 x3 x4 c0, piecesEnd i x0 x1 x2 x3 x6 e0) := by
  unfold piecesQ piecesV piecesU piecesP mixPieces piecesEnd piecesD piecesC gates
  simp only [read_canon arg17.view]
  unfold piecesE normed
  simp only [← read_unread harg1 x0, ← read_unread harg2 x1, ← read_unread harg3 x2, ← read_unread harg4 x3, ← read_unread harg5 x4, ← read_unread harg7 x6,
    ← read_unread harg8 x7, ← read_unread harg9 x8, ← read_unread harg16 c0, ← read_unread harg17 e0]
  rfl

end Cert.Projections

end
-- ==== Proof.ProjLaunch.lean ====
module

public import proofs.«01_k».proof.Proof.ProjBody
public import Idealize.ShloMosaic.Lib.Claim

/-! The launch of the projections: every grid point runs its body on its blocks, so the program ends with its arguments
    as they were and the arrays of queries and keys, of values, of pooling channels, of
    the pooled mixture and of log forget gates as the points' blocks leave them. -/

@[expose] public section

set_option maxRecDepth 16384

noncomputable section

namespace Cert.Projections

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

/-! ## The output blocks at a point -/

/-- A view of an output block, through which the pieces are read back, and the block that the pieces make. -/
abbrev viewQ : View sig .tc .vmem S512x2048 .bf16 := (Memref.whole cc0_stg9_0).view
def blockQ (L : List (View.Piece (Elt F) S512x2048 .bf16)) : Vec F S512x2048 .bf16 :=
  viewQ.read (Elt F) (viewQ.writes (Elt F) viewQ.junk L)

/-- A view of an output block, through which the pieces are read back, and the block that the pieces make. -/
abbrev viewV : View sig .tc .vmem S1152x512 .bf16 := (Memref.whole cc0_stg10_0).view
def blockV (L : List (View.Piece (Elt F) S1152x512 .bf16)) : Vec F S1152x512 .bf16 :=
  viewV.read (Elt F) (viewV.writes (Elt F) viewV.junk L)

/-- A view of an output block, through which the pieces are read back, and the block that the pieces make. -/
abbrev viewU : View sig .tc .vmem S512x1024 .f32 := (Memref.whole cc0_stg11_0).view
def blockU (L : List (View.Piece (Elt F) S512x1024 .f32)) : Vec F S512x1024 .f32 :=
  viewU.read (Elt F) (viewU.writes (Elt F) viewU.junk L)

/-- A view of an output block, through which the pieces are read back, and the block that the pieces make. -/
abbrev viewP : View sig .tc .vmem S512x1024 .bf16 := (Memref.whole cc0_stg12_0).view
def blockP (L : List (View.Piece (Elt F) S512x1024 .bf16)) : Vec F S512x1024 .bf16 :=
  viewP.read (Elt F) (viewP.writes (Elt F) viewP.junk L)

/-- A view of an output block, through which the pieces are read back, and the block that the pieces make. -/
abbrev viewD : View sig .tc .vmem S512x128 .f32 := (Memref.whole cc0_stg13_0).view
def blockD (L : List (View.Piece (Elt F) S512x128 .f32)) : Vec F S512x128 .f32 :=
  viewD.read (Elt F) (viewD.writes (Elt F) viewD.junk L)

variable (m : (ℓ : Loc nD τ sig) → Buf (Elt F) ℓ) (ρ : Dev nD → PrngReg)

/-- The blocks that grid point `t` leaves. -/
def qAt (c : Dev nD) (t : Fin cfg0.N) : Vec F S512x2048 .bf16 :=
  blockQ (piecesQ (iblk m c 0 t) (iblk m c 1 t) (iblk m c 2 t) (iblk m c 3 t))
def vAt (c : Dev nD) (t : Fin cfg0.N) : Vec F S1152x512 .bf16 :=
  blockV (piecesV (iblk m c 0 t) (iblk m c 1 t) (iblk m c 2 t) (iblk m c 3 t))
def uAt (c : Dev nD) (t : Fin cfg0.N) : Vec F S512x1024 .f32 :=
  blockU (piecesU (iblk m c 0 t) (iblk m c 1 t) (iblk m c 2 t) (iblk m c 3 t))

/-- The extended channels before point `n`: after the points before it, each over what the one before left. -/
def extAt (c : Dev nD) : ℕ → Vec F S528x1024 .f32
  | 0 => View.canon []
  | n + 1 => if h : n < cfg0.N then View.canon (piecesEnd (grid0.coords ⟨n, h⟩) (iblk m c 0 ⟨n, h⟩) (iblk m c 1 ⟨n, h⟩) (iblk m c 2 ⟨n, h⟩) (iblk m c 3 ⟨n, h⟩) (iblk m c 6 ⟨n, h⟩) (extAt c n)) else extAt c n

def pAt (c : Dev nD) (t : Fin cfg0.N) : Vec F S512x1024 .bf16 :=
  blockP (piecesP (grid0.coords t) (iblk m c 0 t) (iblk m c 1 t) (iblk m c 2 t) (iblk m c 3 t) (iblk m c 6 t) (iblk m c 7 t) (iblk m c 8 t) (extAt m c t.val))

theorem extAt_succ (c : Dev nD) (t : Fin cfg0.N) : extAt m c (t.val + 1)
    = View.canon (piecesEnd (grid0.coords t) (iblk m c 0 t) (iblk m c 1 t) (iblk m c 2 t) (iblk m c 3 t) (iblk m c 6 t) (extAt m c t.val)) := by
  rw [extAt, dif_pos t.isLt]

/-- The kept sums before point `n`: those of the last row of the point before it. -/
def carryAt (c : Dev nD) : ℕ → Vec F S1x128 .f32
  | 0 => View.canon []
  | n + 1 => if h : n < cfg0.N then View.canon (piecesC (grid0.coords ⟨n, h⟩) (iblk m c 0 ⟨n, h⟩) (iblk m c 1 ⟨n, h⟩) (iblk m c 2 ⟨n, h⟩) (iblk m c 3 ⟨n, h⟩) (iblk m c 4 ⟨n, h⟩) (carryAt c n)) else carryAt c n

def dAt (c : Dev nD) (t : Fin cfg0.N) : Vec F S512x128 .f32 :=
  blockD (piecesD (grid0.coords t) (iblk m c 0 t) (iblk m c 1 t) (iblk m c 2 t) (iblk m c 3 t) (iblk m c 4 t) (carryAt m c t.val))

theorem carryAt_succ (c : Dev nD) (t : Fin cfg0.N) : carryAt m c (t.val + 1)
    = View.canon (piecesC (grid0.coords t) (iblk m c 0 t) (iblk m c 1 t) (iblk m c 2 t) (iblk m c 3 t) (iblk m c 4 t) (carryAt m c t.val)) := by
  rw [carryAt, dif_pos t.isLt]

abbrev blk0 (t : Fin cfg0.N) : Memref sig .tc .vmem S512x2048 .f32 := win0_0.stage (cfg0.slots t 0)
abbrev blk1 (t : Fin cfg0.N) : Memref sig .tc .vmem S1x2048 .f32 := win0_1.stage (cfg0.slots t 1)
abbrev blk2 (t : Fin cfg0.N) : Memref sig .tc .vmem S1x2048 .f32 := win0_2.stage (cfg0.slots t 2)
abbrev blk3 (t : Fin cfg0.N) : Memref sig .tc .vmem S2048x4224 .bf16 := win0_3.stage (cfg0.slots t 3)
abbrev blk4 (t : Fin cfg0.N) : Memref sig .tc .vmem S1x128 .f32 := win0_4.stage (cfg0.slots t 4)
abbrev blk5 (t : Fin cfg0.N) : Memref sig .tc .vmem S384x1024 .bf16 := win0_5.stage (cfg0.slots t 5)
abbrev blk6 (t : Fin cfg0.N) : Memref sig .tc .vmem S16x1024 .f32 := win0_6.stage (cfg0.slots t 6)
abbrev blk7 (t : Fin cfg0.N) : Memref sig .tc .vmem S4x256x256 .bf16 := win0_7.stage (cfg0.slots t 7)
abbrev blk8 (t : Fin cfg0.N) : Memref sig .tc .vmem S1x1024 .f32 := win0_8.stage (cfg0.slots t 8)
abbrev blk9 (t : Fin cfg0.N) : Memref sig .tc .vmem S512x2048 .bf16 := win0_9.stage (cfg0.slots t 9)
abbrev blk10 (t : Fin cfg0.N) : Memref sig .tc .vmem S1152x512 .bf16 := win0_10.stage (cfg0.slots t 10)
abbrev blk11 (t : Fin cfg0.N) : Memref sig .tc .vmem S512x1024 .f32 := win0_11.stage (cfg0.slots t 11)
abbrev blk12 (t : Fin cfg0.N) : Memref sig .tc .vmem S512x1024 .bf16 := win0_12.stage (cfg0.slots t 12)
abbrev blk13 (t : Fin cfg0.N) : Memref sig .tc .vmem S512x128 .f32 := win0_13.stage (cfg0.slots t 13)
abbrev blk14 (t : Fin cfg0.N) : Memref sig .tc .vmem S512x1024 .bf16 := win0_14.stage (cfg0.slots t 14)

/-! ## The proof's data -/

/-- The running sum and the extended channels that a core keeps from point to point. -/
abbrev buf0 : Memref sig .tc .vmem S1x128 .f32 := Memref.whole cc0_scratch0
abbrev buf1 : Memref sig .tc .vmem S528x1024 .f32 := Memref.whole cc0_scratch1

/-- Between points a core keeps the sums and the extended channels that the points before left; before the first point they are at any contents. -/
def kept (c : Dev nD) (n : ℕ) : sProp 𝕄 :=
  iprop(iprop((∃ d, ⌜n = 0 ∨ d = carryAt m c n⌝ ∗ owns (c : Thread nD τ) buf0 fullShare d) ∗ (∃ e, ⌜n = 0 ∨ e = extAt m c n⌝ ∗ owns (c : Thread nD τ) buf1 fullShare e)) ∗ (∃ r, prngReg c r))

/-- At every point the inputs keep their blocks and five outputs take the point's; of the other output
    nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => qAt m c t
    | ⟨10, _⟩ => vAt m c t
    | ⟨11, _⟩ => uAt m c t
    | ⟨12, _⟩ => pAt m c t
    | ⟨13, _⟩ => dAt m c t
    | ⟨14, _⟩ => Pipeline.Dat.unnamed (cfg := cfg0) 14 t
    | ⟨_ + 15, h⟩ => absurd h (Nat.not_lt.2 (Nat.le_add_left _ _))
  Φ t := kept m c t.val
  q _ := fullShare
  owed _ := 0

/-- The output of which nothing is said. -/
def unsaid : Fin cfg0.W → Bool := ![false, false, false, false, false, false, false, false, false, false, false, false, false, false, true]

theorem A_eq (c : Dev nD) (w) : (dats m 0 c).A w = V m c (Pipeline.arrRef spec0 w) := by dsimp only [dats]
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (A_eq m c 6) (after6 m c) t d
theorem after7 (c : Dev nD) (t : Fin cfg0.N) : (dats m 0 c).after 7 t = iblk m c 7 t := by dsimp only [dats]
theorem before7 (c : Dev nD) (t : Fin cfg0.N) (d) : (dats m 0 c).before 7 t d = iblk m c 7 t :=
  before0_7_of m (dats m 0 c) (A_eq m c 7) (after7 m c) t d
theorem after8 (c : Dev nD) (t : Fin cfg0.N) : (dats m 0 c).after 8 t = iblk m c 8 t := by dsimp only [dats]
theorem before8 (c : Dev nD) (t : Fin cfg0.N) (d) : (dats m 0 c).before 8 t d = iblk m c 8 t :=
  before0_8_of m (dats m 0 c) (A_eq m c 8) (after8 m c) t d
theorem after9 (c : Dev nD) (t : Fin cfg0.N) : (dats m 0 c).after 9 t = qAt m c t := by dsimp only [dats]
theorem after10 (c : Dev nD) (t : Fin cfg0.N) : (dats m 0 c).after 10 t = vAt m c t := by dsimp only [dats]
theorem after11 (c : Dev nD) (t : Fin cfg0.N) : (dats m 0 c).after 11 t = uAt m c t := by dsimp only [dats]
theorem after12 (c : Dev nD) (t : Fin cfg0.N) : (dats m 0 c).after 12 t = pAt m c t := by dsimp only [dats]
theorem after13 (c : Dev nD) (t : Fin cfg0.N) : (dats m 0 c).after 13 t = dAt m c t := by dsimp only [dats]

/-- At the start and at the end the core holds them at some contents. -/
theorem held_eq (c : Dev nD) : (Pipeline.ΦA spec0 c : sProp 𝕄)
    = iprop(iprop((∃ d, owns (c : Thread nD τ) buf0 fullShare d) ∗ (∃ d, owns (c : Thread nD τ) buf1 fullShare d)) ∗ (∃ r, prngReg c r)) := by
  unfold Pipeline.ΦA
  rw [scopedRest0_eq]
  simp only [buf0, buf1, owns_whole]
  try rfl

/-- The pieces fill the block. -/
theorem coverQ (x0 : Vec F S512x2048 .f32) (x1 x2 : Vec F S1x2048 .f32) (x3 : Vec F S2048x4224 .bf16) (y : S512x2048.Idx) :
    ∃ p ∈ piecesQ x0 x1 x2 x3, y ∈ p.1.set :=
  View.cover_of_tiledL (piecesQ x0 x1 x2 x3) S512x512.size (by sl_kernel_rfl) y

/-- The pieces fill the block. -/
theorem coverV (x0 : Vec F S512x2048 .f32) (x1 x2 : Vec F S1x2048 .f32) (x3 : Vec F S2048x4224 .bf16) (y : S1152x512.Idx) :
    ∃ p ∈ piecesV x0 x1 x2 x3, y ∈ p.1.set :=
  View.cover_of_tiledBy (piecesV x0 x1 x2 x3) S16x512.size (by sl_kernel_rfl) y

/-- The pieces fill the block. -/
theorem coverU (x0 : Vec F S512x2048 .f32) (x1 x2 : Vec F S1x2048 .f32) (x3 : Vec F S2048x4224 .bf16) (y : S512x1024.Idx) :
    ∃ p ∈ piecesU x0 x1 x2 x3, y ∈ p.1.set :=
  View.cover_of_tiledL (piecesU x0 x1 x2 x3) S512x512.size (by sl_kernel_rfl) y

/-- The pieces fill the block. -/
theorem coverP (X : Vec F S528x1024 .f32) (x7 : Vec F S4x256x256 .bf16) (x8 : Vec F S1x1024 .f32) (y : S512x1024.Idx) :
    ∃ p ∈ mixPieces X x7 x8, y ∈ p.1.set :=
  View.cover_of_tiledL (mixPieces X x7 x8) S512x256.size (by sl_kernel_rfl) y

/-- The pieces fill the extended channels. -/
theorem coverEnd (i : grid0.Coords) (x0 : Vec F S512x2048 .f32) (x1 x2 : Vec F S1x2048 .f32) (x3 : Vec F S2048x4224 .bf16) (x6 : Vec F S16x1024 .f32)
    (e0 : Vec F S528x1024 .f32) (y : S528x1024.Idx) : ∃ p ∈ piecesEnd i x0 x1 x2 x3 x6 e0, y ∈ p.1.set :=
  View.cover_of_tiledBy (piecesEnd i x0 x1 x2 x3 x6 e0) ![16, 512] (by sl_kernel_rfl) y

/-- The piece fills the block. -/
theorem coverD (i : grid0.Coords) (x0 : Vec F S512x2048 .f32) (x1 x2 : Vec F S1x2048 .f32) (x3 : Vec F S2048x4224 .bf16) (x4 c0 : Vec F S1x128 .f32)
    (y : S512x128.Idx) : ∃ p ∈ piecesD i x0 x1 x2 x3 x4 c0, y ∈ p.1.set :=
  View.cover_of_tiledL (piecesD i x0 x1 x2 x3 x4 c0) S512x128.size (by sl_kernel_rfl) y

/-- The piece fills the kept sums. -/
theorem coverC (i : grid0.Coords) (x0 : Vec F S512x2048 .f32) (x1 x2 : Vec F S1x2048 .f32) (x3 : Vec F S2048x4224 .bf16) (x4 c0 : Vec F S1x128 .f32)
    (y : S1x128.Idx) : ∃ p ∈ piecesC i x0 x1 x2 x3 x4 c0, y ∈ p.1.set :=
  View.cover_of_tiledL (piecesC i x0 x1 x2 x3 x4 c0) S1x128.size (by sl_kernel_rfl) y

/-- The first rows of a sequence do not read what was kept. -/
theorem piecesE_fresh (i : grid0.Coords) (h : fresh i = 1#1) (x0 : Vec F S512x2048 .f32) (x1 x2 : Vec F S1x2048 .f32) (x3 : Vec F S2048x4224 .bf16)
    (x6 : Vec F S16x1024 .f32) (e e' : Vec F S528x1024 .f32) : piecesE i x0 x1 x2 x3 x6 e = piecesE i x0 x1 x2 x3 x6 e' := by
  unfold piecesE
  rw [h]
  rfl

theorem fresh_first : ∀ t : Fin cfg0.N, t.val = 0 → fresh (grid0.coords t) = 1#1 :=
  (by decide +kernel : ∀ t : Fin grid0.N, t.val = 0 → fresh (grid0.coords t) = 1#1)

/-- So at a point the kept channels may be taken as the points before left them. -/
theorem piecesE_kept (c : Dev nD) (t : Fin cfg0.N) (e : Vec F S528x1024 .f32) (h : t.val = 0 ∨ e = extAt m c t.val)
    (x0 : Vec F S512x2048 .f32) (x1 x2 : Vec F S1x2048 .f32) (x3 : Vec F S2048x4224 .bf16) (x6 : Vec F S16x1024 .f32) :
    piecesE (grid0.coords t) x0 x1 x2 x3 x6 e = piecesE (grid0.coords t) x0 x1 x2 x3 x6 (extAt m c t.val) := by
  rcases h with h | rfl
  · exact piecesE_fresh _ (fresh_first t h) _ _ _ _ _ _ _
  · rfl

/-- The first rows of a sequence do not add the kept sums. -/
theorem pay38_fresh (v : IVec S512x128 32) (g : FVec F S512x128 .f32) (n : BitVec 32) (d d' : Vec F S1x128 .f32) :
    k0_pay38 1#1 v g n d = k0_pay38 1#1 v g n d' := rfl

theorem piecesD_kept (c : Dev nD) (t : Fin cfg0.N) (d : Vec F S1x128 .f32) (h : t.val = 0 ∨ d = carryAt m c t.val)
    (x0 : Vec F S512x2048 .f32) (x1 x2 : Vec F S1x2048 .f32) (x3 : Vec F S2048x4224 .bf16) (x4 : Vec F S1x128 .f32) :
    piecesD (grid0.coords t) x0 x1 x2 x3 x4 d = piecesD (grid0.coords t) x0 x1 x2 x3 x4 (carryAt m c t.val) := by
  rcases h with h | rfl
  · unfold piecesD
    rw [fresh_first t h, pay38_fresh]
  · rfl

theorem piecesC_kept (c : Dev nD) (t : Fin cfg0.N) (d : Vec F S1x128 .f32) (h : t.val = 0 ∨ d = carryAt m c t.val)
    (x0 : Vec F S512x2048 .f32) (x1 x2 : Vec F S1x2048 .f32) (x3 : Vec F S2048x4224 .bf16) (x4 : Vec F S1x128 .f32) :
    piecesC (grid0.coords t) x0 x1 x2 x3 x4 d = piecesC (grid0.coords t) x0 x1 x2 x3 x4 (carryAt m c t.val) := by
  rcases h with h | rfl
  · unfold piecesC k0_pay39
    rw [fresh_first t h, pay38_fresh]
  · rfl

/-! ## One point -/

/-- What a point starts from. -/
def atStart (c : Dev nD) (t : Fin cfg0.N) : sProp 𝕄 :=
  iprop((dats m 0 c).Φ t.castSucc ∗ (dats m 0 c).owesAt () t.castSucc
    ∗ (∃ d, owns (c : Thread nD τ) (blk0 t) fullShare ((dats m 0 c).before 0 t d))
    ∗ (∃ d, owns (c : Thread nD τ) (blk1 t) fullShare ((dats m 0 c).before 1 t d))
    ∗ (∃ d, owns (c : Thread nD τ) (blk2 t) fullShare ((dats m 0 c).before 2 t d))
    ∗ (∃ d, owns (c : Thread nD τ) (blk3 t) fullShare ((dats m 0 c).before 3 t d))
    ∗ (∃ d, owns (c : Thread nD τ) (blk4 t) fullShare ((dats m 0 c).before 4 t d))
    ∗ (∃ d, owns (c : Thread nD τ) (blk5 t) fullShare ((dats m 0 c).before 5 t d))
    ∗ (∃ d, owns (c : Thread nD τ) (blk6 t) fullShare ((dats m 0 c).before 6 t d))
    ∗ (∃ d, owns (c : Thread nD τ) (blk7 t) fullShare ((dats m 0 c).before 7 t d))
    ∗ (∃ d, owns (c : Thread nD τ) (blk8 t) fullShare ((dats m 0 c).before 8 t d))
    ∗ (∃ d, owns (c : Thread nD τ) (blk9 t) fullShare ((dats m 0 c).before 9 t d))
    ∗ (∃ d, owns (c : Thread nD τ) (blk10 t) fullShare ((dats m 0 c).before 10 t d))
    ∗ (∃ d, owns (c : Thread nD τ) (blk11 t) fullShare ((dats m 0 c).before 11 t d))
    ∗ (∃ d, owns (c : Thread nD τ) (blk12 t) fullShare ((dats m 0 c).before 12 t d))
    ∗ (∃ d, owns (c : Thread nD τ) (blk13 t) fullShare ((dats m 0 c).before 13 t d))
    ∗ (∃ X, owns (c : Thread nD τ) (blk14 t) fullShare X))

/-- What a point ends with. -/
def atEnd (c : Dev nD) (t : Fin cfg0.N) : sProp 𝕄 :=
  iprop((dats m 0 c).Φ t.succ ∗ (dats m 0 c).owesAt () t.succ
    ∗ owns (c : Thread nD τ) (blk0 t) fullShare ((dats m 0 c).after 0 t)
    ∗ owns (c : Thread nD τ) (blk1 t) fullShare ((dats m 0 c).after 1 t)
    ∗ owns (c : Thread nD τ) (blk2 t) fullShare ((dats m 0 c).after 2 t)
    ∗ owns (c : Thread nD τ) (blk3 t) fullShare ((dats m 0 c).after 3 t)
    ∗ owns (c : Thread nD τ) (blk4 t) fullShare ((dats m 0 c).after 4 t)
    ∗ owns (c : Thread nD τ) (blk5 t) fullShare ((dats m 0 c).after 5 t)
    ∗ owns (c : Thread nD τ) (blk6 t) fullShare ((dats m 0 c).after 6 t)
    ∗ owns (c : Thread nD τ) (blk7 t) fullShare ((dats m 0 c).after 7 t)
    ∗ owns (c : Thread nD τ) (blk8 t) fullShare ((dats m 0 c).after 8 t)
    ∗ owns (c : Thread nD τ) (blk9 t) fullShare ((dats m 0 c).after 9 t)
    ∗ owns (c : Thread nD τ) (blk10 t) fullShare ((dats m 0 c).after 10 t)
    ∗ owns (c : Thread nD τ) (blk11 t) fullShare ((dats m 0 c).after 11 t)
    ∗ owns (c : Thread nD τ) (blk12 t) fullShare ((dats m 0 c).after 12 t)
    ∗ owns (c : Thread nD τ) (blk13 t) fullShare ((dats m 0 c).after 13 t)
    ∗ (∃ X, owns (c : Thread nD τ) (blk14 t) fullShare X))

set_option maxHeartbeats 1600000 in
/-- The body takes a point from its start to its end. -/
theorem point_run (c : Dev nD) (t : Fin cfg0.N) :
    atStart m c t ⊢ wp frame (wpE (defs₀ (F := F)) Variants.none c none) Set.univ (bodyAt0 t) (fun _ => atEnd m c t) := by
  unfold atStart atEnd bodyAt0
  simp only [before0, before1, before2, before3, before4, before5, before6, before7, before8]
  rw [show (dats m 0 c).Φ t.succ = kept m c (t.val + 1) from rfl, show (dats m 0 c).Φ t.castSucc = kept m c t.val from rfl,
    show (dats m 0 c).owesAt () t.succ = (dats m 0 c).owesAt () t.castSucc from rfl,
    after0, after1, after2, after3, after4, after5, after6, after7, after8, after9, after10, after11, after12, after13]
  unfold kept
  iintro ⟨⟨⟨⟨%d, %hd, HS0⟩, ⟨%e, %he, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14⟩
  iapply ((bodyRun c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) d e).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexact H14
  isplitl [HS0]; · iexact HS0
  isplitl [HS1]; · iexact HS1
  iintro ⟨H0, H1, H2, H3, H4, H5, H6, H7, H8, ⟨%e9, H9⟩, ⟨%e10, H10⟩, ⟨%e11, H11⟩, ⟨%e12, H12⟩, ⟨%e13, H13⟩, H14, HS0, HS1⟩
  isplitl [HS0 HS1 Hg]
  · isplitl [HS0 HS1]
    · isplitl [HS0]
      · iexists carryAt m c (t.val + 1)
        isplitr
        · ipureintro; exact Or.inr rfl
        unfold owns; iexists _; isplitr
        swap; · iexact HS0
        ipureintro
        rw [bodyRun_pieces, carryAt_succ]
        show View.read (Elt F) _ (View.writes _ (Elt F) _ (piecesC _ _ _ _ _ _ d)) = _
        rw [View.read_writes_eq_canon _ _ _ (coverC (F := F) _ _ _ _ _ _ d), piecesC_kept m c t d hd]
      iexists extAt m c (t.val + 1)
      isplitr
      · ipureintro; exact Or.inr rfl
      unfold owns; iexists _; isplitr
      swap; · iexact HS1
      ipureintro
      rw [bodyRun_pieces, extAt_succ]
      show View.read (Elt F) _ (View.writes _ (Elt F) _ (piecesEnd _ _ _ _ _ _ e)) = _
      rw [View.read_writes_eq_canon _ _ _ (coverEnd (F := F) _ _ _ _ _ _ e)]
      unfold piecesEnd
      rw [piecesE_kept m c t e he]
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro
    rw [bodyRun_pieces]
    unfold qAt blockQ
    exact View.read_writes_of_cover (blk9 t).view e9 viewQ _ _ (coverQ (F := F) _ _ _ _)
  isplitl [H10]
  · unfold owns; iexists _; isplitr
    swap; · iexact H10
    ipureintro
    rw [bodyRun_pieces]
    unfold vAt blockV
    exact View.read_writes_of_cover (blk10 t).view e10 viewV _ _ (coverV (F := F) _ _ _ _)
  isplitl [H11]
  · unfold owns; iexists _; isplitr
    swap; · iexact H11
    ipureintro
    rw [bodyRun_pieces]
    unfold uAt blockU
    exact View.read_writes_of_cover (blk11 t).view e11 viewU _ _ (coverU (F := F) _ _ _ _)
  isplitl [H12]
  · unfold owns; iexists _; isplitr
    swap; · iexact H12
    ipureintro
    rw [bodyRun_pieces]
    unfold pAt blockP piecesP
    rw [← piecesE_kept m c t e he]
    exact View.read_writes_of_cover (blk12 t).view e12 viewP _ _ (coverP (F := F) _ _ _)
  isplitl [H13]
  · unfold owns; iexists _; isplitr
    swap; · iexact H13
    ipureintro
    rw [bodyRun_pieces]
    unfold dAt blockD
    rw [← piecesD_kept m c t d hd]
    exact View.read_writes_of_cover (blk13 t).view e13 viewD _ _ (coverD (F := F) _ _ _ _ _ _ _)
  iexact H14

/-- The body table's row at a point is the body at the point's blocks. -/
theorem row_eq (t : Fin cfg0.N) :
    defs₀ (F := F) .tc cfg0.body (cfg0.bodyArgs t (cfg0.slots t)) = bodyAt0 t := by
  unfold defs₀; rw [Defs.onTc_tc]

/-- Every point's body meets the launch's obligation. -/
theorem points_run (c : Dev nD) : BodyObligation (dats (F := F) m 0 c) (defs₀ (F := F)) Variants.none () Set.univ unsaid := fun t => by
  rw [bigSep_W0, bigSep_W0, row_eq]
  exact triple_restated (point_run m c t) rfl .rfl fun _ => .rfl

/-- The first point may start from any contents. -/
theorem start_kept (c : Dev nD) : Pipeline.ΦA spec0 c ⊢ (dats m 0 c).Φ 0 := by
  rw [show (dats m 0 c).Φ 0 = kept m c 0 from rfl, held_eq]
  unfold kept
  iintro ⟨⟨⟨%d, H0⟩, ⟨%e, H1⟩⟩, Hg⟩
  isplitl [H0 H1]
  · isplitl [H0]
    · iexists d
      isplitr
      · ipureintro; exact Or.inl rfl
      iexact H0
    iexists e
    isplitr
    · ipureintro; exact Or.inl rfl
    iexact H1
  iexact Hg

/-- What the last point leaves is some contents. -/
theorem end_kept (c : Dev nD) : (dats m 0 c).Φ (Fin.last cfg0.N) ⊢ Pipeline.ΦA spec0 c := by
  rw [show (dats m 0 c).Φ (Fin.last cfg0.N) = kept m c cfg0.N from rfl, held_eq]
  unfold kept
  iintro ⟨⟨⟨%d, -, H0⟩, ⟨%e, -, H1⟩⟩, Hg⟩
  isplitl [H0 H1]
  · isplitl [H0]
    · iexists d
      iexact H0
    iexists e
    iexact H1
  iexact Hg

/-- The launch: the program ends with its arrays as the data says, of the unsaid output nothing. -/
theorem run_main : θ_run defs (onTc (τ := τ) (main (F := F))) (s₀ m ρ) (fun r => Pipeline.RDat.FramePost cfg0 (fun c => (dats m 0 c).toRForget unsaid) (V m) r ∧ r.2.sem = fun _ => 0) :=
  Pipeline.θ_run_frame_track_forget (Q' := _) cfgs (dats m) (0 : Fin 1) launch0 defs₀ Variants.none unsaid m ρ main (hbody := fun c => (points_run m c).loose) (hshare := fun c => (dats m 0 c).share_full fun _ => rfl) (howed := fun _ _ => rfl) (V := V m) (hmain := hmain m Variants.none) (hA := A_eq m) (hin := start_kept m) (hout := end_kept m)

variable {m} in
/-- An argument ends as it began. -/
theorem input_kept {r : PUnit × MemSt nD τ sig (Elt F)}
    (h : Pipeline.RDat.FramePost cfg0 (fun c => (dats m 0 c).toRForget unsaid) (V m) r) (c : Dev nD) (w : Fin cfg0.W)
    (hin : (cfg0.win w).isOut = false) :
    r.2.mem ((cfg0.spec w).arr.view.loc (c.tc : Thread nD τ)) = V m c (Pipeline.arrRef spec0 w) :=
  (h.arr_in c w hin).trans (A_eq m c w)

/-- The frame: the arguments end as they began and no semaphore's count is left. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ h => ⟨fun c => ⟨(input_kept h.1 c 0 rfl).trans (V_main_arg0 m c), (input_kept h.1 c 1 rfl).trans (V_main_arg1 m c), (input_kept h.1 c 2 rfl).trans (V_main_arg2 m c), (input_kept h.1 c 3 rfl).trans (V_main_arg3 m c), (input_kept h.1 c 4 rfl).trans (V_main_arg4 m c), (input_kept h.1 c 5 rfl).trans (V_main_arg5 m c), (input_kept h.1 c 6 rfl).trans (V_main_arg6 m c), (input_kept h.1 c 7 rfl).trans (V_main_arg7 m c), (input_kept h.1 c 8 rfl).trans (V_main_arg8 m c)⟩, h.2⟩) (run_main m ρ)

/-- The five output arrays end as the points' blocks leave them. -/
theorem outputs_run : θ_run defs (onTc (τ := τ) (main (F := F))) ⟨m, fun _ => 0, ρ⟩ (fun r => ∀ c : Dev nD,
      r.2.mem ((c.tc : Thread nD τ).loc main_v0_0) = (dats m 0 c).arrAt 9 cfg0.N
      ∧ r.2.mem ((c.tc : Thread nD τ).loc main_v0_1) = (dats m 0 c).arrAt 10 cfg0.N
      ∧ r.2.mem ((c.tc : Thread nD τ).loc main_v0_2) = (dats m 0 c).arrAt 11 cfg0.N
      ∧ r.2.mem ((c.tc : Thread nD τ).loc main_v0_3) = (dats m 0 c).arrAt 12 cfg0.N
      ∧ r.2.mem ((c.tc : Thread nD τ).loc main_v0_4) = (dats m 0 c).arrAt 13 cfg0.N) :=
  (θ_run defs _ _).mono (fun _ h c =>
    ⟨((dats m 0 c).toRForget_arrAt_iff (fgt := unsaid) (w := 9) rfl _ _).1 ((h.1 c).1 9),
      ((dats m 0 c).toRForget_arrAt_iff (fgt := unsaid) (w := 10) rfl _ _).1 ((h.1 c).1 10),
      ((dats m 0 c).toRForget_arrAt_iff (fgt := unsaid) (w := 11) rfl _ _).1 ((h.1 c).1 11),
      ((dats m 0 c).toRForget_arrAt_iff (fgt := unsaid) (w := 12) rfl _ _).1 ((h.1 c).1 12),
      ((dats m 0 c).toRForget_arrAt_iff (fgt := unsaid) (w := 13) rfl _ _).1 ((h.1 c).1 13)⟩) (run_main m ρ)

end Cert.Projections

end
-- ==== Proof.ProjEntry.lean ====
module

public import proofs.«01_k».proof.Proof.ProjLaunch
public import proofs.«01_k».proof.Proof.ProjNorm

/-! What one grid point's blocks hold, entry by entry: the products of the normed rows with the columns of weights. -/

@[expose] public section

set_option maxRecDepth 16384

noncomputable section

open Idealize.ShloMosaic Idealize.ShloMosaic.TcCoe

namespace Cert.Projections

open Cert.Kernel2Ideal Cert.Kernel2Ideal.Gen

section point
variable (x0 : Vec Ideal S512x2048 .f32) (x1 x2 : Vec Ideal S1x2048 .f32) (x3 : Vec Ideal S2048x4224 .bf16)

/-- Row `r`'s norm times column `c` of the weights. -/
def prod (r : Fin 512) (c : Fin 4224) : EReal :=
  ∑ k, norm (fun j => x0 (ix2 r j)) (fun j => x1 (ix2 0 j)) (fun j => x2 (ix2 0 j)) k * x3 (ix2 k c)

/-- The block of queries and keys. -/
def entryQ : Vec Ideal S512x2048 .bf16 := fun y =>
  if (y 1).val < 1024 then prod x0 x1 x2 x3 (y 0) ⟨(y 1).val, by have := (y 1).isLt; simp at this; omega⟩ * scale
  else prod x0 x1 x2 x3 (y 0) ⟨(y 1).val, by have := (y 1).isLt; simp at this; omega⟩

/-- The block of values: 128 rows of a head, a row of ones and 15 rows of zeros. -/
def entryV : Vec Ideal S1152x512 .bf16 := fun y =>
  if (y 0).val % 144 < 128 then
    prod x0 x1 x2 x3 (y 1) ⟨2048 + 128 * ((y 0).val / 144) + (y 0).val % 144 % 128, by have := (y 0).isLt; simp at this; omega⟩
  else if (y 0).val % 144 = 128 then 1 else 0

/-- The block of pooling channels. -/
def entryU : Vec Ideal S512x1024 .f32 := fun y =>
  prod x0 x1 x2 x3 (y 0) ⟨3072 + (y 1).val, by have := (y 1).isLt; simp at this; omega⟩

theorem cut_whole {n k : ℕ} {φ : EltTy} (X : Vec Ideal ⟨2, ![n, k]⟩ φ) (inb) :
    cut X (Rect.unit (s := ⟨2, ![n, k]⟩) ![0, 0] ![n, k] inb).toLoadRect = X := by
  funext y
  unfold cut
  congr 1
  funext a
  apply Fin.ext
  fin_cases a
  · simp
  · simp

theorem normed_apply (r : Fin 512) (k : Fin 2048) :
    normed (F := Ideal) x0 x1 x2 (ix2 r k) = norm (fun j => x0 (ix2 r j)) (fun j => x1 (ix2 0 j)) (fun j => x2 (ix2 0 j)) k := by
  unfold normed
  rw [cut_whole x0, cut_whole x1, cut_whole x2, pay2_apply]

/-- A product with columns that are cut out of the weights. -/
theorem prod_cut (r R : Fin 512) (o : ℕ) (inb) (c : Fin 512) (C : Fin 4224) (hR : R.val = r.val) (hC : C.val = o + c.val) :
    ∑ k, normed (F := Ideal) x0 x1 x2 (ix2 r k)
        * cut x3 (Rect.unit (s := S2048x4224) ![0, o] S2048x512.size inb).toLoadRect (ix2 k c)
      = prod x0 x1 x2 x3 R C := by
  obtain rfl : R = r := Fin.ext hR
  refine Finset.sum_congr rfl fun k _ => ?_
  rw [normed_apply]
  congr 1
  unfold cut
  congr 1
  funext a
  apply Fin.ext
  fin_cases a
  · simp
  · simp [hC]

theorem entryQ_low {y : S512x2048.Idx} (r : Fin 512) (C : Fin 4224) (hr : (y 0).val = r.val) (hC : (y 1).val = C.val)
    (h : C.val < 1024) : entryQ x0 x1 x2 x3 y = prod x0 x1 x2 x3 r C * scale := by
  unfold entryQ
  rw [if_pos (by omega)]
  congr 2
  · exact Fin.ext hr
  · exact Fin.ext hC

theorem entryQ_high {y : S512x2048.Idx} (r : Fin 512) (C : Fin 4224) (hr : (y 0).val = r.val) (hC : (y 1).val = C.val)
    (h : 1024 ≤ C.val) : entryQ x0 x1 x2 x3 y = prod x0 x1 x2 x3 r C := by
  unfold entryQ
  rw [if_neg (by omega)]
  congr 1
  · exact Fin.ext hr
  · exact Fin.ext hC

theorem entryV_head {y : S1152x512.Idx} (r : Fin 512) (h e : ℕ) (C : Fin 4224) (hr : (y 1).val = r.val)
    (he : (y 0).val = 144 * h + e) (h128 : e < 128) (hC : C.val = 2048 + 128 * h + e) :
    entryV x0 x1 x2 x3 y = prod x0 x1 x2 x3 r C := by
  unfold entryV
  rw [if_pos (by omega)]
  congr 1
  · exact Fin.ext hr
  · apply Fin.ext
    show 2048 + 128 * ((y 0).val / 144) + (y 0).val % 144 % 128 = C.val
    omega

theorem entryV_below {y : S1152x512.Idx} (h e : ℕ) (he : (y 0).val = 144 * h + 128 + e) (h16 : e < 16) :
    entryV x0 x1 x2 x3 y = if e = 0 then 1 else 0 := by
  unfold entryV
  rw [if_neg (by omega)]
  by_cases h0 : e = 0
  · rw [if_pos h0, if_pos (by omega)]
  · rw [if_neg h0, if_neg (by omega)]

theorem entryU_at {y : S512x1024.Idx} (r : Fin 512) (C : Fin 4224) (hr : (y 0).val = r.val) (hC : 3072 + (y 1).val = C.val) :
    entryU x0 x1 x2 x3 y = prod x0 x1 x2 x3 r C := by
  unfold entryU
  congr 1
  · exact Fin.ext hr
  · exact Fin.ext hC

set_option maxHeartbeats 1000000 in
/-- The pieces of queries and keys are parts of their block. -/
theorem piecesQ_of : View.PiecesOf (entryQ x0 x1 x2 x3) (piecesQ (F := Ideal) x0 x1 x2 x3) :=
  ⟨fun x => by
      obtain ⟨r, c, rfl⟩ : ∃ (r : Fin 512) (c : Fin 512), x = ix2 r c := ⟨x 0, x 1, eq_ix2 x⟩
      refine ((pay20_apply _ _ r c).trans
        (prod_cut x0 x1 x2 x3 r r 1536 _ c ⟨1536 + c.val, by omega⟩ rfl rfl)).trans
        (entryQ_high x0 x1 x2 x3 r _ ?_ ?_ (by show 1024 ≤ _ + c.val; omega)).symm
      · show 0 + 1 * r.val = r.val
        omega
      · show 1536 + 1 * c.val = 1536 + c.val
        omega,
    fun x => by
      obtain ⟨r, c, rfl⟩ : ∃ (r : Fin 512) (c : Fin 512), x = ix2 r c := ⟨x 0, x 1, eq_ix2 x⟩
      refine ((pay19_apply _ _ r c).trans
        (prod_cut x0 x1 x2 x3 r r 1024 _ c ⟨1024 + c.val, by omega⟩ rfl rfl)).trans
        (entryQ_high x0 x1 x2 x3 r _ ?_ ?_ (by show 1024 ≤ _ + c.val; omega)).symm
      · show 0 + 1 * r.val = r.val
        omega
      · show 1024 + 1 * c.val = 1024 + c.val
        omega,
    fun x => by
      obtain ⟨r, c, rfl⟩ : ∃ (r : Fin 512) (c : Fin 512), x = ix2 r c := ⟨x 0, x 1, eq_ix2 x⟩
      refine ((pay18_apply _ _ r c).trans
        (congrArg (· * scale) (prod_cut x0 x1 x2 x3 r r 512 _ c ⟨512 + c.val, by omega⟩ rfl rfl))).trans
        (entryQ_low x0 x1 x2 x3 r _ ?_ ?_ (by show _ + c.val < 1024; omega)).symm
      · show 0 + 1 * r.val = r.val
        omega
      · show 512 + 1 * c.val = 512 + c.val
        omega,
    fun x => by
      obtain ⟨r, c, rfl⟩ : ∃ (r : Fin 512) (c : Fin 512), x = ix2 r c := ⟨x 0, x 1, eq_ix2 x⟩
      refine ((pay17_apply _ _ r c).trans
        (congrArg (· * scale) (prod_cut x0 x1 x2 x3 r r 0 _ c ⟨0 + c.val, by omega⟩ rfl rfl))).trans
        (entryQ_low x0 x1 x2 x3 r _ ?_ ?_ (by show _ + c.val < 1024; omega)).symm
      · show 0 + 1 * r.val = r.val
        omega
      · show 0 + 1 * c.val = 0 + c.val
        omega, trivial⟩

theorem blockQ_eq : blockQ (piecesQ (F := Ideal) x0 x1 x2 x3) = entryQ x0 x1 x2 x3 := by
  funext y
  unfold blockQ
  exact View.read_writes_apply_of_pieces _ _ (entryQ x0 x1 x2 x3) _ (piecesQ_of x0 x1 x2 x3).mem y (coverQ x0 x1 x2 x3 y)

set_option maxHeartbeats 1000000 in
/-- The pieces of values are parts of their block. -/
theorem piecesV_of : View.PiecesOf (entryV x0 x1 x2 x3) (piecesV (F := Ideal) x0 x1 x2 x3) :=
  ⟨fun x => by
      obtain ⟨e, r, rfl⟩ : ∃ (e : Fin 16) (r : Fin 512), x = ix2 e r := ⟨x 0, x 1, eq_ix2 x⟩
      refine (pay22_apply e r).trans (entryV_below x0 x1 x2 x3 7 e.val ?_ e.isLt).symm
      show 1136 + 1 * e.val = 144 * 7 + 128 + e.val
      omega,
    fun x => by
      obtain ⟨e, r, rfl⟩ : ∃ (e : Fin 128) (r : Fin 512), x = ix2 e r := ⟨x 0, x 1, eq_ix2 x⟩
      refine ((pay32_apply _ _ r e).trans
        (prod_cut x0 x1 x2 x3 r r 2560 _ _ ⟨2560 + (384 + e.val), by omega⟩ rfl rfl)).trans
        (entryV_head x0 x1 x2 x3 r 7 e.val _ ?_ ?_ e.isLt ?_).symm
      · show 0 + 1 * r.val = r.val
        omega
      · show 1008 + 1 * e.val = 144 * 7 + e.val
        omega
      · show 2560 + (384 + e.val) = 2048 + 128 * 7 + e.val
        omega,
    fun x => by
      obtain ⟨e, r, rfl⟩ : ∃ (e : Fin 16) (r : Fin 512), x = ix2 e r := ⟨x 0, x 1, eq_ix2 x⟩
      refine (pay22_apply e r).trans (entryV_below x0 x1 x2 x3 6 e.val ?_ e.isLt).symm
      show 992 + 1 * e.val = 144 * 6 + 128 + e.val
      omega,
    fun x => by
      obtain ⟨e, r, rfl⟩ : ∃ (e : Fin 128) (r : Fin 512), x = ix2 e r := ⟨x 0, x 1, eq_ix2 x⟩
      refine ((pay31_apply _ _ r e).trans
        (prod_cut x0 x1 x2 x3 r r 2560 _ _ ⟨2560 + (256 + e.val), by omega⟩ rfl rfl)).trans
        (entryV_head x0 x1 x2 x3 r 6 e.val _ ?_ ?_ e.isLt ?_).symm
      · show 0 + 1 * r.val = r.val
        omega
      · show 864 + 1 * e.val = 144 * 6 + e.val
        omega
      · show 2560 + (256 + e.val) = 2048 + 128 * 6 + e.val
        omega,
    fun x => by
      obtain ⟨e, r, rfl⟩ : ∃ (e : Fin 16) (r : Fin 512), x = ix2 e r := ⟨x 0, x 1, eq_ix2 x⟩
      refine (pay22_apply e r).trans (entryV_below x0 x1 x2 x3 5 e.val ?_ e.isLt).symm
      show 848 + 1 * e.val = 144 * 5 + 128 + e.val
      omega,
    fun x => by
      obtain ⟨e, r, rfl⟩ : ∃ (e : Fin 128) (r : Fin 512), x = ix2 e r := ⟨x 0, x 1, eq_ix2 x⟩
      refine ((pay30_apply _ _ r e).trans
        (prod_cut x0 x1 x2 x3 r r 2560 _ _ ⟨2560 + (128 + e.val), by omega⟩ rfl rfl)).trans
        (entryV_head x0 x1 x2 x3 r 5 e.val _ ?_ ?_ e.isLt ?_).symm
      · show 0 + 1 * r.val = r.val
        omega
      · show 720 + 1 * e.val = 144 * 5 + e.val
        omega
      · show 2560 + (128 + e.val) = 2048 + 128 * 5 + e.val
        omega,
    fun x => by
      obtain ⟨e, r, rfl⟩ : ∃ (e : Fin 16) (r : Fin 512), x = ix2 e r := ⟨x 0, x 1, eq_ix2 x⟩
      refine (pay22_apply e r).trans (entryV_below x0 x1 x2 x3 4 e.val ?_ e.isLt).symm
      show 704 + 1 * e.val = 144 * 4 + 128 + e.val
      omega,
    fun x => by
      obtain ⟨e, r, rfl⟩ : ∃ (e : Fin 128) (r : Fin 512), x = ix2 e r := ⟨x 0, x 1, eq_ix2 x⟩
      refine ((pay29_apply _ _ r e).trans
        (prod_cut x0 x1 x2 x3 r r 2560 _ _ ⟨2560 + (0 + e.val), by omega⟩ rfl rfl)).trans
        (entryV_head x0 x1 x2 x3 r 4 e.val _ ?_ ?_ e.isLt ?_).symm
      · show 0 + 1 * r.val = r.val
        omega
      · show 576 + 1 * e.val = 144 * 4 + e.val
        omega
      · show 2560 + (0 + e.val) = 2048 + 128 * 4 + e.val
        omega,
    fun x => by
      obtain ⟨e, r, rfl⟩ : ∃ (e : Fin 16) (r : Fin 512), x = ix2 e r := ⟨x 0, x 1, eq_ix2 x⟩
      refine (pay22_apply e r).trans (entryV_below x0 x1 x2 x3 3 e.val ?_ e.isLt).symm
      show 560 + 1 * e.val = 144 * 3 + 128 + e.val
      omega,
    fun x => by
      obtain ⟨e, r, rfl⟩ : ∃ (e : Fin 128) (r : Fin 512), x = ix2 e r := ⟨x 0, x 1, eq_ix2 x⟩
      refine ((pay27_apply _ _ r e).trans
        (prod_cut x0 x1 x2 x3 r r 2048 _ _ ⟨2048 + (384 + e.val), by omega⟩ rfl rfl)).trans
        (entryV_head x0 x1 x2 x3 r 3 e.val _ ?_ ?_ e.isLt ?_).symm
      · show 0 + 1 * r.val = r.val
        omega
      · show 432 + 1 * e.val = 144 * 3 + e.val
        omega
      · show 2048 + (384 + e.val) = 2048 + 128 * 3 + e.val
        omega,
    fun x => by
      obtain ⟨e, r, rfl⟩ : ∃ (e : Fin 16) (r : Fin 512), x = ix2 e r := ⟨x 0, x 1, eq_ix2 x⟩
      refine (pay22_apply e r).trans (entryV_below x0 x1 x2 x3 2 e.val ?_ e.isLt).symm
      show 416 + 1 * e.val = 144 * 2 + 128 + e.val
      omega,
    fun x => by
      obtain ⟨e, r, rfl⟩ : ∃ (e : Fin 128) (r : Fin 512), x = ix2 e r := ⟨x 0, x 1, eq_ix2 x⟩
      refine ((pay26_apply _ _ r e).trans
        (prod_cut x0 x1 x2 x3 r r 2048 _ _ ⟨2048 + (256 + e.val), by omega⟩ rfl rfl)).trans
        (entryV_head x0 x1 x2 x3 r 2 e.val _ ?_ ?_ e.isLt ?_).symm
      · show 0 + 1 * r.val = r.val
        omega
      · show 288 + 1 * e.val = 144 * 2 + e.val
        omega
      · show 2048 + (256 + e.val) = 2048 + 128 * 2 + e.val
        omega,
    fun x => by
      obtain ⟨e, r, rfl⟩ : ∃ (e : Fin 16) (r : Fin 512), x = ix2 e r := ⟨x 0, x 1, eq_ix2 x⟩
      refine (pay22_apply e r).trans (entryV_below x0 x1 x2 x3 1 e.val ?_ e.isLt).symm
      show 272 + 1 * e.val = 144 * 1 + 128 + e.val
      omega,
    fun x => by
      obtain ⟨e, r, rfl⟩ : ∃ (e : Fin 128) (r : Fin 512), x = ix2 e r := ⟨x 0, x 1, eq_ix2 x⟩
      refine ((pay25_apply _ _ r e).trans
        (prod_cut x0 x1 x2 x3 r r 2048 _ _ ⟨2048 + (128 + e.val), by omega⟩ rfl rfl)).trans
        (entryV_head x0 x1 x2 x3 r 1 e.val _ ?_ ?_ e.isLt ?_).symm
      · show 0 + 1 * r.val = r.val
        omega
      · show 144 + 1 * e.val = 144 * 1 + e.val
        omega
      · show 2048 + (128 + e.val) = 2048 + 128 * 1 + e.val
        omega,
    fun x => by
      obtain ⟨e, r, rfl⟩ : ∃ (e : Fin 16) (r : Fin 512), x = ix2 e r := ⟨x 0, x 1, eq_ix2 x⟩
      refine (pay22_apply e r).trans (entryV_below x0 x1 x2 x3 0 e.val ?_ e.isLt).symm
      show 128 + 1 * e.val = 144 * 0 + 128 + e.val
      omega,
    fun x => by
      obtain ⟨e, r, rfl⟩ : ∃ (e : Fin 128) (r : Fin 512), x = ix2 e r := ⟨x 0, x 1, eq_ix2 x⟩
      refine ((pay24_apply _ _ r e).trans
        (prod_cut x0 x1 x2 x3 r r 2048 _ _ ⟨2048 + (0 + e.val), by omega⟩ rfl rfl)).trans
        (entryV_head x0 x1 x2 x3 r 0 e.val _ ?_ ?_ e.isLt ?_).symm
      · show 0 + 1 * r.val = r.val
        omega
      · show 0 + 1 * e.val = 144 * 0 + e.val
        omega
      · show 2048 + (0 + e.val) = 2048 + 128 * 0 + e.val
        omega, trivial⟩

theorem blockV_eq : blockV (piecesV (F := Ideal) x0 x1 x2 x3) = entryV x0 x1 x2 x3 := by
  funext y
  unfold blockV
  exact View.read_writes_apply_of_pieces _ _ (entryV x0 x1 x2 x3) _ (piecesV_of x0 x1 x2 x3).mem y (coverV x0 x1 x2 x3 y)

set_option maxHeartbeats 1000000 in
/-- The pieces of pooling channels are parts of their block. -/
theorem piecesU_of : View.PiecesOf (entryU x0 x1 x2 x3) (piecesU (F := Ideal) x0 x1 x2 x3) :=
  ⟨fun x => by
      obtain ⟨r, c, rfl⟩ : ∃ (r : Fin 512) (c : Fin 512), x = ix2 r c := ⟨x 0, x 1, eq_ix2 x⟩
      refine ((pay6_apply _ _ r c).trans
        (prod_cut x0 x1 x2 x3 r r 3584 _ c ⟨3584 + c.val, by omega⟩ rfl rfl)).trans
        (entryU_at x0 x1 x2 x3 r _ ?_ ?_).symm
      · show 0 + 1 * r.val = r.val
        omega
      · show 3072 + (512 + 1 * c.val) = 3584 + c.val
        omega,
    fun x => by
      obtain ⟨r, c, rfl⟩ : ∃ (r : Fin 512) (c : Fin 512), x = ix2 r c := ⟨x 0, x 1, eq_ix2 x⟩
      refine ((pay4_apply _ _ r c).trans
        (prod_cut x0 x1 x2 x3 r r 3072 _ c ⟨3072 + c.val, by omega⟩ rfl rfl)).trans
        (entryU_at x0 x1 x2 x3 r _ ?_ ?_).symm
      · show 0 + 1 * r.val = r.val
        omega
      · show 3072 + (0 + 1 * c.val) = 3072 + c.val
        omega, trivial⟩

theorem blockU_eq : blockU (piecesU (F := Ideal) x0 x1 x2 x3) = entryU x0 x1 x2 x3 := by
  funext y
  unfold blockU
  exact View.read_writes_apply_of_pieces _ _ (entryU x0 x1 x2 x3) _ (piecesU_of x0 x1 x2 x3).mem y (coverU x0 x1 x2 x3 y)

end point

end Cert.Projections

end
-- ==== Proof.ProjRef.lean ====
module

public import proofs.«01_k».proof.Proof.Gen.Reference2Ideal.Read
public import proofs.«01_k».proof.Proof.ProjNorm

/-! The reference's projections, entry by entry: a row's norm times a column of weights. -/

@[expose] public section

set_option maxRecDepth 16384

noncomputable section

namespace Cert.Projections.Ref

open Cert.Reference2Ideal Cert.Reference2Ideal.Gen Cert.Reference2Ideal.Read
open Idealize.ShloMosaic Idealize.ShloMosaic.TcCoe

variable (x0 : FVec Ideal S16384x2048 .f32) (x1 x2 : FVec Ideal S1x2048 .f32) (x3 : FVec Ideal S2048x4224 .bf16)

/-- Row `R`'s norm times column `C` of the weights. -/
def prod (R : Fin 16384) (C : Fin 4224) : EReal :=
  ∑ k, norm (fun j => x0 (ix2 R j)) (fun j => x1 (ix2 0 j)) (fun j => x2 (ix2 0 j)) k * x3 (ix2 k C)

/-- A row's sum is taken over its entries. -/
theorem sum_apply (R : Fin 16384) : val_main_v0 (F := Ideal) x0 (ix1 R) = ∑ k, x0 (ix2 R k) := by
  rw [val_main_v0_apply, val_main_cst_apply]
  show Ideal.ofBits .f32 0x00000000#32 + _ = _
  rw [show Ideal.ofBits .f32 0x00000000#32 = 0 by simp [Ideal.ofBits, Ideal.ieee], zero_add]
  refine Finset.sum_congr rfl fun k _ => congrArg x0 (funext fun a => Fin.ext ?_)
  fin_cases a <;> rfl

theorem mean_apply (R : Fin 16384) : val_main_v3 (F := Ideal) x0 (ix2 R 0) = mean fun j => x0 (ix2 R j) := by
  rw [val_main_v3_apply, val_main_v1_apply, val_main_v2_apply, val_main_cst_0_apply,
    show idx_main_v1 (ix2 R 0) = ix1 R by funext a; fin_cases a; rfl, sum_apply]
  rfl

theorem dev_apply (R : Fin 16384) (k : Fin 2048) :
    val_main_v5 (F := Ideal) x0 (ix2 R k) = dev (fun j => x0 (ix2 R j)) k := by
  rw [val_main_v5_apply, val_main_v4_apply, show idx_main_v4 (ix2 R k) = ix2 R 0 by funext a; fin_cases a <;> rfl, mean_apply]
  rfl

theorem dev_again_apply (R : Fin 16384) (k : Fin 2048) :
    val_main_v12 (F := Ideal) x0 (ix2 R k) = dev (fun j => x0 (ix2 R j)) k := by
  rw [val_main_v12_apply, val_main_v11_apply, show idx_main_v11 (ix2 R k) = ix2 R 0 by funext a; fin_cases a <;> rfl, mean_apply]
  rfl

theorem squares_apply (R : Fin 16384) : val_main_v7 (F := Ideal) x0 (ix1 R)
    = ∑ k, dev (fun j => x0 (ix2 R j)) k * dev (fun j => x0 (ix2 R j)) k := by
  rw [val_main_v7_apply, val_main_cst_1_apply]
  show Ideal.ofBits .f32 0x00000000#32 + _ = _
  rw [show Ideal.ofBits .f32 0x00000000#32 = 0 by simp [Ideal.ofBits, Ideal.ieee], zero_add]
  refine Finset.sum_congr rfl fun k _ => ?_
  rw [show idx_main_v7 (ix1 R) k = ix2 R k by funext a; fin_cases a <;> rfl, val_main_v6_apply, dev_apply]
  rfl

theorem root_apply (R : Fin 16384) : val_main_v15 (F := Ideal) x0 (ix2 R 0)
    = Ideal.rsqrt (mean (fun j => dev (fun j => x0 (ix2 R j)) j * dev (fun j => x0 (ix2 R j)) j)
        + Ideal.ofBits .f32 0x3727C5AC#32) := by
  rw [val_main_v15_apply, val_main_v14_apply, val_main_v13_apply, val_main_cst_3_apply, val_main_v10_apply, val_main_v9_apply,
    val_main_cst_2_apply, val_main_v8_apply, show idx_main_v8 (ix2 R 0) = ix1 R by funext a; fin_cases a; rfl, squares_apply]
  rfl

theorem norm_apply (R : Fin 16384) (k : Fin 2048) : val_main_v21 (F := Ideal) x0 x1 x2 (ix2 R k)
    = norm (fun j => x0 (ix2 R j)) (fun j => x1 (ix2 0 j)) (fun j => x2 (ix2 0 j)) k := by
  rw [val_main_v21_apply, val_main_v20_apply, val_main_v19_apply, val_main_v18_apply, val_main_v17_apply, val_main_v16_apply,
    dev_again_apply, show idx_main_v16 (ix2 R k) = ix2 R 0 by funext a; fin_cases a <;> rfl,
    show idx_main_v18 (ix2 R k) = ix2 0 k by funext a; fin_cases a <;> rfl,
    show idx_main_v20 (ix2 R k) = ix2 0 k by funext a; fin_cases a <;> rfl, root_apply]
  rfl

theorem prod_apply (R : Fin 16384) (C : Fin 4224) : val_main_v23 (F := Ideal) x0 x1 x2 x3 (ix2 R C) = prod x0 x1 x2 x3 R C := by
  rw [val_main_v23_apply]
  refine Finset.sum_congr rfl fun k _ => ?_
  rw [show lidx_main_v23 (ix2 R C) k = ix2 R k by funext a; fin_cases a <;> rfl,
    show ridx_main_v23 (ix2 R C) k = ix2 k C by funext a; fin_cases a <;> rfl, norm_apply, val_main_v22_apply]
  rfl

/-! ## The three results -/

theorem u_apply (R : Fin 16384) (C : Fin 1024) :
    val_main_v27 (F := Ideal) x0 x1 x2 x3 (ix2 R C) = prod x0 x1 x2 x3 R ⟨3072 + C.val, by omega⟩ := by
  rw [val_main_v27_apply, ← prod_apply]
  refine congrArg (val_main_v23 (F := Ideal) x0 x1 x2 x3) (funext fun a => Fin.ext ?_)
  fin_cases a <;> rfl

/-- The root of the head's width. -/
theorem root_128 (i : S_.Idx) : val_main_v28 (F := Ideal) i = ((Real.sqrt 128 : ℝ) : EReal) := by
  rw [val_main_v28_apply, val_main_cst_4_apply]
  show Ideal.sqrt (Ideal.ofBits .f32 0x43000000#32) = _
  rw [show Ideal.ofBits .f32 0x43000000#32 = ((128 : ℝ) : EReal) by simp [Ideal.ofBits, Ideal.ieee]; rw [← EReal.coe_mul]; norm_num]
  rw [Ideal.sqrt_coe, if_neg (by norm_num)]

/-- The natural logarithm of two. -/
theorem log_two (i : S_.Idx) : val_main_v31 (F := Ideal) i = ((Real.log 2 : ℝ) : EReal) := by
  rw [val_main_v31_apply, val_main_cst_5_apply]
  show Ideal.log (Ideal.ofBits .f32 0x40000000#32) = _
  rw [show Ideal.ofBits .f32 0x40000000#32 = ((2 : ℝ) : EReal) by simp [Ideal.ofBits, Ideal.ieee]; rw [← EReal.coe_mul]; norm_num]
  rw [Ideal.log_coe, if_neg (by norm_num)]

/-- A query: the two divisions are one factor. -/
theorem q_apply (R : Fin 16384) (C : Fin 1024) :
    val_main_v35 (F := Ideal) x0 x1 x2 x3 (ix2 R ⟨C.val, by omega⟩) = prod x0 x1 x2 x3 R ⟨C.val, by omega⟩ * scale := by
  rw [val_main_v35_apply]
  show val_main_v34 (F := Ideal) x0 x1 x2 x3 (ix2 R ⟨C.val, by omega⟩) = _
  unfold val_main_v34
  rw [concatenate_pair_apply_left (t := S16384x2048) (s₁ := S16384x1024) (s₂ := S16384x1024) 1 _ _ _ _ rfl (ix2 R C)
      (fun a => by fin_cases a <;> rfl),
    val_main_v33_apply, val_main_v30_apply, val_main_v32_apply, val_main_v29_apply, root_128, log_two, val_main_v24_apply,
    show idx_main_v24 (ix2 R C) = ix2 R ⟨C.val, by omega⟩ by funext a; fin_cases a <;> rfl, prod_apply]
  show Ideal.div (Ideal.div _ _) _ = _
  rw [Ideal.div_coe (Real.log_pos (by norm_num)).ne', Ideal.div_coe (Real.sqrt_pos.mpr (by norm_num)).ne', mul_assoc, ← EReal.coe_mul, one_div, one_div]

/-- A key. -/
theorem k_apply (R : Fin 16384) (C : Fin 1024) :
    val_main_v35 (F := Ideal) x0 x1 x2 x3 (ix2 R ⟨1024 + C.val, by omega⟩) = prod x0 x1 x2 x3 R ⟨1024 + C.val, by omega⟩ := by
  rw [val_main_v35_apply]
  show val_main_v34 (F := Ideal) x0 x1 x2 x3 (ix2 R ⟨1024 + C.val, by omega⟩) = _
  unfold val_main_v34
  rw [concatenate_pair_apply_right (t := S16384x2048) (s₁ := S16384x1024) (s₂ := S16384x1024) 1 _ _ _ _ rfl rfl (ix2 R C)
      (fun a ha => by fin_cases a <;> first | rfl | exact absurd rfl ha)
      (by show C.val + 1024 = 1024 + C.val; omega),
    val_main_v25_apply, ← prod_apply]
  refine congrArg (val_main_v23 (F := Ideal) x0 x1 x2 x3) (funext fun a => Fin.ext ?_)
  fin_cases a <;> rfl

/-- The index of the values' array: the sequence and the head, the row under the head, the position. -/
theorem split_idx (b : Fin 4) (h : Fin 8) (e : Fin 144) (j : Fin 4096) :
    idx_main_v46 (ix2 ⟨144 * (8 * b.val + h.val) + e.val, by omega⟩ j) = ix4 b h e j := by
  funext a
  apply Fin.ext
  fin_cases a
  · show ((144 * (8 * b.val + h.val) + e.val) * 4096 + j.val) / 4718592 = b.val
    omega
  · show ((144 * (8 * b.val + h.val) + e.val) * 4096 + j.val) / 589824 % 8 = h.val
    omega
  · show ((144 * (8 * b.val + h.val) + e.val) * 4096 + j.val) / 4096 % 144 = e.val
    omega
  · show ((144 * (8 * b.val + h.val) + e.val) * 4096 + j.val) % 4096 = j.val
    omega

/-- A value. -/
theorem v_apply (b : Fin 4) (h : Fin 8) (d : Fin 128) (j : Fin 4096) :
    val_main_v47 (F := Ideal) x0 x1 x2 x3 (ix2 ⟨144 * (8 * b.val + h.val) + d.val, by omega⟩ j)
      = prod x0 x1 x2 x3 ⟨4096 * b.val + j.val, by omega⟩ ⟨2048 + (128 * h.val + d.val), by omega⟩ := by
  rw [val_main_v47_apply]
  show val_main_v46 (F := Ideal) x0 x1 x2 x3 _ = _
  rw [val_main_v46_apply, split_idx b h ⟨d.val, by omega⟩ j]
  unfold val_main_v45
  rw [concatenate_pair_apply_left (t := S4x8x144x4096) (s₁ := S4x8x128x4096) (s₂ := S4x8x16x4096) 2 _ _ _ _ rfl (ix4 b h d j)
      (fun a => by fin_cases a <;> rfl),
    val_main_v37_apply, val_main_v36_apply, val_main_v26_apply, ← prod_apply]
  refine congrArg (val_main_v23 (F := Ideal) x0 x1 x2 x3) (funext fun a => Fin.ext ?_)
  fin_cases a
  · show (((b.val * 4096 + j.val) * 8 + h.val) * 128 + d.val) / 1024 = 4096 * b.val + j.val
    omega
  · show 2048 + (((b.val * 4096 + j.val) * 8 + h.val) * 128 + d.val) % 1024 = 2048 + (128 * h.val + d.val)
    omega

theorem mark_apply (e : Fin 16) : val_main_v41 (F := Ideal) (ix1 e) = if e.val = 0 then (1 : EReal) else 0 := by
  rw [val_main_v41_apply, val_main_v40_apply, val_main_v38_apply, val_main_v39_apply, val_main_c_apply, val_main_call0_v0_apply,
    val_main_call0_v1_apply, val_main_cst_6_apply, val_main_cst_7_apply]
  show Scalar.select (IntOp.cmpi .eq (BitVec.ofNat 32 e.val) 0#32) (Ideal.ofBits .f32 0x3F800000#32) (Ideal.ofBits .f32 0x00000000#32) = _
  rw [show Ideal.ofBits .f32 0x00000000#32 = 0 by simp [Ideal.ofBits, Ideal.ieee],
    show Ideal.ofBits .f32 0x3F800000#32 = 1 by simp [Ideal.ofBits, Ideal.ieee]; try (rw [← EReal.coe_mul]; norm_num)]
  fin_cases e <;> rfl

/-- A row below the values: ones, then zeros. -/
theorem below_apply (b : Fin 4) (h : Fin 8) (e : Fin 16) (j : Fin 4096) :
    val_main_v47 (F := Ideal) x0 x1 x2 x3 (ix2 ⟨144 * (8 * b.val + h.val) + (128 + e.val), by omega⟩ j)
      = if e.val = 0 then (1 : EReal) else 0 := by
  rw [val_main_v47_apply]
  show val_main_v46 (F := Ideal) x0 x1 x2 x3 _ = _
  rw [val_main_v46_apply, split_idx b h ⟨128 + e.val, by omega⟩ j]
  unfold val_main_v45
  rw [concatenate_pair_apply_right (t := S4x8x144x4096) (s₁ := S4x8x128x4096) (s₂ := S4x8x16x4096) 2 _ _ _ _ rfl rfl (ix4 b h e j)
      (fun a ha => by fin_cases a <;> first | rfl | exact absurd rfl ha)
      (by show e.val + 128 = 128 + e.val; omega),
    val_main_v44_apply, val_main_v43_apply, val_main_v42_apply, ← mark_apply]
  refine congrArg (val_main_v41 (F := Ideal)) (funext fun a => Fin.ext ?_)
  fin_cases a
  rfl

end Cert.Projections.Ref

end
-- ==== Proof.ProjArray.lean ====
module

public import proofs.«01_k».proof.Proof.ProjEntry
public import proofs.«01_k».proof.Proof.ProjRef
public import Idealize.ShloMosaic.Lib.Pipeline.ValueKit

/-! The projections' output arrays: block by block the reference's entries. -/

@[expose] public section

set_option maxRecDepth 16384

noncomputable section

namespace Cert.Projections

open Cert.Kernel2Ideal Cert.Kernel2Ideal.Gen
open Idealize.ShloMosaic Idealize.ShloMosaic.TcCoe

/-- The grid's coordinate: the block of rows. -/
abbrev gr (t : Fin cfg0.N) : ℕ := (grid0.coords t 0).val

theorem grid_lt : ∀ t : Fin cfg0.N, gr t < 32 := (by decide +kernel : ∀ t : Fin grid0.N, _)

theorem idx0 : ∀ t : Fin cfg0.N, win0_0.index t = ![gr t, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx9 : ∀ t : Fin cfg0.N, win0_9.index t = ![gr t, 0] := (by decide +kernel : ∀ t : Fin grid0.N, _)
theorem idx10 : ∀ t : Fin cfg0.N, win0_10.index t = ![gr t / 8, gr t % 8] := (by decide +kernel : ∀ t : Fin grid0.N, _)
theorem idx11 : ∀ t : Fin cfg0.N, win0_11.index t = ![gr t, 0] := (by decide +kernel : ∀ t : Fin grid0.N, _)

variable (m : (ℓ : Loc nD τ sig) → Buf (Elt Ideal) ℓ)

/-- The arguments: the tokens, the norm's gain and bias, the weights. -/
abbrev a0 (c : Dev nD) : FVec Ideal S16384x2048 .f32 := m ((c.tc : Thread nD τ).loc main_arg0)
abbrev a1 (c : Dev nD) : FVec Ideal S1x2048 .f32 := m ((c.tc : Thread nD τ).loc main_arg1)
abbrev a2 (c : Dev nD) : FVec Ideal S1x2048 .f32 := m ((c.tc : Thread nD τ).loc main_arg2)
abbrev a3 (c : Dev nD) : FVec Ideal S2048x4224 .bf16 := m ((c.tc : Thread nD τ).loc main_arg3)

theorem blk_x (c : Dev nD) (t : Fin cfg0.N) (r : Fin 512) (k : Fin 2048) :
    iblk (F := Ideal) m c 0 t (ix2 r k) = a0 m c (ix2 ⟨512 * gr t + r.val, by have := grid_lt t; omega⟩ k) := by
  blk_simp [iblk, V]
  refine congrArg (a0 m c) ?_
  blk_ext [idx0 t]

theorem blk_g (c : Dev nD) (t : Fin cfg0.N) (k : Fin 2048) : iblk (F := Ideal) m c 1 t (ix2 0 k) = a1 m c (ix2 0 k) := by
  blk_simp [iblk, V]
  refine congrArg (a1 m c) ?_
  blk_ext [idx1 t]

theorem blk_b (c : Dev nD) (t : Fin cfg0.N) (k : Fin 2048) : iblk (F := Ideal) m c 2 t (ix2 0 k) = a2 m c (ix2 0 k) := by
  blk_simp [iblk, V]
  refine congrArg (a2 m c) ?_
  blk_ext [idx2 t]

theorem blk_w (c : Dev nD) (t : Fin cfg0.N) (k : Fin 2048) (C : Fin 4224) :
    iblk (F := Ideal) m c 3 t (ix2 k C) = a3 m c (ix2 k C) := by
  blk_simp [iblk, V]
  refine congrArg (a3 m c) ?_
  blk_ext [idx3 t]

/-- A block's product is the reference's. -/
theorem prod_eq (c : Dev nD) (t : Fin cfg0.N) (r : Fin 512) (C : Fin 4224) :
    prod (iblk m c 0 t) (iblk m c 1 t) (iblk m c 2 t) (iblk m c 3 t) r C
      = Ref.prod (a0 m c) (a1 m c) (a2 m c) (a3 m c) ⟨512 * gr t + r.val, by have := grid_lt t; omega⟩ C := by
  unfold prod Ref.prod
  simp only [blk_x, blk_g, blk_b, blk_w]

/-- The reference's results of the same arguments. -/
def resultQ (c : Dev nD) : FVec Ideal S16384x2048 .bf16 :=
  Reference2Ideal.Read.val_main_v35 (F := Ideal) (a0 m c) (a1 m c) (a2 m c) (a3 m c)
def resultV (c : Dev nD) : FVec Ideal S4608x4096 .bf16 :=
  Reference2Ideal.Read.val_main_v47 (F := Ideal) (a0 m c) (a1 m c) (a2 m c) (a3 m c)
def resultU (c : Dev nD) : FVec Ideal S16384x1024 .f32 :=
  Reference2Ideal.Read.val_main_v27 (F := Ideal) (a0 m c) (a1 m c) (a2 m c) (a3 m c)

theorem qAt_entry (c : Dev nD) (t : Fin cfg0.N) (r : Fin 512) (C : Fin 2048) : qAt (F := Ideal) m c t (ix2 r C)
    = resultQ m c (ix2 ⟨512 * gr t + r.val, by have := grid_lt t; omega⟩ C) := by
  have hg := grid_lt t
  unfold qAt
  rw [blockQ_eq]
  by_cases h : C.val < 1024
  · refine (entryQ_low _ _ _ _ r ⟨C.val, by omega⟩ rfl rfl h).trans ?_
    rw [prod_eq]
    exact (Ref.q_apply _ _ _ _ ⟨512 * gr t + r.val, by omega⟩ ⟨C.val, h⟩).symm
  · refine (entryQ_high _ _ _ _ r ⟨C.val, by omega⟩ rfl rfl (by show 1024 ≤ C.val; omega)).trans ?_
    rw [prod_eq]
    have e := Ref.k_apply (a0 m c) (a1 m c) (a2 m c) (a3 m c) ⟨512 * gr t + r.val, by omega⟩ ⟨C.val - 1024, by omega⟩
    have hC : 1024 + (C.val - 1024) = C.val := by omega
    simp only [hC] at e
    exact e.symm

theorem uAt_entry (c : Dev nD) (t : Fin cfg0.N) (r : Fin 512) (C : Fin 1024) : uAt (F := Ideal) m c t (ix2 r C)
    = resultU m c (ix2 ⟨512 * gr t + r.val, by have := grid_lt t; omega⟩ C) := by
  have hg := grid_lt t
  unfold uAt
  rw [blockU_eq]
  refine (entryU_at _ _ _ _ r ⟨3072 + C.val, by omega⟩ rfl rfl).trans ?_
  rw [prod_eq]
  exact (Ref.u_apply _ _ _ _ ⟨512 * gr t + r.val, by omega⟩ C).symm

theorem vAt_entry (c : Dev nD) (t : Fin cfg0.N) (y : Fin 1152) (r : Fin 512) : vAt (F := Ideal) m c t (ix2 y r)
    = resultV m c (ix2 ⟨1152 * (gr t / 8) + y.val, by have := grid_lt t; omega⟩ ⟨512 * (gr t % 8) + r.val, by omega⟩) := by
  have hg := grid_lt t
  have hy := y.isLt
  unfold vAt
  rw [blockV_eq]
  by_cases h : y.val % 144 < 128
  · refine (entryV_head _ _ _ _ r (y.val / 144) (y.val % 144) ⟨2048 + 128 * (y.val / 144) + y.val % 144, by omega⟩ rfl
      (by show y.val = 144 * (y.val / 144) + y.val % 144; omega) h rfl).trans ?_
    rw [prod_eq]
    have e := Ref.v_apply (a0 m c) (a1 m c) (a2 m c) (a3 m c) ⟨gr t / 8, by omega⟩ ⟨y.val / 144, by omega⟩ ⟨y.val % 144, h⟩
      ⟨512 * (gr t % 8) + r.val, by omega⟩
    have h1 : 144 * (8 * (gr t / 8) + y.val / 144) + y.val % 144 = 1152 * (gr t / 8) + y.val := by omega
    have h2 : 4096 * (gr t / 8) + (512 * (gr t % 8) + r.val) = 512 * gr t + r.val := by omega
    have h3 : 2048 + (128 * (y.val / 144) + y.val % 144) = 2048 + 128 * (y.val / 144) + y.val % 144 := by omega
    simp only [h1, h2, h3] at e
    exact e.symm
  · refine (entryV_below _ _ _ _ (y.val / 144) (y.val % 144 - 128)
      (by show y.val = 144 * (y.val / 144) + 128 + (y.val % 144 - 128); omega) (by omega)).trans ?_
    have e := Ref.below_apply (a0 m c) (a1 m c) (a2 m c) (a3 m c) ⟨gr t / 8, by omega⟩ ⟨y.val / 144, by omega⟩
      ⟨y.val % 144 - 128, by omega⟩ ⟨512 * (gr t % 8) + r.val, by omega⟩
    have h1 : 144 * (8 * (gr t / 8) + y.val / 144) + (128 + (y.val % 144 - 128)) = 1152 * (gr t / 8) + y.val := by omega
    simp only [h1] at e
    exact e.symm

/-! ## The arrays -/

theorem arrayQ_eq (c : Dev nD) : (dats m 0 c).arrAt 9 cfg0.N = resultQ m c := by
  refine (dats m 0 c).arrAt_eq_of_covers 9 _ (by decide +kernel) fun t hf y => ?_
  blk_simp
  rw [after9]
  have e : y = ix2 (y 0) (y 1) := by funext a; fin_cases a <;> rfl
  rw [e]
  refine (qAt_entry m c t (y 0) (y 1)).trans ?_
  refine congrArg (resultQ m c) ?_
  blk_ext [idx9 t]

theorem arrayV_eq (c : Dev nD) : (dats m 0 c).arrAt 10 cfg0.N = resultV m c := by
  refine (dats m 0 c).arrAt_eq_of_covers 10 _ (by decide +kernel) fun t hf y => ?_
  blk_simp
  rw [after10]
  have e : y = ix2 (y 0) (y 1) := by funext a; fin_cases a <;> rfl
  rw [e]
  refine (vAt_entry m c t (y 0) (y 1)).trans ?_
  refine congrArg (resultV m c) ?_
  blk_ext [idx10 t]

theorem arrayU_eq (c : Dev nD) : (dats m 0 c).arrAt 11 cfg0.N = resultU m c := by
  refine (dats m 0 c).arrAt_eq_of_covers 11 _ (by decide +kernel) fun t hf y => ?_
  blk_simp
  rw [after11]
  have e : y = ix2 (y 0) (y 1) := by funext a; fin_cases a <;> rfl
  rw [e]
  refine (uAt_entry m c t (y 0) (y 1)).trans ?_
  refine congrArg (resultU m c) ?_
  blk_ext [idx11 t]

end Cert.Projections

end
-- ==== Proof.ProjPoolNorm.lean ====
module

public import proofs.«01_k».proof.Proof.ProjNorm

/-! What the pooling's vector expressions hold at an index, over the extended reals: the mean of a row with those before it,
    less the row, times a column of the group's weights, times a factor. -/

@[expose] public section

set_option maxRecDepth 16384

noncomputable section

open Idealize.ShloMosaic Idealize.ShloMosaic.TcCoe

namespace Cert.Projections

open Cert.Kernel2Ideal Cert.Kernel2Ideal.Gen

/-- The sum of the first `n + 1` terms, from the left. -/
def chain (f : ℕ → EReal) : ℕ → EReal
  | 0 => f 0
  | n + 1 => chain f n + f (n + 1)

/-- A group's mixture: of `n + 1` rows their sum times `q`, less the first, times a column of weights, times a factor. -/
def mixAt (n : ℕ) (q : EReal) (row : ℕ → Fin 256 → EReal) (pw : Fin 256 → EReal) (s : EReal) : EReal :=
  (∑ d, (chain (fun j => row j d) n * q - row 0 d) * pw d) * s

/-- The four groups' mixtures: of two, four, eight and sixteen rows. -/
def pool (g : ℕ) (row : ℕ → Fin 256 → EReal) (pw : Fin 256 → EReal) (s : EReal) : EReal :=
  match g with
  | 0 => mixAt 1 (Ideal.ofBits .f32 0x3F000000#32) row pw s
  | 1 => mixAt 3 (Ideal.ofBits .f32 0x3E800000#32) row pw s
  | 2 => mixAt 7 (Ideal.ofBits .f32 0x3E000000#32) row pw s
  | _ => mixAt 15 (Ideal.ofBits .f32 0x3D800000#32) row pw s

section dots
variable (h : FVec Ideal S512x2048 .bf16) (w : FVec Ideal S2048x512 .bf16) (r c : Fin 512)

theorem pay5_apply : k0_pay5 (F := Ideal) h w (ix2 r c) = ∑ k, h (ix2 r k) * w (ix2 k c) := by
  pointwise [k0_pay5, k0_pay4]

theorem pay7_apply : k0_pay7 (F := Ideal) h w (ix2 r c) = ∑ k, h (ix2 r k) * w (ix2 k c) := by
  pointwise [k0_pay7, k0_pay6]

end dots

theorem pay3_apply (b : BitVec 1) (x e : FVec Ideal S16x1024 .f32) (r : Fin 16) (c : Fin 1024) :
    k0_pay3 (F := Ideal) b x e (ix2 r c) = if b = 1#1 then x (ix2 r c) else e (ix2 r c) := by
  have hb : k0_pay3 (F := Ideal) b x e = if b = 1#1 then x else e := by
    unfold k0_pay3
    simp only [shapeCast_self]
    rfl
  rw [hb]
  split <;> rfl

theorem pay16_apply (x : FVec Ideal S16x1024 .f32) : k0_pay16 (F := Ideal) x = x := by
  unfold k0_pay16
  simp only [shapeCast_self]

theorem pool0_apply (v0 v1 : FVec Ideal S512x256 .f32) (w : FVec Ideal S1x256x256 .bf16) (p : FVec Ideal S1x256 .f32)
    (r : Fin 512) (c : Fin 256) (f : ℕ → Fin 256 → EReal) (h0 : ∀ d, v0 (ix2 r d) = f 0 d) (h1 : ∀ d, v1 (ix2 r d) = f 1 d) :
    k0_pay10 (F := Ideal) (k0_pay8 v0 v1 w) (k0_pay9 p) (ix2 r c)
      = pool 0 f (fun d => w (ix3 0 d c)) (p (ix2 0 c)) := by
  have e : k0_pay10 (F := Ideal) (k0_pay8 v0 v1 w) (k0_pay9 p) (ix2 r c)
      = (∑ d, ((v0 (ix2 r d) + v1 (ix2 r d)) * Ideal.ofBits .f32 0x3F000000#32 - v0 (ix2 r d)) * w (ix3 0 d c)) * p (ix2 0 c) := by
    pointwise [k0_pay10, k0_pay8, k0_pay9]
  rw [e]
  simp only [h0, h1]
  rfl

theorem pool1_apply (v0 v1 v2 v3 : FVec Ideal S512x256 .f32) (w : FVec Ideal S1x256x256 .bf16) (p : FVec Ideal S1x256 .f32)
    (r : Fin 512) (c : Fin 256) (f : ℕ → Fin 256 → EReal) (h0 : ∀ d, v0 (ix2 r d) = f 0 d) (h1 : ∀ d, v1 (ix2 r d) = f 1 d) (h2 : ∀ d, v2 (ix2 r d) = f 2 d) (h3 : ∀ d, v3 (ix2 r d) = f 3 d) :
    k0_pay11 (F := Ideal) v0 v1 v2 v3 w p (ix2 r c)
      = pool 1 f (fun d => w (ix3 0 d c)) (p (ix2 0 c)) := by
  have e : k0_pay11 (F := Ideal) v0 v1 v2 v3 w p (ix2 r c)
      = (∑ d, ((((v0 (ix2 r d) + v1 (ix2 r d)) + v2 (ix2 r d)) + v3 (ix2 r d)) * Ideal.ofBits .f32 0x3E800000#32 - v0 (ix2 r d)) * w (ix3 0 d c)) * p (ix2 0 c) := by
    pointwise [k0_pay11]
  rw [e]
  simp only [h0, h1, h2, h3]
  rfl

theorem pool2_apply (v0 v1 v2 v3 v4 v5 v6 v7 : FVec Ideal S512x256 .f32) (w : FVec Ideal S1x256x256 .bf16) (p : FVec Ideal S1x256 .f32)
    (r : Fin 512) (c : Fin 256) (f : ℕ → Fin 256 → EReal) (h0 : ∀ d, v0 (ix2 r d) = f 0 d) (h1 : ∀ d, v1 (ix2 r d) = f 1 d) (h2 : ∀ d, v2 (ix2 r d) = f 2 d) (h3 : ∀ d, v3 (ix2 r d) = f 3 d) (h4 : ∀ d, v4 (ix2 r d) = f 4 d) (h5 : ∀ d, v5 (ix2 r d) = f 5 d) (h6 : ∀ d, v6 (ix2 r d) = f 6 d) (h7 : ∀ d, v7 (ix2 r d) = f 7 d) :
    k0_pay13 (F := Ideal) v0 (k0_pay12 v0 v1 v2 v3) v4 v5 v6 v7 w p (ix2 r c)
      = pool 2 f (fun d => w (ix3 0 d c)) (p (ix2 0 c)) := by
  have e : k0_pay13 (F := Ideal) v0 (k0_pay12 v0 v1 v2 v3) v4 v5 v6 v7 w p (ix2 r c)
      = (∑ d, ((((((((v0 (ix2 r d) + v1 (ix2 r d)) + v2 (ix2 r d)) + v3 (ix2 r d)) + v4 (ix2 r d)) + v5 (ix2 r d)) + v6 (ix2 r d)) + v7 (ix2 r d)) * Ideal.ofBits .f32 0x3E000000#32 - v0 (ix2 r d)) * w (ix3 0 d c)) * p (ix2 0 c) := by
    pointwise [k0_pay13, k0_pay12]
  rw [e]
  simp only [h0, h1, h2, h3, h4, h5, h6, h7]
  rfl

theorem pool3_apply (v0 v1 v2 v3 v4 v5 v6 v7 v8 v9 v10 v11 v12 v13 v14 v15 : FVec Ideal S512x256 .f32) (w : FVec Ideal S1x256x256 .bf16) (p : FVec Ideal S1x256 .f32)
    (r : Fin 512) (c : Fin 256) (f : ℕ → Fin 256 → EReal) (h0 : ∀ d, v0 (ix2 r d) = f 0 d) (h1 : ∀ d, v1 (ix2 r d) = f 1 d) (h2 : ∀ d, v2 (ix2 r d) = f 2 d) (h3 : ∀ d, v3 (ix2 r d) = f 3 d) (h4 : ∀ d, v4 (ix2 r d) = f 4 d) (h5 : ∀ d, v5 (ix2 r d) = f 5 d) (h6 : ∀ d, v6 (ix2 r d) = f 6 d) (h7 : ∀ d, v7 (ix2 r d) = f 7 d) (h8 : ∀ d, v8 (ix2 r d) = f 8 d) (h9 : ∀ d, v9 (ix2 r d) = f 9 d) (h10 : ∀ d, v10 (ix2 r d) = f 10 d) (h11 : ∀ d, v11 (ix2 r d) = f 11 d) (h12 : ∀ d, v12 (ix2 r d) = f 12 d) (h13 : ∀ d, v13 (ix2 r d) = f 13 d) (h14 : ∀ d, v14 (ix2 r d) = f 14 d) (h15 : ∀ d, v15 (ix2 r d) = f 15 d) :
    k0_pay15 (F := Ideal) v0 (k0_pay14 v0 v1 v2 v3 v4 v5) v6 v7 v8 v9 v10 v11 v12 v13 v14 v15 w p (ix2 r c)
      = pool 3 f (fun d => w (ix3 0 d c)) (p (ix2 0 c)) := by
  have e : k0_pay15 (F := Ideal) v0 (k0_pay14 v0 v1 v2 v3 v4 v5) v6 v7 v8 v9 v10 v11 v12 v13 v14 v15 w p (ix2 r c)
      = (∑ d, ((((((((((((((((v0 (ix2 r d) + v1 (ix2 r d)) + v2 (ix2 r d)) + v3 (ix2 r d)) + v4 (ix2 r d)) + v5 (ix2 r d)) + v6 (ix2 r d)) + v7 (ix2 r d)) + v8 (ix2 r d)) + v9 (ix2 r d)) + v10 (ix2 r d)) + v11 (ix2 r d)) + v12 (ix2 r d)) + v13 (ix2 r d)) + v14 (ix2 r d)) + v15 (ix2 r d)) * Ideal.ofBits .f32 0x3D800000#32 - v0 (ix2 r d)) * w (ix3 0 d c)) * p (ix2 0 c) := by
    pointwise [k0_pay15, k0_pay14]
  rw [e]
  simp only [h0, h1, h2, h3, h4, h5, h6, h7, h8, h9, h10, h11, h12, h13, h14, h15]
  rfl

end Cert.Projections

end
-- ==== Proof.ProjPool.lean ====
module

public import proofs.«01_k».proof.Proof.ProjEntry
public import proofs.«01_k».proof.Proof.ProjPoolNorm

/-! What one grid point's block of the pooled mixture and the extended channels under it hold, entry by entry. -/

@[expose] public section

set_option maxRecDepth 16384

noncomputable section

open Idealize.ShloMosaic Idealize.ShloMosaic.TcCoe

namespace Cert.Projections

open Cert.Kernel2Ideal Cert.Kernel2Ideal.Gen

/-! ## The mixture of the extended channels -/

section mixture
variable (X : Vec Ideal S528x1024 .f32) (x7 : Vec Ideal S4x256x256 .bf16) (x8 : Vec Ideal S1x1024 .f32)

/-- The rows that a group mixes at row `r`: its own and those before it. -/
def rows (g : Fin 4) (r : Fin 512) (k : ℕ) (d : Fin 256) : EReal :=
  X (ix2 ⟨16 - k + r.val, by omega⟩ ⟨256 * g.val + d.val, by omega⟩)

/-- The block of the pooled mixture. -/
def entryP : Vec Ideal S512x1024 .bf16 := fun y =>
  pool ((y 1).val / 256) (rows X ⟨(y 1).val / 256, by have := (y 1).isLt; simp at this; omega⟩ (y 0))
    (fun d => x7 (ix3 ⟨(y 1).val / 256, by have := (y 1).isLt; simp at this; omega⟩ d ⟨(y 1).val % 256, by omega⟩)) (x8 (ix2 0 (y 1)))

theorem entryP_at {y : S512x1024.Idx} (r : Fin 512) (g : Fin 4) (c : Fin 256) (hr : (y 0).val = r.val)
    (hc : (y 1).val = 256 * g.val + c.val) : entryP X x7 x8 y
      = pool g.val (rows X g r) (fun d => x7 (ix3 g d c)) (x8 (ix2 0 ⟨256 * g.val + c.val, by omega⟩)) := by
  have hb : 256 * g.val + c.val < 1024 := by clear hr hc; omega
  obtain rfl : y = ix2 r ⟨256 * g.val + c.val, hb⟩ := by
    funext a
    apply Fin.ext
    fin_cases a
    · exact hr
    · exact hc
  have h1 : (256 * g.val + c.val) / 256 = g.val := by omega
  have h2 : (256 * g.val + c.val) % 256 = c.val := by omega
  show pool ((256 * g.val + c.val) / 256) (rows X ⟨(256 * g.val + c.val) / 256, _⟩ r)
    (fun d => x7 (ix3 ⟨(256 * g.val + c.val) / 256, _⟩ d ⟨(256 * g.val + c.val) % 256, _⟩)) _ = _
  simp only [h1, h2]
  rfl

theorem cut_rows (a o : ℕ) (inb) (g : Fin 4) (r : Fin 512) (k : ℕ) (d : Fin 256) (ha : a = 16 - k) (ho : o = 256 * g.val) :
    cut X (Rect.unit (s := S528x1024) ![a, o] S512x256.size inb).toLoadRect (ix2 r d) = rows X g r k d := by
  subst ha ho
  unfold cut rows
  congr 1
  funext b
  apply Fin.ext
  fin_cases b
  · simp
  · simp

theorem cut_weight (a : ℕ) (inb) (g : Fin 4) (d c : Fin 256) (ha : a = g.val) :
    cut x7 (Rect.unit (s := S4x256x256) ![a, 0, 0] S1x256x256.size inb).toLoadRect (ix3 0 d c) = x7 (ix3 g d c) := by
  subst ha
  unfold cut
  congr 1
  funext b
  apply Fin.ext
  fin_cases b
  · simp
  · simp
  · simp

theorem cut_factor (o : ℕ) (inb) (g : Fin 4) (c : Fin 256) (ho : o = 256 * g.val) :
    cut x8 (Rect.unit (s := S1x1024) ![0, o] S1x256.size inb).toLoadRect (ix2 0 c) = x8 (ix2 0 ⟨256 * g.val + c.val, by omega⟩) := by
  subst ho
  unfold cut
  congr 1
  funext b
  apply Fin.ext
  fin_cases b
  · simp
  · simp

set_option maxHeartbeats 1000000 in
/-- The pieces of the pooled mixture are parts of its block. -/
theorem piecesP_of : View.PiecesOf (entryP X x7 x8) (mixPieces (F := Ideal) X x7 x8) :=
  ⟨fun x => by
      obtain ⟨r, c, rfl⟩ : ∃ (r : Fin 512) (c : Fin 256), x = ix2 r c := ⟨x 0, x 1, eq_ix2 x⟩
      refine ((pool3_apply _ _ _ _ _ _ _ _ _ _ _ _ _ _ _ _ _ _ r c (rows X 3 r) (fun d => cut_rows X 16 768 _ 3 r 0 d rfl rfl) (fun d => cut_rows X 15 768 _ 3 r 1 d rfl rfl) (fun d => cut_rows X 14 768 _ 3 r 2 d rfl rfl) (fun d => cut_rows X 13 768 _ 3 r 3 d rfl rfl) (fun d => cut_rows X 12 768 _ 3 r 4 d rfl rfl) (fun d => cut_rows X 11 768 _ 3 r 5 d rfl rfl) (fun d => cut_rows X 10 768 _ 3 r 6 d rfl rfl) (fun d => cut_rows X 9 768 _ 3 r 7 d rfl rfl) (fun d => cut_rows X 8 768 _ 3 r 8 d rfl rfl) (fun d => cut_rows X 7 768 _ 3 r 9 d rfl rfl) (fun d => cut_rows X 6 768 _ 3 r 10 d rfl rfl) (fun d => cut_rows X 5 768 _ 3 r 11 d rfl rfl) (fun d => cut_rows X 4 768 _ 3 r 12 d rfl rfl) (fun d => cut_rows X 3 768 _ 3 r 13 d rfl rfl) (fun d => cut_rows X 2 768 _ 3 r 14 d rfl rfl) (fun d => cut_rows X 1 768 _ 3 r 15 d rfl rfl)).trans
        (congrArg₂ (pool 3 (rows X 3 r)) (funext fun d => cut_weight x7 3 _ 3 d c rfl) (cut_factor x8 768 _ 3 c rfl))).trans
        (entryP_at X x7 x8 r 3 c ?_ ?_).symm
      · show 0 + 1 * r.val = r.val
        omega
      · show 768 + 1 * c.val = 256 * 3 + c.val
        omega,
    fun x => by
      obtain ⟨r, c, rfl⟩ : ∃ (r : Fin 512) (c : Fin 256), x = ix2 r c := ⟨x 0, x 1, eq_ix2 x⟩
      refine ((pool2_apply _ _ _ _ _ _ _ _ _ _ r c (rows X 2 r) (fun d => cut_rows X 16 512 _ 2 r 0 d rfl rfl) (fun d => cut_rows X 15 512 _ 2 r 1 d rfl rfl) (fun d => cut_rows X 14 512 _ 2 r 2 d rfl rfl) (fun d => cut_rows X 13 512 _ 2 r 3 d rfl rfl) (fun d => cut_rows X 12 512 _ 2 r 4 d rfl rfl) (fun d => cut_rows X 11 512 _ 2 r 5 d rfl rfl) (fun d => cut_rows X 10 512 _ 2 r 6 d rfl rfl) (fun d => cut_rows X 9 512 _ 2 r 7 d rfl rfl)).trans
        (congrArg₂ (pool 2 (rows X 2 r)) (funext fun d => cut_weight x7 2 _ 2 d c rfl) (cut_factor x8 512 _ 2 c rfl))).trans
        (entryP_at X x7 x8 r 2 c ?_ ?_).symm
      · show 0 + 1 * r.val = r.val
        omega
      · show 512 + 1 * c.val = 256 * 2 + c.val
        omega,
    fun x => by
      obtain ⟨r, c, rfl⟩ : ∃ (r : Fin 512) (c : Fin 256), x = ix2 r c := ⟨x 0, x 1, eq_ix2 x⟩
      refine ((pool1_apply _ _ _ _ _ _ r c (rows X 1 r) (fun d => cut_rows X 16 256 _ 1 r 0 d rfl rfl) (fun d => cut_rows X 15 256 _ 1 r 1 d rfl rfl) (fun d => cut_rows X 14 256 _ 1 r 2 d rfl rfl) (fun d => cut_rows X 13 256 _ 1 r 3 d rfl rfl)).trans
        (congrArg₂ (pool 1 (rows X 1 r)) (funext fun d => cut_weight x7 1 _ 1 d c rfl) (cut_factor x8 256 _ 1 c rfl))).trans
        (entryP_at X x7 x8 r 1 c ?_ ?_).symm
      · show 0 + 1 * r.val = r.val
        omega
      · show 256 + 1 * c.val = 256 * 1 + c.val
        omega,
    fun x => by
      obtain ⟨r, c, rfl⟩ : ∃ (r : Fin 512) (c : Fin 256), x = ix2 r c := ⟨x 0, x 1, eq_ix2 x⟩
      refine ((pool0_apply _ _ _ _ r c (rows X 0 r) (fun d => cut_rows X 16 0 _ 0 r 0 d rfl rfl) (fun d => cut_rows X 15 0 _ 0 r 1 d rfl rfl)).trans
        (congrArg₂ (pool 0 (rows X 0 r)) (funext fun d => cut_weight x7 0 _ 0 d c rfl) (cut_factor x8 0 _ 0 c rfl))).trans
        (entryP_at X x7 x8 r 0 c ?_ ?_).symm
      · show 0 + 1 * r.val = r.val
        omega
      · show 0 + 1 * c.val = 256 * 0 + c.val
        omega, trivial⟩

theorem blockP_eq : blockP (mixPieces (F := Ideal) X x7 x8) = entryP X x7 x8 := by
  funext y
  unfold blockP
  exact View.read_writes_apply_of_pieces _ _ (entryP X x7 x8) _ (piecesP_of X x7 x8).mem y (coverP X x7 x8 y)

end mixture

/-! ## The extended channels -/

section channels
variable (i : grid0.Coords) (x0 : Vec Ideal S512x2048 .f32) (x1 x2 : Vec Ideal S1x2048 .f32) (x3 : Vec Ideal S2048x4224 .bf16)
  (x6 : Vec Ideal S16x1024 .f32) (e0 : Vec Ideal S528x1024 .f32)

/-- The extended channels under the mixture: the rows before the sequence or those kept, then the point's channels. -/
def entryE : Vec Ideal S528x1024 .f32 := fun y =>
  if (y 0).val < 16 then
    if fresh i = 1#1 then x6 (ix2 ⟨(y 0).val % 16, by omega⟩ (y 1)) else e0 (ix2 ⟨(y 0).val % 16, by omega⟩ (y 1))
  else prod x0 x1 x2 x3 ⟨((y 0).val - 16) % 512, by omega⟩ ⟨3072 + (y 1).val, by have := (y 1).isLt; simp at this; omega⟩

theorem entryE_before {y : S528x1024.Idx} (r : Fin 16) (C : Fin 1024) (hr : (y 0).val = r.val) (hC : (y 1).val = C.val) :
    entryE i x0 x1 x2 x3 x6 e0 y = if fresh i = 1#1 then x6 (ix2 r C) else e0 (ix2 ⟨r.val, by omega⟩ C) := by
  have hb : r.val < 528 := by clear hr hC; omega
  obtain rfl : y = ix2 ⟨r.val, hb⟩ C := by
    funext a
    apply Fin.ext
    fin_cases a
    · exact hr
    · exact hC
  have h : r.val % 16 = r.val := by omega
  show (if r.val < 16 then if fresh i = 1#1 then x6 (ix2 ⟨r.val % 16, _⟩ C) else e0 (ix2 ⟨r.val % 16, _⟩ C) else _) = _
  rw [if_pos r.isLt]
  simp only [h]

theorem entryE_own {y : S528x1024.Idx} (r : Fin 512) (C : Fin 4224) (hr : (y 0).val = 16 + r.val) (hC : 3072 + (y 1).val = C.val) :
    entryE i x0 x1 x2 x3 x6 e0 y = prod x0 x1 x2 x3 r C := by
  unfold entryE
  rw [if_neg (by omega)]
  congr 1
  · apply Fin.ext
    show ((y 0).val - 16) % 512 = r.val
    omega
  · exact Fin.ext hC

theorem cut_before (e : Vec Ideal S528x1024 .f32) (inb) (r : Fin 16) (C : Fin 1024) :
    cut e (Rect.unit (s := S528x1024) ![0, 0] S16x1024.size inb).toLoadRect (ix2 r C) = e (ix2 ⟨r.val, by omega⟩ C) := by
  unfold cut
  congr 1
  funext b
  apply Fin.ext
  fin_cases b
  · simp
  · simp

theorem cut_last (e : Vec Ideal S528x1024 .f32) (inb) (r : Fin 16) (C : Fin 1024) :
    cut e (Rect.unit (s := S528x1024) ![512, 0] S16x1024.size inb).toLoadRect (ix2 r C) = e (ix2 ⟨512 + r.val, by omega⟩ C) := by
  unfold cut
  congr 1
  funext b
  apply Fin.ext
  fin_cases b
  · simp
  · simp

set_option maxHeartbeats 1000000 in
/-- The pieces of the extended channels are parts of them. -/
theorem piecesE_of : View.PiecesOf (entryE i x0 x1 x2 x3 x6 e0) (piecesE (F := Ideal) i x0 x1 x2 x3 x6 e0) :=
  ⟨fun x => by
      obtain ⟨r, c, rfl⟩ : ∃ (r : Fin 512) (c : Fin 512), x = ix2 r c := ⟨x 0, x 1, eq_ix2 x⟩
      refine ((pay7_apply _ _ r c).trans
        (prod_cut x0 x1 x2 x3 r r 3584 _ c ⟨3584 + c.val, by omega⟩ rfl rfl)).trans
        (entryE_own i x0 x1 x2 x3 x6 e0 r _ ?_ ?_).symm
      · show 16 + 1 * r.val = 16 + r.val
        omega
      · show 3072 + (512 + 1 * c.val) = 3584 + c.val
        omega,
    fun x => by
      obtain ⟨r, c, rfl⟩ : ∃ (r : Fin 512) (c : Fin 512), x = ix2 r c := ⟨x 0, x 1, eq_ix2 x⟩
      refine ((pay5_apply _ _ r c).trans
        (prod_cut x0 x1 x2 x3 r r 3072 _ c ⟨3072 + c.val, by omega⟩ rfl rfl)).trans
        (entryE_own i x0 x1 x2 x3 x6 e0 r _ ?_ ?_).symm
      · show 16 + 1 * r.val = 16 + r.val
        omega
      · show 3072 + (0 + 1 * c.val) = 3072 + c.val
        omega,
    fun x => by
      obtain ⟨r, C, rfl⟩ : ∃ (r : Fin 16) (C : Fin 1024), x = ix2 r C := ⟨x 0, x 1, eq_ix2 x⟩
      refine (pay3_apply _ _ _ r C).trans (Eq.trans ?_ (entryE_before i x0 x1 x2 x3 x6 e0 r C ?_ ?_).symm)
      · rw [cut_whole x6, cut_before]
      · show 0 + 1 * r.val = r.val
        omega
      · show 0 + 1 * C.val = C.val
        omega, trivial⟩

/-- The pieces fill the extended channels. -/
theorem coverE (y : S528x1024.Idx) : ∃ p ∈ piecesE (F := Ideal) i x0 x1 x2 x3 x6 e0, y ∈ p.1.set :=
  View.cover_of_tiledBy (piecesE i x0 x1 x2 x3 x6 e0) ![16, 512] (by sl_kernel_rfl) y

theorem canonE : View.canon (piecesE (F := Ideal) i x0 x1 x2 x3 x6 e0) = entryE i x0 x1 x2 x3 x6 e0 := by
  rw [← View.read_writes_junk_eq_canon buf1.view]
  funext y
  exact View.read_writes_apply_of_pieces _ _ (entryE i x0 x1 x2 x3 x6 e0) _ (piecesE_of i x0 x1 x2 x3 x6 e0).mem y
    (coverE i x0 x1 x2 x3 x6 e0 y)

/-- The first rows at the end are the last rows under the mixture. -/
theorem canonEnd (r : Fin 16) (C : Fin 1024) : View.canon (piecesEnd (F := Ideal) i x0 x1 x2 x3 x6 e0) (ix2 ⟨r.val, by omega⟩ C)
    = entryE i x0 x1 x2 x3 x6 e0 (ix2 ⟨512 + r.val, by omega⟩ C) := by
  unfold piecesEnd
  rw [pay16_apply, canonE]
  have e : (ix2 ⟨r.val, by omega⟩ C : S528x1024.Idx)
      = (Rect.unit (s := S528x1024) ![0, 0] S16x1024.size inb_S528x1024_S16x1024_0_0).emb (ix2 r C) := by
    funext b
    apply Fin.ext
    fin_cases b
    · show r.val = 0 + 1 * r.val
      omega
    · show C.val = 0 + 1 * C.val
      omega
  rw [e]
  exact (View.canon_cons_emb _ _ _ _).trans (cut_last _ _ r C)

end channels

end Cert.Projections

end
-- ==== Proof.ProjPoolRef.lean ====
module

public import proofs.«01_k».proof.Proof.ProjRef
public import proofs.«01_k».proof.Proof.ProjPoolNorm

/-! The reference's pooled mixture, entry by entry: the four groups' mixtures of the rows of the extended channels. -/

@[expose] public section

set_option maxRecDepth 16384

noncomputable section

namespace Cert.Projections.Ref

open Cert.Reference2Ideal Cert.Reference2Ideal.Gen Cert.Reference2Ideal.Read
open Idealize.ShloMosaic Idealize.ShloMosaic.TcCoe

variable (x0 : FVec Ideal S16384x2048 .f32) (x1 x2 : FVec Ideal S1x2048 .f32) (x3 : FVec Ideal S2048x4224 .bf16)
  (x6 : FVec Ideal S16x1024 .f32) (x7 : FVec Ideal S4x256x256 .bf16) (x8 : FVec Ideal S1x1024 .f32)

/-- The extended channels of a sequence: 16 rows that stand before it, then its own. -/
def ext (b : Fin 4) (n : Fin 4112) (C : Fin 1024) : EReal := val_main_v51 (F := Ideal) x0 x1 x2 x3 x6 (ix3 b n C)

theorem ext_before (b : Fin 4) (r : Fin 16) (C : Fin 1024) : ext x0 x1 x2 x3 x6 b ⟨r.val, by omega⟩ C = x6 (ix2 r C) := by
  unfold ext val_main_v51
  rw [concatenate_pair_apply_left (t := S4x4112x1024) (s₁ := S4x16x1024) (s₂ := S4x4096x1024) 1 _ _ _ _ rfl (ix3 b r C)
      (fun a => by fin_cases a <;> rfl),
    val_main_v49_apply, val_main_v48_apply]
  exact congrArg x6 (funext fun a => Fin.ext (by fin_cases a <;> rfl))

theorem ext_own (b : Fin 4) (j : Fin 4096) (C : Fin 1024) : ext x0 x1 x2 x3 x6 b ⟨16 + j.val, by omega⟩ C
    = prod x0 x1 x2 x3 ⟨4096 * b.val + j.val, by omega⟩ ⟨3072 + C.val, by omega⟩ := by
  unfold ext val_main_v51
  rw [concatenate_pair_apply_right (t := S4x4112x1024) (s₁ := S4x16x1024) (s₂ := S4x4096x1024) 1 _ _ _ _ rfl rfl (ix3 b j C)
      (fun a ha => by fin_cases a <;> first | rfl | exact absurd rfl ha)
      (by show j.val + 16 = 16 + j.val; omega),
    val_main_v50_apply, ← u_apply]
  refine congrArg (val_main_v27 (F := Ideal) x0 x1 x2 x3) (funext fun a => Fin.ext ?_)
  fin_cases a
  · show ((b.val * 4096 + j.val) * 1024 + C.val) / 1024 = 4096 * b.val + j.val
    omega
  · show ((b.val * 4096 + j.val) * 1024 + C.val) % 1024 = C.val
    omega

/-- The rows that a position's group mixes: its own and those before it. -/
def rows (g : Fin 4) (b : Fin 4) (j : Fin 4096) (k : ℕ) (d : Fin 256) : EReal :=
  ext x0 x1 x2 x3 x6 b ⟨16 - k + j.val, by omega⟩ ⟨256 * g.val + d.val, by omega⟩

/-! Division by two, four, eight and sixteen is multiplication by the reciprocals. -/

theorem half (x : EReal) : Ideal.div x (Ideal.ofBits .f32 0x40000000#32) = x * Ideal.ofBits .f32 0x3F000000#32 := by
  rw [show Ideal.ofBits .f32 0x40000000#32 = ((2 : ℝ) : EReal) by simp [Ideal.ofBits, Ideal.ieee]; rw [← EReal.coe_mul]; norm_num,
    show Ideal.ofBits .f32 0x3F000000#32 = (((1/2) : ℝ) : EReal) by simp [Ideal.ofBits, Ideal.ieee]; rw [← EReal.coe_mul]; norm_num,
    Ideal.div_coe (by norm_num)]

theorem quarter (x : EReal) : Ideal.div x (Ideal.ofBits .f32 0x40800000#32) = x * Ideal.ofBits .f32 0x3E800000#32 := by
  rw [show Ideal.ofBits .f32 0x40800000#32 = ((4 : ℝ) : EReal) by simp [Ideal.ofBits, Ideal.ieee]; rw [← EReal.coe_mul]; norm_num,
    show Ideal.ofBits .f32 0x3E800000#32 = (((1/4) : ℝ) : EReal) by simp [Ideal.ofBits, Ideal.ieee]; rw [← EReal.coe_mul]; norm_num,
    Ideal.div_coe (by norm_num)]

theorem eighth (x : EReal) : Ideal.div x (Ideal.ofBits .f32 0x41000000#32) = x * Ideal.ofBits .f32 0x3E000000#32 := by
  rw [show Ideal.ofBits .f32 0x41000000#32 = ((8 : ℝ) : EReal) by simp [Ideal.ofBits, Ideal.ieee]; rw [← EReal.coe_mul]; norm_num,
    show Ideal.ofBits .f32 0x3E000000#32 = (((1/8) : ℝ) : EReal) by simp [Ideal.ofBits, Ideal.ieee]; rw [← EReal.coe_mul]; norm_num,
    Ideal.div_coe (by norm_num)]

theorem sixteenth (x : EReal) : Ideal.div x (Ideal.ofBits .f32 0x41800000#32) = x * Ideal.ofBits .f32 0x3D800000#32 := by
  rw [show Ideal.ofBits .f32 0x41800000#32 = ((16 : ℝ) : EReal) by simp [Ideal.ofBits, Ideal.ieee]; rw [← EReal.coe_mul]; norm_num,
    show Ideal.ofBits .f32 0x3D800000#32 = (((1/16) : ℝ) : EReal) by simp [Ideal.ofBits, Ideal.ieee]; rw [← EReal.coe_mul]; norm_num,
    Ideal.div_coe (by norm_num)]

theorem row0_0 (b : Fin 4) (j : Fin 4096) (d : Fin 256) :
    val_main_v53 (F := Ideal) x0 x1 x2 x3 x6 (ix3 b j d) = rows x0 x1 x2 x3 x6 0 b j 0 d := by
  rw [val_main_v53_apply, val_main_v52_apply]
  exact congrArg (val_main_v51 (F := Ideal) x0 x1 x2 x3 x6) (funext fun a => Fin.ext (by
    fin_cases a <;> first | rfl | (show d.val = 256 * 0 + d.val; omega)))

theorem row0_1 (b : Fin 4) (j : Fin 4096) (d : Fin 256) :
    val_main_v54 (F := Ideal) x0 x1 x2 x3 x6 (ix3 b j d) = rows x0 x1 x2 x3 x6 0 b j 1 d := by
  rw [val_main_v54_apply, val_main_v52_apply]
  exact congrArg (val_main_v51 (F := Ideal) x0 x1 x2 x3 x6) (funext fun a => Fin.ext (by
    fin_cases a <;> first | rfl | (show d.val = 256 * 0 + d.val; omega)))

theorem weight0 (d c : Fin 256) : val_main_v61 (F := Ideal) x7 (ix2 d c) = x7 (ix3 0 d c) := by
  rw [val_main_v61_apply]
  show val_main_v60 (F := Ideal) x7 _ = _
  rw [val_main_v60_apply, val_main_v59_apply]
  refine congrArg x7 (funext fun a => Fin.ext ?_)
  fin_cases a
  · rfl
  · show (d.val * 256 + c.val) / 256 % 256 = d.val
    omega
  · show (d.val * 256 + c.val) % 256 = c.val
    omega

theorem group0 (b : Fin 4) (j : Fin 4096) (c : Fin 256) (s : EReal) :
    val_main_v62 (F := Ideal) x0 x1 x2 x3 x6 x7 (ix3 b j c) * s = pool 0 (rows x0 x1 x2 x3 x6 0 b j) (fun d => x7 (ix3 0 d c)) s := by
  have e : val_main_v62 (F := Ideal) x0 x1 x2 x3 x6 x7 (ix3 b j c)
      = ∑ d, (chain (fun k => rows x0 x1 x2 x3 x6 0 b j k d) 1 * Ideal.ofBits .f32 0x3F000000#32 - rows x0 x1 x2 x3 x6 0 b j 0 d) * x7 (ix3 0 d c) := by
    rw [val_main_v62_apply]
    refine Finset.sum_congr rfl fun d _ => ?_
    rw [show lidx_main_v62 (ix3 b j c) d = ix3 b j d by funext a; fin_cases a <;> rfl,
      show ridx_main_v62 (ix3 b j c) d = ix2 d c by funext a; fin_cases a <;> rfl, weight0,
      val_main_v58_apply, val_main_v57_apply, val_main_v55_apply, val_main_v56_apply, val_main_cst_8_apply,
      row0_0, row0_1]
    show (Ideal.div _ _ - _) * _ = _
    refine congrArg (fun z => (z - rows x0 x1 x2 x3 x6 0 b j 0 d) * x7 (ix3 0 d c)) ?_
    exact (half _).trans rfl
  rw [e]
  rfl

theorem row1_0 (b : Fin 4) (j : Fin 4096) (d : Fin 256) :
    val_main_v64 (F := Ideal) x0 x1 x2 x3 x6 (ix3 b j d) = rows x0 x1 x2 x3 x6 1 b j 0 d := by
  rw [val_main_v64_apply, val_main_v63_apply]
  exact congrArg (val_main_v51 (F := Ideal) x0 x1 x2 x3 x6) (funext fun a => Fin.ext (by
    fin_cases a <;> first | rfl | (show d.val = 256 * 0 + d.val; omega)))

theorem row1_1 (b : Fin 4) (j : Fin 4096) (d : Fin 256) :
    val_main_v65 (F := Ideal) x0 x1 x2 x3 x6 (ix3 b j d) = rows x0 x1 x2 x3 x6 1 b j 1 d := by
  rw [val_main_v65_apply, val_main_v63_apply]
  exact congrArg (val_main_v51 (F := Ideal) x0 x1 x2 x3 x6) (funext fun a => Fin.ext (by
    fin_cases a <;> first | rfl | (show d.val = 256 * 0 + d.val; omega)))

theorem row1_2 (b : Fin 4) (j : Fin 4096) (d : Fin 256) :
    val_main_v67 (F := Ideal) x0 x1 x2 x3 x6 (ix3 b j d) = rows x0 x1 x2 x3 x6 1 b j 2 d := by
  rw [val_main_v67_apply, val_main_v63_apply]
  exact congrArg (val_main_v51 (F := Ideal) x0 x1 x2 x3 x6) (funext fun a => Fin.ext (by
    fin_cases a <;> first | rfl | (show d.val = 256 * 0 + d.val; omega)))

theorem row1_3 (b : Fin 4) (j : Fin 4096) (d : Fin 256) :
    val_main_v69 (F := Ideal) x0 x1 x2 x3 x6 (ix3 b j d) = rows x0 x1 x2 x3 x6 1 b j 3 d := by
  rw [val_main_v69_apply, val_main_v63_apply]
  exact congrArg (val_main_v51 (F := Ideal) x0 x1 x2 x3 x6) (funext fun a => Fin.ext (by
    fin_cases a <;> first | rfl | (show d.val = 256 * 0 + d.val; omega)))

theorem weight1 (d c : Fin 256) : val_main_v76 (F := Ideal) x7 (ix2 d c) = x7 (ix3 1 d c) := by
  rw [val_main_v76_apply]
  show val_main_v75 (F := Ideal) x7 _ = _
  rw [val_main_v75_apply, val_main_v74_apply]
  refine congrArg x7 (funext fun a => Fin.ext ?_)
  fin_cases a
  · rfl
  · show (d.val * 256 + c.val) / 256 % 256 = d.val
    omega
  · show (d.val * 256 + c.val) % 256 = c.val
    omega

theorem group1 (b : Fin 4) (j : Fin 4096) (c : Fin 256) (s : EReal) :
    val_main_v77 (F := Ideal) x0 x1 x2 x3 x6 x7 (ix3 b j c) * s = pool 1 (rows x0 x1 x2 x3 x6 1 b j) (fun d => x7 (ix3 1 d c)) s := by
  have e : val_main_v77 (F := Ideal) x0 x1 x2 x3 x6 x7 (ix3 b j c)
      = ∑ d, (chain (fun k => rows x0 x1 x2 x3 x6 1 b j k d) 3 * Ideal.ofBits .f32 0x3E800000#32 - rows x0 x1 x2 x3 x6 1 b j 0 d) * x7 (ix3 1 d c) := by
    rw [val_main_v77_apply]
    refine Finset.sum_congr rfl fun d _ => ?_
    rw [show lidx_main_v77 (ix3 b j c) d = ix3 b j d by funext a; fin_cases a <;> rfl,
      show ridx_main_v77 (ix3 b j c) d = ix2 d c by funext a; fin_cases a <;> rfl, weight1,
      val_main_v73_apply, val_main_v72_apply, val_main_v70_apply, val_main_v68_apply, val_main_v66_apply, val_main_v71_apply, val_main_cst_9_apply,
      row1_0, row1_1, row1_2, row1_3]
    show (Ideal.div _ _ - _) * _ = _
    refine congrArg (fun z => (z - rows x0 x1 x2 x3 x6 1 b j 0 d) * x7 (ix3 1 d c)) ?_
    exact (quarter _).trans rfl
  rw [e]
  rfl

theorem row2_0 (b : Fin 4) (j : Fin 4096) (d : Fin 256) :
    val_main_v79 (F := Ideal) x0 x1 x2 x3 x6 (ix3 b j d) = rows x0 x1 x2 x3 x6 2 b j 0 d := by
  rw [val_main_v79_apply, val_main_v78_apply]
  exact congrArg (val_main_v51 (F := Ideal) x0 x1 x2 x3 x6) (funext fun a => Fin.ext (by
    fin_cases a <;> first | rfl | (show d.val = 256 * 0 + d.val; omega)))

theorem row2_1 (b : Fin 4) (j : Fin 4096) (d : Fin 256) :
    val_main_v80 (F := Ideal) x0 x1 x2 x3 x6 (ix3 b j d) = rows x0 x1 x2 x3 x6 2 b j 1 d := by
  rw [val_main_v80_apply, val_main_v78_apply]
  exact congrArg (val_main_v51 (F := Ideal) x0 x1 x2 x3 x6) (funext fun a => Fin.ext (by
    fin_cases a <;> first | rfl | (show d.val = 256 * 0 + d.val; omega)))

theorem row2_2 (b : Fin 4) (j : Fin 4096) (d : Fin 256) :
    val_main_v82 (F := Ideal) x0 x1 x2 x3 x6 (ix3 b j d) = rows x0 x1 x2 x3 x6 2 b j 2 d := by
  rw [val_main_v82_apply, val_main_v78_apply]
  exact congrArg (val_main_v51 (F := Ideal) x0 x1 x2 x3 x6) (funext fun a => Fin.ext (by
    fin_cases a <;> first | rfl | (show d.val = 256 * 0 + d.val; omega)))

theorem row2_3 (b : Fin 4) (j : Fin 4096) (d : Fin 256) :
    val_main_v84 (F := Ideal) x0 x1 x2 x3 x6 (ix3 b j d) = rows x0 x1 x2 x3 x6 2 b j 3 d := by
  rw [val_main_v84_apply, val_main_v78_apply]
  exact congrArg (val_main_v51 (F := Ideal) x0 x1 x2 x3 x6) (funext fun a => Fin.ext (by
    fin_cases a <;> first | rfl | (show d.val = 256 * 0 + d.val; omega)))

theorem row2_4 (b : Fin 4) (j : Fin 4096) (d : Fin 256) :
    val_main_v86 (F := Ideal) x0 x1 x2 x3 x6 (ix3 b j d) = rows x0 x1 x2 x3 x6 2 b j 4 d := by
  rw [val_main_v86_apply, val_main_v78_apply]
  exact congrArg (val_main_v51 (F := Ideal) x0 x1 x2 x3 x6) (funext fun a => Fin.ext (by
    fin_cases a <;> first | rfl | (show d.val = 256 * 0 + d.val; omega)))

theorem row2_5 (b : Fin 4) (j : Fin 4096) (d : Fin 256) :
    val_main_v88 (F := Ideal) x0 x1 x2 x3 x6 (ix3 b j d) = rows x0 x1 x2 x3 x6 2 b j 5 d := by
  rw [val_main_v88_apply, val_main_v78_apply]
  exact congrArg (val_main_v51 (F := Ideal) x0 x1 x2 x3 x6) (funext fun a => Fin.ext (by
    fin_cases a <;> first | rfl | (show d.val = 256 * 0 + d.val; omega)))

theorem row2_6 (b : Fin 4) (j : Fin 4096) (d : Fin 256) :
    val_main_v90 (F := Ideal) x0 x1 x2 x3 x6 (ix3 b j d) = rows x0 x1 x2 x3 x6 2 b j 6 d := by
  rw [val_main_v90_apply, val_main_v78_apply]
  exact congrArg (val_main_v51 (F := Ideal) x0 x1 x2 x3 x6) (funext fun a => Fin.ext (by
    fin_cases a <;> first | rfl | (show d.val = 256 * 0 + d.val; omega)))

theorem row2_7 (b : Fin 4) (j : Fin 4096) (d : Fin 256) :
    val_main_v92 (F := Ideal) x0 x1 x2 x3 x6 (ix3 b j d) = rows x0 x1 x2 x3 x6 2 b j 7 d := by
  rw [val_main_v92_apply, val_main_v78_apply]
  exact congrArg (val_main_v51 (F := Ideal) x0 x1 x2 x3 x6) (funext fun a => Fin.ext (by
    fin_cases a <;> first | rfl | (show d.val = 256 * 0 + d.val; omega)))

theorem weight2 (d c : Fin 256) : val_main_v99 (F := Ideal) x7 (ix2 d c) = x7 (ix3 2 d c) := by
  rw [val_main_v99_apply]
  show val_main_v98 (F := Ideal) x7 _ = _
  rw [val_main_v98_apply, val_main_v97_apply]
  refine congrArg x7 (funext fun a => Fin.ext ?_)
  fin_cases a
  · rfl
  · show (d.val * 256 + c.val) / 256 % 256 = d.val
    omega
  · show (d.val * 256 + c.val) % 256 = c.val
    omega

theorem group2 (b : Fin 4) (j : Fin 4096) (c : Fin 256) (s : EReal) :
    val_main_v100 (F := Ideal) x0 x1 x2 x3 x6 x7 (ix3 b j c) * s = pool 2 (rows x0 x1 x2 x3 x6 2 b j) (fun d => x7 (ix3 2 d c)) s := by
  have e : val_main_v100 (F := Ideal) x0 x1 x2 x3 x6 x7 (ix3 b j c)
      = ∑ d, (chain (fun k => rows x0 x1 x2 x3 x6 2 b j k d) 7 * Ideal.ofBits .f32 0x3E000000#32 - rows x0 x1 x2 x3 x6 2 b j 0 d) * x7 (ix3 2 d c) := by
    rw [val_main_v100_apply]
    refine Finset.sum_congr rfl fun d _ => ?_
    rw [show lidx_main_v100 (ix3 b j c) d = ix3 b j d by funext a; fin_cases a <;> rfl,
      show ridx_main_v100 (ix3 b j c) d = ix2 d c by funext a; fin_cases a <;> rfl, weight2,
      val_main_v96_apply, val_main_v95_apply, val_main_v93_apply, val_main_v91_apply, val_main_v89_apply, val_main_v87_apply, val_main_v85_apply, val_main_v83_apply, val_main_v81_apply, val_main_v94_apply, val_main_cst_10_apply,
      row2_0, row2_1, row2_2, row2_3, row2_4, row2_5, row2_6, row2_7]
    show (Ideal.div _ _ - _) * _ = _
    refine congrArg (fun z => (z - rows x0 x1 x2 x3 x6 2 b j 0 d) * x7 (ix3 2 d c)) ?_
    exact (eighth _).trans rfl
  rw [e]
  rfl

theorem row3_0 (b : Fin 4) (j : Fin 4096) (d : Fin 256) :
    val_main_v102 (F := Ideal) x0 x1 x2 x3 x6 (ix3 b j d) = rows x0 x1 x2 x3 x6 3 b j 0 d := by
  rw [val_main_v102_apply, val_main_v101_apply]
  exact congrArg (val_main_v51 (F := Ideal) x0 x1 x2 x3 x6) (funext fun a => Fin.ext (by
    fin_cases a <;> first | rfl | (show d.val = 256 * 0 + d.val; omega)))

theorem row3_1 (b : Fin 4) (j : Fin 4096) (d : Fin 256) :
    val_main_v103 (F := Ideal) x0 x1 x2 x3 x6 (ix3 b j d) = rows x0 x1 x2 x3 x6 3 b j 1 d := by
  rw [val_main_v103_apply, val_main_v101_apply]
  exact congrArg (val_main_v51 (F := Ideal) x0 x1 x2 x3 x6) (funext fun a => Fin.ext (by
    fin_cases a <;> first | rfl | (show d.val = 256 * 0 + d.val; omega)))

theorem row3_2 (b : Fin 4) (j : Fin 4096) (d : Fin 256) :
    val_main_v105 (F := Ideal) x0 x1 x2 x3 x6 (ix3 b j d) = rows x0 x1 x2 x3 x6 3 b j 2 d := by
  rw [val_main_v105_apply, val_main_v101_apply]
  exact congrArg (val_main_v51 (F := Ideal) x0 x1 x2 x3 x6) (funext fun a => Fin.ext (by
    fin_cases a <;> first | rfl | (show d.val = 256 * 0 + d.val; omega)))

theorem row3_3 (b : Fin 4) (j : Fin 4096) (d : Fin 256) :
    val_main_v107 (F := Ideal) x0 x1 x2 x3 x6 (ix3 b j d) = rows x0 x1 x2 x3 x6 3 b j 3 d := by
  rw [val_main_v107_apply, val_main_v101_apply]
  exact congrArg (val_main_v51 (F := Ideal) x0 x1 x2 x3 x6) (funext fun a => Fin.ext (by
    fin_cases a <;> first | rfl | (show d.val = 256 * 0 + d.val; omega)))

theorem row3_4 (b : Fin 4) (j : Fin 4096) (d : Fin 256) :
    val_main_v109 (F := Ideal) x0 x1 x2 x3 x6 (ix3 b j d) = rows x0 x1 x2 x3 x6 3 b j 4 d := by
  rw [val_main_v109_apply, val_main_v101_apply]
  exact congrArg (val_main_v51 (F := Ideal) x0 x1 x2 x3 x6) (funext fun a => Fin.ext (by
    fin_cases a <;> first | rfl | (show d.val = 256 * 0 + d.val; omega)))

theorem row3_5 (b : Fin 4) (j : Fin 4096) (d : Fin 256) :
    val_main_v111 (F := Ideal) x0 x1 x2 x3 x6 (ix3 b j d) = rows x0 x1 x2 x3 x6 3 b j 5 d := by
  rw [val_main_v111_apply, val_main_v101_apply]
  exact congrArg (val_main_v51 (F := Ideal) x0 x1 x2 x3 x6) (funext fun a => Fin.ext (by
    fin_cases a <;> first | rfl | (show d.val = 256 * 0 + d.val; omega)))

theorem row3_6 (b : Fin 4) (j : Fin 4096) (d : Fin 256) :
    val_main_v113 (F := Ideal) x0 x1 x2 x3 x6 (ix3 b j d) = rows x0 x1 x2 x3 x6 3 b j 6 d := by
  rw [val_main_v113_apply, val_main_v101_apply]
  exact congrArg (val_main_v51 (F := Ideal) x0 x1 x2 x3 x6) (funext fun a => Fin.ext (by
    fin_cases a <;> first | rfl | (show d.val = 256 * 0 + d.val; omega)))

theorem row3_7 (b : Fin 4) (j : Fin 4096) (d : Fin 256) :
    val_main_v115 (F := Ideal) x0 x1 x2 x3 x6 (ix3 b j d) = rows x0 x1 x2 x3 x6 3 b j 7 d := by
  rw [val_main_v115_apply, val_main_v101_apply]
  exact congrArg (val_main_v51 (F := Ideal) x0 x1 x2 x3 x6) (funext fun a => Fin.ext (by
    fin_cases a <;> first | rfl | (show d.val = 256 * 0 + d.val; omega)))

theorem row3_8 (b : Fin 4) (j : Fin 4096) (d : Fin 256) :
    val_main_v117 (F := Ideal) x0 x1 x2 x3 x6 (ix3 b j d) = rows x0 x1 x2 x3 x6 3 b j 8 d := by
  rw [val_main_v117_apply, val_main_v101_apply]
  exact congrArg (val_main_v51 (F := Ideal) x0 x1 x2 x3 x6) (funext fun a => Fin.ext (by
    fin_cases a <;> first | rfl | (show d.val = 256 * 0 + d.val; omega)))

theorem row3_9 (b : Fin 4) (j : Fin 4096) (d : Fin 256) :
    val_main_v119 (F := Ideal) x0 x1 x2 x3 x6 (ix3 b j d) = rows x0 x1 x2 x3 x6 3 b j 9 d := by
  rw [val_main_v119_apply, val_main_v101_apply]
  exact congrArg (val_main_v51 (F := Ideal) x0 x1 x2 x3 x6) (funext fun a => Fin.ext (by
    fin_cases a <;> first | rfl | (show d.val = 256 * 0 + d.val; omega)))

theorem row3_10 (b : Fin 4) (j : Fin 4096) (d : Fin 256) :
    val_main_v121 (F := Ideal) x0 x1 x2 x3 x6 (ix3 b j d) = rows x0 x1 x2 x3 x6 3 b j 10 d := by
  rw [val_main_v121_apply, val_main_v101_apply]
  exact congrArg (val_main_v51 (F := Ideal) x0 x1 x2 x3 x6) (funext fun a => Fin.ext (by
    fin_cases a <;> first | rfl | (show d.val = 256 * 0 + d.val; omega)))

theorem row3_11 (b : Fin 4) (j : Fin 4096) (d : Fin 256) :
    val_main_v123 (F := Ideal) x0 x1 x2 x3 x6 (ix3 b j d) = rows x0 x1 x2 x3 x6 3 b j 11 d := by
  rw [val_main_v123_apply, val_main_v101_apply]
  exact congrArg (val_main_v51 (F := Ideal) x0 x1 x2 x3 x6) (funext fun a => Fin.ext (by
    fin_cases a <;> first | rfl | (show d.val = 256 * 0 + d.val; omega)))

theorem row3_12 (b : Fin 4) (j : Fin 4096) (d : Fin 256) :
    val_main_v125 (F := Ideal) x0 x1 x2 x3 x6 (ix3 b j d) = rows x0 x1 x2 x3 x6 3 b j 12 d := by
  rw [val_main_v125_apply, val_main_v101_apply]
  exact congrArg (val_main_v51 (F := Ideal) x0 x1 x2 x3 x6) (funext fun a => Fin.ext (by
    fin_cases a <;> first | rfl | (show d.val = 256 * 0 + d.val; omega)))

theorem row3_13 (b : Fin 4) (j : Fin 4096) (d : Fin 256) :
    val_main_v127 (F := Ideal) x0 x1 x2 x3 x6 (ix3 b j d) = rows x0 x1 x2 x3 x6 3 b j 13 d := by
  rw [val_main_v127_apply, val_main_v101_apply]
  exact congrArg (val_main_v51 (F := Ideal) x0 x1 x2 x3 x6) (funext fun a => Fin.ext (by
    fin_cases a <;> first | rfl | (show d.val = 256 * 0 + d.val; omega)))

theorem row3_14 (b : Fin 4) (j : Fin 4096) (d : Fin 256) :
    val_main_v129 (F := Ideal) x0 x1 x2 x3 x6 (ix3 b j d) = rows x0 x1 x2 x3 x6 3 b j 14 d := by
  rw [val_main_v129_apply, val_main_v101_apply]
  exact congrArg (val_main_v51 (F := Ideal) x0 x1 x2 x3 x6) (funext fun a => Fin.ext (by
    fin_cases a <;> first | rfl | (show d.val = 256 * 0 + d.val; omega)))

theorem row3_15 (b : Fin 4) (j : Fin 4096) (d : Fin 256) :
    val_main_v131 (F := Ideal) x0 x1 x2 x3 x6 (ix3 b j d) = rows x0 x1 x2 x3 x6 3 b j 15 d := by
  rw [val_main_v131_apply, val_main_v101_apply]
  exact congrArg (val_main_v51 (F := Ideal) x0 x1 x2 x3 x6) (funext fun a => Fin.ext (by
    fin_cases a <;> first | rfl | (show d.val = 256 * 0 + d.val; omega)))

theorem weight3 (d c : Fin 256) : val_main_v138 (F := Ideal) x7 (ix2 d c) = x7 (ix3 3 d c) := by
  rw [val_main_v138_apply]
  show val_main_v137 (F := Ideal) x7 _ = _
  rw [val_main_v137_apply, val_main_v136_apply]
  refine congrArg x7 (funext fun a => Fin.ext ?_)
  fin_cases a
  · rfl
  · show (d.val * 256 + c.val) / 256 % 256 = d.val
    omega
  · show (d.val * 256 + c.val) % 256 = c.val
    omega

theorem group3 (b : Fin 4) (j : Fin 4096) (c : Fin 256) (s : EReal) :
    val_main_v139 (F := Ideal) x0 x1 x2 x3 x6 x7 (ix3 b j c) * s = pool 3 (rows x0 x1 x2 x3 x6 3 b j) (fun d => x7 (ix3 3 d c)) s := by
  have e : val_main_v139 (F := Ideal) x0 x1 x2 x3 x6 x7 (ix3 b j c)
      = ∑ d, (chain (fun k => rows x0 x1 x2 x3 x6 3 b j k d) 15 * Ideal.ofBits .f32 0x3D800000#32 - rows x0 x1 x2 x3 x6 3 b j 0 d) * x7 (ix3 3 d c) := by
    rw [val_main_v139_apply]
    refine Finset.sum_congr rfl fun d _ => ?_
    rw [show lidx_main_v139 (ix3 b j c) d = ix3 b j d by funext a; fin_cases a <;> rfl,
      show ridx_main_v139 (ix3 b j c) d = ix2 d c by funext a; fin_cases a <;> rfl, weight3,
      val_main_v135_apply, val_main_v134_apply, val_main_v132_apply, val_main_v130_apply, val_main_v128_apply, val_main_v126_apply, val_main_v124_apply, val_main_v122_apply, val_main_v120_apply, val_main_v118_apply, val_main_v116_apply, val_main_v114_apply, val_main_v112_apply, val_main_v110_apply, val_main_v108_apply, val_main_v106_apply, val_main_v104_apply, val_main_v133_apply, val_main_cst_11_apply,
      row3_0, row3_1, row3_2, row3_3, row3_4, row3_5, row3_6, row3_7, row3_8, row3_9, row3_10, row3_11, row3_12, row3_13, row3_14, row3_15]
    show (Ideal.div _ _ - _) * _ = _
    refine congrArg (fun z => (z - rows x0 x1 x2 x3 x6 3 b j 0 d) * x7 (ix3 3 d c)) ?_
    exact (sixteenth _).trans rfl
  rw [e]
  rfl

theorem part0 (b : Fin 4) (j : Fin 4096) (c : Fin 256) : val_main_v140 (F := Ideal) x0 x1 x2 x3 x6 x7 (ix3 b j ⟨256 * (0 : Fin 4).val + c.val, by show 256 * 0 + c.val < 1024; omega⟩)
    = val_main_v62 (F := Ideal) x0 x1 x2 x3 x6 x7 (ix3 b j c) := by
  unfold val_main_v140
  exact concatenate_apply_piece (t := S4x4096x1024) 2 _ _ _ 0 (by simp) S4x4096x256 _ rfl rfl 0 (by rfl) (ix3 b j c)
    (fun a ha => by fin_cases a <;> first | rfl | exact absurd rfl ha)
    (by show 0 + c.val = 256 * 0 + c.val; omega)

theorem part1 (b : Fin 4) (j : Fin 4096) (c : Fin 256) : val_main_v140 (F := Ideal) x0 x1 x2 x3 x6 x7 (ix3 b j ⟨256 * (1 : Fin 4).val + c.val, by show 256 * 1 + c.val < 1024; omega⟩)
    = val_main_v77 (F := Ideal) x0 x1 x2 x3 x6 x7 (ix3 b j c) := by
  unfold val_main_v140
  exact concatenate_apply_piece (t := S4x4096x1024) 2 _ _ _ 1 (by simp) S4x4096x256 _ rfl rfl 256 (by rfl) (ix3 b j c)
    (fun a ha => by fin_cases a <;> first | rfl | exact absurd rfl ha)
    (by show 256 + c.val = 256 * 1 + c.val; omega)

theorem part2 (b : Fin 4) (j : Fin 4096) (c : Fin 256) : val_main_v140 (F := Ideal) x0 x1 x2 x3 x6 x7 (ix3 b j ⟨256 * (2 : Fin 4).val + c.val, by show 256 * 2 + c.val < 1024; omega⟩)
    = val_main_v100 (F := Ideal) x0 x1 x2 x3 x6 x7 (ix3 b j c) := by
  unfold val_main_v140
  exact concatenate_apply_piece (t := S4x4096x1024) 2 _ _ _ 2 (by simp) S4x4096x256 _ rfl rfl 512 (by rfl) (ix3 b j c)
    (fun a ha => by fin_cases a <;> first | rfl | exact absurd rfl ha)
    (by show 512 + c.val = 256 * 2 + c.val; omega)

theorem part3 (b : Fin 4) (j : Fin 4096) (c : Fin 256) : val_main_v140 (F := Ideal) x0 x1 x2 x3 x6 x7 (ix3 b j ⟨256 * (3 : Fin 4).val + c.val, by show 256 * 3 + c.val < 1024; omega⟩)
    = val_main_v139 (F := Ideal) x0 x1 x2 x3 x6 x7 (ix3 b j c) := by
  unfold val_main_v140
  exact concatenate_apply_piece (t := S4x4096x1024) 2 _ _ _ 3 (by simp) S4x4096x256 _ rfl rfl 768 (by rfl) (ix3 b j c)
    (fun a ha => by fin_cases a <;> first | rfl | exact absurd rfl ha)
    (by show 768 + c.val = 256 * 3 + c.val; omega)

theorem factor (b : Fin 4) (j : Fin 4096) (C : Fin 1024) : val_main_v142 (F := Ideal) x8 (ix3 b j C) = x8 (ix2 0 C) := by
  rw [val_main_v142_apply, val_main_v141_apply]
  exact congrArg x8 (funext fun a => Fin.ext (by fin_cases a <;> rfl))

/-- An entry of the pooled mixture. -/
theorem p_apply (b : Fin 4) (j : Fin 4096) (g : Fin 4) (c : Fin 256) :
    val_main_v152 (F := Ideal) x0 x1 x2 x3 x6 x7 x8 (ix2 ⟨4096 * b.val + j.val, by omega⟩ ⟨256 * g.val + c.val, by omega⟩)
      = pool g.val (rows x0 x1 x2 x3 x6 g b j) (fun d => x7 (ix3 g d c)) (x8 (ix2 0 ⟨256 * g.val + c.val, by omega⟩)) := by
  rw [val_main_v152_apply]
  show val_main_v151 (F := Ideal) x0 x1 x2 x3 x6 x7 x8 _ = _
  rw [val_main_v151_apply, val_main_v143_apply]
  have e : idx_main_v151 (ix2 ⟨4096 * b.val + j.val, by omega⟩ ⟨256 * g.val + c.val, by omega⟩) = ix3 b j ⟨256 * g.val + c.val, by omega⟩ := by
    funext a
    apply Fin.ext
    fin_cases a
    · show ((4096 * b.val + j.val) * 1024 + (256 * g.val + c.val)) / 4194304 = b.val
      omega
    · show ((4096 * b.val + j.val) * 1024 + (256 * g.val + c.val)) / 1024 % 4096 = j.val
      omega
    · show ((4096 * b.val + j.val) * 1024 + (256 * g.val + c.val)) % 1024 = 256 * g.val + c.val
      omega
  rw [e, factor]
  show _ * _ = _
  fin_cases g
  · exact (congrArg (· * _) (part0 x0 x1 x2 x3 x6 x7 b j c)).trans (group0 x0 x1 x2 x3 x6 x7 b j c _)
  · exact (congrArg (· * _) (part1 x0 x1 x2 x3 x6 x7 b j c)).trans (group1 x0 x1 x2 x3 x6 x7 b j c _)
  · exact (congrArg (· * _) (part2 x0 x1 x2 x3 x6 x7 b j c)).trans (group2 x0 x1 x2 x3 x6 x7 b j c _)
  · exact (congrArg (· * _) (part3 x0 x1 x2 x3 x6 x7 b j c)).trans (group3 x0 x1 x2 x3 x6 x7 b j c _)

end Cert.Projections.Ref

end
-- ==== Proof.ProjPoolArray.lean ====
module

public import proofs.«01_k».proof.Proof.ProjArray
public import proofs.«01_k».proof.Proof.ProjPool
public import proofs.«01_k».proof.Proof.ProjPoolRef

/-! The array of the pooled mixture: block by block the reference's entries. The rows that a point keeps for the next are
    those that the next block's first rows reach back to. -/

@[expose] public section

set_option maxRecDepth 16384

noncomputable section

namespace Cert.Projections

open Cert.Kernel2Ideal Cert.Kernel2Ideal.Gen
open Idealize.ShloMosaic Idealize.ShloMosaic.TcCoe

theorem idx6 : ∀ t : Fin cfg0.N, win0_6.index t = ![0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0] := (by decide +kernel : ∀ t : Fin grid0.N, _)
theorem idx12 : ∀ t : Fin cfg0.N, win0_12.index t = ![gr t, 0] := (by decide +kernel : ∀ t : Fin grid0.N, _)

theorem grid_eq : ∀ t : Fin cfg0.N, gr t = t.val := (by decide +kernel : ∀ t : Fin grid0.N, (grid0.coords t 0).val = t.val)

/-- A sequence has eight blocks; its first starts afresh. -/
theorem fresh_iff : ∀ t : Fin cfg0.N, fresh (grid0.coords t) = 1#1 ↔ gr t % 8 = 0 :=
  (by decide +kernel : ∀ t : Fin grid0.N, fresh (grid0.coords t) = 1#1 ↔ (grid0.coords t 0).val % 8 = 0)

variable (m : (ℓ : Loc nD τ sig) → Buf (Elt Ideal) ℓ)

/-- The pooling's arguments: the rows before a sequence, the groups' weights, the factors. -/
abbrev a6 (c : Dev nD) : FVec Ideal S16x1024 .f32 := m ((c.tc : Thread nD τ).loc main_arg6)
abbrev a7 (c : Dev nD) : FVec Ideal S4x256x256 .bf16 := m ((c.tc : Thread nD τ).loc main_arg7)
abbrev a8 (c : Dev nD) : FVec Ideal S1x1024 .f32 := m ((c.tc : Thread nD τ).loc main_arg8)

theorem blk_before (c : Dev nD) (t : Fin cfg0.N) (r : Fin 16) (C : Fin 1024) :
    iblk (F := Ideal) m c 6 t (ix2 r C) = a6 m c (ix2 r C) := by
  blk_simp [iblk, V]
  refine congrArg (a6 m c) ?_
  blk_ext [idx6 t]

theorem blk_weight (c : Dev nD) (t : Fin cfg0.N) (g : Fin 4) (d e : Fin 256) :
    iblk (F := Ideal) m c 7 t (ix3 g d e) = a7 m c (ix3 g d e) := by
  blk_simp [iblk, V]
  refine congrArg (a7 m c) ?_
  blk_ext [idx7 t]

theorem blk_factor (c : Dev nD) (t : Fin cfg0.N) (C : Fin 1024) : iblk (F := Ideal) m c 8 t (ix2 0 C) = a8 m c (ix2 0 C) := by
  blk_simp [iblk, V]
  refine congrArg (a8 m c) ?_
  blk_ext [idx8 t]

/-- The reference's extended channels of the same arguments. -/
abbrev refExt (c : Dev nD) (b : Fin 4) (n : Fin 4112) (C : Fin 1024) : EReal :=
  Ref.ext (a0 m c) (a1 m c) (a2 m c) (a3 m c) (a6 m c) b n C

theorem refExt_congr (c : Dev nD) {b b' : Fin 4} {n n' : Fin 4112} (C : Fin 1024) (hb : b.val = b'.val) (hn : n.val = n'.val) :
    refExt m c b n C = refExt m c b' n' C := by
  obtain rfl := Fin.ext hb
  obtain rfl := Fin.ext hn
  rfl

/-- The extended channels at a point are the part of the reference's that the point's rows reach back to. -/
theorem ext_eq (c : Dev nD) : ∀ (n : ℕ) (t : Fin cfg0.N), t.val = n → ∀ (R : Fin 528) (C : Fin 1024),
    entryE (grid0.coords t) (iblk m c 0 t) (iblk m c 1 t) (iblk m c 2 t) (iblk m c 3 t) (iblk m c 6 t) (extAt m c t.val) (ix2 R C)
      = refExt m c ⟨gr t / 8, by have := grid_lt t; omega⟩ ⟨512 * (gr t % 8) + R.val, by omega⟩ C := by
  intro n
  induction n with
  | zero =>
    intro t ht R C
    have hg := grid_lt t
    have h0 : gr t = 0 := (grid_eq t).trans ht
    by_cases hR : R.val < 16
    · refine (entryE_before _ _ _ _ _ _ _ ⟨R.val, hR⟩ C rfl rfl).trans ?_
      rw [if_pos ((fresh_iff t).2 (by omega)), blk_before]
      refine (Ref.ext_before (a0 m c) (a1 m c) (a2 m c) (a3 m c) (a6 m c) ⟨gr t / 8, by omega⟩ ⟨R.val, hR⟩ C).symm.trans ?_
      refine refExt_congr m c C rfl ?_
      show R.val = 512 * (gr t % 8) + R.val
      omega
    · refine (entryE_own _ _ _ _ _ _ _ ⟨R.val - 16, by omega⟩ ⟨3072 + C.val, by omega⟩ (by show R.val = 16 + (R.val - 16); omega) rfl).trans ?_
      rw [prod_eq]
      have e := Ref.ext_own (a0 m c) (a1 m c) (a2 m c) (a3 m c) (a6 m c) ⟨gr t / 8, by omega⟩ ⟨512 * (gr t % 8) + (R.val - 16), by omega⟩ C
      have h1 : 4096 * (gr t / 8) + (512 * (gr t % 8) + (R.val - 16)) = 512 * gr t + (R.val - 16) := by omega
      simp only [h1] at e
      refine e.symm.trans (refExt_congr m c C rfl ?_)
      show 16 + (512 * (gr t % 8) + (R.val - 16)) = 512 * (gr t % 8) + R.val
      omega
  | succ n ih =>
    intro t ht R C
    have hg := grid_lt t
    have h0 : gr t = n + 1 := (grid_eq t).trans ht
    by_cases hR : R.val < 16
    · refine (entryE_before _ _ _ _ _ _ _ ⟨R.val, hR⟩ C rfl rfl).trans ?_
      by_cases hf : gr t % 8 = 0
      · rw [if_pos ((fresh_iff t).2 hf), blk_before]
        refine (Ref.ext_before (a0 m c) (a1 m c) (a2 m c) (a3 m c) (a6 m c) ⟨gr t / 8, by omega⟩ ⟨R.val, hR⟩ C).symm.trans ?_
        refine refExt_congr m c C rfl ?_
        show R.val = 512 * (gr t % 8) + R.val
        omega
      · rw [if_neg (fun h => hf ((fresh_iff t).1 h))]
        have hn : n < cfg0.N := by have := t.isLt; omega
        have hg' : gr ⟨n, hn⟩ = n := grid_eq ⟨n, hn⟩
        rw [ht]
        refine (congrFun (extAt_succ m c ⟨n, hn⟩) _).trans ?_
        refine (canonEnd _ _ _ _ _ _ _ ⟨R.val, hR⟩ C).trans ?_
        refine (ih ⟨n, hn⟩ rfl ⟨512 + R.val, by omega⟩ C).trans (refExt_congr m c C ?_ ?_)
        · show gr ⟨n, hn⟩ / 8 = gr t / 8
          omega
        · show 512 * (gr ⟨n, hn⟩ % 8) + (512 + R.val) = 512 * (gr t % 8) + R.val
          omega
    · refine (entryE_own _ _ _ _ _ _ _ ⟨R.val - 16, by omega⟩ ⟨3072 + C.val, by omega⟩ (by show R.val = 16 + (R.val - 16); omega) rfl).trans ?_
      rw [prod_eq]
      have e := Ref.ext_own (a0 m c) (a1 m c) (a2 m c) (a3 m c) (a6 m c) ⟨gr t / 8, by omega⟩ ⟨512 * (gr t % 8) + (R.val - 16), by omega⟩ C
      have h1 : 4096 * (gr t / 8) + (512 * (gr t % 8) + (R.val - 16)) = 512 * gr t + (R.val - 16) := by omega
      simp only [h1] at e
      refine e.symm.trans (refExt_congr m c C rfl ?_)
      show 16 + (512 * (gr t % 8) + (R.val - 16)) = 512 * (gr t % 8) + R.val
      omega

/-- The reference's pooled mixture of the same arguments. -/
def resultP (c : Dev nD) : FVec Ideal S16384x1024 .bf16 :=
  Reference2Ideal.Read.val_main_v152 (F := Ideal) (a0 m c) (a1 m c) (a2 m c) (a3 m c) (a6 m c) (a7 m c) (a8 m c)

theorem pAt_group (c : Dev nD) (t : Fin cfg0.N) (r : Fin 512) (g : Fin 4) (e : Fin 256) :
    pAt (F := Ideal) m c t (ix2 r ⟨256 * g.val + e.val, by omega⟩)
      = resultP m c (ix2 ⟨512 * gr t + r.val, by have := grid_lt t; omega⟩ ⟨256 * g.val + e.val, by omega⟩) := by
  have hg := grid_lt t
  unfold pAt piecesP
  rw [blockP_eq, canonE]
  refine (entryP_at _ _ _ r g e rfl rfl).trans ?_
  have h := Ref.p_apply (a0 m c) (a1 m c) (a2 m c) (a3 m c) (a6 m c) (a7 m c) (a8 m c) ⟨gr t / 8, by omega⟩
    ⟨512 * (gr t % 8) + r.val, by omega⟩ g e
  have h1 : 4096 * (gr t / 8) + (512 * (gr t % 8) + r.val) = 512 * gr t + r.val := by omega
  simp only [h1] at h
  refine Eq.trans ?_ h.symm
  rw [blk_factor]
  refine congrArg₂ (fun f w => pool g.val f w _) ?_ ?_
  · funext k d
    unfold rows Ref.rows
    rw [ext_eq m c t.val t rfl]
    refine refExt_congr m c _ rfl ?_
    show 512 * (gr t % 8) + (16 - k + r.val) = 16 - k + (512 * (gr t % 8) + r.val)
    omega
  · funext d
    exact blk_weight m c t g d e

theorem pAt_entry (c : Dev nD) (t : Fin cfg0.N) (r : Fin 512) (C : Fin 1024) : pAt (F := Ideal) m c t (ix2 r C)
    = resultP m c (ix2 ⟨512 * gr t + r.val, by have := grid_lt t; omega⟩ C) := by
  have h := pAt_group m c t r ⟨C.val / 256, by omega⟩ ⟨C.val % 256, by omega⟩
  have h1 : 256 * (C.val / 256) + C.val % 256 = C.val := by omega
  simp only [h1] at h
  exact h

theorem arrayP_eq (c : Dev nD) : (dats m 0 c).arrAt 12 cfg0.N = resultP m c := by
  refine (dats m 0 c).arrAt_eq_of_covers 12 _ (by decide +kernel) fun t hf y => ?_
  blk_simp
  rw [after12]
  have e : y = ix2 (y 0) (y 1) := by funext a; fin_cases a <;> rfl
  rw [e]
  refine (pAt_entry m c t (y 0) (y 1)).trans ?_
  refine congrArg (resultP m c) ?_
  blk_ext [idx12 t]

end Cert.Projections

end
-- ==== Proof.ProjGateNorm.lean ====
module

public import proofs.«01_k».proof.Proof.ProjNorm

/-! The log forget gates and their running sums, entry by entry: nine steps, each adding the sums of as many rows above as
    are already summed, add up all the rows from the first. -/

@[expose] public section

set_option maxRecDepth 16384

noncomputable section

open Idealize.ShloMosaic Idealize.ShloMosaic.TcCoe

namespace Cert.Projections

open Cert.Kernel2Ideal Cert.Kernel2Ideal.Gen

/-- The logarithm of the logistic function. -/
def gate (x : EReal) : EReal := min x 0 - Ideal.log1p (Ideal.exp (0 - max x (-x)))

/-- A column of a block, and zero beyond it. -/
def col (g : FVec Ideal S512x128 .f32) (c : Fin 128) (n : ℕ) : EReal := if h : n < 512 then g (ix2 ⟨n, h⟩ c) else 0

/-- The sum of the `n` terms that end with term `r`, those before the first left out. -/
def window (f : ℕ → EReal) (n r : ℕ) : EReal := ∑ i ∈ Finset.range n, if i ≤ r then f (r - i) else 0

theorem window_one (f : ℕ → EReal) (r : ℕ) : window f 1 r = f r := by
  unfold window
  rw [Finset.sum_range_one, if_pos (Nat.zero_le r), Nat.sub_zero]

theorem window_double (f : ℕ → EReal) (n r : ℕ) :
    window f n r + (if n ≤ r then window f n (r - n) else 0) = window f (n + n) r := by
  unfold window
  rw [Finset.sum_range_add]
  refine congrArg _ ?_
  split
  · refine Finset.sum_congr rfl fun i _ => ?_
    by_cases h : i ≤ r - n
    · rw [if_pos h, if_pos (by omega), Nat.sub_add_eq]
    · rw [if_neg h, if_neg (by omega)]
  · refine (Finset.sum_eq_zero fun i _ => ?_).symm
    rw [if_neg (by omega)]

theorem window_all (f : ℕ → EReal) (n r : ℕ) (h : r < n) : window f n r = ∑ i ∈ Finset.range (r + 1), f i := by
  unfold window
  obtain ⟨k, rfl⟩ : ∃ k, n = (r + 1) + k := ⟨n - (r + 1), by omega⟩
  rw [Finset.sum_range_add, Finset.sum_eq_zero (s := Finset.range k) (fun i _ => if_neg (by omega)), add_zero,
    ← Finset.sum_range_reflect]
  refine Finset.sum_congr rfl fun i hi => ?_
  have := Finset.mem_range.1 hi
  rw [if_pos (by omega)]
  congr 1
  omega

/-- One step: to each row the row `k` above it, where there is one. -/
def step (k : BitVec 32) (g : FVec Ideal S512x128 .f32) : FVec Ideal S512x128 .f32 :=
  addf g (select (cmpi .sge (iota .tc S512x128 32 [0] iota_S512x128_d0_w32) (broadcast S512x128 k))
    (dynamicRotate 0 k none g rotates_S512x128_d0) (broadcast S512x128 (Scalar.ofBits (F := Ideal) .f32 0x00000000#32)))

theorem sge_apply : ∀ (n : Fin 9) (r : Fin 512),
    IntOp.cmpi .sge (BitVec.ofNat 32 r.val) (BitVec.ofNat 32 (2 ^ n.val)) = if 2 ^ n.val ≤ r.val then 1#1 else 0#1 := by
  decide +kernel

theorem step_apply (n : Fin 9) (g : FVec Ideal S512x128 .f32) (r : Fin 512) (c : Fin 128) :
    step (BitVec.ofNat 32 (2 ^ n.val)) g (ix2 r c) = g (ix2 r c) + if 2 ^ n.val ≤ r.val then col g c (r.val - 2 ^ n.val) else 0 := by
  have hs := sge_apply n r
  have hn : 2 ^ n.val < 512 := lt_of_le_of_lt (Nat.pow_le_pow_right (by norm_num) (by omega : n.val ≤ 8)) (by norm_num)
  have e1 : cmpi .sge (iota .tc S512x128 32 [0] iota_S512x128_d0_w32) (broadcast S512x128 (BitVec.ofNat 32 (2 ^ n.val))) (ix2 r c)
      = if 2 ^ n.val ≤ r.val then 1#1 else 0#1 := by
    rw [← hs]
    pointwise []
  have e3 : (Scalar.ofBits (F := Ideal) .f32 0x00000000#32) = (0 : EReal) := by
    show Ideal.ofBits .f32 0x00000000#32 = 0
    simp [Ideal.ofBits, Ideal.ieee]
  show g (ix2 r c) + Scalar.select (cmpi .sge (iota .tc S512x128 32 [0] iota_S512x128_d0_w32) (broadcast S512x128 (BitVec.ofNat 32 (2 ^ n.val))) (ix2 r c))
    (dynamicRotate 0 (BitVec.ofNat 32 (2 ^ n.val)) none g rotates_S512x128_d0 (ix2 r c)) (Scalar.ofBits (F := Ideal) .f32 0x00000000#32) = _
  rw [e1, e3]
  refine congrArg _ ?_
  by_cases h : 2 ^ n.val ≤ r.val
  · rw [if_pos h, if_pos h]
    show dynamicRotate 0 (BitVec.ofNat 32 (2 ^ n.val)) none g rotates_S512x128_d0 (ix2 r c) = _
    unfold col
    have hr : r.val - 2 ^ n.val < 512 := lt_of_le_of_lt (Nat.sub_le _ _) r.isLt
    rw [dif_pos hr, Pointwise.dynamicRotate_apply]
    refine congrArg g (funext fun a => Fin.ext ?_)
    have ht : (BitVec.ofNat 32 (2 ^ n.val)).toNat = 2 ^ n.val := by
      rw [BitVec.toNat_ofNat]
      exact Nat.mod_eq_of_lt (by omega)
    fin_cases a
    · show (r.val + 512 - ((BitVec.ofNat 32 (2 ^ n.val)).toNat + 0) % 512) % 512 = r.val - 2 ^ n.val
      rw [ht]
      omega
    · rfl
  · rw [if_neg h, if_neg h]
    rfl

theorem step_window (n : Fin 9) (g f : FVec Ideal S512x128 .f32)
    (h : ∀ (r : Fin 512) (c : Fin 128), g (ix2 r c) = window (col f c) (2 ^ n.val) r.val) (r : Fin 512) (c : Fin 128) :
    step (BitVec.ofNat 32 (2 ^ n.val)) g (ix2 r c) = window (col f c) (2 ^ (n.val + 1)) r.val := by
  rw [step_apply, h, pow_succ, Nat.mul_two, ← window_double]
  refine congrArg _ ?_
  split
  · show col g c (r.val - 2 ^ n.val) = _
    unfold col
    have hr : r.val - 2 ^ n.val < 512 := lt_of_le_of_lt (Nat.sub_le _ _) r.isLt
    rw [dif_pos hr, h]
    rfl
  · rfl

/-- The nine steps. -/
def scan (g : FVec Ideal S512x128 .f32) : FVec Ideal S512x128 .f32 :=
  step 256#32 (step 128#32 (step 64#32 (step 32#32 (step 16#32 (step 8#32 (step 4#32 (step 2#32 (step 1#32 g))))))))

theorem scan_apply (g : FVec Ideal S512x128 .f32) (r : Fin 512) (c : Fin 128) :
    scan g (ix2 r c) = ∑ i ∈ Finset.range (r.val + 1), col g c i := by
  rw [← window_all (col g c) 512 r.val r.isLt]
  exact step_window 8 _ g (step_window 7 _ g (step_window 6 _ g (step_window 5 _ g (step_window 4 _ g (step_window 3 _ g
    (step_window 2 _ g (step_window 1 _ g (step_window 0 _ g fun r c => by
      show _ = window _ 1 _
      rw [window_one, col, dif_pos r.isLt])))))))) r c

section gates
variable (h : FVec Ideal S512x2048 .bf16) (w : FVec Ideal S2048x128 .bf16) (b : FVec Ideal S1x128 .f32)

/-- The log forget gates of a block. -/
def logs : FVec Ideal S512x128 .f32 := subf (k0_pay34 (F := Ideal) h w b) (log1p (exp (subf (k0_pay36 (F := Ideal)) (k0_pay35 (F := Ideal) h w b))))

theorem logs_apply (r : Fin 512) (c : Fin 128) : logs h w b (ix2 r c) = gate (∑ k, h (ix2 r k) * w (ix2 k c) + b (ix2 0 c)) := by
  unfold gate
  pointwise [logs, k0_pay34, k0_pay35, k0_pay36, k0_pay33]
  rfl

/-- The kept sums, unless the rows are the first of a sequence. -/
def carry (v : BitVec 1) (d : FVec Ideal S1x128 .f32) (c : Fin 128) : EReal := if v = 1#1 then 0 else d (ix2 0 c)

theorem pay38_eq (v : BitVec 1) (d : FVec Ideal S1x128 .f32) :
    k0_pay38 (F := Ideal) v (iota .tc S512x128 32 [0] iota_S512x128_d0_w32)
      (k0_pay37 (k0_pay34 h w b) (k0_pay35 h w b) k0_pay36) 64#32 d
    = addf (scan (logs h w b)) (broadcastTo S512x128 (Scalar.select v (broadcast S1x128 (Scalar.ofBits (F := Ideal) .f32 0x00000000#32)) d) broadcasts_S1x128_S512x128) := rfl

theorem pay38_apply (v : BitVec 1) (d : FVec Ideal S1x128 .f32) (r : Fin 512) (c : Fin 128) :
    k0_pay38 (F := Ideal) v (iota .tc S512x128 32 [0] iota_S512x128_d0_w32)
      (k0_pay37 (k0_pay34 h w b) (k0_pay35 h w b) k0_pay36) 64#32 d (ix2 r c)
    = ∑ i ∈ Finset.range (r.val + 1), col (logs h w b) c i + carry v d c := by
  rw [pay38_eq, ← scan_apply]
  show scan (logs h w b) (ix2 r c) + _ = _
  refine congrArg _ ?_
  generalize hX : carry v d c = X
  unfold carry at hX
  pointwise []
  rcases (by decide : ∀ v : BitVec 1, v = 0#1 ∨ v = 1#1) v with rfl | rfl
  · exact hX
  · rw [← hX, if_pos rfl]
    rfl

theorem pay39_apply (v : BitVec 1) (d : FVec Ideal S1x128 .f32) (c : Fin 128) :
    k0_pay39 (F := Ideal) v (iota .tc S512x128 32 [0] iota_S512x128_d0_w32)
      (k0_pay37 (k0_pay34 h w b) (k0_pay35 h w b) k0_pay36) 64#32 d (ix2 0 c)
    = ∑ i ∈ Finset.range 512, col (logs h w b) c i + carry v d c := by
  refine Eq.trans ?_ (pay38_apply h w b v d ⟨511, by norm_num⟩ c)
  unfold k0_pay39
  generalize k0_pay38 (F := Ideal) v (iota .tc S512x128 32 [0] iota_S512x128_d0_w32)
      (k0_pay37 (k0_pay34 h w b) (k0_pay35 h w b) k0_pay36) 64#32 d = Y
  generalize hX : Y (ix2 ⟨511, by norm_num⟩ c) = X
  pointwise []
  exact hX

end gates

end Cert.Projections

end
-- ==== Proof.ProjGate.lean ====
module

public import proofs.«01_k».proof.Proof.ProjEntry
public import proofs.«01_k».proof.Proof.ProjGateNorm

/-! What one grid point's block of cumulative log forget gates and the kept sums hold, entry by entry. -/

@[expose] public section

set_option maxRecDepth 16384

noncomputable section

open Idealize.ShloMosaic Idealize.ShloMosaic.TcCoe

namespace Cert.Projections

open Cert.Kernel2Ideal Cert.Kernel2Ideal.Gen

variable (i : grid0.Coords) (x0 : Vec Ideal S512x2048 .f32) (x1 x2 : Vec Ideal S1x2048 .f32) (x3 : Vec Ideal S2048x4224 .bf16)
  (x4 c0 : Vec Ideal S1x128 .f32)

/-- A product with the last columns of the weights. -/
theorem prod_last (r : Fin 512) (inb) (c : Fin 128) :
    ∑ k, normed (F := Ideal) x0 x1 x2 (ix2 r k)
        * cut x3 (Rect.unit (s := S2048x4224) ![0, 4096] S2048x128.size inb).toLoadRect (ix2 k c)
      = prod x0 x1 x2 x3 r ⟨4096 + c.val, by omega⟩ := by
  refine Finset.sum_congr rfl fun k _ => ?_
  rw [normed_apply]
  congr 1
  unfold cut
  congr 1
  funext a
  apply Fin.ext
  fin_cases a
  · simp
  · simp

/-- The log forget gates of a column, and zero beyond the block. -/
def own (c : Fin 128) (n : ℕ) : EReal :=
  if h : n < 512 then gate (prod x0 x1 x2 x3 ⟨n, h⟩ ⟨4096 + c.val, by omega⟩ + x4 (ix2 0 c)) else 0

theorem own_eq (inb) (c : Fin 128) (n : ℕ) :
    col (logs (normed (F := Ideal) x0 x1 x2) (cut x3 (Rect.unit (s := S2048x4224) ![0, 4096] S2048x128.size inb).toLoadRect) x4) c n
      = own x0 x1 x2 x3 x4 c n := by
  unfold col own
  split
  · rw [logs_apply, prod_last]
  · rfl

/-- The block of cumulative log forget gates. -/
def entryD : Vec Ideal S512x128 .f32 := fun y =>
  ∑ n ∈ Finset.range ((y 0).val + 1), own x0 x1 x2 x3 x4 (y 1) n + carry (fresh i) c0 (y 1)

theorem piecesD_of : View.PiecesOf (entryD i x0 x1 x2 x3 x4 c0) (piecesD (F := Ideal) i x0 x1 x2 x3 x4 c0) :=
  ⟨fun x => by
      obtain ⟨r, c, rfl⟩ : ∃ (r : Fin 512) (c : Fin 128), x = ix2 r c := ⟨x 0, x 1, eq_ix2 x⟩
      have e : (Rect.unit (s := S512x128) ![0, 0] S512x128.size inb_S512x128_S512x128_0_0).emb (ix2 r c) = ix2 r c := by
        funext b
        apply Fin.ext
        fin_cases b
        · show 0 + 1 * r.val = r.val
          omega
        · show 0 + 1 * c.val = c.val
          omega
      show k0_pay38 (F := Ideal) _ _ _ _ _ (ix2 r c) = entryD i x0 x1 x2 x3 x4 c0
        ((Rect.unit (s := S512x128) ![0, 0] S512x128.size inb_S512x128_S512x128_0_0).emb (ix2 r c))
      rw [e]
      unfold gates
      refine (pay38_apply _ _ _ _ _ r c).trans ?_
      rw [cut_whole x4, cut_whole c0]
      exact congrArg (· + _) (Finset.sum_congr rfl fun n _ => own_eq x0 x1 x2 x3 x4 _ c n), trivial⟩

theorem blockD_eq : blockD (piecesD (F := Ideal) i x0 x1 x2 x3 x4 c0) = entryD i x0 x1 x2 x3 x4 c0 := by
  funext y
  unfold blockD
  exact View.read_writes_apply_of_pieces _ _ (entryD i x0 x1 x2 x3 x4 c0) _ (piecesD_of i x0 x1 x2 x3 x4 c0).mem y
    (coverD i x0 x1 x2 x3 x4 c0 y)

/-- The kept sums are those of the last row. -/
theorem canonC (c : Fin 128) : View.canon (piecesC (F := Ideal) i x0 x1 x2 x3 x4 c0) (ix2 0 c)
    = ∑ n ∈ Finset.range 512, own x0 x1 x2 x3 x4 c n + carry (fresh i) c0 c := by
  have e : (ix2 0 c : S1x128.Idx) = (Rect.unit (s := S1x128) ![0, 0] S1x128.size inb_S1x128_S1x128_0_0).emb (ix2 0 c) := by
    funext b
    apply Fin.ext
    fin_cases b
    · rfl
    · show c.val = 0 + 1 * c.val
      omega
  unfold piecesC
  rw [e]
  refine (View.canon_cons_emb _ _ _ _).trans ?_
  unfold gates
  refine (pay39_apply _ _ _ _ _ c).trans ?_
  rw [cut_whole x4, cut_whole c0]
  exact congrArg (· + _) (Finset.sum_congr rfl fun n _ => own_eq x0 x1 x2 x3 x4 _ c n)

end Cert.Projections

end
-- ==== Proof.ProjGateRef.lean ====
module

public import proofs.«01_k».proof.Proof.ProjRef
public import proofs.«01_k».proof.Proof.ProjGateNorm

/-! The reference's cumulative log forget gates, entry by entry: the sum, over the rows of the sequence up to the entry's,
    of the logarithms of the logistic function. -/

@[expose] public section

set_option maxRecDepth 16384

noncomputable section

namespace Cert.Projections.Ref

open Cert.Reference2Ideal Cert.Reference2Ideal.Gen Cert.Reference2Ideal.Read
open Idealize.ShloMosaic Idealize.ShloMosaic.TcCoe

variable (x0 : FVec Ideal S16384x2048 .f32) (x1 x2 : FVec Ideal S1x2048 .f32) (x3 : FVec Ideal S2048x4224 .bf16)
  (x4 : FVec Ideal S1x128 .f32)

theorem zero_word : Ideal.ofBits .f32 0x00000000#32 = 0 := by simp [Ideal.ofBits, Ideal.ieee]

/-- The logarithm of a number that is at least one is not minus infinity. -/
theorem log_ne_bot (y : EReal) (h : 1 ≤ y) : Ideal.log y ≠ ⊥ := by
  induction y using EReal.rec with
  | bot => exact absurd (le_bot_iff.1 h) (EReal.coe_ne_bot 1)
  | top => exact bot_ne_top.symm
  | coe r =>
    have h1 : (1 : ℝ) ≤ r := by exact_mod_cast h
    show (if r ≤ 0 then ⊥ else ((Real.log r : ℝ) : EReal)) ≠ ⊥
    rw [if_neg (by linarith)]
    exact EReal.coe_ne_bot _

theorem exp_nonneg (y : EReal) : 0 ≤ Ideal.exp y := by
  induction y using EReal.rec with
  | bot => exact le_refl _
  | top => exact le_top
  | coe r =>
    show (0 : EReal) ≤ ((Real.exp r : ℝ) : EReal)
    exact_mod_cast (Real.exp_pos r).le

/-- Minus the soft plus of minus a number is the logarithm of its logistic. -/
theorem gate_eq (x : EReal) :
    -(max (-x) 0 + Ideal.log1p (Ideal.exp (-(max (-x - 0) (-(-x - 0)))))) = gate x := by
  unfold gate
  rw [sub_zero, neg_neg, zero_sub, max_comm (-x) x]
  have hL : Ideal.log1p (Ideal.exp (-(max x (-x)))) ≠ ⊥ := by
    refine log_ne_bot _ ?_
    exact le_add_of_nonneg_right (exp_nonneg _)
  have hm : max (-x) 0 ≠ ⊥ := fun e => by
    have h : (0 : EReal) ≤ ⊥ := e ▸ le_max_right (-x) 0
    simp at h
  rw [EReal.neg_add (Or.inl hm) (Or.inr hL)]
  refine congrArg (· - _) ?_
  rcases le_total x 0 with h | h
  · rw [min_eq_left h, max_eq_left (EReal.neg_nonneg.2 h), neg_neg]
  · have h' := EReal.neg_le_neg_iff.2 h
    rw [neg_zero] at h'
    rw [min_eq_right h, max_eq_right h', neg_zero]

theorem logit_apply (R : Fin 16384) (c : Fin 128) : val_main_v146 (F := Ideal) x0 x1 x2 x3 x4 (ix2 R c)
    = prod x0 x1 x2 x3 R ⟨4096 + c.val, by omega⟩ + x4 (ix2 0 c) := by
  rw [val_main_v146_apply, val_main_v144_apply, val_main_v145_apply]
  show val_main_v23 (F := Ideal) x0 x1 x2 x3 _ + _ = _
  rw [← prod_apply]
  refine congrArg₂ (· + ·) (congrArg _ (funext fun a => Fin.ext (by fin_cases a <;> rfl)))
    (congrArg x4 (funext fun a => Fin.ext (by fin_cases a <;> rfl)))

theorem gate_apply (R : Fin 16384) (c : Fin 128) : val_main_v147 (F := Ideal) x0 x1 x2 x3 x4 (ix2 R c)
    = gate (prod x0 x1 x2 x3 R ⟨4096 + c.val, by omega⟩ + x4 (ix2 0 c)) := by
  rw [← gate_eq, ← logit_apply, val_main_v147_apply, val_main_call1_v1_apply, val_main_call1_call0_v4_apply,
    val_main_call1_call0_v11_apply, val_main_call1_call0_v10_apply, val_main_call1_call0_v9_apply, val_main_call1_call0_v8_apply,
    val_main_call1_call0_v7_apply, val_main_call1_call0_v1_apply, val_main_call1_call0_v3_apply, val_main_call1_call0_v0_apply,
    val_main_call1_call0_v2_apply, val_main_call1_v0_apply, val_main_call1_call0_cst_apply]
  generalize val_main_v146 (F := Ideal) x0 x1 x2 x3 x4 (ix2 R c) = x
  have hz : FloatOps.ofBits (F := Ideal) .f32 0x00000000#32 = (0 : EReal) := zero_word
  rw [hz]
  have hc : FloatOps.cmpf (F := Ideal) (φ := .f32) .une (FloatOps.subf (FloatOps.hostNegf x) (0 : EReal)) (FloatOps.subf (FloatOps.hostNegf x) (0 : EReal)) = 0#1 := by
    show Ideal.cmp _ _ _ = 0#1
    simp [Ideal.cmp]
  rw [hc]
  rfl

/-- A sequence's log forget gates, and zero beyond it. -/
def logs (b : Fin 4) (c : Fin 128) (n : ℕ) : EReal :=
  if h : n < 4096 then gate (prod x0 x1 x2 x3 ⟨4096 * b.val + n, by omega⟩ ⟨4096 + c.val, by omega⟩ + x4 (ix2 0 c)) else 0

theorem foldl_add (f : ℕ → EReal) : ∀ (n : ℕ), (List.finRange n).foldl (fun r i => r + f i.val) 0 = ∑ i ∈ Finset.range n, f i := by
  intro n
  rw [Finset.sum_range, ← List.sum_ofFn, List.ofFn_eq_map, List.sum_eq_foldl, List.foldl_map]

/-- A window of 4096 terms whose last is term `j`. -/
theorem window_sum (f : ℕ → EReal) (j : ℕ) (hj : j < 4096) :
    ∑ i ∈ Finset.range 4096, (if 4095 ≤ j + i then f (j + i - 4095) else 0) = ∑ i ∈ Finset.range (j + 1), f i := by
  have h4 : 4096 = (4095 - j) + (j + 1) := by omega
  rw [h4, Finset.sum_range_add,
    Finset.sum_eq_zero (s := Finset.range (4095 - j)) (fun i hi => if_neg (by have := Finset.mem_range.1 hi; omega)), zero_add]
  refine Finset.sum_congr rfl fun i _ => ?_
  have hi : j + (4095 - j + i) - 4095 = i := by omega
  rw [if_pos (by omega), hi]

theorem numel_window : (⟨3, ![1, 4096, 1]⟩ : Shape).numel = 4096 := by decide +kernel

theorem sum_apply' (b : Fin 4) (j : Fin 4096) (c : Fin 128) : val_main_v149 (F := Ideal) x0 x1 x2 x3 x4 (ix3 b j c)
    = ∑ i ∈ Finset.range (j.val + 1), logs x0 x1 x2 x3 x4 b c i := by
  have hj := j.isLt
  have hx : ∀ n : Fin 4096, val_main_v148 (F := Ideal) x0 x1 x2 x3 x4 (ix3 b n c) = logs x0 x1 x2 x3 x4 b c n.val := by
    intro n
    unfold logs
    rw [dif_pos n.isLt, val_main_v148_apply, ← gate_apply]
    refine congrArg (val_main_v147 (F := Ideal) x0 x1 x2 x3 x4) (funext fun a => Fin.ext ?_)
    fin_cases a
    · show ((b.val * 4096 + n.val) * 128 + c.val) / 128 = 4096 * b.val + n.val
      omega
    · show ((b.val * 4096 + n.val) * 128 + c.val) % 128 = c.val
      omega
  have hv : ∀ i : S_.Idx, val_main_call2_call0_v0 (F := Ideal) i = (0 : EReal) := fun i => by
    rw [val_main_call2_call0_v0_apply, val_main_call2_call0_cst_apply]
    exact zero_word
  unfold val_main_v149
  revert hx
  generalize val_main_v148 (F := Ideal) x0 x1 x2 x3 x4 = X
  generalize logs x0 x1 x2 x3 x4 b c = f
  intro hx
  have hw : ∀ n : Fin (⟨3, ![1, 4096, 1]⟩ : Shape).numel,
      ((⟨3, ![1, 4096, 1]⟩ : Shape).rowMajor.symm n 0).val = 0 ∧ ((⟨3, ![1, 4096, 1]⟩ : Shape).rowMajor.symm n 1).val = n.val
      ∧ ((⟨3, ![1, 4096, 1]⟩ : Shape).rowMajor.symm n 2).val = 0 := by
    intro n
    have h := Shape.rowMajor_val_three ((⟨3, ![1, 4096, 1]⟩ : Shape).rowMajor.symm n)
    rw [Equiv.apply_symm_apply] at h
    have h0 : ((⟨3, ![1, 4096, 1]⟩ : Shape).rowMajor.symm n 0).val < 1 := ((⟨3, ![1, 4096, 1]⟩ : Shape).rowMajor.symm n 0).isLt
    have h2 : ((⟨3, ![1, 4096, 1]⟩ : Shape).rowMajor.symm n 2).val < 1 := ((⟨3, ![1, 4096, 1]⟩ : Shape).rowMajor.symm n 2).isLt
    change n.val = (((⟨3, ![1, 4096, 1]⟩ : Shape).rowMajor.symm n 0).val * 4096 + ((⟨3, ![1, 4096, 1]⟩ : Shape).rowMajor.symm n 1).val) * 1
      + ((⟨3, ![1, 4096, 1]⟩ : Shape).rowMajor.symm n 2).val at h
    refine ⟨by omega, by omega, by omega⟩
  have e : ∀ g : Fin (⟨3, ![1, 4096, 1]⟩ : Shape).numel → EReal, (∀ n, g n = if 4095 ≤ j.val + n.val then f (j.val + n.val - 4095) else 0) →
      (List.finRange (⟨3, ![1, 4096, 1]⟩ : Shape).numel).foldl (fun r n => r + g n) 0 = ∑ i ∈ Finset.range (j.val + 1), f i := by
    intro g hg
    obtain rfl : g = fun n => if 4095 ≤ j.val + n.val then f (j.val + n.val - 4095) else 0 := funext hg
    rw [foldl_add (fun n => if 4095 ≤ j.val + n then f (j.val + n - 4095) else 0), numel_window]
    exact window_sum f j.val hj
  unfold Host.reduceWindowAdd
  rw [Ideal.hostReduceWindowAdd_def]
  unfold Ideal.hostReduceWindowAdd Host.reduceWindow
  simp only [hv]
  refine e _ fun n => ?_
  obtain ⟨h0, h1, h2⟩ := hw n
  have hn : n.val < 4096 := lt_of_lt_of_eq n.isLt numel_window
  split
  · next hin =>
    have hk := hin 1
    change 4095 ≤ j.val * 1 + ((⟨3, ![1, 4096, 1]⟩ : Shape).rowMajor.symm n 1).val ∧ _ at hk
    rw [h1] at hk
    rw [if_pos (by omega)]
    refine (congrArg X (funext fun a => Fin.ext ?_)).trans (hx ⟨j.val + n.val - 4095, by omega⟩)
    fin_cases a
    · show b.val * 1 + ((⟨3, ![1, 4096, 1]⟩ : Shape).rowMajor.symm n 0).val - 0 = b.val
      rw [h0]
      omega
    · show j.val * 1 + ((⟨3, ![1, 4096, 1]⟩ : Shape).rowMajor.symm n 1).val - 4095 = j.val + n.val - 4095
      rw [h1]
      omega
    · show c.val * 1 + ((⟨3, ![1, 4096, 1]⟩ : Shape).rowMajor.symm n 2).val - 0 = c.val
      rw [h2]
      omega
  · next hin =>
    rw [if_neg fun hle => hin fun a => by
      match a with
      | ⟨0, _⟩ =>
        show 0 ≤ b.val * 1 + ((⟨3, ![1, 4096, 1]⟩ : Shape).rowMajor.symm n 0).val ∧ b.val * 1 + ((⟨3, ![1, 4096, 1]⟩ : Shape).rowMajor.symm n 0).val - 0 < 4
        rw [h0]
        omega
      | ⟨1, _⟩ =>
        show 4095 ≤ j.val * 1 + ((⟨3, ![1, 4096, 1]⟩ : Shape).rowMajor.symm n 1).val ∧ j.val * 1 + ((⟨3, ![1, 4096, 1]⟩ : Shape).rowMajor.symm n 1).val - 4095 < 4096
        rw [h1]
        omega
      | ⟨2, _⟩ =>
        show 0 ≤ c.val * 1 + ((⟨3, ![1, 4096, 1]⟩ : Shape).rowMajor.symm n 2).val ∧ c.val * 1 + ((⟨3, ![1, 4096, 1]⟩ : Shape).rowMajor.symm n 2).val - 0 < 128
        rw [h2]
        omega]

theorem d_apply (b : Fin 4) (j : Fin 4096) (c : Fin 128) :
    val_main_v150 (F := Ideal) x0 x1 x2 x3 x4 (ix2 ⟨4096 * b.val + j.val, by omega⟩ c)
      = ∑ i ∈ Finset.range (j.val + 1), logs x0 x1 x2 x3 x4 b c i := by
  rw [val_main_v150_apply, ← sum_apply']
  refine congrArg (val_main_v149 (F := Ideal) x0 x1 x2 x3 x4) (funext fun a => Fin.ext ?_)
  fin_cases a
  · show ((4096 * b.val + j.val) * 128 + c.val) / 524288 = b.val
    omega
  · show ((4096 * b.val + j.val) * 128 + c.val) / 128 % 4096 = j.val
    omega
  · show ((4096 * b.val + j.val) * 128 + c.val) % 128 = c.val
    omega

end Cert.Projections.Ref

end
-- ==== Proof.ProjGateArray.lean ====
module

public import proofs.«01_k».proof.Proof.ProjPoolArray
public import proofs.«01_k».proof.Proof.ProjGate
public import proofs.«01_k».proof.Proof.ProjGateRef

/-! The array of cumulative log forget gates: block by block the reference's entries. The sums that a point keeps for the
    next are those of all the rows of the sequence before the next block. -/

@[expose] public section

set_option maxRecDepth 16384

noncomputable section

namespace Cert.Projections

open Cert.Kernel2Ideal Cert.Kernel2Ideal.Gen
open Idealize.ShloMosaic Idealize.ShloMosaic.TcCoe

theorem idx4 : ∀ t : Fin cfg0.N, win0_4.index t = ![0, 0] := (by decide +kernel : ∀ t : Fin grid0.N, _)
theorem idx13 : ∀ t : Fin cfg0.N, win0_13.index t = ![gr t, 0] := (by decide +kernel : ∀ t : Fin grid0.N, _)

variable (m : (ℓ : Loc nD τ sig) → Buf (Elt Ideal) ℓ)

/-- The gates' bias. -/
abbrev a4 (c : Dev nD) : FVec Ideal S1x128 .f32 := m ((c.tc : Thread nD τ).loc main_arg4)

theorem blk_bias (c : Dev nD) (t : Fin cfg0.N) (C : Fin 128) : iblk (F := Ideal) m c 4 t (ix2 0 C) = a4 m c (ix2 0 C) := by
  blk_simp [iblk, V]
  refine congrArg (a4 m c) ?_
  blk_ext [idx4 t]

/-- The reference's log forget gates of the same arguments. -/
abbrev refLogs (c : Dev nD) (b : Fin 4) (C : Fin 128) (n : ℕ) : EReal :=
  Ref.logs (a0 m c) (a1 m c) (a2 m c) (a3 m c) (a4 m c) b C n

/-- A block's own gates are the reference's. -/
theorem own_ref (c : Dev nD) (t : Fin cfg0.N) (b : Fin 4) (hb : b.val = gr t / 8) (C : Fin 128) (n : ℕ) (hn : n < 512) :
    own (iblk m c 0 t) (iblk m c 1 t) (iblk m c 2 t) (iblk m c 3 t) (iblk m c 4 t) C n
      = refLogs m c b C (512 * (gr t % 8) + n) := by
  have hg := grid_lt t
  unfold own refLogs Ref.logs
  rw [dif_pos hn, dif_pos (by omega), prod_eq, blk_bias]
  have h1 : 4096 * b.val + (512 * (gr t % 8) + n) = 512 * gr t + n := by omega
  simp only [h1]

/-- A block's sums on top of those of the rows before it are the reference's. -/
theorem sums_eq (c : Dev nD) (t : Fin cfg0.N) (b : Fin 4) (hb : b.val = gr t / 8) (C : Fin 128) (k : ℕ) (hk : k ≤ 512) :
    ∑ n ∈ Finset.range k, own (iblk m c 0 t) (iblk m c 1 t) (iblk m c 2 t) (iblk m c 3 t) (iblk m c 4 t) C n
      + ∑ n ∈ Finset.range (512 * (gr t % 8)), refLogs m c b C n
      = ∑ n ∈ Finset.range (512 * (gr t % 8) + k), refLogs m c b C n := by
  rw [Finset.sum_range_add, add_comm]
  refine congrArg _ (Finset.sum_congr rfl fun n hn => ?_)
  exact own_ref m c t b hb C n (lt_of_lt_of_le (Finset.mem_range.1 hn) hk)

/-- The kept sums are those of all the rows of the sequence before the block. -/
theorem carry_eq (c : Dev nD) : ∀ (n : ℕ) (t : Fin cfg0.N), t.val = n → ∀ (b : Fin 4), b.val = gr t / 8 → ∀ C : Fin 128,
    carry (fresh (grid0.coords t)) (carryAt m c t.val) C = ∑ n ∈ Finset.range (512 * (gr t % 8)), refLogs m c b C n := by
  intro n
  induction n with
  | zero =>
    intro t ht b hb C
    have h0 : gr t = 0 := (grid_eq t).trans ht
    unfold carry
    rw [if_pos ((fresh_iff t).2 (by omega)), h0]
    rfl
  | succ n ih =>
    intro t ht b hb C
    have h0 : gr t = n + 1 := (grid_eq t).trans ht
    by_cases hf : gr t % 8 = 0
    · unfold carry
      rw [if_pos ((fresh_iff t).2 hf), hf]
      rfl
    · have hn : n < cfg0.N := by have := t.isLt; omega
      have hg' : gr ⟨n, hn⟩ = n := grid_eq ⟨n, hn⟩
      unfold carry
      rw [if_neg (fun h => hf ((fresh_iff t).1 h)), ht]
      refine (congrFun (carryAt_succ m c ⟨n, hn⟩) _).trans ?_
      refine (canonC _ _ _ _ _ _ _ C).trans ?_
      have hb' : b.val = gr ⟨n, hn⟩ / 8 := by omega
      rw [ih ⟨n, hn⟩ rfl b hb' C, sums_eq m c ⟨n, hn⟩ b hb' C 512 le_rfl]
      refine congrArg (fun N : ℕ => ∑ n ∈ Finset.range N, refLogs m c b C n) ?_
      omega

/-- The reference's cumulative log forget gates of the same arguments. -/
def resultD (c : Dev nD) : FVec Ideal S16384x128 .f32 :=
  Reference2Ideal.Read.val_main_v150 (F := Ideal) (a0 m c) (a1 m c) (a2 m c) (a3 m c) (a4 m c)

theorem dAt_entry (c : Dev nD) (t : Fin cfg0.N) (r : Fin 512) (C : Fin 128) : dAt (F := Ideal) m c t (ix2 r C)
    = resultD m c (ix2 ⟨512 * gr t + r.val, by have := grid_lt t; omega⟩ C) := by
  have hg := grid_lt t
  have hb : gr t / 8 < 4 := by omega
  unfold dAt
  rw [blockD_eq]
  have h := Ref.d_apply (a0 m c) (a1 m c) (a2 m c) (a3 m c) (a4 m c) ⟨gr t / 8, hb⟩ ⟨512 * (gr t % 8) + r.val, by omega⟩ C
  have h1 : 4096 * (gr t / 8) + (512 * (gr t % 8) + r.val) = 512 * gr t + r.val := by omega
  simp only [h1] at h
  refine Eq.trans ?_ h.symm
  show ∑ n ∈ Finset.range (r.val + 1), own (iblk m c 0 t) (iblk m c 1 t) (iblk m c 2 t) (iblk m c 3 t) (iblk m c 4 t) C n
    + carry (fresh (grid0.coords t)) (carryAt m c t.val) C = _
  rw [carry_eq m c t.val t rfl ⟨gr t / 8, hb⟩ rfl C, sums_eq m c t ⟨gr t / 8, hb⟩ rfl C (r.val + 1) r.isLt]
  rfl

theorem arrayD_eq (c : Dev nD) : (dats m 0 c).arrAt 13 cfg0.N = resultD m c := by
  refine (dats m 0 c).arrAt_eq_of_covers 13 _ (by decide +kernel) fun t hf y => ?_
  blk_simp
  rw [after13]
  have e : y = ix2 (y 0) (y 1) := by funext a; fin_cases a <;> rfl
  rw [e]
  refine (dAt_entry m c t (y 0) (y 1)).trans ?_
  refine congrArg (resultD m c) ?_
  blk_ext [idx13 t]

end Cert.Projections

end
-- ==== Proof.ProjSame.lean ====
module

public import proofs.«01_k».proof.Defs
public import proofs.«01_k».proof.Proof.Gen.Kernel2
public import proofs.«01_k».proof.Proof.Gen.Kernel2Ideal

/-! The projections' bit-level program is the program of their ideal values with the named constant read as the
    constant that the kernel has. -/

@[expose] public section

set_option maxRecDepth 16384

noncomputable section

namespace Cert.Projections

open Idealize.ShloMosaic Idealize.SL Idealize.SL.Sem

variable {F : FTy → Type} [FloatOps F]

/-- A named constant read as its own bits. -/
abbrev plainNamed : Named F := ⟨fun _ _ {φ} bits => FloatOps.ofBits φ bits⟩

attribute [local instance] plainNamed

/-- The kernels' tables are one. -/
theorem kernels_same : Cert.Kernel2.defs₀ (F := F) = Cert.Kernel2Ideal.defs₀ (F := F) := by
  unfold Cert.Kernel2.defs₀ Cert.Kernel2Ideal.defs₀
  congr 1
  funext l x
  match l, x with
  | 0, (t, s) => rfl

/-- The programs' tables are one. -/
theorem defs_same : Cert.Kernel2.defs (F := F) = Cert.Kernel2Ideal.defs (F := F) := by
  unfold Cert.Kernel2.defs Cert.Kernel2Ideal.defs
  rw [kernels_same]
  rfl

/-- The main programs are one. -/
theorem main_same : Cert.Kernel2.main (F := F) = Cert.Kernel2Ideal.main (F := F) := rfl

end Cert.Projections

end
-- ==== Proof.Same.lean ====
module

public import proofs.«01_k».proof.Defs
public import proofs.«01_k».proof.Proof.Gen.Kernel
public import proofs.«01_k».proof.Proof.Gen.KernelIdeal

/-! The bit-level program and the program of its ideal values are one program: nothing was replaced between them. -/

@[expose] public section

set_option maxRecDepth 16384

noncomputable section

namespace Cert.Attn

open Idealize.ShloMosaic Idealize.SL Idealize.SL.Sem

variable {F : FTy → Type} [FloatOps F]

/-- The kernels' tables are one. -/
theorem kernels_same : Cert.Kernel.defs₀ (F := F) = Cert.KernelIdeal.defs₀ (F := F) := by
  unfold Cert.Kernel.defs₀ Cert.KernelIdeal.defs₀
  congr 1
  funext l x
  match l, x with
  | 0, (t, s) => rfl

/-- The programs' tables are one. -/
theorem defs_same : Cert.Kernel.defs (F := F) = Cert.KernelIdeal.defs (F := F) := by
  unfold Cert.Kernel.defs Cert.KernelIdeal.defs
  rw [kernels_same]
  rfl

/-- The main programs are one. -/
theorem main_same : Cert.Kernel.main (F := F) = Cert.KernelIdeal.main (F := F) := rfl

end Cert.Attn

end
-- ==== Proof.Softmax.lean ====
/- The algebra of a softmax that is taken block by block, over the extended reals.

   A score is an extended real that is not `⊤`; a masked score is `⊥`. The weight of a score `x` is `2 ^ x`, and that of
   a masked score is 0. The values that are weighted may be any extended reals.

   The block-by-block form keeps a running maximum `m` and a running sum `a` scaled by `2 ^ (-m)`. `Scaled m a T` says
   that `a` is the scaled form of the unscaled sum `T`; `Scaled.first` and `Scaled.next` are the two updates, `Scaled.quot`
   the final division. `softmax_sum` is the textbook form (weights to base `e`, each divided by their sum before the
   values are weighted), with the same result. -/
module

public import Idealize.ShloMosaic.PureOps.Ideal
public import Mathlib.Analysis.SpecialFunctions.Pow.Real
public import Mathlib.Data.EReal.Inv

@[expose] public section

noncomputable section

open Idealize.ShloMosaic

namespace Cert.Attn

/-- An extended real is `⊥`, a real or `⊤`; a score is never `⊤`. -/
theorem bot_or_coe {x : EReal} (h : x ≠ ⊤) : x = ⊥ ∨ ∃ r : ℝ, x = (r : EReal) := by
  induction x using EReal.rec with
  | bot => exact Or.inl rfl
  | coe r => exact Or.inr ⟨r, rfl⟩
  | top => exact absurd rfl h

/-- A nonnegative real factor goes into a finite sum of extended reals. -/
theorem coe_mul_sum {ι : Type*} (s : Finset ι) (c : ℝ) (hc : 0 ≤ c) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- The sum of real numbers, taken in the extended reals, is their real sum. -/
theorem sum_coe {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The weight of a score as a real number: `2 ^ x`, and 0 for `⊥`. -/
def wt (x : EReal) : ℝ := (Ideal.exp2 x).toReal

theorem exp2_eq_wt {x : EReal} (h : x ≠ ⊤) : Ideal.exp2 x = (wt x : EReal) := by
  rcases bot_or_coe h with rfl | ⟨r, rfl⟩
  · simp [wt]
  · simp [wt]

@[simp] theorem wt_bot : wt ⊥ = 0 := by simp [wt]

theorem wt_coe (r : ℝ) : wt (r : EReal) = (2 : ℝ) ^ r := by simp [wt]

theorem wt_nonneg (x : EReal) : 0 ≤ wt x := by
  induction x using EReal.rec with
  | bot => simp
  | coe r => rw [wt_coe]; positivity
  | top => simp [wt]

theorem wt_pos {x : EReal} (ht : x ≠ ⊤) (hb : x ≠ ⊥) : 0 < wt x := by
  rcases bot_or_coe ht with rfl | ⟨r, rfl⟩
  · exact absurd rfl hb
  · rw [wt_coe]; positivity

/-- Subtracting a real from a score scales its weight. -/
theorem exp2_sub {x : EReal} (h : x ≠ ⊤) (μ : ℝ) : Ideal.exp2 (x - (μ : EReal)) = (((2 : ℝ) ^ (-μ) * wt x : ℝ) : EReal) := by
  rcases bot_or_coe h with rfl | ⟨r, rfl⟩
  · simp
  · rw [← EReal.coe_sub, Ideal.exp2_coe, wt_coe]
    congr 1
    show (2 : ℝ) ^ (r - μ) = _
    rw [sub_eq_add_neg, add_comm, Real.rpow_add two_pos]

/-- The greatest of finitely many scores is no `⊤`. -/
theorem fold_ne_top {ι : Type*} [Fintype ι] {s : ι → EReal} (hs : ∀ k, s k ≠ ⊤) : Finset.univ.fold max ⊥ s ≠ ⊤ := by
  rw [← lt_top_iff_ne_top, Finset.fold_max_lt]
  exact ⟨bot_lt_top, fun k _ => lt_top_iff_ne_top.mpr (hs k)⟩

/-- … and a real if one of the scores is real. -/
theorem fold_real {ι : Type*} [Fintype ι] {s : ι → EReal} (hs : ∀ k, s k ≠ ⊤) {k : ι} (hk : s k ≠ ⊥) :
    ∃ μ : ℝ, Finset.univ.fold max ⊥ s = (μ : EReal) := by
  refine (bot_or_coe (fold_ne_top hs)).resolve_left fun h => ?_
  have hle : s k ≤ Finset.univ.fold max ⊥ s := (Finset.le_fold_max _).mpr (Or.inr ⟨k, Finset.mem_univ k, le_rfl⟩)
  rw [h] at hle
  exact hk (le_bot_iff.mp hle)

/-- The running maximum `m` is a real, and the running sum `a` is the sum `T` scaled by `2 ^ (-m)`. -/
def Scaled (m a T : EReal) : Prop := ∃ μ : ℝ, m = (μ : EReal) ∧ a = (((2 : ℝ) ^ (-μ) : ℝ) : EReal) * T

/-- A block's contribution at maximum `μ` is its unscaled contribution scaled. -/
theorem block_scaled {ι : Type*} [Fintype ι] {s : ι → EReal} (V : ι → EReal) (hs : ∀ k, s k ≠ ⊤) (μ : ℝ) :
    ∑ k, V k * Ideal.exp2 (s k - (μ : EReal)) = (((2 : ℝ) ^ (-μ) : ℝ) : EReal) * ∑ k, V k * Ideal.exp2 (s k) := by
  rw [coe_mul_sum _ _ (by positivity)]
  refine Finset.sum_congr rfl fun k _ => ?_
  rw [exp2_sub (hs k), exp2_eq_wt (hs k), EReal.coe_mul, mul_left_comm]

/-- The first block, from no maximum and an empty sum. -/
theorem Scaled.first {ι : Type*} [Fintype ι] {s : ι → EReal} (V : ι → EReal) (hs : ∀ k, s k ≠ ⊤) {k : ι} (hk : s k ≠ ⊥)
    {m : EReal} (hm : m = max ⊥ (Finset.univ.fold max ⊥ s)) :
    Scaled m (Ideal.exp2 (⊥ - m) * 0 + ∑ k, V k * Ideal.exp2 (s k - m)) (∑ k, V k * Ideal.exp2 (s k)) := by
  obtain ⟨μ, hμ⟩ := fold_real hs hk
  rw [hμ, max_eq_right bot_le] at hm
  subst hm
  exact ⟨μ, rfl, by rw [mul_zero, zero_add, block_scaled V hs]⟩

/-- A further block. -/
theorem Scaled.next {ι : Type*} [Fintype ι] {s : ι → EReal} (V : ι → EReal) (hs : ∀ k, s k ≠ ⊤) {m m' a T : EReal}
    (h : Scaled m a T) (hm : m' = max m (Finset.univ.fold max ⊥ s)) :
    Scaled m' (Ideal.exp2 (m - m') * a + ∑ k, V k * Ideal.exp2 (s k - m')) (T + ∑ k, V k * Ideal.exp2 (s k)) := by
  obtain ⟨μ, rfl, rfl⟩ := h
  obtain ⟨μ', hμ'⟩ : ∃ μ' : ℝ, m' = (μ' : EReal) := by
    rcases bot_or_coe (fold_ne_top hs) with hb | ⟨ν, hν⟩
    · exact ⟨μ, by rw [hm, hb, max_eq_left bot_le]⟩
    · exact ⟨max μ ν, by rw [hm, hν]; exact (EReal.coe_strictMono.monotone.map_max).symm⟩
  rw [hμ']
  refine ⟨μ', rfl, ?_⟩
  rw [block_scaled V hs, exp2_sub (EReal.coe_ne_top μ), wt_coe,
    EReal.left_distrib_of_nonneg_of_ne_top (EReal.coe_nonneg.mpr (by positivity)) (EReal.coe_ne_top _), ← mul_assoc,
    ← EReal.coe_mul, mul_assoc, ← Real.rpow_add two_pos, add_neg_cancel, Real.rpow_zero, mul_one]

/-- The quotient of two scaled sums of one maximum is that of the sums. -/
theorem Scaled.quot {m a b T : EReal} {σ : ℝ} (hσ : 0 < σ) (ha : Scaled m a T) (hb : Scaled m b (σ : EReal)) :
    Ideal.div a b = T * ((1 / σ : ℝ) : EReal) := by
  obtain ⟨μ, rfl, rfl⟩ := ha
  obtain ⟨μ', h, rfl⟩ := hb
  obtain rfl : μ = μ' := EReal.coe_injective h
  have hp : (0 : ℝ) < (2 : ℝ) ^ (-μ) := by positivity
  rw [← EReal.coe_mul, Ideal.div_coe (by positivity), mul_comm _ T, mul_assoc, ← EReal.coe_mul]
  congr 2
  field_simp

/-- The textbook form: scores `u` to base `e`, their exponentials divided by the sum, then the values weighted. It is the
    sum of the values weighted by `2 ^ s` over the sum of these weights, where `u` is `s * log 2` shifted by a constant. -/
theorem softmax_sum {ι : Type*} [Fintype ι] {s u : ι → EReal} {κ : ℝ} (V : ι → EReal) (hs : ∀ k, s k ≠ ⊤) {k₀ : ι} (hk : s k₀ ≠ ⊥)
    (hu : ∀ k, (s k = ⊥ ∧ u k = ⊥) ∨ ∃ r : ℝ, s k = (r : EReal) ∧ u k = ((r * Real.log 2 + κ : ℝ) : EReal))
    {n : EReal} (hn : n = Finset.univ.fold max ⊥ u) :
    ∑ k, Ideal.div (Ideal.exp (u k - n)) (∑ l, Ideal.exp (u l - n)) * V k
      = (∑ k, V k * Ideal.exp2 (s k)) * ((1 / ∑ k, wt (s k) : ℝ) : EReal) := by
  have hut : ∀ k, u k ≠ ⊤ := fun k => by
    rcases hu k with ⟨-, h⟩ | ⟨r, -, h⟩ <;> rw [h]
    exacts [bot_ne_top, EReal.coe_ne_top _]
  have huk : u k₀ ≠ ⊥ := by
    rcases hu k₀ with ⟨h, -⟩ | ⟨r, -, h⟩
    · exact absurd h hk
    · rw [h]; exact EReal.coe_ne_bot _
  obtain ⟨ν, hν⟩ := fold_real hut huk
  rw [hν] at hn
  subst hn
  have he : ∀ k, Ideal.exp (u k - (ν : EReal)) = ((Real.exp (κ - ν) * wt (s k) : ℝ) : EReal) := fun k => by
    rcases hu k with ⟨h, h'⟩ | ⟨r, h, h'⟩
    · rw [h, h']; simp
    · rw [h, h', ← EReal.coe_sub, Ideal.exp_coe, wt_coe, Real.rpow_def_of_pos two_pos, ← Real.exp_add]
      congr 2; ring
  have hσ : 0 < ∑ k, wt (s k) :=
    Finset.sum_pos' (fun k _ => wt_nonneg _) ⟨k₀, Finset.mem_univ _, wt_pos (hs k₀) hk⟩
  have hν0 : (0 : ℝ) < Real.exp (κ - ν) := Real.exp_pos _
  have hsum : ∑ l, Ideal.exp (u l - (ν : EReal)) = ((Real.exp (κ - ν) * ∑ k, wt (s k) : ℝ) : EReal) := by
    rw [Finset.mul_sum, ← sum_coe]
    exact Finset.sum_congr rfl fun k _ => he k
  rw [hsum, mul_comm (∑ k, V k * _), coe_mul_sum _ _ (by positivity)]
  refine Finset.sum_congr rfl fun k _ => ?_
  rw [he, Ideal.div_coe (by positivity), exp2_eq_wt (hs k), mul_comm (V k), ← mul_assoc, ← EReal.coe_mul, ← EReal.coe_mul]
  congr 2
  field_simp

end Cert.Attn

end
-- ==== Proof.Updates.lean ====
/- What the attention kernel's vector expressions hold at an index, over the extended reals: the scores of a block of keys
   (`keyScore`), and one step of the running maximum and the running sum, plain or under the causal mask. -/
module

public import proofs.«01_k».proof.Proof.Gen.KernelIdeal.Skeleton
public import Idealize.ShloMosaic.Lib.Pointwise
public import proofs.«01_k».proof.Proof.Softmax

@[expose] public section

set_option maxRecDepth 16384

noncomputable section

open Idealize.ShloMosaic Idealize.ShloMosaic.TcCoe

namespace Cert.Attn

open Cert.KernelIdeal Cert.KernelIdeal.Gen

/-- The pattern of `-inf` denotes `⊥`. -/
theorem ofBits_neg_inf : Ideal.ofBits .f32 0xFF800000#32 = ⊥ := by simp [Ideal.ofBits, Ideal.ieee]

/-- A key's score for a query: the product of the two rows, and the first three lanes of the key's gate row. -/
def keyScore (q k a : Fin 128 → EReal) : EReal :=
  ∑ x, k x * q x + ∑ x : Fin 128, Scalar.select (IntOp.cmpi .slt (BitVec.ofNat 32 x.val) 3#32) (a x) 0

/-- A score under the causal mask of a diagonal block: `⊥` where the key comes after the query. -/
def masked (x r : Fin 1024) (s : EReal) : EReal :=
  Scalar.select (IntOp.cmpi .sle (BitVec.ofNat 32 x.val) (BitVec.ofNat 32 r.val)) s ⊥

/-! ## Scores -/

theorem pay41_apply (q k a : FVec Ideal S1024x128 .bf16) (j r : Fin 1024) :
    k0_pay41 (F := Ideal) (k0_pay28 q) k a (ix3 0 j r) = keyScore (fun x => q (ix2 r x)) (fun x => k (ix2 j x)) (fun x => a (ix2 j x)) := by
  unfold keyScore
  pointwise [k0_pay41, k0_pay28, k0_pay27, k0_pay40]

theorem pay51_apply (q k a : FVec Ideal S1024x128 .bf16) (j r : Fin 1024) :
    k0_pay51 (F := Ideal) (k0_pay29 q) k a (ix2 j r) = keyScore (fun x => q (ix2 r x)) (fun x => k (ix2 j x)) (fun x => a (ix2 j x)) := by
  unfold keyScore
  pointwise [k0_pay51, k0_pay29, k0_pay27]

theorem pay31_apply (q : FVec Ideal S1024x128 .bf16) (k a : FVec Ideal S128x128 .bf16) (j : Fin 128) (r : Fin 1024) :
    k0_pay31 (F := Ideal) q k a (ix2 j r) = keyScore (fun x => q (ix2 r x)) (fun x => k (ix2 j x)) (fun x => a (ix2 j x)) := by
  unfold keyScore
  pointwise [k0_pay31, k0_pay28, k0_pay30, k0_pay27]

/-! ## The first update, by the keys of the prefix -/

theorem pay39_scaled (s : FVec Ideal S128x1024 .f32) (v : FVec Ideal S144x128 .bf16) (r : Fin 1024)
    (hs : ∀ j, s (ix2 j r) ≠ ⊤) (h0 : s (ix2 0 r) ≠ ⊥) (d : Fin 144) :
    Scaled (k0_pay38 s (k0_pay36 (F := Ideal)) (ix2 0 r))
      (k0_pay39 s (k0_pay36 (F := Ideal)) (k0_pay37 (F := Ideal)) v (ix2 d r))
      (∑ j, v (ix2 d j) * Ideal.exp2 (s (ix2 j r))) := by
  have h := Scaled.first (s := fun j : Fin 128 => s (ix2 j r)) (fun j => v (ix2 d j)) hs h0 rfl
  have hm : k0_pay38 s (k0_pay36 (F := Ideal)) (ix2 0 r) = max ⊥ (Finset.univ.fold max ⊥ fun j : Fin 128 => s (ix2 j r)) := by
    pointwise [k0_pay38, k0_pay36]
    rw [ofBits_neg_inf]
  rw [← hm] at h
  convert h using 1
  pointwise [k0_pay39, k0_pay36, k0_pay37]
  rw [ofBits_neg_inf]
  rfl

/-! ## One further update -/

theorem pay6_apply (m : FVec Ideal S1x1024 .f32) (s : FVec Ideal S1x1024x1024 .f32) (r : Fin 1024) :
    k0_pay6 m s (ix2 0 r) = max (m (ix2 0 r)) (Finset.univ.fold max ⊥ fun j : Fin 1024 => s (ix3 0 j r)) := by
  pointwise [k0_pay6]
  rw [ofBits_neg_inf]

theorem pay11_apply (m : FVec Ideal S1x1024 .f32) (a : FVec Ideal S144x1024 .f32) (v : FVec Ideal S144x1024 .bf16)
    (s : FVec Ideal S1x1024x1024 .f32) (d : Fin 144) (r : Fin 1024) :
    k0_pay11 m a v s s (ix2 d r)
      = Ideal.exp2 (m (ix2 0 r) - k0_pay6 m s (ix2 0 r)) * a (ix2 d r)
        + ∑ j, v (ix2 d j) * Ideal.exp2 (s (ix3 0 j r) - k0_pay6 m s (ix2 0 r)) := by
  pointwise [k0_pay11]
  rfl

/-- The running maximum after one further block. -/
abbrev upM (m : FVec Ideal S1x1024 .f32) (s : FVec Ideal S1x1024x1024 .f32) : FVec Ideal S1x1024 .f32 := k0_pay6 m s

/-- The running sum after one further block. -/
abbrev upA (m : FVec Ideal S1x1024 .f32) (a : FVec Ideal S144x1024 .f32) (v : FVec Ideal S144x1024 .bf16)
    (s : FVec Ideal S1x1024x1024 .f32) : FVec Ideal S144x1024 .f32 := k0_pay11 m a v s s

theorem up_scaled {m : FVec Ideal S1x1024 .f32} {a : FVec Ideal S144x1024 .f32} (v : FVec Ideal S144x1024 .bf16)
    {s : FVec Ideal S1x1024x1024 .f32} {r : Fin 1024} (hs : ∀ j, s (ix3 0 j r) ≠ ⊤) {d : Fin 144} {T : EReal}
    (h : Scaled (m (ix2 0 r)) (a (ix2 d r)) T) :
    Scaled (upM m s (ix2 0 r)) (upA m a v s (ix2 d r)) (T + ∑ j, v (ix2 d j) * Ideal.exp2 (s (ix3 0 j r))) := by
  have h' := Scaled.next (s := fun j : Fin 1024 => s (ix3 0 j r)) (fun j => v (ix2 d j)) hs h rfl
  rw [← pay6_apply] at h'
  rw [upA, pay11_apply]
  exact h'

/-! ## The last update, under the mask, and the quotient -/

theorem masked_ne_top {x r : Fin 1024} {s : EReal} (h : s ≠ ⊤) : masked x r s ≠ ⊤ := by
  unfold masked Scalar.select
  split
  · exact h
  · exact bot_ne_top

theorem pay52_scaled {m : FVec Ideal S1x1024 .f32} {a : FVec Ideal S144x1024 .f32} (v : FVec Ideal S144x1024 .bf16)
    {s : FVec Ideal S1x1024x1024 .f32} {r : Fin 1024} (hs : ∀ j, s (ix3 0 j r) ≠ ⊤) {T : Fin 144 → EReal}
    (h : ∀ d, Scaled (m (ix2 0 r)) (a (ix2 d r)) (T d)) :
    ∃ M : EReal, ∀ d, Scaled M (k0_pay52 m a v s s (ix2 d r))
      (T d + ∑ j, v (ix2 d j) * Ideal.exp2 (masked j r (s (ix3 0 j r)))) := by
  refine ⟨max (m (ix2 0 r)) (Finset.univ.fold max ⊥ fun j : Fin 1024 => masked j r (s (ix3 0 j r))), fun d => ?_⟩
  have h' := Scaled.next (s := fun j : Fin 1024 => masked j r (s (ix3 0 j r))) (fun j => v (ix2 d j))
    (fun j => masked_ne_top (hs j)) (h d) rfl
  convert h' using 1
  pointwise [k0_pay52]
  rw [ofBits_neg_inf]
  rfl

theorem pay53_scaled {m : FVec Ideal S1x1024 .f32} {a : FVec Ideal S144x1024 .f32} (v v' : FVec Ideal S144x1024 .bf16)
    {s : FVec Ideal S1x1024x1024 .f32} {s' : FVec Ideal S1024x1024 .f32} {r : Fin 1024} (hs : ∀ j, s (ix3 0 j r) ≠ ⊤)
    (hs' : ∀ j, s' (ix2 j r) ≠ ⊤) {T : Fin 144 → EReal} (h : ∀ d, Scaled (m (ix2 0 r)) (a (ix2 d r)) (T d)) :
    ∃ M : EReal, ∀ d, Scaled M (k0_pay53 m a s' v s s v' (ix2 d r))
      (T d + ∑ j, v (ix2 d j) * Ideal.exp2 (s (ix3 0 j r)) + ∑ j, v' (ix2 d j) * Ideal.exp2 (masked j r (s' (ix2 j r)))) := by
  refine ⟨max (upM m s (ix2 0 r)) (Finset.univ.fold max ⊥ fun j : Fin 1024 => masked j r (s' (ix2 j r))), fun d => ?_⟩
  have h' := Scaled.next (s := fun j : Fin 1024 => masked j r (s' (ix2 j r))) (fun j => v' (ix2 d j))
    (fun j => masked_ne_top (hs' j)) (up_scaled v hs (h d)) rfl
  convert h' using 1
  rw [upA, pay11_apply, upM, pay6_apply]
  pointwise [k0_pay53]
  rw [ofBits_neg_inf]
  rfl

theorem pay2_apply (a : FVec Ideal S144x1024 .f32) (r : Fin 1024) (d : Fin 128) :
    k0_pay2 a (ix2 r d) = Ideal.div (a (ix2 ⟨d.val, by omega⟩ r)) (a (ix2 ⟨128, by omega⟩ r)) := by
  generalize hX : Ideal.div (a (ix2 ⟨d.val, by omega⟩ r)) (a (ix2 ⟨128, by omega⟩ r)) = X
  pointwise [k0_pay2]
  exact hX

/-! ## Expressions that are written twice -/

theorem pay42_eq (q k a : FVec Ideal S1024x128 .bf16) : k0_pay42 (F := Ideal) (k0_pay29 q) k a = k0_pay41 (F := Ideal) (k0_pay28 q) k a := rfl
theorem pay4_eq (q k a : FVec Ideal S1024x128 .bf16) : k0_pay4 (F := Ideal) (k0_pay28 q) k a = k0_pay41 (F := Ideal) (k0_pay28 q) k a := rfl
theorem pay5_eq (q k a : FVec Ideal S1024x128 .bf16) : k0_pay5 (F := Ideal) (k0_pay29 q) k a = k0_pay41 (F := Ideal) (k0_pay28 q) k a := rfl
theorem pay13_eq (q k a : FVec Ideal S1024x128 .bf16) : k0_pay13 (F := Ideal) (k0_pay28 q) k a = k0_pay41 (F := Ideal) (k0_pay28 q) k a := rfl
theorem pay14_eq (q k a : FVec Ideal S1024x128 .bf16) : k0_pay14 (F := Ideal) (k0_pay29 q) k a = k0_pay41 (F := Ideal) (k0_pay28 q) k a := rfl
theorem pay35_eq (q : FVec Ideal S1024x128 .bf16) (k a : FVec Ideal S128x128 .bf16) : k0_pay35 (F := Ideal) q k a = k0_pay31 (F := Ideal) q k a := rfl
theorem pay33_eq (q : FVec Ideal S1024x128 .bf16) (k a : FVec Ideal S128x128 .bf16) :
    k0_pay33 q k a = k0_pay38 (k0_pay31 q k a) (k0_pay36 (F := Ideal)) := rfl
theorem pay34_eq (q : FVec Ideal S1024x128 .bf16) (k a : FVec Ideal S128x128 .bf16) (v : FVec Ideal S144x128 .bf16) :
    k0_pay34 q k a v = k0_pay39 (k0_pay31 q k a) (k0_pay36 (F := Ideal)) (k0_pay37 (F := Ideal)) v := rfl
theorem pay9_eq (m : FVec Ideal S1x1024 .f32) (a : FVec Ideal S144x1024 .f32) (v : FVec Ideal S144x1024 .bf16)
    (s s' : FVec Ideal S1x1024x1024 .f32) : k0_pay9 a v (k0_pay7 m s s') (k0_pay8 m s) = k0_pay11 m a v s s' := rfl
theorem pay10_eq (m : FVec Ideal S1x1024 .f32) (s : FVec Ideal S1x1024x1024 .f32) : k0_pay10 m s = k0_pay6 m s := rfl
theorem pay43_eq (m : FVec Ideal S1x1024 .f32) (s : FVec Ideal S1x1024x1024 .f32) : k0_pay43 m s = k0_pay6 m s := rfl
theorem pay45_eq (m : FVec Ideal S1x1024 .f32) (s : FVec Ideal S1x1024x1024 .f32) : k0_pay45 m s = k0_pay6 m s := rfl
theorem pay44_eq (m : FVec Ideal S1x1024 .f32) (a : FVec Ideal S144x1024 .f32) (v : FVec Ideal S144x1024 .bf16)
    (s s' : FVec Ideal S1x1024x1024 .f32) : k0_pay44 m a v s s' = k0_pay11 m a v s s' := rfl
theorem pay46_eq (m : FVec Ideal S1x1024 .f32) (a : FVec Ideal S144x1024 .f32) (v : FVec Ideal S144x1024 .bf16)
    (s s' : FVec Ideal S1x1024x1024 .f32) : k0_pay46 m a v s s' = k0_pay11 m a v s s' := rfl
theorem pay54_eq (a : FVec Ideal S144x1024 .f32) : k0_pay1 (k0_pay54 a) = k0_pay2 a := rfl

end Cert.Attn

end
-- ==== Proof.Value.lean ====
module

public import proofs.«01_k».proof.Proof.Launch
public import proofs.«01_k».proof.Proof.Updates
public import Idealize.ShloMosaic.Lib.WritesUnit

/-! What one grid point's output block holds, over the extended reals: for each query the sum of the values, each weighed by
    two to its key's score, over the sum of the weights. -/

@[expose] public section

set_option maxRecDepth 16384

noncomputable section

namespace Cert.Attn

open Cert.KernelIdeal Cert.KernelIdeal.Gen
open Idealize.ShloMosaic Idealize.ShloMosaic.TcCoe

/-! ## Boxes of the input blocks -/

/-- A row of a box of key rows. -/
theorem cut_keys (X : Vec Ideal S4096x128 .bf16) {off : Fin 2 → ℕ} (inb : ∀ a, off a + S1024x128.size a ≤ S4096x128.size a)
    (o : ℕ) (h : off = ![o, 0]) (j : Fin 1024) (x : Fin 128) (J : Fin 4096) (hJ : J.val = o + j.val) :
    cut X (Rect.unit (s := S4096x128) off S1024x128.size inb).toLoadRect (ix2 j x) = X (ix2 J x) := by
  subst h
  unfold cut
  congr 1
  funext a
  apply Fin.ext
  fin_cases a
  · simp [hJ]
  · simp

/-- A row of one half of the queries. -/
theorem cut_queries (X : Vec Ideal S2048x128 .bf16) {off : Fin 2 → ℕ} (inb : ∀ a, off a + S1024x128.size a ≤ S2048x128.size a)
    (o : ℕ) (h : off = ![o, 0]) (j : Fin 1024) (x : Fin 128) (J : Fin 2048) (hJ : J.val = o + j.val) :
    cut X (Rect.unit (s := S2048x128) off S1024x128.size inb).toLoadRect (ix2 j x) = X (ix2 J x) := by
  subst h
  unfold cut
  congr 1
  funext a
  apply Fin.ext
  fin_cases a
  · simp [hJ]
  · simp

/-- A column of a box of values. -/
theorem cut_values (X : Vec Ideal S144x4096 .bf16) {off : Fin 2 → ℕ} (inb : ∀ a, off a + S144x1024.size a ≤ S144x4096.size a)
    (o : ℕ) (h : off = ![0, o]) (e : Fin 144) (j : Fin 1024) (J : Fin 4096) (hJ : J.val = o + j.val) :
    cut X (Rect.unit (s := S144x4096) off S144x1024.size inb).toLoadRect (ix2 e j) = X (ix2 e J) := by
  subst h
  unfold cut
  congr 1
  funext a
  apply Fin.ext
  fin_cases a
  · simp
  · simp [hJ]

/-- The whole of an array. -/
theorem cut_whole {n k : ℕ} (X : Vec Ideal ⟨2, ![n, k]⟩ .bf16) (inb) :
    cut X (Rect.unit (s := ⟨2, ![n, k]⟩) ![0, 0] ![n, k] inb).toLoadRect = X := by
  funext y
  unfold cut
  congr 1
  funext a
  apply Fin.ext
  fin_cases a
  · simp
  · simp

/-! ## The weighted sums -/

section sums
variable (x0 : Vec Ideal S2048x128 .bf16) (x1 x2 : Vec Ideal S4096x128 .bf16) (x3 : Vec Ideal S144x4096 .bf16)
  (x4 x5 : Vec Ideal S128x128 .bf16) (x6 : Vec Ideal S144x128 .bf16)

/-- The score of key `j` for the block's query `r`. -/
def seqScore (r : Fin 2048) (j : Fin 4096) : EReal :=
  keyScore (fun x => x0 (ix2 r x)) (fun x => x1 (ix2 j x)) (fun x => x2 (ix2 j x))

/-- The score of meta key `j` for the block's query `r`. -/
def metaScore (r : Fin 2048) (j : Fin 128) : EReal :=
  keyScore (fun x => x0 (ix2 r x)) (fun x => x4 (ix2 j x)) (fun x => x5 (ix2 j x))

/-- The score under the causal mask, the block's first query being at position `p`. -/
def maskScore (p : ℕ) (r : Fin 2048) (j : Fin 4096) : EReal :=
  if j.val ≤ p + r.val then seqScore x0 x1 x2 r j else ⊥

/-- The meta keys' part of the weighted sum. -/
def metaSum (r : Fin 2048) (e : Fin 144) : EReal := ∑ j, x6 (ix2 e j) * Ideal.exp2 (metaScore x0 x4 x5 r j)

/-- A block of 1024 keys' part. -/
def blockSum (r : Fin 2048) (e : Fin 144) (b : Fin 4) : EReal :=
  ∑ j : Fin 1024, x3 (ix2 e ⟨1024 * b.val + j.val, by omega⟩) * Ideal.exp2 (seqScore x0 x1 x2 r ⟨1024 * b.val + j.val, by omega⟩)

/-- The weighted sum of row `e` of the values over all keys. -/
def total (p : ℕ) (r : Fin 2048) (e : Fin 144) : EReal :=
  metaSum x0 x4 x5 x6 r e + ∑ j, x3 (ix2 e j) * Ideal.exp2 (maskScore x0 x1 x2 p r j)

/-- The query `r` of the first or of the second half. -/
abbrev rowTop (r : Fin 1024) : Fin 2048 := ⟨r.val, by omega⟩
abbrev rowLow (r : Fin 1024) : Fin 2048 := ⟨1024 + r.val, by omega⟩

/-- The loop's weighted sum: the meta keys and, in the second block of queries, the first two blocks of keys. -/
def carrySum (q : ℕ) (r : Fin 2048) (e : Fin 144) : EReal :=
  if q = 0 then metaSum x0 x4 x5 x6 r e
  else metaSum x0 x4 x5 x6 r e + blockSum x0 x1 x2 x3 r e 0 + blockSum x0 x1 x2 x3 r e 1

end sums

/-- A sum over 4096 keys is the sum over the four blocks. -/
theorem sum_blocks (f : Fin 4096 → EReal) :
    ∑ j, f j = ∑ b : Fin 4, ∑ j : Fin 1024, f ⟨1024 * b.val + j.val, by omega⟩ := by
  rw [← (finProdFinEquiv (m := 4) (n := 1024)).sum_comp, Fintype.sum_prod_type]
  refine Finset.sum_congr rfl fun b _ => Finset.sum_congr rfl fun j _ => ?_
  congr 1
  apply Fin.ext
  simp [finProdFinEquiv]
  ring

/-! ## The scores that the buffers hold -/

/-- A buffer's score. -/
theorem buffer_score (x0 : Vec Ideal S2048x128 .bf16) (x1 x2 : Vec Ideal S4096x128 .bf16)
    {off : Fin 2 → ℕ} (inb : ∀ a, off a + S1024x128.size a ≤ S2048x128.size a) (o : ℕ) (h : off = ![o, 0])
    {off' : Fin 2 → ℕ} (inb' : ∀ a, off' a + S1024x128.size a ≤ S4096x128.size a) (o' : ℕ) (h' : off' = ![o', 0])
    (r : Fin 1024) (j : Fin 1024) (R : Fin 2048) (hR : R.val = o + r.val) (J : Fin 4096) (hJ : J.val = o' + j.val) :
    k0_pay41 (F := Ideal) (k0_pay28 (cut x0 (Rect.unit (s := S2048x128) off S1024x128.size inb).toLoadRect))
      (cut x1 (Rect.unit (s := S4096x128) off' S1024x128.size inb').toLoadRect)
      (cut x2 (Rect.unit (s := S4096x128) off' S1024x128.size inb').toLoadRect) (ix3 0 j r) = seqScore x0 x1 x2 R J := by
  rw [pay41_apply]
  unfold seqScore
  congr 1
  · funext x; exact cut_queries x0 inb o h r x R hR
  · funext x; exact cut_keys x1 inb' o' h' j x J hJ
  · funext x; exact cut_keys x2 inb' o' h' j x J hJ

/-! ## The loop's state -/

section state
variable (x0 : Vec Ideal S2048x128 .bf16) (x1 x2 : Vec Ideal S4096x128 .bf16) (x3 : Vec Ideal S144x4096 .bf16)
  (x4 x5 : Vec Ideal S128x128 .bf16) (x6 : Vec Ideal S144x128 .bf16)

/-- The meta keys' scores. -/
theorem meta_score {off : Fin 2 → ℕ} (inb : ∀ a, off a + S1024x128.size a ≤ S2048x128.size a) (o : ℕ) (h : off = ![o, 0])
    (r : Fin 1024) (j : Fin 128) (R : Fin 2048) (hR : R.val = o + r.val) :
    k0_pay31 (F := Ideal) (cut x0 (Rect.unit (s := S2048x128) off S1024x128.size inb).toLoadRect) x4 x5 (ix2 j r)
      = metaScore x0 x4 x5 R j := by
  rw [pay31_apply]
  unfold metaScore
  congr 1
  funext x
  exact cut_queries x0 inb o h r x R hR

/-- What the two halves' running values are, scaled, and what the score buffer holds. -/
structure Holds (q : ℕ) (hq : q < 2) (st : State Ideal) (r : Fin 1024) : Prop where
  top : ∀ e, Scaled (st.1.1 (ix2 0 r)) (st.1.2.1 (ix2 e r)) (carrySum x0 x1 x2 x3 x4 x5 x6 q (rowTop r) e)
  low : ∀ e, Scaled (st.1.2.2.1 (ix2 0 r)) (st.1.2.2.2 (ix2 e r)) (carrySum x0 x1 x2 x3 x4 x5 x6 q (rowLow r) e)
  buf0 : ∀ j : Fin 1024, st.2.1 (ix3 0 j r) = seqScore x0 x1 x2 (rowTop r) ⟨2048 * q + j.val, by omega⟩
  buf1 : ∀ j : Fin 1024, st.2.2 (ix3 0 j r) = seqScore x0 x1 x2 (rowLow r) ⟨2048 * q + j.val, by omega⟩

theorem start_holds (hM : ∀ r j, metaScore x0 x4 x5 r j ≠ ⊤) (hB : ∀ r j, metaScore x0 x4 x5 r j ≠ ⊥) (r : Fin 1024) :
    Holds x0 x1 x2 x3 x4 x5 x6 0 (by omega) (metaCarry x0 x4 x5 x6, before x0 x1 x2) r := by
  have e4 : cut x4 (Rect.unit (s := S128x128) ![0, 0] S128x128.size inb_S128x128_S128x128_0_0).toLoadRect = x4 := cut_whole x4 _
  have e5 : cut x5 (Rect.unit (s := S128x128) ![0, 0] S128x128.size inb_S128x128_S128x128_0_0).toLoadRect = x5 := cut_whole x5 _
  have e6 : cut x6 (Rect.unit (s := S144x128) ![0, 0] S144x128.size inb_S144x128_S144x128_0_0).toLoadRect = x6 := cut_whole x6 _
  have ht : ∀ j, k0_pay31 (F := Ideal) (cut x0 top.toLoadRect) x4 x5 (ix2 j r) = metaScore x0 x4 x5 (rowTop r) j :=
    fun j => meta_score x0 x4 x5 _ 0 rfl r j _ (by simp)
  have hl : ∀ j, k0_pay31 (F := Ideal) (cut x0 low.toLoadRect) x4 x5 (ix2 j r) = metaScore x0 x4 x5 (rowLow r) j :=
    fun j => meta_score x0 x4 x5 _ 1024 rfl r j _ rfl
  refine ⟨fun e => ?_, fun e => ?_, fun j => ?_, fun j => ?_⟩
  · have h := pay39_scaled (k0_pay31 (F := Ideal) (cut x0 top.toLoadRect) x4 x5) x6 r
      (fun j => by rw [ht]; exact hM _ _) (by rw [ht]; exact hB _ _) e
    simp only [ht] at h
    simp only [metaCarry, e4, e5, e6, carrySum, if_true]
    rw [pay33_eq, pay34_eq]
    exact h
  · have h := pay39_scaled (k0_pay31 (F := Ideal) (cut x0 low.toLoadRect) x4 x5) x6 r
      (fun j => by rw [hl]; exact hM _ _) (by rw [hl]; exact hB _ _) e
    simp only [hl] at h
    simp only [metaCarry, e4, e5, e6, carrySum, if_true]
    rw [pay35_eq]
    exact h
  · exact buffer_score x0 x1 x2 _ 0 rfl _ 0 rfl r j _ (by simp) _ rfl
  · exact buffer_score x0 x1 x2 _ 1024 rfl _ 0 rfl r j _ rfl _ rfl

theorem step_holds (hS : ∀ r j, seqScore x0 x1 x2 r j ≠ ⊤) (r : Fin 1024) (i : grid0.Coords)
    (k : Fin (k0_t1_loop i).trips) (hk : k.val = 0) (st : State Ideal)
    (h : Holds x0 x1 x2 x3 x4 x5 x6 0 (by omega) st r) :
    Holds x0 x1 x2 x3 x4 x5 x6 1 (by omega)
      (step i (k0_pay28 (cut x0 Attn.top.toLoadRect)) (k0_pay29 (cut x0 Attn.low.toLoadRect)) x1 x2 x3 k st) r := by
  have o1 : k0_off1 i k 1#32 = ![1024, 0] := by rw [show (1#32) = BitVec.ofNat 32 (1 + (0 : Fin 2).val) from rfl, k0_off1_eq, hk]; rfl
  have o2 : k0_off1 i k 2#32 = ![2048, 0] := by rw [show (2#32) = BitVec.ofNat 32 (1 + (1 : Fin 2).val) from rfl, k0_off1_eq, hk]; rfl
  have o3 : k0_off2 i k = ![0, 0] := by rw [k0_off2_eq, hk]
  have o4 : k0_off3 i k = ![0, 1024] := by rw [k0_off3_eq, hk]
  have vA : ∀ e (j : Fin 1024), cut x3 (valsA i k).toLoadRect (ix2 e j) = x3 (ix2 e ⟨1024 * (0 : Fin 4).val + j.val, by simp; omega⟩) :=
    fun e j => cut_values x3 _ 0 o3 e j _ rfl
  have vB : ∀ e (j : Fin 1024), cut x3 (valsB i k).toLoadRect (ix2 e j) = x3 (ix2 e ⟨1024 * (1 : Fin 4).val + j.val, by simp; omega⟩) :=
    fun e j => cut_values x3 _ 1024 o4 e j _ rfl
  have t0 : ∀ j : Fin 1024, k0_pay41 (F := Ideal) (k0_pay28 (cut x0 Attn.top.toLoadRect)) (cut x1 (keysA i k).toLoadRect) (cut x2 (keysA i k).toLoadRect)
      (ix3 0 j r) = seqScore x0 x1 x2 (rowTop r) ⟨1024 * (1 : Fin 4).val + j.val, by simp; omega⟩ :=
    fun j => buffer_score x0 x1 x2 _ 0 rfl _ 1024 o1 r j _ (by simp) _ rfl
  have t1 : ∀ j : Fin 1024, k0_pay41 (F := Ideal) (k0_pay28 (cut x0 Attn.low.toLoadRect)) (cut x1 (keysA i k).toLoadRect) (cut x2 (keysA i k).toLoadRect)
      (ix3 0 j r) = seqScore x0 x1 x2 (rowLow r) ⟨1024 * (1 : Fin 4).val + j.val, by simp; omega⟩ :=
    fun j => buffer_score x0 x1 x2 _ 1024 rfl _ 1024 o1 r j _ rfl _ rfl
  refine ⟨fun e => ?_, fun e => ?_, fun j => ?_, fun j => ?_⟩
  · have g := up_scaled (s := st.2.1) (cut x3 (valsA i k).toLoadRect) (fun j => by rw [h.buf0]; exact hS _ _) (h.top e)
    have g' := up_scaled (s := k0_pay41 (F := Ideal) (k0_pay28 (cut x0 Attn.top.toLoadRect)) (cut x1 (keysA i k).toLoadRect) (cut x2 (keysA i k).toLoadRect))
      (cut x3 (valsB i k).toLoadRect) (fun j => by rw [t0]; exact hS _ _) g
    simp only [h.buf0, t0, vA, vB] at g'
    exact g'
  · have g := up_scaled (s := st.2.2) (cut x3 (valsA i k).toLoadRect) (fun j => by rw [h.buf1]; exact hS _ _) (h.low e)
    have g' := up_scaled (s := k0_pay41 (F := Ideal) (k0_pay28 (cut x0 Attn.low.toLoadRect)) (cut x1 (keysA i k).toLoadRect) (cut x2 (keysA i k).toLoadRect))
      (cut x3 (valsB i k).toLoadRect) (fun j => by rw [t1]; exact hS _ _) g
    simp only [h.buf1, t1, vA, vB] at g'
    exact g'
  · exact buffer_score x0 x1 x2 _ 0 rfl _ 2048 o2 r j _ (by simp) _ rfl
  · exact buffer_score x0 x1 x2 _ 1024 rfl _ 2048 o2 r j _ rfl _ rfl

/-- The loop runs once in the second block of queries and not at all in the first. -/
theorem loop_trips : ∀ i : grid0.Coords, (k0_t1_loop i).trips = (i 2).val := by decide +kernel

theorem coord_lt : ∀ i : grid0.Coords, (i 2).val < 2 := by decide +kernel

theorem after_holds (hS : ∀ r j, seqScore x0 x1 x2 r j ≠ ⊤) (hM : ∀ r j, metaScore x0 x4 x5 r j ≠ ⊤)
    (hB : ∀ r j, metaScore x0 x4 x5 r j ≠ ⊥) (r : Fin 1024)
    (i : grid0.Coords) : Holds x0 x1 x2 x3 x4 x5 x6 (i 2).val (coord_lt i) (after i x0 x1 x2 x3 x4 x5 x6) r := by
  have h0 := start_holds x0 x1 x2 x3 x4 x5 x6 hM hB r
  have hlt := coord_lt i
  suffices H : ∀ (q : ℕ) (hq : q < 2), (k0_t1_loop i).trips = q →
      Holds x0 x1 x2 x3 x4 x5 x6 q hq (after i x0 x1 x2 x3 x4 x5 x6) r from H _ _ (loop_trips i)
  intro q hq ht
  unfold after
  dsimp only
  by_cases h : 0 < (k0_t1_loop i).trips
  · rw [dif_pos h]
    obtain rfl : q = 1 := by omega
    exact step_holds x0 x1 x2 x3 x4 x5 x6 hS r i ⟨0, h⟩ rfl _ h0
  · rw [dif_neg h]
    obtain rfl : q = 0 := by omega
    exact h0

/-! ## The mask -/

theorem masked_eq (x r : Fin 1024) (s : EReal) : masked x r s = if x.val ≤ r.val then s else ⊥ := by
  unfold masked Scalar.select IntOp.cmpi
  have hx := x.isLt
  have hr := r.isLt
  have : (BitVec.ofNat 32 x.val).sle (BitVec.ofNat 32 r.val) = decide (x.val ≤ r.val) := by
    rw [BitVec.sle_eq_decide, BitVec.toInt_eq_toNat_of_lt, BitVec.toInt_eq_toNat_of_lt]
    · simp [BitVec.toNat_ofNat, Nat.mod_eq_of_lt (show x.val < 4294967296 by omega), Nat.mod_eq_of_lt (show r.val < 4294967296 by omega)]
    · simp [BitVec.toNat_ofNat]; omega
    · simp [BitVec.toNat_ofNat]; omega
  simp only [this]
  by_cases h : x.val ≤ r.val <;> simp [h]

/-- A block's part under the mask. -/
def maskSum (p : ℕ) (r : Fin 2048) (e : Fin 144) (b : Fin 4) : EReal :=
  ∑ j : Fin 1024, x3 (ix2 e ⟨1024 * b.val + j.val, by omega⟩) * Ideal.exp2 (maskScore x0 x1 x2 p r ⟨1024 * b.val + j.val, by omega⟩)

theorem maskSum_full {p : ℕ} {r : Fin 2048} (e : Fin 144) {b : Fin 4} (h : 1024 * b.val + 1023 ≤ p + r.val) :
    maskSum x0 x1 x2 x3 p r e b = blockSum x0 x1 x2 x3 r e b := by
  refine Finset.sum_congr rfl fun j _ => ?_
  rw [maskScore, if_pos (by show 1024 * b.val + j.val ≤ _; omega)]

theorem maskSum_none {p : ℕ} {r : Fin 2048} (e : Fin 144) {b : Fin 4} (h : p + r.val < 1024 * b.val) :
    maskSum x0 x1 x2 x3 p r e b = 0 := by
  refine Finset.sum_eq_zero fun j _ => ?_
  rw [maskScore, if_neg (by show ¬ 1024 * b.val + j.val ≤ _; omega)]
  have : Ideal.exp2 ⊥ = 0 := by rw [exp2_eq_wt bot_ne_top, wt_bot]; rfl
  rw [this, mul_zero]

theorem maskSum_diag {p : ℕ} {r : Fin 2048} {r' : Fin 1024} (e : Fin 144) {b : Fin 4} (h : p + r.val = 1024 * b.val + r'.val) :
    maskSum x0 x1 x2 x3 p r e b = ∑ j : Fin 1024, x3 (ix2 e ⟨1024 * b.val + j.val, by omega⟩)
      * Ideal.exp2 (masked j r' (seqScore x0 x1 x2 r ⟨1024 * b.val + j.val, by omega⟩)) := by
  refine Finset.sum_congr rfl fun j _ => ?_
  rw [masked_eq, maskScore]
  congr 2
  refine if_congr ?_ rfl rfl
  show 1024 * b.val + j.val ≤ _ ↔ _
  omega

theorem total_eq (p : ℕ) (r : Fin 2048) (e : Fin 144) : total x0 x1 x2 x3 x4 x5 x6 p r e
    = metaSum x0 x4 x5 x6 r e + (maskSum x0 x1 x2 x3 p r e 0 + maskSum x0 x1 x2 x3 p r e 1 + maskSum x0 x1 x2 x3 p r e 2
      + maskSum x0 x1 x2 x3 p r e 3) := by
  unfold total
  rw [sum_blocks, Fin.sum_univ_four]
  rfl

/-- The first half's weighted sum is the last update's. -/
theorem total_top {q : ℕ} (hq : q < 2) (r : Fin 1024) (e : Fin 144) :
    carrySum x0 x1 x2 x3 x4 x5 x6 q (rowTop r) e + ∑ j : Fin 1024, x3 (ix2 e ⟨2048 * q + j.val, by omega⟩)
      * Ideal.exp2 (masked j r (seqScore x0 x1 x2 (rowTop r) ⟨2048 * q + j.val, by omega⟩))
    = total x0 x1 x2 x3 x4 x5 x6 (2048 * q) (rowTop r) e := by
  have hr := r.isLt
  rw [total_eq]
  obtain rfl | rfl : q = 0 ∨ q = 1 := by omega
  · rw [maskSum_diag x0 x1 x2 x3 (r' := r) e (b := 0) (by simp), maskSum_none x0 x1 x2 x3 e (b := 1) (by simp),
      maskSum_none x0 x1 x2 x3 e (b := 2) (by simp; omega), maskSum_none x0 x1 x2 x3 e (b := 3) (by simp; omega), add_zero, add_zero, add_zero]
    rfl
  · rw [maskSum_full x0 x1 x2 x3 e (b := 0) (by simp; omega), maskSum_full x0 x1 x2 x3 e (b := 1) (by simp; omega),
      maskSum_diag x0 x1 x2 x3 (r' := r) e (b := 2) (by simp), maskSum_none x0 x1 x2 x3 e (b := 3) (by simp; omega), add_zero,
      ← add_assoc, ← add_assoc]
    rfl

/-- The second half's likewise. -/
theorem total_low {q : ℕ} (hq : q < 2) (r : Fin 1024) (e : Fin 144) :
    carrySum x0 x1 x2 x3 x4 x5 x6 q (rowLow r) e
      + ∑ j : Fin 1024, x3 (ix2 e ⟨2048 * q + j.val, by omega⟩) * Ideal.exp2 (seqScore x0 x1 x2 (rowLow r) ⟨2048 * q + j.val, by omega⟩)
      + ∑ j : Fin 1024, x3 (ix2 e ⟨2048 * q + 1024 + j.val, by omega⟩)
        * Ideal.exp2 (masked j r (seqScore x0 x1 x2 (rowLow r) ⟨2048 * q + 1024 + j.val, by omega⟩))
    = total x0 x1 x2 x3 x4 x5 x6 (2048 * q) (rowLow r) e := by
  have hr := r.isLt
  rw [total_eq]
  obtain rfl | rfl : q = 0 ∨ q = 1 := by omega
  · rw [maskSum_full x0 x1 x2 x3 e (b := 0) (by simp; omega), maskSum_diag x0 x1 x2 x3 (r' := r) e (b := 1) (by simp),
      maskSum_none x0 x1 x2 x3 e (b := 2) (by simp; omega), maskSum_none x0 x1 x2 x3 e (b := 3) (by simp; omega), add_zero, add_zero, ← add_assoc]
    rfl
  · rw [maskSum_full x0 x1 x2 x3 e (b := 0) (by simp; omega), maskSum_full x0 x1 x2 x3 e (b := 1) (by simp; omega),
      maskSum_full x0 x1 x2 x3 e (b := 2) (by simp; omega), maskSum_diag x0 x1 x2 x3 (r' := r) e (b := 3) (by simp; omega),
      ← add_assoc, ← add_assoc, ← add_assoc]
    rfl

/-! ## The block -/

/-- The scores and the values of all keys, the meta keys first. -/
def allScore (p : ℕ) (r : Fin 2048) : Fin 128 ⊕ Fin 4096 → EReal :=
  Sum.elim (metaScore x0 x4 x5 r) (maskScore x0 x1 x2 p r)
def allValue (e : Fin 144) : Fin 128 ⊕ Fin 4096 → EReal := Sum.elim (fun j => x6 (ix2 e j)) (fun j => x3 (ix2 e j))

theorem total_all (p : ℕ) (r : Fin 2048) (e : Fin 144) : total x0 x1 x2 x3 x4 x5 x6 p r e
    = ∑ k, allValue x3 x6 e k * Ideal.exp2 (allScore x0 x1 x2 x4 x5 p r k) := by
  rw [Fintype.sum_sum_type]
  rfl

variable {x0 x1 x2 x3 x4 x5 x6}

theorem allScore_ne_top (hS : ∀ r j, seqScore x0 x1 x2 r j ≠ ⊤) (hM : ∀ r j, metaScore x0 x4 x5 r j ≠ ⊤) (p : ℕ) (r : Fin 2048)
    (k : Fin 128 ⊕ Fin 4096) : allScore x0 x1 x2 x4 x5 p r k ≠ ⊤ := by
  rcases k with k | k
  · exact hM r k
  · show maskScore x0 x1 x2 p r k ≠ ⊤
    unfold maskScore
    split
    · exact hS r k
    · exact bot_ne_top

/-- The sum of the weights is above zero. -/
theorem weights_pos (hS : ∀ r j, seqScore x0 x1 x2 r j ≠ ⊤) (hM : ∀ r j, metaScore x0 x4 x5 r j ≠ ⊤) (hB : ∀ r j, metaScore x0 x4 x5 r j ≠ ⊥)
    (p : ℕ) (r : Fin 2048) : 0 < ∑ k, wt (allScore x0 x1 x2 x4 x5 p r k) :=
  Finset.sum_pos' (fun k _ => wt_nonneg _) ⟨Sum.inl 0, Finset.mem_univ _, wt_pos (hM r 0) (hB r 0)⟩

/-- The row of ones sums the weights. -/
theorem total_ones (hS : ∀ r j, seqScore x0 x1 x2 r j ≠ ⊤) (hM : ∀ r j, metaScore x0 x4 x5 r j ≠ ⊤)
    (h3 : ∀ j, x3 (ix2 ⟨128, by omega⟩ j) = (1 : EReal)) (h6 : ∀ j, x6 (ix2 ⟨128, by omega⟩ j) = (1 : EReal)) (p : ℕ) (r : Fin 2048) :
    total x0 x1 x2 x3 x4 x5 x6 p r ⟨128, by omega⟩ = ((∑ k, wt (allScore x0 x1 x2 x4 x5 p r k) : ℝ) : EReal) := by
  rw [total_all, ← sum_coe]
  refine Finset.sum_congr rfl fun k _ => ?_
  have : allValue x3 x6 ⟨128, by omega⟩ k = 1 := by
    rcases k with k | k
    · exact h6 k
    · exact h3 k
  rw [this, one_mul, exp2_eq_wt (allScore_ne_top hS hM p r k)]

/-- An entry of the output: the weighted sum of the values over the sum of the weights. -/
def entry (x0 : Vec Ideal S2048x128 .bf16) (x1 x2 : Vec Ideal S4096x128 .bf16) (x3 : Vec Ideal S144x4096 .bf16)
    (x4 x5 : Vec Ideal S128x128 .bf16) (x6 : Vec Ideal S144x128 .bf16) (p : ℕ) (r : Fin 2048) (d : Fin 128) : EReal :=
  (∑ k, allValue x3 x6 ⟨d.val, by omega⟩ k * Ideal.exp2 (allScore x0 x1 x2 x4 x5 p r k))
    * ((1 / ∑ k, wt (allScore x0 x1 x2 x4 x5 p r k) : ℝ) : EReal)

section entries
variable (hS : ∀ r j, seqScore x0 x1 x2 r j ≠ ⊤) (hM : ∀ r j, metaScore x0 x4 x5 r j ≠ ⊤) (hB : ∀ r j, metaScore x0 x4 x5 r j ≠ ⊥)
  (h3 : ∀ j, x3 (ix2 ⟨128, by omega⟩ j) = (1 : EReal)) (h6 : ∀ j, x6 (ix2 ⟨128, by omega⟩ j) = (1 : EReal))
include hS hM hB h3 h6

theorem outTop_entry (i : grid0.Coords) (r : Fin 1024) (d : Fin 128) :
    outTop i x0 x1 x2 x3 x4 x5 x6 (ix2 r d) = entry x0 x1 x2 x3 x4 x5 x6 (2048 * (i 2).val) (rowTop r) d := by
  have h := after_holds x0 x1 x2 x3 x4 x5 x6 hS hM hB r i
  have hv : ∀ e (j : Fin 1024), cut x3 (Rect.unit (s := S144x4096) (k0_off8 i) S144x1024.size (k0_off8_inb i)).toLoadRect (ix2 e j)
      = x3 (ix2 e ⟨2048 * (i 2).val + j.val, by have := coord_lt i; omega⟩) :=
    fun e j => cut_values x3 _ _ (k0_off8_eq i) e j _ rfl
  obtain ⟨M, hA⟩ := pay52_scaled (cut x3 (Rect.unit (s := S144x4096) (k0_off8 i) S144x1024.size (k0_off8_inb i)).toLoadRect)
    (s := (after i x0 x1 x2 x3 x4 x5 x6).2.1) (r := r) (fun j => by rw [h.buf0]; exact hS _ _) h.top
  simp only [hv, h.buf0] at hA
  have hT := fun e => total_top x0 x1 x2 x3 x4 x5 x6 (coord_lt i) r e
  simp only [hT] at hA
  have hone := hA ⟨128, by omega⟩
  rw [total_ones hS hM h3 h6] at hone
  unfold outTop
  dsimp only
  rw [pay54_eq, pay2_apply, Scaled.quot (weights_pos hS hM hB _ _) (hA ⟨d.val, by omega⟩) hone, total_all]
  rfl

theorem outLow_entry (i : grid0.Coords) (r : Fin 1024) (d : Fin 128) :
    outLow i x0 x1 x2 x3 x4 x5 x6 (ix2 r d) = entry x0 x1 x2 x3 x4 x5 x6 (2048 * (i 2).val) (rowLow r) d := by
  have h := after_holds x0 x1 x2 x3 x4 x5 x6 hS hM hB r i
  have hv : ∀ e (j : Fin 1024), cut x3 (Rect.unit (s := S144x4096) (k0_off8 i) S144x1024.size (k0_off8_inb i)).toLoadRect (ix2 e j)
      = x3 (ix2 e ⟨2048 * (i 2).val + j.val, by have := coord_lt i; omega⟩) :=
    fun e j => cut_values x3 _ _ (k0_off8_eq i) e j _ rfl
  have hv' : ∀ e (j : Fin 1024), cut x3 (Rect.unit (s := S144x4096) (k0_off9 i) S144x1024.size (k0_off9_inb i)).toLoadRect (ix2 e j)
      = x3 (ix2 e ⟨2048 * (i 2).val + 1024 + j.val, by have := coord_lt i; omega⟩) :=
    fun e j => cut_values x3 _ _ (k0_off9_eq i) e j _ rfl
  have hs' : ∀ j : Fin 1024, k0_pay51 (F := Ideal) (k0_pay29 (cut x0 Attn.low.toLoadRect))
      (cut x1 (Rect.unit (s := S4096x128) (k0_off7 i) S1024x128.size (k0_off7_inb i)).toLoadRect)
      (cut x2 (Rect.unit (s := S4096x128) (k0_off7 i) S1024x128.size (k0_off7_inb i)).toLoadRect) (ix2 j r)
      = seqScore x0 x1 x2 (rowLow r) ⟨2048 * (i 2).val + 1024 + j.val, by have := coord_lt i; omega⟩ := fun j => by
    rw [pay51_apply]
    unfold seqScore
    congr 1
    · funext x; exact cut_queries x0 _ 1024 rfl r x _ rfl
    · funext x; exact cut_keys x1 _ _ (k0_off7_eq i) j x _ rfl
    · funext x; exact cut_keys x2 _ _ (k0_off7_eq i) j x _ rfl
  obtain ⟨M, hA⟩ := pay53_scaled (cut x3 (Rect.unit (s := S144x4096) (k0_off8 i) S144x1024.size (k0_off8_inb i)).toLoadRect)
    (cut x3 (Rect.unit (s := S144x4096) (k0_off9 i) S144x1024.size (k0_off9_inb i)).toLoadRect)
    (s := (after i x0 x1 x2 x3 x4 x5 x6).2.2)
    (s' := k0_pay51 (F := Ideal) (k0_pay29 (cut x0 Attn.low.toLoadRect))
      (cut x1 (Rect.unit (s := S4096x128) (k0_off7 i) S1024x128.size (k0_off7_inb i)).toLoadRect)
      (cut x2 (Rect.unit (s := S4096x128) (k0_off7 i) S1024x128.size (k0_off7_inb i)).toLoadRect))
    (r := r) (fun j => by rw [h.buf1]; exact hS _ _) (fun j => by rw [hs']; exact hS _ _) h.low
  simp only [hv, hv', hs', h.buf1] at hA
  have hT := fun e => total_low x0 x1 x2 x3 x4 x5 x6 (coord_lt i) r e
  simp only [hT] at hA
  have hone := hA ⟨128, by omega⟩
  rw [total_ones hS hM h3 h6] at hone
  unfold outLow
  dsimp only
  rw [pay2_apply, Scaled.quot (weights_pos hS hM hB _ _) (hA ⟨d.val, by omega⟩) hone, total_all]
  rfl

/-- The block that a grid point leaves, entry by entry. -/
theorem block_entry (i : grid0.Coords) (r : Fin 2048) (d : Fin 128) :
    outBlock (pieces i x0 x1 x2 x3 x4 x5 x6) (ix2 r d) = entry x0 x1 x2 x3 x4 x5 x6 (2048 * (i 2).val) r d := by
  unfold outBlock pieces
  by_cases hr : r.val < 1024
  · refine (View.read_writes_cons_rows_of_not_mem (o := 1024) (W := 1024) outView outView.junk (d := ![2048, 128]) _ _ _ (ix2 r d) rfl rfl (Or.inl hr)).trans ?_
    refine (View.read_writes_cons_rows_of_mem (o := 0) outView outView.junk (d := ![2048, 128]) _ _ _ (ix2 r d)
      (ix2 (⟨r.val, hr⟩ : Fin 1024) d) rfl (by simp) rfl).trans ?_
    exact outTop_entry hS hM hB h3 h6 i ⟨r.val, hr⟩ d
  · refine (View.read_writes_cons_rows_of_mem (o := 1024) outView outView.junk (d := ![2048, 128]) _ _ _ (ix2 r d)
      (ix2 (⟨r.val - 1024, by omega⟩ : Fin 1024) d) rfl (by simp; omega) rfl).trans ?_
    rw [outLow_entry hS hM hB h3 h6]
    congr 1
    apply Fin.ext
    show 1024 + (r.val - 1024) = r.val
    omega

end entries

end state

end Cert.Attn

end
-- ==== Proof.RefValue.lean ====
module

public import proofs.«01_k».proof.Proof.Gen.ReferenceIdeal.Read
public import proofs.«01_k».proof.Proof.Softmax
public import Idealize.ShloMosaic.Lib.Pointwise

/-! The reference's value, entry by entry: the softmax over the meta keys and the sequence's keys. -/

@[expose] public section

set_option maxRecDepth 16384

noncomputable section

namespace Cert.Attn.Ref

open Cert.ReferenceIdeal Cert.ReferenceIdeal.Gen Cert.ReferenceIdeal.Read
open Idealize.ShloMosaic Idealize.ShloMosaic.TcCoe

/-- The keys, the meta keys first. -/
def key : Fin 128 ⊕ Fin 4096 ≃ Fin 4224 := finSumFinEquiv

variable (x0 : FVec Ideal S16384x2048 .bf16) (x1 : FVec Ideal S16384x1024 .bf16) (x2 : FVec Ideal S4608x4096 .bf16)
  (x3 : FVec Ideal S128x2048 .bf16) (x4 : FVec Ideal S128x1024 .bf16) (x5 : FVec Ideal S1152x128 .bf16)

theorem key_inl (j : Fin 128) : (key (.inl j)).val = j.val := rfl
theorem key_inr (j : Fin 4096) : (key (.inr j)).val = 128 + j.val := rfl

/-- A query's lane. -/
theorem query_apply (b : Fin 4) (h : Fin 8) (t : Fin 4096) (x : Fin 128) :
    val_main_v4 (F := Ideal) x0 (ix4 b h t x)
      = x0 (ix2 ⟨4096 * b.val + t.val, by omega⟩ ⟨128 * h.val + x.val, by omega⟩) := by
  rw [val_main_v4_apply, val_main_v3_apply, val_main_v2_apply, val_main_v1_apply]
  refine congrArg x0 (funext fun a => Fin.ext ?_)
  fin_cases a
  · show (((b.val * 4096 + t.val) * 8 + h.val) * 128 + x.val) / 1024 = 4096 * b.val + t.val
    omega
  · show (((b.val * 4096 + t.val) * 8 + h.val) * 128 + x.val) % 1024 = 128 * h.val + x.val
    omega

/-- A meta key's lane. -/
theorem keyMeta_apply (b : Fin 4) (h : Fin 8) (j : Fin 128) (x : Fin 128) :
    val_main_v15 (F := Ideal) x0 x3 (ix4 b h (key (.inl j)) x)
      = x3 (ix2 j ⟨1024 + (128 * h.val + x.val), by omega⟩) := by
  unfold val_main_v15
  rw [concatenate_pair_apply_left (t := S4x8x4224x128) (s₁ := S4x8x128x128) (s₂ := S4x8x4096x128) 2 _ _ _ (ix4 b h (key (.inl j)) x) rfl (ix4 b h j x) (fun a => by fin_cases a <;> rfl),
    val_main_v14_apply, val_main_v13_apply, val_main_v8_apply, val_main_v7_apply, val_main_v6_apply, val_main_v5_apply]
  refine congrArg x3 (funext fun a => Fin.ext ?_)
  fin_cases a
  · show ((j.val * 8 + h.val) * 128 + x.val) / 1024 = j.val
    omega
  · show 1024 + ((j.val * 8 + h.val) * 128 + x.val) % 1024 = 1024 + (128 * h.val + x.val)
    omega

/-- A key's lane. -/
theorem keySeq_apply (b : Fin 4) (h : Fin 8) (j : Fin 4096) (x : Fin 128) :
    val_main_v15 (F := Ideal) x0 x3 (ix4 b h (key (.inr j)) x)
      = x0 (ix2 ⟨4096 * b.val + j.val, by omega⟩ ⟨1024 + (128 * h.val + x.val), by omega⟩) := by
  unfold val_main_v15
  rw [concatenate_pair_apply_right (t := S4x8x4224x128) (s₁ := S4x8x128x128) (s₂ := S4x8x4096x128) 2 _ _ _ (ix4 b h (key (.inr j)) x) rfl rfl (ix4 b h j x)
      (fun a ha => by fin_cases a <;> first | rfl | exact absurd rfl ha)
      (by show j.val + 128 = 128 + j.val; omega),
    val_main_v12_apply, val_main_v11_apply, val_main_v10_apply, val_main_v9_apply]
  refine congrArg x0 (funext fun a => Fin.ext ?_)
  fin_cases a
  · show (((b.val * 4096 + j.val) * 8 + h.val) * 128 + x.val) / 1024 = 4096 * b.val + j.val
    omega
  · show 1024 + (((b.val * 4096 + j.val) * 8 + h.val) * 128 + x.val) % 1024 = 1024 + (128 * h.val + x.val)
    omega

/-- A meta key's value. -/
theorem valueMeta_apply (b : Fin 4) (h : Fin 8) (d : Fin 128) (j : Fin 128) :
    val_main_v24 (F := Ideal) x2 x5 (ix4 b h d (key (.inl j))) = x5 (ix2 ⟨144 * h.val + d.val, by omega⟩ j) := by
  unfold val_main_v24
  rw [concatenate_pair_apply_left (t := S4x8x128x4224) (s₁ := S4x8x128x128) (s₂ := S4x8x128x4096) 3 _ _ _ (ix4 b h d (key (.inl j))) rfl (ix4 b h d j : S4x8x128x128.Idx) (fun a => by fin_cases a <;> rfl),
    val_main_v23_apply, val_main_v22_apply, val_main_v18_apply, val_main_v17_apply, val_main_v16_apply]
  refine congrArg x5 (funext fun a => Fin.ext ?_)
  fin_cases a
  · show ((h.val * 144 + d.val) * 128 + j.val) / 128 = 144 * h.val + d.val
    omega
  · show ((h.val * 144 + d.val) * 128 + j.val) % 128 = j.val
    omega

/-- A key's value. -/
theorem valueSeq_apply (b : Fin 4) (h : Fin 8) (d : Fin 128) (j : Fin 4096) :
    val_main_v24 (F := Ideal) x2 x5 (ix4 b h d (key (.inr j)))
      = x2 (ix2 ⟨144 * (8 * b.val + h.val) + d.val, by omega⟩ j) := by
  unfold val_main_v24
  rw [concatenate_pair_apply_right (t := S4x8x128x4224) (s₁ := S4x8x128x128) (s₂ := S4x8x128x4096) 3 _ _ _ (ix4 b h d (key (.inr j))) rfl rfl (ix4 b h d j : S4x8x128x4096.Idx)
      (fun a ha => by fin_cases a <;> first | rfl | exact absurd rfl ha)
      (by show j.val + 128 = 128 + j.val; omega),
    val_main_v21_apply, val_main_v20_apply, val_main_v19_apply]
  refine congrArg x2 (funext fun a => Fin.ext ?_)
  fin_cases a
  · show (((b.val * 8 + h.val) * 144 + d.val) * 4096 + j.val) / 4096 = 144 * (8 * b.val + h.val) + d.val
    omega
  · show (((b.val * 8 + h.val) * 144 + d.val) * 4096 + j.val) % 4096 = j.val
    omega

/-- The natural logarithm of two. -/
theorem log_two (i : S_.Idx) : val_main_v0 (F := Ideal) i = ((Real.log 2 : ℝ) : EReal) := by
  rw [val_main_v0_apply, val_main_cst_apply]
  show Ideal.log (Ideal.ofBits .f32 0x40000000#32) = _
  rw [show Ideal.ofBits .f32 0x40000000#32 = ((2 : ℝ) : EReal) by simp [Ideal.ofBits, Ideal.ieee]; rw [← EReal.coe_mul]; norm_num]
  rw [Ideal.log_coe, if_neg (by norm_num)]

/-- A meta key's gate. -/
theorem gateMeta_apply (b : Fin 4) (h : Fin 8) (j : Fin 128) :
    val_main_v42 (F := Ideal) x1 x4 (ix3 b h (key (.inl j)))
      = -((∑ x : Fin 3, x4 (ix2 j ⟨128 * h.val + x.val, by omega⟩)) * ((Real.log 2 : ℝ) : EReal)) := by
  rw [val_main_v42_apply]
  unfold val_main_v41
  rw [concatenate_pair_apply_left (t := S4x8x4224) (s₁ := S4x8x128) (s₂ := S4x8x4096) 2 _ _ _ (ix3 b h (key (.inl j))) rfl (ix3 b h j : S4x8x128.Idx) (fun a => by fin_cases a <;> rfl),
    val_main_v40_apply, val_main_v39_apply, val_main_v31_apply, val_main_v29_apply, val_main_v30_apply, log_two, val_main_cst_0_apply]
  show -((Ideal.ofBits .f32 0#32 + ∑ x : Fin 3, _) * _) = _
  rw [show Ideal.ofBits .f32 0#32 = 0 by simp [Ideal.ofBits, Ideal.ieee], zero_add]
  congr 2
  refine Finset.sum_congr rfl fun x _ => ?_
  rw [val_main_v28_apply, val_main_v27_apply, val_main_v26_apply, val_main_v25_apply]
  refine congrArg x4 (funext fun a => Fin.ext ?_)
  have hx := x.isLt
  fin_cases a
  · show ((j.val * 8 + h.val) * 128 + x.val) / 1024 = j.val
    omega
  · show ((j.val * 8 + h.val) * 128 + x.val) % 1024 = 128 * h.val + x.val
    omega

/-- A key's gate. -/
theorem gateSeq_apply (b : Fin 4) (h : Fin 8) (j : Fin 4096) :
    val_main_v42 (F := Ideal) x1 x4 (ix3 b h (key (.inr j)))
      = -((∑ x : Fin 3, x1 (ix2 ⟨4096 * b.val + j.val, by omega⟩ ⟨128 * h.val + x.val, by omega⟩)) * ((Real.log 2 : ℝ) : EReal)) := by
  rw [val_main_v42_apply]
  unfold val_main_v41
  rw [concatenate_pair_apply_right (t := S4x8x4224) (s₁ := S4x8x128) (s₂ := S4x8x4096) 2 _ _ _ (ix3 b h (key (.inr j))) rfl rfl (ix3 b h j : S4x8x4096.Idx)
      (fun a ha => by fin_cases a <;> first | rfl | exact absurd rfl ha)
      (by show j.val + 128 = 128 + j.val; omega),
    val_main_v38_apply, val_main_v36_apply, val_main_v37_apply, log_two, val_main_cst_1_apply]
  show -((Ideal.ofBits .f32 0#32 + ∑ x : Fin 3, _) * _) = _
  rw [show Ideal.ofBits .f32 0#32 = 0 by simp [Ideal.ofBits, Ideal.ieee], zero_add]
  congr 2
  refine Finset.sum_congr rfl fun x _ => ?_
  rw [val_main_v35_apply, val_main_v34_apply, val_main_v33_apply, val_main_v32_apply]
  refine congrArg x1 (funext fun a => Fin.ext ?_)
  have hx := x.isLt
  fin_cases a
  · show (((b.val * 4096 + j.val) * 8 + h.val) * 128 + x.val) / 1024 = 4096 * b.val + j.val
    omega
  · show (((b.val * 4096 + j.val) * 8 + h.val) * 128 + x.val) % 1024 = 128 * h.val + x.val
    omega

/-- A score before the mask. -/
theorem score_apply (b : Fin 4) (h : Fin 8) (t : Fin 4096) (k : Fin 4224) :
    val_main_v52 (F := Ideal) x0 x1 x3 x4 (ix4 b h t k)
      = (∑ x : Fin 128, val_main_v4 (F := Ideal) x0 (ix4 b h t x) * val_main_v15 (F := Ideal) x0 x3 (ix4 b h k x)) * ((Real.log 2 : ℝ) : EReal)
        + val_main_v42 (F := Ideal) x1 x4 (ix3 b h (key (.inr t))) - val_main_v42 (F := Ideal) x1 x4 (ix3 b h k) := by
  rw [val_main_v52_apply, val_main_v49_apply, val_main_v45_apply, val_main_v43_apply, val_main_v44_apply, log_two, val_main_v48_apply,
    val_main_v47_apply, val_main_v46_apply, val_main_v51_apply, val_main_v50_apply]
  show (∑ x : Fin 128, _) * _ + _ - _ = _
  congr 1
  · congr 1
    · congr 1
      refine Finset.sum_congr rfl fun x _ => ?_
      congr 2
      · funext a; apply Fin.ext; fin_cases a <;> rfl
      · funext a; apply Fin.ext; fin_cases a <;> rfl
    · congr 1
      funext a; apply Fin.ext; fin_cases a <;> rfl
  · congr 1
    funext a; apply Fin.ext; fin_cases a <;> rfl

/-- The mask. -/
theorem mask_apply (b : Fin 4) (h : Fin 8) (t : Fin 4096) (k : Fin 4224) :
    val_main_v62 (F := Ideal) x0 x1 x3 x4 (ix4 b h t k)
      = if k.val ≤ 128 + t.val then val_main_v52 (F := Ideal) x0 x1 x3 x4 (ix4 b h t k) else ⊥ := by
  rw [val_main_v62_apply, val_main_call0_v1_apply, val_main_v61_apply, val_main_v59_apply, val_main_v56_apply, val_main_v55_apply,
    val_main_v54_apply, val_main_c_apply, val_main_v53_apply, val_main_v60_apply, val_main_v58_apply, val_main_v57_apply,
    val_main_call0_v2_apply, val_main_call0_v0_apply, val_main_cst_2_apply]
  generalize val_main_v52 (F := Ideal) x0 x1 x3 x4 (ix4 b h t k) = y
  show Scalar.select (IntOp.cmpi .sge (128#32 + BitVec.ofNat 32 t.val) (BitVec.ofNat 32 k.val)) y (Ideal.ofBits .f32 0xFF800000#32) = _
  rw [show Ideal.ofBits .f32 0xFF800000#32 = (⊥ : EReal) by simp [Ideal.ofBits, Ideal.ieee]]
  have ht := t.isLt
  have hk := k.isLt
  have e : (BitVec.ofNat 32 k.val).sle (128#32 + BitVec.ofNat 32 t.val) = decide (k.val ≤ 128 + t.val) := by
    rw [BitVec.sle_eq_decide, BitVec.toInt_eq_toNat_of_lt, BitVec.toInt_eq_toNat_of_lt]
    · simp [BitVec.toNat_ofNat, BitVec.toNat_add, Nat.mod_eq_of_lt (show k.val < 4294967296 by omega), Nat.mod_eq_of_lt (show 128 + t.val < 4294967296 by omega)]
      omega
    · simp [BitVec.toNat_ofNat, BitVec.toNat_add]; omega
    · simp [BitVec.toNat_ofNat]; omega
  unfold Scalar.select IntOp.cmpi
  simp only [e]
  by_cases hle : k.val ≤ 128 + t.val <;> simp [hle]

/-- The greatest score of a query. -/
theorem max_apply (b : Fin 4) (h : Fin 8) (t : Fin 4096) :
    val_main_v65 (F := Ideal) x0 x1 x3 x4 (ix3 b h t)
      = Finset.univ.fold max ⊥ fun k : Fin 4224 => val_main_v62 (F := Ideal) x0 x1 x3 x4 (ix4 b h t k) := by
  rw [val_main_v65_apply, val_main_v64_apply, val_main_cst_4_apply]
  unfold val_main_v63
  generalize val_main_v62 (F := Ideal) x0 x1 x3 x4 = y
  pointwise [val_main_cst_3]
  rw [show Ideal.ofBits .f32 0xFF800000#32 = (⊥ : EReal) by simp [Ideal.ofBits, Ideal.ieee]]
  exact max_eq_right bot_le

/-- A weight. -/
theorem weight_apply (b : Fin 4) (h : Fin 8) (t : Fin 4096) (k : Fin 4224) :
    val_main_v73 (F := Ideal) x0 x1 x3 x4 (ix4 b h t k)
      = Ideal.div (Ideal.exp (val_main_v62 (F := Ideal) x0 x1 x3 x4 (ix4 b h t k) - val_main_v65 (F := Ideal) x0 x1 x3 x4 (ix3 b h t)))
        (∑ l : Fin 4224, Ideal.exp (val_main_v62 (F := Ideal) x0 x1 x3 x4 (ix4 b h t l) - val_main_v65 (F := Ideal) x0 x1 x3 x4 (ix3 b h t))) := by
  rw [val_main_v73_apply, val_main_v72_apply, val_main_v71_apply, val_main_v70_apply, val_main_cst_5_apply]
  simp only [val_main_v69_apply, val_main_v68_apply, val_main_v67_apply, val_main_v66_apply]
  show Ideal.div (Ideal.exp (_ - _)) (Ideal.ofBits .f32 0#32 + ∑ l : Fin 4224, Ideal.exp (_ - _)) = _
  rw [show Ideal.ofBits .f32 0#32 = 0 by simp [Ideal.ofBits, Ideal.ieee], zero_add]
  have e1 : idx_main_v66 (idx_main_v67 (ix4 b h t k)) = ix3 b h t := by
    funext a; apply Fin.ext; fin_cases a <;> rfl
  have e2 : ∀ l, idx_main_v70 (idx_main_v71 (idx_main_v72 (ix4 b h t k))) l = ix4 b h t l := fun l => by
    funext a; apply Fin.ext; fin_cases a <;> rfl
  have e3 : ∀ l, idx_main_v66 (idx_main_v67 (ix4 b h t l)) = ix3 b h t := fun l => by
    funext a; apply Fin.ext; fin_cases a <;> rfl
  simp only [e1, e2, e3]

/-- The result. -/
theorem result_apply (b : Fin 4) (h : Fin 8) (t : Fin 4096) (d : Fin 128) :
    val_main_v77 (F := Ideal) x0 x1 x2 x3 x4 x5 (ix2 ⟨4096 * b.val + t.val, by omega⟩ ⟨128 * h.val + d.val, by omega⟩)
      = ∑ k : Fin 4224, val_main_v73 (F := Ideal) x0 x1 x3 x4 (ix4 b h t k) * val_main_v24 (F := Ideal) x2 x5 (ix4 b h d k) := by
  rw [val_main_v77_apply, val_main_v76_apply, val_main_v75_apply]
  have e : idx_main_v75 (idx_main_v76 (ix2 (⟨4096 * b.val + t.val, by omega⟩ : Fin 16384) (⟨128 * h.val + d.val, by omega⟩ : Fin 1024)))
      = ix4 b h t d := by
    funext a
    apply Fin.ext
    fin_cases a
    · show ((4096 * b.val + t.val) * 1024 + (128 * h.val + d.val)) / 4194304 = b.val
      omega
    · show ((4096 * b.val + t.val) * 1024 + (128 * h.val + d.val)) / 128 % 8 = h.val
      omega
    · show ((4096 * b.val + t.val) * 1024 + (128 * h.val + d.val)) / 1024 % 4096 = t.val
      omega
    · show ((4096 * b.val + t.val) * 1024 + (128 * h.val + d.val)) % 128 = d.val
      omega
  rw [e, val_main_v74_apply]
  show ∑ k : Fin 4224, _ = _
  refine Finset.sum_congr rfl fun k _ => ?_
  congr 2
  · funext a; apply Fin.ext; fin_cases a <;> rfl
  · funext a; apply Fin.ext; fin_cases a <;> rfl

end Cert.Attn.Ref

end
-- ==== Proof.RefEntry.lean ====
module

public import proofs.«01_k».proof.Proof.RefValue
public import proofs.«01_k».proof.Proof.Updates

/-! The reference's entry in the kernel's form: scores to base two, the weighted sum of the values over the sum of the
    weights. -/

@[expose] public section

set_option maxRecDepth 16384

noncomputable section

namespace Cert.Attn

open Idealize.ShloMosaic Idealize.ShloMosaic.TcCoe

/-- A score of finite queries, keys and gates is the real one: the product and the three gate lanes. -/
theorem keyScore_real {q k a : Fin 128 → EReal} {q' k' a' : Fin 128 → ℝ} (hq : ∀ x, q x = (q' x : EReal))
    (hk : ∀ x, k x = (k' x : EReal)) (ha : ∀ x, a x = (a' x : EReal)) :
    keyScore q k a = ((∑ x, k' x * q' x + ∑ x : Fin 3, a' ⟨x.val, by omega⟩ : ℝ) : EReal) := by
  unfold keyScore
  rw [EReal.coe_add, ← sum_coe, ← sum_coe]
  congr 1
  · refine Finset.sum_congr rfl fun x _ => ?_
    rw [hq, hk, EReal.coe_mul]
  · refine (Fin.sum_univ_add (a := 3) (b := 125) _).trans ?_
    have h2 : ∀ x : Fin 125, Scalar.select (IntOp.cmpi .slt (BitVec.ofNat 32 (Fin.natAdd 3 x).val) 3#32) (a (Fin.natAdd 3 x)) (0 : EReal) = 0 := by
      intro x
      have : IntOp.cmpi .slt (BitVec.ofNat 32 (Fin.natAdd 3 x).val) 3#32 = 0#1 := by
        revert x; decide
      rw [this]; rfl
    have h1 : ∀ x : Fin 3, Scalar.select (IntOp.cmpi .slt (BitVec.ofNat 32 (Fin.castAdd 125 x).val) 3#32) (a (Fin.castAdd 125 x)) (0 : EReal)
        = ((a' ⟨x.val, by omega⟩ : ℝ) : EReal) := by
      intro x
      have : IntOp.cmpi .slt (BitVec.ofNat 32 (Fin.castAdd 125 x).val) 3#32 = 1#1 := by
        revert x; decide
      rw [this]; exact ha _
    rw [Finset.sum_congr rfl fun x _ => h1 x, Finset.sum_congr rfl fun x _ => h2 x, Finset.sum_const_zero, add_zero]

namespace Ref

open Cert.ReferenceIdeal Cert.ReferenceIdeal.Gen Cert.ReferenceIdeal.Read

variable (x0 : FVec Ideal S16384x2048 .bf16) (x1 : FVec Ideal S16384x1024 .bf16) (x2 : FVec Ideal S4608x4096 .bf16)
  (x3 : FVec Ideal S128x2048 .bf16) (x4 : FVec Ideal S128x1024 .bf16) (x5 : FVec Ideal S1152x128 .bf16)

/-- A meta key's score, to base two. -/
def sMeta (b : Fin 4) (h : Fin 8) (t : Fin 4096) (j : Fin 128) : EReal :=
  keyScore (fun x => x0 (ix2 ⟨4096 * b.val + t.val, by omega⟩ ⟨128 * h.val + x.val, by omega⟩))
    (fun x => x3 (ix2 j ⟨1024 + (128 * h.val + x.val), by omega⟩)) (fun x => x4 (ix2 j ⟨128 * h.val + x.val, by omega⟩))

/-- A key's score, to base two. -/
def sSeq (b : Fin 4) (h : Fin 8) (t : Fin 4096) (j : Fin 4096) : EReal :=
  keyScore (fun x => x0 (ix2 ⟨4096 * b.val + t.val, by omega⟩ ⟨128 * h.val + x.val, by omega⟩))
    (fun x => x0 (ix2 ⟨4096 * b.val + j.val, by omega⟩ ⟨1024 + (128 * h.val + x.val), by omega⟩))
    (fun x => x1 (ix2 ⟨4096 * b.val + j.val, by omega⟩ ⟨128 * h.val + x.val, by omega⟩))

/-- All scores under the causal mask. -/
def sAll (b : Fin 4) (h : Fin 8) (t : Fin 4096) : Fin 128 ⊕ Fin 4096 → EReal :=
  Sum.elim (sMeta x0 x3 x4 b h t) fun j => if j.val ≤ t.val then sSeq x0 x1 b h t j else ⊥

/-- All values. -/
def vAll (b : Fin 4) (h : Fin 8) (d : Fin 128) : Fin 128 ⊕ Fin 4096 → EReal :=
  Sum.elim (fun j => x5 (ix2 ⟨144 * h.val + d.val, by omega⟩ j)) fun j => x2 (ix2 ⟨144 * (8 * b.val + h.val) + d.val, by omega⟩ j)

/-- Every element is a real number. -/
abbrev Fins {s : Shape} (x : FVec Ideal s .bf16) : Prop := ∀ i, ∃ r : ℝ, (x i : EReal) = (r : EReal)

variable {x0 x1 x2 x3 x4 x5} (h0 : Fins x0) (h1 : Fins x1) (h3 : Fins x3) (h4 : Fins x4)

include h1 in
/-- A query's own gate is real. -/
theorem gate_real (b : Fin 4) (h : Fin 8) (t : Fin 4096) :
    ∃ κ : ℝ, val_main_v42 (F := Ideal) x1 x4 (ix3 b h (key (.inr t))) = (κ : EReal) := by
  choose f1 hf1 using h1
  refine ⟨-((∑ x : Fin 3, f1 (ix2 ⟨4096 * b.val + t.val, by omega⟩ ⟨128 * h.val + x.val, by omega⟩)) * Real.log 2), ?_⟩
  rw [gateSeq_apply, Finset.sum_congr rfl fun (x : Fin 3) _ => hf1 _, sum_coe, ← EReal.coe_mul, ← EReal.coe_neg]

/-- The reference's score in the form of the kernel's. -/
theorem shift_eq (A B L κ : ℝ) : A * L + κ - -(B * L) = (A + B) * L + κ := by ring

include h0 h3 h4 in
/-- A meta key's score is real, and the reference's is the same to base e, shifted by the query's gate. -/
theorem meta_real {κ : ℝ} (b : Fin 4) (h : Fin 8) (t : Fin 4096)
    (hκ : val_main_v42 (F := Ideal) x1 x4 (ix3 b h (key (.inr t))) = (κ : EReal)) (j : Fin 128) :
    ∃ r : ℝ, sMeta x0 x3 x4 b h t j = (r : EReal)
      ∧ val_main_v62 (F := Ideal) x0 x1 x3 x4 (ix4 b h t (key (.inl j))) = ((r * Real.log 2 + κ : ℝ) : EReal) := by
  choose f0 hf0 using h0
  choose f3 hf3 using h3
  choose f4 hf4 using h4
  refine ⟨_, keyScore_real (fun x => hf0 _) (fun x => hf3 _) (fun x => hf4 _), ?_⟩
  rw [mask_apply, if_pos (by rw [key_inl]; omega), score_apply, hκ, gateMeta_apply]
  simp only [query_apply, keyMeta_apply]
  rw [Finset.sum_congr rfl fun x _ => by rw [hf0, hf3, ← EReal.coe_mul], Finset.sum_congr rfl fun (x : Fin 3) _ => hf4 _, sum_coe, sum_coe,
    ← EReal.coe_mul, ← EReal.coe_mul, ← EReal.coe_neg, ← EReal.coe_add, ← EReal.coe_sub, shift_eq]
  refine congrArg (fun z : ℝ => ((z * Real.log 2 + κ : ℝ) : EReal)) (congrArg₂ (· + ·) (Finset.sum_congr rfl fun x _ => mul_comm _ _) rfl)

include h0 h1 in
/-- A key's score likewise. -/
theorem seq_real {κ : ℝ} (b : Fin 4) (h : Fin 8) (t : Fin 4096)
    (hκ : val_main_v42 (F := Ideal) x1 x4 (ix3 b h (key (.inr t))) = (κ : EReal)) (j : Fin 4096) :
    ∃ r : ℝ, sSeq x0 x1 b h t j = (r : EReal)
      ∧ val_main_v52 (F := Ideal) x0 x1 x3 x4 (ix4 b h t (key (.inr j))) = ((r * Real.log 2 + κ : ℝ) : EReal) := by
  choose f0 hf0 using h0
  choose f1 hf1 using h1
  refine ⟨_, keyScore_real (fun x => hf0 _) (fun x => hf0 _) (fun x => hf1 _), ?_⟩
  rw [score_apply, hκ, gateSeq_apply]
  simp only [query_apply, keySeq_apply]
  rw [Finset.sum_congr rfl fun x _ => by rw [hf0, hf0, ← EReal.coe_mul], Finset.sum_congr rfl fun (x : Fin 3) _ => hf1 _, sum_coe, sum_coe,
    ← EReal.coe_mul, ← EReal.coe_mul, ← EReal.coe_neg, ← EReal.coe_add, ← EReal.coe_sub, shift_eq]
  refine congrArg (fun z : ℝ => ((z * Real.log 2 + κ : ℝ) : EReal)) (congrArg₂ (· + ·) (Finset.sum_congr rfl fun x _ => mul_comm _ _) rfl)

include h0 h1 h3 h4 in
/-- The reference's entry. -/
theorem entry_eq (b : Fin 4) (h : Fin 8) (t : Fin 4096) (d : Fin 128) :
    val_main_v77 (F := Ideal) x0 x1 x2 x3 x4 x5 (ix2 ⟨4096 * b.val + t.val, by omega⟩ ⟨128 * h.val + d.val, by omega⟩)
      = (∑ k, vAll x2 x5 b h d k * Ideal.exp2 (sAll x0 x1 x3 x4 b h t k))
        * ((1 / ∑ k, wt (sAll x0 x1 x3 x4 b h t k) : ℝ) : EReal) := by
  obtain ⟨κ, hκ⟩ := gate_real (x4 := x4) h1 b h t
  have hu : ∀ k, (sAll x0 x1 x3 x4 b h t k = ⊥ ∧ val_main_v62 (F := Ideal) x0 x1 x3 x4 (ix4 b h t (key k)) = ⊥)
      ∨ ∃ r : ℝ, sAll x0 x1 x3 x4 b h t k = (r : EReal)
        ∧ val_main_v62 (F := Ideal) x0 x1 x3 x4 (ix4 b h t (key k)) = ((r * Real.log 2 + κ : ℝ) : EReal) := by
    rintro (j | j)
    · exact Or.inr (meta_real h0 h3 h4 b h t hκ j)
    · by_cases hj : j.val ≤ t.val
      · obtain ⟨r, hr, hr'⟩ := seq_real (x3 := x3) (x4 := x4) h0 h1 b h t hκ j
        refine Or.inr ⟨r, (if_pos hj).trans hr, ?_⟩
        rw [mask_apply, if_pos (by rw [key_inr]; omega), hr']
      · refine Or.inl ⟨if_neg hj, ?_⟩
        rw [mask_apply, if_neg (by rw [key_inr]; omega)]
  have hs : ∀ k, sAll x0 x1 x3 x4 b h t k ≠ ⊤ := fun k => by
    rcases hu k with ⟨e, -⟩ | ⟨r, e, -⟩ <;> rw [e]
    exacts [bot_ne_top, EReal.coe_ne_top _]
  have hk : sAll x0 x1 x3 x4 b h t (.inl 0) ≠ ⊥ := by
    obtain ⟨r, e, -⟩ := meta_real (x1 := x1) h0 h3 h4 b h t hκ 0
    show sMeta x0 x3 x4 b h t 0 ≠ ⊥
    rw [e]; exact EReal.coe_ne_bot _
  rw [result_apply, ← softmax_sum (vAll x2 x5 b h d) hs hk hu
    (n := val_main_v65 (F := Ideal) x0 x1 x3 x4 (ix3 b h t)) (by
      rw [max_apply, ← Finset.univ_map_equiv_to_embedding key, Finset.fold_map]
      rfl)]
  rw [← key.sum_comp]
  refine Finset.sum_congr rfl fun k _ => ?_
  rw [weight_apply, ← key.sum_comp]
  congr 1
  rcases k with j | j
  · exact valueMeta_apply x2 x5 b h d j
  · exact valueSeq_apply x2 x5 b h d j

end Ref

end Cert.Attn

end
-- ==== Proof.Array.lean ====
module

public import proofs.«01_k».proof.Proof.Value
public import proofs.«01_k».proof.Proof.RefEntry
public import Idealize.ShloMosaic.Lib.Pipeline.ValueKit

/-! The output array: block by block the reference's entries. -/

@[expose] public section

set_option maxRecDepth 16384

noncomputable section

namespace Cert.Attn

open Cert.KernelIdeal Cert.KernelIdeal.Gen
open Idealize.ShloMosaic Idealize.ShloMosaic.TcCoe

/-- The grid's coordinates: the sequence, the head and the block of queries. -/
abbrev gb (t : Fin cfg0.N) : ℕ := (grid0.coords t 0).val
abbrev gh (t : Fin cfg0.N) : ℕ := (grid0.coords t 1).val
abbrev gq (t : Fin cfg0.N) : ℕ := (grid0.coords t 2).val

theorem grid_lt : ∀ t : Fin cfg0.N, gb t < 4 ∧ gh t < 8 ∧ gq t < 2 :=
  (by decide +kernel : ∀ t : Fin grid0.N, _)

theorem idx0 : ∀ t : Fin cfg0.N, win0_0.index t = ![gb t * 2 + gq t, gh t] := (by decide +kernel : ∀ t : Fin grid0.N, _)
theorem idx1 : ∀ t : Fin cfg0.N, win0_1.index t = ![gb t, 8 + gh t] := (by decide +kernel : ∀ t : Fin grid0.N, _)
theorem idx2 : ∀ t : Fin cfg0.N, win0_2.index t = ![gb t, gh t] := (by decide +kernel : ∀ t : Fin grid0.N, _)
theorem idx3 : ∀ t : Fin cfg0.N, win0_3.index t = ![gb t * 8 + gh t, 0] := (by decide +kernel : ∀ t : Fin grid0.N, _)
theorem idx4 : ∀ t : Fin cfg0.N, win0_4.index t = ![0, 8 + gh t] := (by decide +kernel : ∀ t : Fin grid0.N, _)
theorem idx5 : ∀ t : Fin cfg0.N, win0_5.index t = ![0, gh t] := (by decide +kernel : ∀ t : Fin grid0.N, _)
theorem idx6 : ∀ t : Fin cfg0.N, win0_6.index t = ![gh t, 0] := (by decide +kernel : ∀ t : Fin grid0.N, _)
theorem idx7 : ∀ t : Fin cfg0.N, win0_7.index t = ![gb t * 2 + gq t, gh t] := (by decide +kernel : ∀ t : Fin grid0.N, _)

variable (m : (ℓ : Loc nD τ sig) → Buf (Elt Ideal) ℓ)

/-- The arguments. -/
abbrev a0 (c : Dev nD) : FVec Ideal S16384x2048 .bf16 := m ((c.tc : Thread nD τ).loc main_arg0)
abbrev a1 (c : Dev nD) : FVec Ideal S16384x1024 .bf16 := m ((c.tc : Thread nD τ).loc main_arg1)
abbrev a2 (c : Dev nD) : FVec Ideal S4608x4096 .bf16 := m ((c.tc : Thread nD τ).loc main_arg2)
abbrev a3 (c : Dev nD) : FVec Ideal S128x2048 .bf16 := m ((c.tc : Thread nD τ).loc main_arg3)
abbrev a4 (c : Dev nD) : FVec Ideal S128x1024 .bf16 := m ((c.tc : Thread nD τ).loc main_arg4)
abbrev a5 (c : Dev nD) : FVec Ideal S1152x128 .bf16 := m ((c.tc : Thread nD τ).loc main_arg5)

/-! ## The blocks' elements -/

theorem blk_q (c : Dev nD) (t : Fin cfg0.N) (r : Fin 2048) (x : Fin 128) :
    iblk (F := Ideal) m c 0 t (ix2 r x)
      = a0 m c (ix2 ⟨4096 * gb t + (2048 * gq t + r.val), by have := grid_lt t; omega⟩ ⟨128 * gh t + x.val, by have := grid_lt t; omega⟩) := by
  blk_simp [iblk, V]
  refine congrArg (a0 m c) ?_
  blk_ext [idx0 t]

theorem blk_k (c : Dev nD) (t : Fin cfg0.N) (j : Fin 4096) (x : Fin 128) :
    iblk (F := Ideal) m c 1 t (ix2 j x)
      = a0 m c (ix2 ⟨4096 * gb t + j.val, by have := grid_lt t; omega⟩ ⟨1024 + (128 * gh t + x.val), by have := grid_lt t; omega⟩) := by
  blk_simp [iblk, V]
  refine congrArg (a0 m c) ?_
  blk_ext [idx1 t]

theorem blk_a (c : Dev nD) (t : Fin cfg0.N) (j : Fin 4096) (x : Fin 128) :
    iblk (F := Ideal) m c 2 t (ix2 j x)
      = a1 m c (ix2 ⟨4096 * gb t + j.val, by have := grid_lt t; omega⟩ ⟨128 * gh t + x.val, by have := grid_lt t; omega⟩) := by
  blk_simp [iblk, V]
  refine congrArg (a1 m c) ?_
  blk_ext [idx2 t]

theorem blk_v (c : Dev nD) (t : Fin cfg0.N) (e : Fin 144) (j : Fin 4096) :
    iblk (F := Ideal) m c 3 t (ix2 e j)
      = a2 m c (ix2 ⟨144 * (8 * gb t + gh t) + e.val, by have := grid_lt t; omega⟩ j) := by
  blk_simp [iblk, V]
  refine congrArg (a2 m c) ?_
  blk_ext [idx3 t]

theorem blk_km (c : Dev nD) (t : Fin cfg0.N) (j : Fin 128) (x : Fin 128) :
    iblk (F := Ideal) m c 4 t (ix2 j x)
      = a3 m c (ix2 j ⟨1024 + (128 * gh t + x.val), by have := grid_lt t; omega⟩) := by
  blk_simp [iblk, V]
  refine congrArg (a3 m c) ?_
  blk_ext [idx4 t]

theorem blk_am (c : Dev nD) (t : Fin cfg0.N) (j : Fin 128) (x : Fin 128) :
    iblk (F := Ideal) m c 5 t (ix2 j x) = a4 m c (ix2 j ⟨128 * gh t + x.val, by have := grid_lt t; omega⟩) := by
  blk_simp [iblk, V]
  refine congrArg (a4 m c) ?_
  blk_ext [idx5 t]

theorem blk_vm (c : Dev nD) (t : Fin cfg0.N) (e : Fin 144) (j : Fin 128) :
    iblk (F := Ideal) m c 6 t (ix2 e j) = a5 m c (ix2 ⟨144 * gh t + e.val, by have := grid_lt t; omega⟩ j) := by
  blk_simp [iblk, V]
  refine congrArg (a5 m c) ?_
  blk_ext [idx6 t]

/-! ## The array -/

/-- The reference's result of the same arguments. -/
def result (c : Dev nD) : FVec Ideal S16384x1024 .bf16 :=
  ReferenceIdeal.Read.val_main_v77 (F := Ideal) (a0 m c) (a1 m c) (a2 m c) (a3 m c) (a4 m c) (a5 m c)

/-- What the claim assumes of the arguments: finite queries, keys and gates, and rows of ones below the values. -/
structure Fit (c : Dev nD) : Prop where
  f0 : Ref.Fins (a0 m c)
  f1 : Ref.Fins (a1 m c)
  f3 : Ref.Fins (a3 m c)
  f4 : Ref.Fins (a4 m c)
  ones : ∀ (b : Fin 4) (h : Fin 8) (j : Fin 4096), a2 m c (ix2 ⟨144 * (8 * b.val + h.val) + 128, by omega⟩ j) = (1 : EReal)
  ones_m : ∀ (h : Fin 8) (j : Fin 128), a5 m c (ix2 ⟨144 * h.val + 128, by omega⟩ j) = (1 : EReal)

variable {m}

section point
variable {c : Dev nD} (hfit : Fit m c) (t : Fin cfg0.N)

abbrev fb (t : Fin cfg0.N) : Fin 4 := ⟨gb t, (grid_lt t).1⟩
abbrev fh (t : Fin cfg0.N) : Fin 8 := ⟨gh t, (grid_lt t).2.1⟩
abbrev row (t : Fin cfg0.N) (r : Fin 2048) : Fin 4096 := ⟨2048 * gq t + r.val, by have := grid_lt t; omega⟩

theorem meta_eq (r : Fin 2048) (j : Fin 128) :
    metaScore (iblk m c 0 t) (iblk m c 4 t) (iblk m c 5 t) r j = Ref.sMeta (a0 m c) (a3 m c) (a4 m c) (fb t) (fh t) (row t r) j := by
  unfold metaScore Ref.sMeta
  simp only [blk_q, blk_km, blk_am]

theorem seq_eq (r : Fin 2048) (j : Fin 4096) :
    seqScore (iblk m c 0 t) (iblk m c 1 t) (iblk m c 2 t) r j = Ref.sSeq (a0 m c) (a1 m c) (fb t) (fh t) (row t r) j := by
  unfold seqScore Ref.sSeq
  simp only [blk_q, blk_k, blk_a]

theorem all_eq (r : Fin 2048) (k : Fin 128 ⊕ Fin 4096) :
    allScore (iblk m c 0 t) (iblk m c 1 t) (iblk m c 2 t) (iblk m c 4 t) (iblk m c 5 t) (2048 * gq t) r k
      = Ref.sAll (a0 m c) (a1 m c) (a3 m c) (a4 m c) (fb t) (fh t) (row t r) k := by
  rcases k with j | j
  · exact meta_eq t r j
  · show maskScore _ _ _ _ _ _ = if j.val ≤ (row t r).val then _ else _
    unfold maskScore
    rw [seq_eq]

theorem value_eq (d : Fin 128) (k : Fin 128 ⊕ Fin 4096) :
    allValue (iblk m c 3 t) (iblk m c 6 t) ⟨d.val, by omega⟩ k = Ref.vAll (a2 m c) (a5 m c) (fb t) (fh t) d k := by
  rcases k with j | j
  · exact blk_vm m c t _ j
  · exact blk_v m c t _ j

include hfit in
/-- A point's block is the reference's. -/
theorem outAt_entry (r : Fin 2048) (d : Fin 128) : outAt m c t (ix2 r d)
    = result m c (ix2 ⟨4096 * gb t + (2048 * gq t + r.val), by have := grid_lt t; omega⟩ ⟨128 * gh t + d.val, by have := grid_lt t; omega⟩) := by
  have hS : ∀ r j, seqScore (iblk m c 0 t) (iblk m c 1 t) (iblk m c 2 t) r j ≠ ⊤ := fun r j => by
    obtain ⟨κ, hκ⟩ := Ref.gate_real (x4 := a4 m c) hfit.f1 (fb t) (fh t) (row t r)
    obtain ⟨x, e, -⟩ := Ref.seq_real (x3 := a3 m c) (x4 := a4 m c) hfit.f0 hfit.f1 (fb t) (fh t) (row t r) hκ j
    rw [seq_eq, e]; exact EReal.coe_ne_top _
  have hM : ∀ r j, metaScore (iblk m c 0 t) (iblk m c 4 t) (iblk m c 5 t) r j ≠ ⊤ := fun r j => by
    obtain ⟨κ, hκ⟩ := Ref.gate_real (x4 := a4 m c) hfit.f1 (fb t) (fh t) (row t r)
    obtain ⟨x, e, -⟩ := Ref.meta_real (x1 := a1 m c) hfit.f0 hfit.f3 hfit.f4 (fb t) (fh t) (row t r) hκ j
    rw [meta_eq, e]; exact EReal.coe_ne_top _
  have hB : ∀ r j, metaScore (iblk m c 0 t) (iblk m c 4 t) (iblk m c 5 t) r j ≠ ⊥ := fun r j => by
    obtain ⟨κ, hκ⟩ := Ref.gate_real (x4 := a4 m c) hfit.f1 (fb t) (fh t) (row t r)
    obtain ⟨x, e, -⟩ := Ref.meta_real (x1 := a1 m c) hfit.f0 hfit.f3 hfit.f4 (fb t) (fh t) (row t r) hκ j
    rw [meta_eq, e]; exact EReal.coe_ne_bot _
  unfold outAt
  rw [block_entry hS hM hB (fun j => (blk_v m c t _ j).trans (hfit.ones (fb t) (fh t) j))
    (fun j => (blk_vm m c t _ j).trans (hfit.ones_m (fh t) j))]
  unfold entry result
  refine Eq.trans ?_ (Ref.entry_eq (x2 := a2 m c) (x5 := a5 m c) hfit.f0 hfit.f1 hfit.f3 hfit.f4 (fb t) (fh t) (row t r) d).symm
  simp only [all_eq, value_eq]

end point

/-- The output array is the reference's result. -/
theorem array_eq {c : Dev nD} (hfit : Fit m c) : (dats m 0 c).arrAt 7 cfg0.N = result m c := by
  refine (dats m 0 c).arrAt_eq_of_covers 7 _ (by decide +kernel) fun t hf y => ?_
  blk_simp
  rw [after7]
  have e : y = ix2 (y 0) (y 1) := by funext a; fin_cases a <;> rfl
  rw [e]
  refine (outAt_entry hfit t (y 0) (y 1)).trans ?_
  refine congrArg (result m c) ?_
  blk_ext [idx7 t]

end Cert.Attn

end
-- ==== Proof.Pre.lean ====
module

public import proofs.«01_k».proof.Proof.Array
public import proofs.«01_k».proof.Proof.Gen.Pre_finite_scores
public import Idealize.ShloMosaic.Lib.ReduceAll
public import Idealize.ShloMosaic.Lib.IdealHost

/-! What the precondition says of the arguments. -/

@[expose] public section

set_option maxRecDepth 16384

noncomputable section

namespace Cert.Attn.Pre

open Idealize.ShloMosaic Cert.Pre_finite_scores Cert.Pre_finite_scores.Gen

instance : Subsingleton S_.Idx := ⟨fun a b => funext fun i => i.elim0⟩

/-- A bit of a conjunction is set where both are. -/
theorem and_one {s : Shape} (x y : IVec s 1) (i : s.Idx) : andi x y i = 1#1 ↔ x i = 1#1 ∧ y i = 1#1 := IntOp.andi_eq_one

/-- A value whose absolute value is below infinity is a real number. -/
theorem real_of_abs {s : Shape} (x : FVec Ideal s .bf16) (h : FTy.bits .bf16 < FTy.bits .f32) (hb : S_.BroadcastsInDim s ![])
    (e : ∀ i, cmpf .olt (Host.absf (extf .f32 x h)) (broadcastInDim s ![] hb (constant (F := Ideal) S_ .f32 0x7F800000#32)) i = 1#1) :
    Ref.Fins x := by
  intro i
  have k : Ideal.cmp .olt (max (x i : EReal) (-(x i : EReal))) (Ideal.ofBits .f32 0x7F800000#32) = 1 := e i
  rw [show Ideal.ofBits .f32 0x7F800000#32 = (⊤ : EReal) by simp [Ideal.ofBits, Ideal.ieee], Ideal.cmp_olt_eq_one, max_lt_iff] at k
  refine ⟨(x i : EReal).toReal, (EReal.coe_toReal k.1.ne ?_).symm⟩
  intro hbot
  rw [hbot] at k
  exact absurd k.2 (by simp)

/-- Row 128 of a head's 144 rows of the sequence's values. -/
theorem ones_seq (x : FVec Ideal S4608x4096 .bf16)
    (e : ∀ i, cmpf .oeq (shapeCast S4x8x4096 (extractStridedSlice S4x8x1x4096 ![0, 0, 128, 0]
        (shapeCast S4x8x144x4096 (extf (F := Ideal) .f32 x bitsLt_bf16_f32) shapeCasts_S4608x4096_S4x8x144x4096)
        slices_S4x8x144x4096_S4x8x1x4096_0_0_128_0) shapeCasts_S4x8x1x4096_S4x8x4096)
      (broadcastInDim S4x8x4096 ![] bcast_S_S4x8x4096 (constant (F := Ideal) S_ .f32 0x3F800000#32)) i = 1#1)
    (b : Fin 4) (h : Fin 8) (j : Fin 4096) : x (ix2 ⟨144 * (8 * b.val + h.val) + 128, by omega⟩ j) = (1 : EReal) := by
  have k := e (ix3 b h j)
  have r : shapeCast S4x8x4096 (extractStridedSlice S4x8x1x4096 ![0, 0, 128, 0]
        (shapeCast S4x8x144x4096 (extf (F := Ideal) .f32 x bitsLt_bf16_f32) shapeCasts_S4608x4096_S4x8x144x4096)
        slices_S4x8x144x4096_S4x8x1x4096_0_0_128_0) shapeCasts_S4x8x1x4096_S4x8x4096 (ix3 b h j)
      = x (ix2 ⟨144 * (8 * b.val + h.val) + 128, by omega⟩ j) := by
    refine (shapeCast_apply _ _ _ (ix4 b h (0 : Fin 1) j) ?_).trans ?_
    · rw [Shape.rowMajor_val_four, Shape.rowMajor_val_three]
      show _ = (_ : ℕ)
      simp [ix4, ix3]
    refine (extractStridedSlice_apply _ _ _ _ (ix4 b h (⟨128, by omega⟩ : Fin 144) j) ?_).trans ?_
    · intro a; fin_cases a <;> simp [ix4]
    refine (shapeCast_apply _ _ _ (ix2 (⟨144 * (8 * b.val + h.val) + 128, by omega⟩ : Fin 4608) j) ?_).trans rfl
    rw [Shape.rowMajor_val_four, Shape.rowMajor_val_two]
    simp [ix4, ix2]
    omega
  have k' : Ideal.cmp .oeq (_ : EReal) (Ideal.ofBits .f32 0x3F800000#32) = 1 := k
  rw [Ideal.ofBits_one_f32, Ideal.cmp_oeq_eq_one] at k'
  exact r.symm.trans k'

/-- Row 128 of a head's 144 rows of the meta values. -/
theorem ones_meta (x : FVec Ideal S1152x128 .bf16)
    (e : ∀ i, cmpf .oeq (shapeCast S8x128 (extractStridedSlice S8x1x128 ![0, 128, 0]
        (shapeCast S8x144x128 (extf (F := Ideal) .f32 x bitsLt_bf16_f32) shapeCasts_S1152x128_S8x144x128)
        slices_S8x144x128_S8x1x128_0_128_0) shapeCasts_S8x1x128_S8x128)
      (broadcastInDim S8x128 ![] bcast_S_S8x128 (constant (F := Ideal) S_ .f32 0x3F800000#32)) i = 1#1)
    (h : Fin 8) (j : Fin 128) : x (ix2 ⟨144 * h.val + 128, by omega⟩ j) = (1 : EReal) := by
  have k := e (ix2 h j)
  have r : shapeCast S8x128 (extractStridedSlice S8x1x128 ![0, 128, 0]
        (shapeCast S8x144x128 (extf (F := Ideal) .f32 x bitsLt_bf16_f32) shapeCasts_S1152x128_S8x144x128)
        slices_S8x144x128_S8x1x128_0_128_0) shapeCasts_S8x1x128_S8x128 (ix2 h j)
      = x (ix2 ⟨144 * h.val + 128, by omega⟩ j) := by
    refine (shapeCast_apply _ _ _ (ix3 h (0 : Fin 1) j) ?_).trans ?_
    · rw [Shape.rowMajor_val_three, Shape.rowMajor_val_two]
      simp [ix2, ix3]
    refine (extractStridedSlice_apply _ _ _ _ (ix3 h (⟨128, by omega⟩ : Fin 144) j) ?_).trans ?_
    · intro a; fin_cases a <;> simp [ix3]
    refine (shapeCast_apply _ _ _ (ix2 (⟨144 * h.val + 128, by omega⟩ : Fin 1152) j) ?_).trans rfl
    rw [Shape.rowMajor_val_three, Shape.rowMajor_val_two]
    simp [ix3, ix2]
    omega
  have k' : Ideal.cmp .oeq (_ : EReal) (Ideal.ofBits .f32 0x3F800000#32) = 1 := k
  rw [Ideal.ofBits_one_f32, Ideal.cmp_oeq_eq_one] at k'
  exact r.symm.trans k'

/-- The precondition of a machine's memory is what the value proof assumes. -/
theorem fit_of_pre (m : (ℓ : Loc KernelIdeal.nD KernelIdeal.τ KernelIdeal.sig) → Buf (Elt Ideal) ℓ) (c : Dev KernelIdeal.nD)
    (h : Cert.Pre_finite_scores.fn (F := Ideal) (a0 m c) (a1 m c) (a2 m c) (a3 m c) (a4 m c) (a5 m c) = fun _ => 1#1) : Fit m c := by
  have k := congrFun h (fun i => i.elim0)
  dsimp only [fn, fn_part1, fn_part2] at k
  simp only [and_one] at k
  obtain ⟨⟨⟨⟨⟨k0, k1⟩, k3⟩, k4⟩, k2⟩, k5⟩ := k
  exact {
    f0 := real_of_abs _ _ _ (Host.reduce_andi_all _ _ _ _ _ k0)
    f1 := real_of_abs _ _ _ (Host.reduce_andi_all _ _ _ _ _ k1)
    f3 := real_of_abs _ _ _ (Host.reduce_andi_all _ _ _ _ _ k3)
    f4 := real_of_abs _ _ _ (Host.reduce_andi_all _ _ _ _ _ k4)
    ones := ones_seq _ (Host.reduce_andi_all _ _ _ _ _ k2)
    ones_m := ones_meta _ (Host.reduce_andi_all _ _ _ _ _ k5) }

end Cert.Attn.Pre

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3.Skeleton
public import proofs.«01_k».proof.Proof.Gen.Kernel3Ideal
public import proofs.«01_k».proof.Proof.Gen.Kernel3Ideal.Frame
public import proofs.«01_k».proof.Proof.Gen.Kernel3Ideal.Skeleton
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4.Value
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.FinalArray
public import proofs.«01_k».proof.Proof.Launch
public import proofs.«01_k».proof.Proof.MixArray
public import proofs.«01_k».proof.Proof.MixBitsLaunch
public import proofs.«01_k».proof.Proof.ProjGateArray
public import proofs.«01_k».proof.Proof.ProjSame
public import proofs.«01_k».proof.Proof.Same
public import proofs.«01_k».proof.Proof.Pre
public import Idealize.ShloMosaic.Lib.Bf16PairInverse
public import Idealize.ShloMosaic.Lib.Quiescent
public import Idealize.ShloMosaic.Adequacy
public import Idealize.ShloMosaic.Init

/-! The claim, of attention, of the projections and of the mixing: the frames of the three programs of each, and the kernel's
    ideal values equal to the reference's. -/

@[expose] public section

noncomputable section

namespace Cert.Proof

open Idealize.ShloMosaic Idealize.SL.Sem Cert.Kernel

/-- The bit-level program's frame: it is the same program as the one of ideal values, whose launch is proved at any
    values. -/
theorem kernel_frame : Cert.quiescent_Kernel := fun m g _ => by
  have h := Cert.Attn.frame_run (F := Bits) m g
  rw [← Cert.Attn.defs_same, ← Cert.Attn.main_same] at h
  exact h

/-- The frame of the program of ideal values. -/
theorem ideal_frame : Cert.quiescent_KernelIdeal := fun m g _ => Cert.Attn.frame_run (F := Ideal) m g

/-- The reference's frame. -/
theorem reference_frame : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The kernel's run: the result array ends as the reference's value of the same arguments, which end as they began. -/
theorem kernel_value (m : (ℓ : Loc Cert.KernelIdeal.nD Cert.KernelIdeal.τ Cert.KernelIdeal.sig) → Buf (Elt Ideal) ℓ)
    (g : Dev Cert.KernelIdeal.nD → PrngReg) (hfit : ∀ c, Cert.Attn.Fit m c) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v0) = Cert.Attn.result m c) :=
  (θ_run _ _ _).mono (fun _ h c => ((h.1 c).1 7).trans (Cert.Attn.array_eq (hfit c))) (Cert.Attn.run_main m g)

/-- The kernel's ideal values are the reference's. -/
theorem values : Cert.algebraic_KernelIdeal_ReferenceIdeal_pre_finite_scores := by
  intro m g m' g' hpre hagree
  refine ⟨fun c => Cert.Attn.result m c,
    (θ_run _ _ _).mono (fun _ h c => ⟨h.2 c, h.1.1 c⟩)
      (θ_run_and (Cert.Attn.frame_run (F := Ideal) m g)
        (kernel_value m g fun c => Cert.Attn.Pre.fit_of_pre m c (hpre c))), ?_⟩
  refine (θ_run _ _ _).mono (fun _ h c => ⟨(h c).1.trans ?_, (h c).2⟩) (Cert.ReferenceIdeal.Value.run (F := Ideal) m' g')
  obtain ⟨e0, e1, e2, e3, e4, e5⟩ := hagree c
  rw [Cert.ReferenceIdeal.Read.val_main_v77_eq, e0, e1, e2, e3, e4, e5]
  rfl

section bits
attribute [local instance] Cert.Projections.plainNamed

/-- The projections' bit-level frame: the same program as the one of ideal values, its named constant read as its bits. -/
theorem kernel2_frame : Cert.quiescent_Kernel2 := fun m g _ => by
  have h := Cert.Projections.frame_run (F := Bits) m g
  rw [← Cert.Projections.defs_same, ← Cert.Projections.main_same] at h
  exact h

end bits

/-- The projections' frame at ideal values. -/
theorem ideal2_frame : Cert.quiescent_Kernel2Ideal := fun m g _ => Cert.Projections.frame_run (F := Ideal) m g

/-- The frame of the projections' reference. -/
theorem reference2_frame : Cert.quiescent_Reference2Ideal := fun m g _ =>
  (θ_run Cert.Reference2Ideal.defs _ _).mono
    (fun r h => ⟨fun c => (h c).2.2.2.2.2, Idealize.ShloMosaic.sem_eq_zero_of_no_sems (by decide) r.2⟩)
    (Cert.Reference2Ideal.Value.run (F := Ideal) m g)

/-- The queries' factor is the constant that the table names. -/
theorem scale_named : Cert.preserves_Kernel2_Kernel2Ideal := IdealRules.named_const.statement _ _ _ _ _ rfl

/-- A function of four arguments has one value at equal arguments. -/
theorem same_values4 {A B C D T : Type} (f : A → B → C → D → T) {a a' : A} {b b' : B} {c c' : C} {d d' : D}
    (ha : a = a') (hb : b = b') (hc : c = c') (hd : d = d') : f a b c d = f a' b' c' d' := by
  rw [ha, hb, hc, hd]

/-- A function of seven arguments has one value at equal arguments. -/
theorem same_values7 {A B C D E G H T : Type} (f : A → B → C → D → E → G → H → T) {a a' : A} {b b' : B} {c c' : C} {d d' : D}
    {e e' : E} {g g' : G} {h h' : H} (ha : a = a') (hb : b = b') (hc : c = c') (hd : d = d') (he : e = e') (hg : g = g')
    (hh : h = h') : f a b c d e g h = f a' b' c' d' e' g' h' := by
  rw [ha, hb, hc, hd, he, hg, hh]

/-- A function of five arguments has one value at equal arguments. -/
theorem same_values {A B C D E T : Type} (f : A → B → C → D → E → T) {a a' : A} {b b' : B} {c c' : C} {d d' : D} {e e' : E}
    (ha : a = a') (hb : b = b') (hc : c = c') (hd : d = d') (he : e = e') : f a b c d e = f a' b' c' d' e' := by
  rw [ha, hb, hc, hd, he]

/-- The projections' ideal values are the reference's. -/
theorem values2 : Cert.algebraic_Kernel2Ideal_Reference2Ideal := by
  intro m g m' g' _ hagree
  refine ⟨fun c => Cert.Projections.resultQ m c, fun c => Cert.Projections.resultV m c, fun c => Cert.Projections.resultU m c,
    fun c => Cert.Projections.resultP m c, fun c => Cert.Projections.resultD m c,
    (θ_run _ _ _).mono (fun _ h c => ⟨(h.2 c).1.trans (Cert.Projections.arrayQ_eq m c),
        (h.2 c).2.1.trans (Cert.Projections.arrayV_eq m c), (h.2 c).2.2.1.trans (Cert.Projections.arrayU_eq m c),
        (h.2 c).2.2.2.1.trans (Cert.Projections.arrayP_eq m c), (h.2 c).2.2.2.2.trans (Cert.Projections.arrayD_eq m c), h.1.1 c⟩)
      (θ_run_and (Cert.Projections.frame_run (F := Ideal) m g) (Cert.Projections.outputs_run (F := Ideal) m g)), ?_⟩
  refine (θ_run _ _ _).mono (fun _ h c => ⟨(h c).1.trans ?_, (h c).2.1.trans ?_, (h c).2.2.1.trans ?_, (h c).2.2.2.1.trans ?_,
      (h c).2.2.2.2.1.trans ?_, (h c).2.2.2.2.2⟩)
    (Cert.Reference2Ideal.Value.run (F := Ideal) m' g')
  · obtain ⟨e0, e1, e2, e3, -⟩ := hagree c
    refine (Cert.Reference2Ideal.Read.val_main_v35_eq _).trans ?_
    exact same_values4 (Cert.Reference2Ideal.Read.val_main_v35 (F := Ideal)) e0 e1 e2 e3
  · obtain ⟨e0, e1, e2, e3, -⟩ := hagree c
    refine (Cert.Reference2Ideal.Read.val_main_v47_eq _).trans ?_
    exact same_values4 (Cert.Reference2Ideal.Read.val_main_v47 (F := Ideal)) e0 e1 e2 e3
  · obtain ⟨e0, e1, e2, e3, -⟩ := hagree c
    refine (Cert.Reference2Ideal.Read.val_main_v27_eq _).trans ?_
    exact same_values4 (Cert.Reference2Ideal.Read.val_main_v27 (F := Ideal)) e0 e1 e2 e3
  · obtain ⟨e0, e1, e2, e3, -, -, e6, e7, e8⟩ := hagree c
    refine (Cert.Reference2Ideal.Read.val_main_v152_eq _).trans ?_
    exact same_values7 (Cert.Reference2Ideal.Read.val_main_v152 (F := Ideal)) e0 e1 e2 e3 e6 e7 e8
  · obtain ⟨e0, e1, e2, e3, e4, -⟩ := hagree c
    refine (Cert.Reference2Ideal.Read.val_main_v150_eq _).trans ?_
    exact same_values (Cert.Reference2Ideal.Read.val_main_v150 (F := Ideal)) e0 e1 e2 e3 e4

/-- The mixing's bit-level frame. -/
theorem kernel3_frame : Cert.quiescent_Kernel3 := fun m g _ => Cert.MixBits.frame_run (F := Bits) m g

/-- The mixing's frame at ideal values. -/
theorem ideal3_frame : Cert.quiescent_Kernel3Ideal := fun m g _ => Cert.Mix.frame_run (F := Ideal) m g

/-- The frame of the mixing's reference. -/
theorem reference3_frame : Cert.quiescent_Reference3Ideal := fun m g _ =>
  (θ_run Cert.Reference3Ideal.defs _ _).mono
    (fun r h => ⟨fun c => (h c).2, Idealize.ShloMosaic.sem_eq_zero_of_no_sems (by decide) r.2⟩)
    (Cert.Reference3Ideal.Value.run (F := Ideal) m g)

/-- The packed words of the mixing's second output are pairs of bfloat16 rows. -/
theorem pairs : Cert.preserves_Kernel3_Kernel3Ideal :=
  ⟨IdealRules.bf16_pair.bufferStatement _ _, IdealRules.bf16_pair.bufferStatement _ _, IdealRules.bf16_pair.packStatement _,
    IdealRules.bf16_pair.statement _ _⟩

/-- The mixing's ideal values are the reference's. -/
theorem values3 : Cert.algebraic_Kernel3Ideal_Reference3Ideal := by
  intro m g m' g' _ hagree
  refine ⟨fun c => Cert.Mix.result m c,
    (θ_run _ _ _).mono (fun _ h c => ⟨(h.2 c).trans (Cert.Mix.array_eq m c), h.1.1 c⟩)
      (θ_run_and (Cert.Mix.frame_run (F := Ideal) m g) (Cert.Mix.output_run (F := Ideal) m g)), ?_⟩
  refine (θ_run _ _ _).mono (fun _ h c => ⟨(h c).1.trans ?_, (h c).2⟩) (Cert.Reference3Ideal.Value.run (F := Ideal) m' g')
  obtain ⟨e0, e1, e2, e3, e4, e5, e6, e7, -⟩ := hagree c
  rw [Cert.Reference3Ideal.Read.val_main_v50_eq, e0, e1, e2, e3, e4, e5, e6, e7]
  rfl

/-- The last call's frames. -/
theorem kernel4_frame : Cert.quiescent_Kernel4 := fun m g _ => Cert.Kernel4.Gen.frame (F := Bits) m g

theorem ideal4_frame : Cert.quiescent_Kernel4Ideal := fun m g _ => Cert.Kernel4Ideal.Gen.frame (F := Ideal) m g

/-- The frame of the last call's reference. -/
theorem reference4_frame : Cert.quiescent_Reference4Ideal := fun m g _ =>
  (θ_run Cert.Reference4Ideal.defs _ _).mono
    (fun r h => ⟨fun c => (h c).2, Idealize.ShloMosaic.sem_eq_zero_of_no_sems (by decide) r.2⟩)
    (Cert.Reference4Ideal.Value.run (F := Ideal) m g)

/-- The last call's ideal values are the reference's. -/
theorem values4 : Cert.algebraic_Kernel4Ideal_Reference4Ideal := by
  intro m g m' g' _ hagree
  refine ⟨fun c => Cert.Final.result m c,
    (θ_run _ _ _).mono (fun _ h c => ⟨(h c).1.trans (Cert.Final.array_eq m c), (h c).2⟩)
      (Cert.Kernel4Ideal.Value.run_blocks (F := Ideal) m g), ?_⟩
  refine (θ_run _ _ _).mono (fun _ h c => ⟨(h c).1.trans ?_, (h c).2⟩) (Cert.Reference4Ideal.Value.run (F := Ideal) m' g')
  obtain ⟨e0, e1, e2, e3, e4⟩ := hagree c
  rw [Cert.Reference4Ideal.Read.val_main_v36_eq, e0, e1, e2, e3, e4]
  rfl

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Pre_finite_scores.Gen.facts,
    kernel_frame, ideal_frame, fun m g _ => ideal_frame m g trivial, reference_frame,
    fun m g _ => reference_frame m g trivial, kernel2_frame, ideal2_frame, reference2_frame, kernel3_frame, ideal3_frame,
    reference3_frame, kernel4_frame, ideal4_frame, reference4_frame, trivial, values, scale_named, values2, pairs, values3,
    trivial, values4⟩

end Cert.Proof

end
